-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_GuxKernel (m : (ℓ : Loc Cert.GuxKernel.nD Cert.GuxKernel.τ Cert.GuxKernel.sig) → Buf (Elt Bits) ℓ) : Prop :=
  True

def Pre_GuxKernelIdeal (m : (ℓ : Loc Cert.GuxKernelIdeal.nD Cert.GuxKernelIdeal.τ Cert.GuxKernelIdeal.sig) → Buf (Elt Ideal) ℓ) : Prop :=
  True

def Pre_GuxReferenceIdeal (m : (ℓ : Loc Cert.GuxReferenceIdeal.nD Cert.GuxReferenceIdeal.τ Cert.GuxReferenceIdeal.sig) → Buf (Elt Ideal) ℓ) : Prop :=
  True

def Pre_GuwKernel (m : (ℓ : Loc Cert.GuwKernel.nD Cert.GuwKernel.τ Cert.GuwKernel.sig) → Buf (Elt Bits) ℓ) : Prop :=
  True

def Pre_GuwKernelIdeal (m : (ℓ : Loc Cert.GuwKernelIdeal.nD Cert.GuwKernelIdeal.τ Cert.GuwKernelIdeal.sig) → Buf (Elt Ideal) ℓ) : Prop :=
  True

def Pre_GuwReferenceIdeal (m : (ℓ : Loc Cert.GuwReferenceIdeal.nD Cert.GuwReferenceIdeal.τ Cert.GuwReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite7 [hPre_finite7 : Cert.Pre_finite7.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite7.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite7 [hPre_finite7 : Cert.Pre_finite7.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite7.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4))) = (fun _ => 1#1)

def Pre_OutxKernel (m : (ℓ : Loc Cert.OutxKernel.nD Cert.OutxKernel.τ Cert.OutxKernel.sig) → Buf (Elt Bits) ℓ) : Prop :=
  True

def Pre_OutxKernelIdeal (m : (ℓ : Loc Cert.OutxKernelIdeal.nD Cert.OutxKernelIdeal.τ Cert.OutxKernelIdeal.sig) → Buf (Elt Ideal) ℓ) : Prop :=
  True

def Pre_OutxReferenceIdeal (m : (ℓ : Loc Cert.OutxReferenceIdeal.nD Cert.OutxReferenceIdeal.τ Cert.OutxReferenceIdeal.sig) → Buf (Elt Ideal) ℓ) : Prop :=
  True

def Pre_OutwKernel (m : (ℓ : Loc Cert.OutwKernel.nD Cert.OutwKernel.τ Cert.OutwKernel.sig) → Buf (Elt Bits) ℓ) : Prop :=
  True

def Pre_OutwKernelIdeal (m : (ℓ : Loc Cert.OutwKernelIdeal.nD Cert.OutwKernelIdeal.τ Cert.OutwKernelIdeal.sig) → Buf (Elt Ideal) ℓ) : Prop :=
  True

def Pre_OutwReferenceIdeal (m : (ℓ : Loc Cert.OutwReferenceIdeal.nD Cert.OutwReferenceIdeal.τ Cert.OutwReferenceIdeal.sig) → Buf (Elt Ideal) ℓ) : Prop :=
  True

def Pre_InxKernel (m : (ℓ : Loc Cert.InxKernel.nD Cert.InxKernel.τ Cert.InxKernel.sig) → Buf (Elt Bits) ℓ) : Prop :=
  True

def Pre_InxKernelIdeal (m : (ℓ : Loc Cert.InxKernelIdeal.nD Cert.InxKernelIdeal.τ Cert.InxKernelIdeal.sig) → Buf (Elt Ideal) ℓ) : Prop :=
  True

def Pre_InxReferenceIdeal (m : (ℓ : Loc Cert.InxReferenceIdeal.nD Cert.InxReferenceIdeal.τ Cert.InxReferenceIdeal.sig) → Buf (Elt Ideal) ℓ) : Prop :=
  True

def Pre_InwKernel (m : (ℓ : Loc Cert.InwKernel.nD Cert.InwKernel.τ Cert.InwKernel.sig) → Buf (Elt Bits) ℓ) : Prop :=
  True

def Pre_InwKernelIdeal (m : (ℓ : Loc Cert.InwKernelIdeal.nD Cert.InwKernelIdeal.τ Cert.InwKernelIdeal.sig) → Buf (Elt Ideal) ℓ) : Prop :=
  True

def Pre_InwReferenceIdeal (m : (ℓ : Loc Cert.InwReferenceIdeal.nD Cert.InwReferenceIdeal.τ Cert.InwReferenceIdeal.sig) → Buf (Elt Ideal) ℓ) : Prop :=
  True

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_FoutKernel (m : (ℓ : Loc Cert.FoutKernel.nD Cert.FoutKernel.τ Cert.FoutKernel.sig) → Buf (Elt Bits) ℓ) : Prop :=
  True

def Pre_FoutKernelIdeal (m : (ℓ : Loc Cert.FoutKernelIdeal.nD Cert.FoutKernelIdeal.τ Cert.FoutKernelIdeal.sig) → Buf (Elt Ideal) ℓ) : Prop :=
  True

def Pre_FoutReferenceIdeal (m : (ℓ : Loc Cert.FoutReferenceIdeal.nD Cert.FoutReferenceIdeal.τ Cert.FoutReferenceIdeal.sig) → Buf (Elt Ideal) ℓ) : Prop :=
  True

def Pre_FguKernel (m : (ℓ : Loc Cert.FguKernel.nD Cert.FguKernel.τ Cert.FguKernel.sig) → Buf (Elt Bits) ℓ) : Prop :=
  True

def Pre_FguKernelIdeal (m : (ℓ : Loc Cert.FguKernelIdeal.nD Cert.FguKernelIdeal.τ Cert.FguKernelIdeal.sig) → Buf (Elt Ideal) ℓ) : Prop :=
  True

def Pre_FguReferenceIdeal (m : (ℓ : Loc Cert.FguReferenceIdeal.nD Cert.FguReferenceIdeal.τ Cert.FguReferenceIdeal.sig) → Buf (Elt Ideal) ℓ) : Prop :=
  True

def Pre_FdownKernel (m : (ℓ : Loc Cert.FdownKernel.nD Cert.FdownKernel.τ Cert.FdownKernel.sig) → Buf (Elt Bits) ℓ) : Prop :=
  True

def Pre_FdownKernelIdeal (m : (ℓ : Loc Cert.FdownKernelIdeal.nD Cert.FdownKernelIdeal.τ Cert.FdownKernelIdeal.sig) → Buf (Elt Ideal) ℓ) : Prop :=
  True

def Pre_FdownReferenceIdeal (m : (ℓ : Loc Cert.FdownReferenceIdeal.nD Cert.FdownReferenceIdeal.τ Cert.FdownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_GuxKernel [hGuxKernel : Cert.GuxKernel.Facts] : Prop :=
  ∀ (m : (ℓ : Loc Cert.GuxKernel.nD Cert.GuxKernel.τ Cert.GuxKernel.sig) → Buf (Elt Bits) ℓ) (g : Dev Cert.GuxKernel.nD → PrngReg), Pre_GuxKernel m →
    θ_run (Cert.GuxKernel.defs (F := Bits)) (onTc (τ := Cert.GuxKernel.τ) (Cert.GuxKernel.main (F := Bits))) ⟨m, fun _ => 0, g⟩ (fun r => (∀ c : Dev Cert.GuxKernel.nD,
      r.2.mem ((c.tc : Thread Cert.GuxKernel.nD Cert.GuxKernel.τ).loc Cert.GuxKernel.main_arg0) = m ((c.tc : Thread Cert.GuxKernel.nD Cert.GuxKernel.τ).loc Cert.GuxKernel.main_arg0)
      ∧ r.2.mem ((c.tc : Thread Cert.GuxKernel.nD Cert.GuxKernel.τ).loc Cert.GuxKernel.main_arg1) = m ((c.tc : Thread Cert.GuxKernel.nD Cert.GuxKernel.τ).loc Cert.GuxKernel.main_arg1))
      ∧ r.2.sem = fun _ => 0)

def quiescent_GuxKernelIdeal [hGuxKernelIdeal : Cert.GuxKernelIdeal.Facts] : Prop :=
  ∀ (m : (ℓ : Loc Cert.GuxKernelIdeal.nD Cert.GuxKernelIdeal.τ Cert.GuxKernelIdeal.sig) → Buf (Elt Ideal) ℓ) (g : Dev Cert.GuxKernelIdeal.nD → PrngReg), Pre_GuxKernelIdeal m →
    θ_run (Cert.GuxKernelIdeal.defs (F := Ideal)) (onTc (τ := Cert.GuxKernelIdeal.τ) (Cert.GuxKernelIdeal.main (F := Ideal))) ⟨m, fun _ => 0, g⟩ (fun r => (∀ c : Dev Cert.GuxKernelIdeal.nD,
      r.2.mem ((c.tc : Thread Cert.GuxKernelIdeal.nD Cert.GuxKernelIdeal.τ).loc Cert.GuxKernelIdeal.main_arg0) = m ((c.tc : Thread Cert.GuxKernelIdeal.nD Cert.GuxKernelIdeal.τ).loc Cert.GuxKernelIdeal.main_arg0)
      ∧ r.2.mem ((c.tc : Thread Cert.GuxKernelIdeal.nD Cert.GuxKernelIdeal.τ).loc Cert.GuxKernelIdeal.main_arg1) = m ((c.tc : Thread Cert.GuxKernelIdeal.nD Cert.GuxKernelIdeal.τ).loc Cert.GuxKernelIdeal.main_arg1))
      ∧ r.2.sem = fun _ => 0)

def quiescent_GuxReferenceIdeal [hGuxReferenceIdeal : Cert.GuxReferenceIdeal.Facts] : Prop :=
  ∀ (m : (ℓ : Loc Cert.GuxReferenceIdeal.nD Cert.GuxReferenceIdeal.τ Cert.GuxReferenceIdeal.sig) → Buf (Elt Ideal) ℓ) (g : Dev Cert.GuxReferenceIdeal.nD → PrngReg), Pre_GuxReferenceIdeal m →
    θ_run (Cert.GuxReferenceIdeal.defs (F := Ideal)) (onTc (τ := Cert.GuxReferenceIdeal.τ) (Cert.GuxReferenceIdeal.main (F := Ideal))) ⟨m, fun _ => 0, g⟩ (fun r => (∀ c : Dev Cert.GuxReferenceIdeal.nD,
      r.2.mem ((c.tc : Thread Cert.GuxReferenceIdeal.nD Cert.GuxReferenceIdeal.τ).loc Cert.GuxReferenceIdeal.main_arg0) = m ((c.tc : Thread Cert.GuxReferenceIdeal.nD Cert.GuxReferenceIdeal.τ).loc Cert.GuxReferenceIdeal.main_arg0)
      ∧ r.2.mem ((c.tc : Thread Cert.GuxReferenceIdeal.nD Cert.GuxReferenceIdeal.τ).loc Cert.GuxReferenceIdeal.main_arg1) = m ((c.tc : Thread Cert.GuxReferenceIdeal.nD Cert.GuxReferenceIdeal.τ).loc Cert.GuxReferenceIdeal.main_arg1))
      ∧ r.2.sem = fun _ => 0)

def quiescent_GuwKernel [hGuwKernel : Cert.GuwKernel.Facts] : Prop :=
  ∀ (m : (ℓ : Loc Cert.GuwKernel.nD Cert.GuwKernel.τ Cert.GuwKernel.sig) → Buf (Elt Bits) ℓ) (g : Dev Cert.GuwKernel.nD → PrngReg), Pre_GuwKernel m →
    θ_run (Cert.GuwKernel.defs (F := Bits)) (onTc (τ := Cert.GuwKernel.τ) (Cert.GuwKernel.main (F := Bits))) ⟨m, fun _ => 0, g⟩ (fun r => (∀ c : Dev Cert.GuwKernel.nD,
      r.2.mem ((c.tc : Thread Cert.GuwKernel.nD Cert.GuwKernel.τ).loc Cert.GuwKernel.main_arg0) = m ((c.tc : Thread Cert.GuwKernel.nD Cert.GuwKernel.τ).loc Cert.GuwKernel.main_arg0)
      ∧ r.2.mem ((c.tc : Thread Cert.GuwKernel.nD Cert.GuwKernel.τ).loc Cert.GuwKernel.main_arg1) = m ((c.tc : Thread Cert.GuwKernel.nD Cert.GuwKernel.τ).loc Cert.GuwKernel.main_arg1))
      ∧ r.2.sem = fun _ => 0)

def quiescent_GuwKernelIdeal [hGuwKernelIdeal : Cert.GuwKernelIdeal.Facts] : Prop :=
  ∀ (m : (ℓ : Loc Cert.GuwKernelIdeal.nD Cert.GuwKernelIdeal.τ Cert.GuwKernelIdeal.sig) → Buf (Elt Ideal) ℓ) (g : Dev Cert.GuwKernelIdeal.nD → PrngReg), Pre_GuwKernelIdeal m →
    θ_run (Cert.GuwKernelIdeal.defs (F := Ideal)) (onTc (τ := Cert.GuwKernelIdeal.τ) (Cert.GuwKernelIdeal.main (F := Ideal))) ⟨m, fun _ => 0, g⟩ (fun r => (∀ c : Dev Cert.GuwKernelIdeal.nD,
      r.2.mem ((c.tc : Thread Cert.GuwKernelIdeal.nD Cert.GuwKernelIdeal.τ).loc Cert.GuwKernelIdeal.main_arg0) = m ((c.tc : Thread Cert.GuwKernelIdeal.nD Cert.GuwKernelIdeal.τ).loc Cert.GuwKernelIdeal.main_arg0)
      ∧ r.2.mem ((c.tc : Thread Cert.GuwKernelIdeal.nD Cert.GuwKernelIdeal.τ).loc Cert.GuwKernelIdeal.main_arg1) = m ((c.tc : Thread Cert.GuwKernelIdeal.nD Cert.GuwKernelIdeal.τ).loc Cert.GuwKernelIdeal.main_arg1))
      ∧ r.2.sem = fun _ => 0)

def quiescent_GuwReferenceIdeal [hGuwReferenceIdeal : Cert.GuwReferenceIdeal.Facts] : Prop :=
  ∀ (m : (ℓ : Loc Cert.GuwReferenceIdeal.nD Cert.GuwReferenceIdeal.τ Cert.GuwReferenceIdeal.sig) → Buf (Elt Ideal) ℓ) (g : Dev Cert.GuwReferenceIdeal.nD → PrngReg), Pre_GuwReferenceIdeal m →
    θ_run (Cert.GuwReferenceIdeal.defs (F := Ideal)) (onTc (τ := Cert.GuwReferenceIdeal.τ) (Cert.GuwReferenceIdeal.main (F := Ideal))) ⟨m, fun _ => 0, g⟩ (fun r => (∀ c : Dev Cert.GuwReferenceIdeal.nD,
      r.2.mem ((c.tc : Thread Cert.GuwReferenceIdeal.nD Cert.GuwReferenceIdeal.τ).loc Cert.GuwReferenceIdeal.main_arg0) = m ((c.tc : Thread Cert.GuwReferenceIdeal.nD Cert.GuwReferenceIdeal.τ).loc Cert.GuwReferenceIdeal.main_arg0)
      ∧ r.2.mem ((c.tc : Thread Cert.GuwReferenceIdeal.nD Cert.GuwReferenceIdeal.τ).loc Cert.GuwReferenceIdeal.main_arg1) = m ((c.tc : Thread Cert.GuwReferenceIdeal.nD Cert.GuwReferenceIdeal.τ).loc Cert.GuwReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormKernelIdeal_pre_finite7 [hNormKernelIdeal : Cert.NormKernelIdeal.Facts] [hPre_finite7 : Cert.Pre_finite7.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite7 m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_NormReferenceIdeal_pre_finite7 [hNormReferenceIdeal : Cert.NormReferenceIdeal.Facts] [hPre_finite7 : Cert.Pre_finite7.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite7 m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_OutxKernel [hOutxKernel : Cert.OutxKernel.Facts] : Prop :=
  ∀ (m : (ℓ : Loc Cert.OutxKernel.nD Cert.OutxKernel.τ Cert.OutxKernel.sig) → Buf (Elt Bits) ℓ) (g : Dev Cert.OutxKernel.nD → PrngReg), Pre_OutxKernel m →
    θ_run (Cert.OutxKernel.defs (F := Bits)) (onTc (τ := Cert.OutxKernel.τ) (Cert.OutxKernel.main (F := Bits))) ⟨m, fun _ => 0, g⟩ (fun r => (∀ c : Dev Cert.OutxKernel.nD,
      r.2.mem ((c.tc : Thread Cert.OutxKernel.nD Cert.OutxKernel.τ).loc Cert.OutxKernel.main_arg0) = m ((c.tc : Thread Cert.OutxKernel.nD Cert.OutxKernel.τ).loc Cert.OutxKernel.main_arg0)
      ∧ r.2.mem ((c.tc : Thread Cert.OutxKernel.nD Cert.OutxKernel.τ).loc Cert.OutxKernel.main_arg1) = m ((c.tc : Thread Cert.OutxKernel.nD Cert.OutxKernel.τ).loc Cert.OutxKernel.main_arg1))
      ∧ r.2.sem = fun _ => 0)

def quiescent_OutxKernelIdeal [hOutxKernelIdeal : Cert.OutxKernelIdeal.Facts] : Prop :=
  ∀ (m : (ℓ : Loc Cert.OutxKernelIdeal.nD Cert.OutxKernelIdeal.τ Cert.OutxKernelIdeal.sig) → Buf (Elt Ideal) ℓ) (g : Dev Cert.OutxKernelIdeal.nD → PrngReg), Pre_OutxKernelIdeal m →
    θ_run (Cert.OutxKernelIdeal.defs (F := Ideal)) (onTc (τ := Cert.OutxKernelIdeal.τ) (Cert.OutxKernelIdeal.main (F := Ideal))) ⟨m, fun _ => 0, g⟩ (fun r => (∀ c : Dev Cert.OutxKernelIdeal.nD,
      r.2.mem ((c.tc : Thread Cert.OutxKernelIdeal.nD Cert.OutxKernelIdeal.τ).loc Cert.OutxKernelIdeal.main_arg0) = m ((c.tc : Thread Cert.OutxKernelIdeal.nD Cert.OutxKernelIdeal.τ).loc Cert.OutxKernelIdeal.main_arg0)
      ∧ r.2.mem ((c.tc : Thread Cert.OutxKernelIdeal.nD Cert.OutxKernelIdeal.τ).loc Cert.OutxKernelIdeal.main_arg1) = m ((c.tc : Thread Cert.OutxKernelIdeal.nD Cert.OutxKernelIdeal.τ).loc Cert.OutxKernelIdeal.main_arg1))
      ∧ r.2.sem = fun _ => 0)

def quiescent_OutxReferenceIdeal [hOutxReferenceIdeal : Cert.OutxReferenceIdeal.Facts] : Prop :=
  ∀ (m : (ℓ : Loc Cert.OutxReferenceIdeal.nD Cert.OutxReferenceIdeal.τ Cert.OutxReferenceIdeal.sig) → Buf (Elt Ideal) ℓ) (g : Dev Cert.OutxReferenceIdeal.nD → PrngReg), Pre_OutxReferenceIdeal m →
    θ_run (Cert.OutxReferenceIdeal.defs (F := Ideal)) (onTc (τ := Cert.OutxReferenceIdeal.τ) (Cert.OutxReferenceIdeal.main (F := Ideal))) ⟨m, fun _ => 0, g⟩ (fun r => (∀ c : Dev Cert.OutxReferenceIdeal.nD,
      r.2.mem ((c.tc : Thread Cert.OutxReferenceIdeal.nD Cert.OutxReferenceIdeal.τ).loc Cert.OutxReferenceIdeal.main_arg0) = m ((c.tc : Thread Cert.OutxReferenceIdeal.nD Cert.OutxReferenceIdeal.τ).loc Cert.OutxReferenceIdeal.main_arg0)
      ∧ r.2.mem ((c.tc : Thread Cert.OutxReferenceIdeal.nD Cert.OutxReferenceIdeal.τ).loc Cert.OutxReferenceIdeal.main_arg1) = m ((c.tc : Thread Cert.OutxReferenceIdeal.nD Cert.OutxReferenceIdeal.τ).loc Cert.OutxReferenceIdeal.main_arg1))
      ∧ r.2.sem = fun _ => 0)

def quiescent_OutwKernel [hOutwKernel : Cert.OutwKernel.Facts] : Prop :=
  ∀ (m : (ℓ : Loc Cert.OutwKernel.nD Cert.OutwKernel.τ Cert.OutwKernel.sig) → Buf (Elt Bits) ℓ) (g : Dev Cert.OutwKernel.nD → PrngReg), Pre_OutwKernel m →
    θ_run (Cert.OutwKernel.defs (F := Bits)) (onTc (τ := Cert.OutwKernel.τ) (Cert.OutwKernel.main (F := Bits))) ⟨m, fun _ => 0, g⟩ (fun r => (∀ c : Dev Cert.OutwKernel.nD,
      r.2.mem ((c.tc : Thread Cert.OutwKernel.nD Cert.OutwKernel.τ).loc Cert.OutwKernel.main_arg0) = m ((c.tc : Thread Cert.OutwKernel.nD Cert.OutwKernel.τ).loc Cert.OutwKernel.main_arg0)
      ∧ r.2.mem ((c.tc : Thread Cert.OutwKernel.nD Cert.OutwKernel.τ).loc Cert.OutwKernel.main_arg1) = m ((c.tc : Thread Cert.OutwKernel.nD Cert.OutwKernel.τ).loc Cert.OutwKernel.main_arg1))
      ∧ r.2.sem = fun _ => 0)

def quiescent_OutwKernelIdeal [hOutwKernelIdeal : Cert.OutwKernelIdeal.Facts] : Prop :=
  ∀ (m : (ℓ : Loc Cert.OutwKernelIdeal.nD Cert.OutwKernelIdeal.τ Cert.OutwKernelIdeal.sig) → Buf (Elt Ideal) ℓ) (g : Dev Cert.OutwKernelIdeal.nD → PrngReg), Pre_OutwKernelIdeal m →
    θ_run (Cert.OutwKernelIdeal.defs (F := Ideal)) (onTc (τ := Cert.OutwKernelIdeal.τ) (Cert.OutwKernelIdeal.main (F := Ideal))) ⟨m, fun _ => 0, g⟩ (fun r => (∀ c : Dev Cert.OutwKernelIdeal.nD,
      r.2.mem ((c.tc : Thread Cert.OutwKernelIdeal.nD Cert.OutwKernelIdeal.τ).loc Cert.OutwKernelIdeal.main_arg0) = m ((c.tc : Thread Cert.OutwKernelIdeal.nD Cert.OutwKernelIdeal.τ).loc Cert.OutwKernelIdeal.main_arg0)
      ∧ r.2.mem ((c.tc : Thread Cert.OutwKernelIdeal.nD Cert.OutwKernelIdeal.τ).loc Cert.OutwKernelIdeal.main_arg1) = m ((c.tc : Thread Cert.OutwKernelIdeal.nD Cert.OutwKernelIdeal.τ).loc Cert.OutwKernelIdeal.main_arg1))
      ∧ r.2.sem = fun _ => 0)

def quiescent_OutwReferenceIdeal [hOutwReferenceIdeal : Cert.OutwReferenceIdeal.Facts] : Prop :=
  ∀ (m : (ℓ : Loc Cert.OutwReferenceIdeal.nD Cert.OutwReferenceIdeal.τ Cert.OutwReferenceIdeal.sig) → Buf (Elt Ideal) ℓ) (g : Dev Cert.OutwReferenceIdeal.nD → PrngReg), Pre_OutwReferenceIdeal m →
    θ_run (Cert.OutwReferenceIdeal.defs (F := Ideal)) (onTc (τ := Cert.OutwReferenceIdeal.τ) (Cert.OutwReferenceIdeal.main (F := Ideal))) ⟨m, fun _ => 0, g⟩ (fun r => (∀ c : Dev Cert.OutwReferenceIdeal.nD,
      r.2.mem ((c.tc : Thread Cert.OutwReferenceIdeal.nD Cert.OutwReferenceIdeal.τ).loc Cert.OutwReferenceIdeal.main_arg0) = m ((c.tc : Thread Cert.OutwReferenceIdeal.nD Cert.OutwReferenceIdeal.τ).loc Cert.OutwReferenceIdeal.main_arg0)
      ∧ r.2.mem ((c.tc : Thread Cert.OutwReferenceIdeal.nD Cert.OutwReferenceIdeal.τ).loc Cert.OutwReferenceIdeal.main_arg1) = m ((c.tc : Thread Cert.OutwReferenceIdeal.nD Cert.OutwReferenceIdeal.τ).loc Cert.OutwReferenceIdeal.main_arg1))
      ∧ r.2.sem = fun _ => 0)

def quiescent_InxKernel [hInxKernel : Cert.InxKernel.Facts] : Prop :=
  ∀ (m : (ℓ : Loc Cert.InxKernel.nD Cert.InxKernel.τ Cert.InxKernel.sig) → Buf (Elt Bits) ℓ) (g : Dev Cert.InxKernel.nD → PrngReg), Pre_InxKernel m →
    θ_run (Cert.InxKernel.defs (F := Bits)) (onTc (τ := Cert.InxKernel.τ) (Cert.InxKernel.main (F := Bits))) ⟨m, fun _ => 0, g⟩ (fun r => (∀ c : Dev Cert.InxKernel.nD,
      r.2.mem ((c.tc : Thread Cert.InxKernel.nD Cert.InxKernel.τ).loc Cert.InxKernel.main_arg0) = m ((c.tc : Thread Cert.InxKernel.nD Cert.InxKernel.τ).loc Cert.InxKernel.main_arg0)
      ∧ r.2.mem ((c.tc : Thread Cert.InxKernel.nD Cert.InxKernel.τ).loc Cert.InxKernel.main_arg1) = m ((c.tc : Thread Cert.InxKernel.nD Cert.InxKernel.τ).loc Cert.InxKernel.main_arg1))
      ∧ r.2.sem = fun _ => 0)

def quiescent_InxKernelIdeal [hInxKernelIdeal : Cert.InxKernelIdeal.Facts] : Prop :=
  ∀ (m : (ℓ : Loc Cert.InxKernelIdeal.nD Cert.InxKernelIdeal.τ Cert.InxKernelIdeal.sig) → Buf (Elt Ideal) ℓ) (g : Dev Cert.InxKernelIdeal.nD → PrngReg), Pre_InxKernelIdeal m →
    θ_run (Cert.InxKernelIdeal.defs (F := Ideal)) (onTc (τ := Cert.InxKernelIdeal.τ) (Cert.InxKernelIdeal.main (F := Ideal))) ⟨m, fun _ => 0, g⟩ (fun r => (∀ c : Dev Cert.InxKernelIdeal.nD,
      r.2.mem ((c.tc : Thread Cert.InxKernelIdeal.nD Cert.InxKernelIdeal.τ).loc Cert.InxKernelIdeal.main_arg0) = m ((c.tc : Thread Cert.InxKernelIdeal.nD Cert.InxKernelIdeal.τ).loc Cert.InxKernelIdeal.main_arg0)
      ∧ r.2.mem ((c.tc : Thread Cert.InxKernelIdeal.nD Cert.InxKernelIdeal.τ).loc Cert.InxKernelIdeal.main_arg1) = m ((c.tc : Thread Cert.InxKernelIdeal.nD Cert.InxKernelIdeal.τ).loc Cert.InxKernelIdeal.main_arg1))
      ∧ r.2.sem = fun _ => 0)

def quiescent_InxReferenceIdeal [hInxReferenceIdeal : Cert.InxReferenceIdeal.Facts] : Prop :=
  ∀ (m : (ℓ : Loc Cert.InxReferenceIdeal.nD Cert.InxReferenceIdeal.τ Cert.InxReferenceIdeal.sig) → Buf (Elt Ideal) ℓ) (g : Dev Cert.InxReferenceIdeal.nD → PrngReg), Pre_InxReferenceIdeal m →
    θ_run (Cert.InxReferenceIdeal.defs (F := Ideal)) (onTc (τ := Cert.InxReferenceIdeal.τ) (Cert.InxReferenceIdeal.main (F := Ideal))) ⟨m, fun _ => 0, g⟩ (fun r => (∀ c : Dev Cert.InxReferenceIdeal.nD,
      r.2.mem ((c.tc : Thread Cert.InxReferenceIdeal.nD Cert.InxReferenceIdeal.τ).loc Cert.InxReferenceIdeal.main_arg0) = m ((c.tc : Thread Cert.InxReferenceIdeal.nD Cert.InxReferenceIdeal.τ).loc Cert.InxReferenceIdeal.main_arg0)
      ∧ r.2.mem ((c.tc : Thread Cert.InxReferenceIdeal.nD Cert.InxReferenceIdeal.τ).loc Cert.InxReferenceIdeal.main_arg1) = m ((c.tc : Thread Cert.InxReferenceIdeal.nD Cert.InxReferenceIdeal.τ).loc Cert.InxReferenceIdeal.main_arg1))
      ∧ r.2.sem = fun _ => 0)

def quiescent_InwKernel [hInwKernel : Cert.InwKernel.Facts] : Prop :=
  ∀ (m : (ℓ : Loc Cert.InwKernel.nD Cert.InwKernel.τ Cert.InwKernel.sig) → Buf (Elt Bits) ℓ) (g : Dev Cert.InwKernel.nD → PrngReg), Pre_InwKernel m →
    θ_run (Cert.InwKernel.defs (F := Bits)) (onTc (τ := Cert.InwKernel.τ) (Cert.InwKernel.main (F := Bits))) ⟨m, fun _ => 0, g⟩ (fun r => (∀ c : Dev Cert.InwKernel.nD,
      r.2.mem ((c.tc : Thread Cert.InwKernel.nD Cert.InwKernel.τ).loc Cert.InwKernel.main_arg0) = m ((c.tc : Thread Cert.InwKernel.nD Cert.InwKernel.τ).loc Cert.InwKernel.main_arg0)
      ∧ r.2.mem ((c.tc : Thread Cert.InwKernel.nD Cert.InwKernel.τ).loc Cert.InwKernel.main_arg1) = m ((c.tc : Thread Cert.InwKernel.nD Cert.InwKernel.τ).loc Cert.InwKernel.main_arg1))
      ∧ r.2.sem = fun _ => 0)

def quiescent_InwKernelIdeal [hInwKernelIdeal : Cert.InwKernelIdeal.Facts] : Prop :=
  ∀ (m : (ℓ : Loc Cert.InwKernelIdeal.nD Cert.InwKernelIdeal.τ Cert.InwKernelIdeal.sig) → Buf (Elt Ideal) ℓ) (g : Dev Cert.InwKernelIdeal.nD → PrngReg), Pre_InwKernelIdeal m →
    θ_run (Cert.InwKernelIdeal.defs (F := Ideal)) (onTc (τ := Cert.InwKernelIdeal.τ) (Cert.InwKernelIdeal.main (F := Ideal))) ⟨m, fun _ => 0, g⟩ (fun r => (∀ c : Dev Cert.InwKernelIdeal.nD,
      r.2.mem ((c.tc : Thread Cert.InwKernelIdeal.nD Cert.InwKernelIdeal.τ).loc Cert.InwKernelIdeal.main_arg0) = m ((c.tc : Thread Cert.InwKernelIdeal.nD Cert.InwKernelIdeal.τ).loc Cert.InwKernelIdeal.main_arg0)
      ∧ r.2.mem ((c.tc : Thread Cert.InwKernelIdeal.nD Cert.InwKernelIdeal.τ).loc Cert.InwKernelIdeal.main_arg1) = m ((c.tc : Thread Cert.InwKernelIdeal.nD Cert.InwKernelIdeal.τ).loc Cert.InwKernelIdeal.main_arg1))
      ∧ r.2.sem = fun _ => 0)

def quiescent_InwReferenceIdeal [hInwReferenceIdeal : Cert.InwReferenceIdeal.Facts] : Prop :=
  ∀ (m : (ℓ : Loc Cert.InwReferenceIdeal.nD Cert.InwReferenceIdeal.τ Cert.InwReferenceIdeal.sig) → Buf (Elt Ideal) ℓ) (g : Dev Cert.InwReferenceIdeal.nD → PrngReg), Pre_InwReferenceIdeal m →
    θ_run (Cert.InwReferenceIdeal.defs (F := Ideal)) (onTc (τ := Cert.InwReferenceIdeal.τ) (Cert.InwReferenceIdeal.main (F := Ideal))) ⟨m, fun _ => 0, g⟩ (fun r => (∀ c : Dev Cert.InwReferenceIdeal.nD,
      r.2.mem ((c.tc : Thread Cert.InwReferenceIdeal.nD Cert.InwReferenceIdeal.τ).loc Cert.InwReferenceIdeal.main_arg0) = m ((c.tc : Thread Cert.InwReferenceIdeal.nD Cert.InwReferenceIdeal.τ).loc Cert.InwReferenceIdeal.main_arg0)
      ∧ r.2.mem ((c.tc : Thread Cert.InwReferenceIdeal.nD Cert.InwReferenceIdeal.τ).loc Cert.InwReferenceIdeal.main_arg1) = m ((c.tc : Thread Cert.InwReferenceIdeal.nD Cert.InwReferenceIdeal.τ).loc Cert.InwReferenceIdeal.main_arg1))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1))
      ∧ r.2.sem = fun _ => 0)

def quiescent_FoutKernel [hFoutKernel : Cert.FoutKernel.Facts] : Prop :=
  ∀ (m : (ℓ : Loc Cert.FoutKernel.nD Cert.FoutKernel.τ Cert.FoutKernel.sig) → Buf (Elt Bits) ℓ) (g : Dev Cert.FoutKernel.nD → PrngReg), Pre_FoutKernel m →
    θ_run (Cert.FoutKernel.defs (F := Bits)) (onTc (τ := Cert.FoutKernel.τ) (Cert.FoutKernel.main (F := Bits))) ⟨m, fun _ => 0, g⟩ (fun r => (∀ c : Dev Cert.FoutKernel.nD,
      r.2.mem ((c.tc : Thread Cert.FoutKernel.nD Cert.FoutKernel.τ).loc Cert.FoutKernel.main_arg0) = m ((c.tc : Thread Cert.FoutKernel.nD Cert.FoutKernel.τ).loc Cert.FoutKernel.main_arg0)
      ∧ r.2.mem ((c.tc : Thread Cert.FoutKernel.nD Cert.FoutKernel.τ).loc Cert.FoutKernel.main_arg1) = m ((c.tc : Thread Cert.FoutKernel.nD Cert.FoutKernel.τ).loc Cert.FoutKernel.main_arg1)
      ∧ r.2.mem ((c.tc : Thread Cert.FoutKernel.nD Cert.FoutKernel.τ).loc Cert.FoutKernel.main_arg2) = m ((c.tc : Thread Cert.FoutKernel.nD Cert.FoutKernel.τ).loc Cert.FoutKernel.main_arg2)
      ∧ r.2.mem ((c.tc : Thread Cert.FoutKernel.nD Cert.FoutKernel.τ).loc Cert.FoutKernel.main_arg3) = m ((c.tc : Thread Cert.FoutKernel.nD Cert.FoutKernel.τ).loc Cert.FoutKernel.main_arg3))
      ∧ r.2.sem = fun _ => 0)

def quiescent_FoutKernelIdeal [hFoutKernelIdeal : Cert.FoutKernelIdeal.Facts] : Prop :=
  ∀ (m : (ℓ : Loc Cert.FoutKernelIdeal.nD Cert.FoutKernelIdeal.τ Cert.FoutKernelIdeal.sig) → Buf (Elt Ideal) ℓ) (g : Dev Cert.FoutKernelIdeal.nD → PrngReg), Pre_FoutKernelIdeal m →
    θ_run (Cert.FoutKernelIdeal.defs (F := Ideal)) (onTc (τ := Cert.FoutKernelIdeal.τ) (Cert.FoutKernelIdeal.main (F := Ideal))) ⟨m, fun _ => 0, g⟩ (fun r => (∀ c : Dev Cert.FoutKernelIdeal.nD,
      r.2.mem ((c.tc : Thread Cert.FoutKernelIdeal.nD Cert.FoutKernelIdeal.τ).loc Cert.FoutKernelIdeal.main_arg0) = m ((c.tc : Thread Cert.FoutKernelIdeal.nD Cert.FoutKernelIdeal.τ).loc Cert.FoutKernelIdeal.main_arg0)
      ∧ r.2.mem ((c.tc : Thread Cert.FoutKernelIdeal.nD Cert.FoutKernelIdeal.τ).loc Cert.FoutKernelIdeal.main_arg1) = m ((c.tc : Thread Cert.FoutKernelIdeal.nD Cert.FoutKernelIdeal.τ).loc Cert.FoutKernelIdeal.main_arg1)
      ∧ r.2.mem ((c.tc : Thread Cert.FoutKernelIdeal.nD Cert.FoutKernelIdeal.τ).loc Cert.FoutKernelIdeal.main_arg2) = m ((c.tc : Thread Cert.FoutKernelIdeal.nD Cert.FoutKernelIdeal.τ).loc Cert.FoutKernelIdeal.main_arg2)
      ∧ r.2.mem ((c.tc : Thread Cert.FoutKernelIdeal.nD Cert.FoutKernelIdeal.τ).loc Cert.FoutKernelIdeal.main_arg3) = m ((c.tc : Thread Cert.FoutKernelIdeal.nD Cert.FoutKernelIdeal.τ).loc Cert.FoutKernelIdeal.main_arg3))
      ∧ r.2.sem = fun _ => 0)

def quiescent_FoutReferenceIdeal [hFoutReferenceIdeal : Cert.FoutReferenceIdeal.Facts] : Prop :=
  ∀ (m : (ℓ : Loc Cert.FoutReferenceIdeal.nD Cert.FoutReferenceIdeal.τ Cert.FoutReferenceIdeal.sig) → Buf (Elt Ideal) ℓ) (g : Dev Cert.FoutReferenceIdeal.nD → PrngReg), Pre_FoutReferenceIdeal m →
    θ_run (Cert.FoutReferenceIdeal.defs (F := Ideal)) (onTc (τ := Cert.FoutReferenceIdeal.τ) (Cert.FoutReferenceIdeal.main (F := Ideal))) ⟨m, fun _ => 0, g⟩ (fun r => (∀ c : Dev Cert.FoutReferenceIdeal.nD,
      r.2.mem ((c.tc : Thread Cert.FoutReferenceIdeal.nD Cert.FoutReferenceIdeal.τ).loc Cert.FoutReferenceIdeal.main_arg0) = m ((c.tc : Thread Cert.FoutReferenceIdeal.nD Cert.FoutReferenceIdeal.τ).loc Cert.FoutReferenceIdeal.main_arg0)
      ∧ r.2.mem ((c.tc : Thread Cert.FoutReferenceIdeal.nD Cert.FoutReferenceIdeal.τ).loc Cert.FoutReferenceIdeal.main_arg1) = m ((c.tc : Thread Cert.FoutReferenceIdeal.nD Cert.FoutReferenceIdeal.τ).loc Cert.FoutReferenceIdeal.main_arg1)
      ∧ r.2.mem ((c.tc : Thread Cert.FoutReferenceIdeal.nD Cert.FoutReferenceIdeal.τ).loc Cert.FoutReferenceIdeal.main_arg2) = m ((c.tc : Thread Cert.FoutReferenceIdeal.nD Cert.FoutReferenceIdeal.τ).loc Cert.FoutReferenceIdeal.main_arg2)
      ∧ r.2.mem ((c.tc : Thread Cert.FoutReferenceIdeal.nD Cert.FoutReferenceIdeal.τ).loc Cert.FoutReferenceIdeal.main_arg3) = m ((c.tc : Thread Cert.FoutReferenceIdeal.nD Cert.FoutReferenceIdeal.τ).loc Cert.FoutReferenceIdeal.main_arg3))
      ∧ r.2.sem = fun _ => 0)

def quiescent_FguKernel [hFguKernel : Cert.FguKernel.Facts] : Prop :=
  ∀ (m : (ℓ : Loc Cert.FguKernel.nD Cert.FguKernel.τ Cert.FguKernel.sig) → Buf (Elt Bits) ℓ) (g : Dev Cert.FguKernel.nD → PrngReg), Pre_FguKernel m →
    θ_run (Cert.FguKernel.defs (F := Bits)) (onTc (τ := Cert.FguKernel.τ) (Cert.FguKernel.main (F := Bits))) ⟨m, fun _ => 0, g⟩ (fun r => (∀ c : Dev Cert.FguKernel.nD,
      r.2.mem ((c.tc : Thread Cert.FguKernel.nD Cert.FguKernel.τ).loc Cert.FguKernel.main_arg0) = m ((c.tc : Thread Cert.FguKernel.nD Cert.FguKernel.τ).loc Cert.FguKernel.main_arg0)
      ∧ r.2.mem ((c.tc : Thread Cert.FguKernel.nD Cert.FguKernel.τ).loc Cert.FguKernel.main_arg1) = m ((c.tc : Thread Cert.FguKernel.nD Cert.FguKernel.τ).loc Cert.FguKernel.main_arg1))
      ∧ r.2.sem = fun _ => 0)

def quiescent_FguKernelIdeal [hFguKernelIdeal : Cert.FguKernelIdeal.Facts] : Prop :=
  ∀ (m : (ℓ : Loc Cert.FguKernelIdeal.nD Cert.FguKernelIdeal.τ Cert.FguKernelIdeal.sig) → Buf (Elt Ideal) ℓ) (g : Dev Cert.FguKernelIdeal.nD → PrngReg), Pre_FguKernelIdeal m →
    θ_run (Cert.FguKernelIdeal.defs (F := Ideal)) (onTc (τ := Cert.FguKernelIdeal.τ) (Cert.FguKernelIdeal.main (F := Ideal))) ⟨m, fun _ => 0, g⟩ (fun r => (∀ c : Dev Cert.FguKernelIdeal.nD,
      r.2.mem ((c.tc : Thread Cert.FguKernelIdeal.nD Cert.FguKernelIdeal.τ).loc Cert.FguKernelIdeal.main_arg0) = m ((c.tc : Thread Cert.FguKernelIdeal.nD Cert.FguKernelIdeal.τ).loc Cert.FguKernelIdeal.main_arg0)
      ∧ r.2.mem ((c.tc : Thread Cert.FguKernelIdeal.nD Cert.FguKernelIdeal.τ).loc Cert.FguKernelIdeal.main_arg1) = m ((c.tc : Thread Cert.FguKernelIdeal.nD Cert.FguKernelIdeal.τ).loc Cert.FguKernelIdeal.main_arg1))
      ∧ r.2.sem = fun _ => 0)

def quiescent_FguReferenceIdeal [hFguReferenceIdeal : Cert.FguReferenceIdeal.Facts] : Prop :=
  ∀ (m : (ℓ : Loc Cert.FguReferenceIdeal.nD Cert.FguReferenceIdeal.τ Cert.FguReferenceIdeal.sig) → Buf (Elt Ideal) ℓ) (g : Dev Cert.FguReferenceIdeal.nD → PrngReg), Pre_FguReferenceIdeal m →
    θ_run (Cert.FguReferenceIdeal.defs (F := Ideal)) (onTc (τ := Cert.FguReferenceIdeal.τ) (Cert.FguReferenceIdeal.main (F := Ideal))) ⟨m, fun _ => 0, g⟩ (fun r => (∀ c : Dev Cert.FguReferenceIdeal.nD,
      r.2.mem ((c.tc : Thread Cert.FguReferenceIdeal.nD Cert.FguReferenceIdeal.τ).loc Cert.FguReferenceIdeal.main_arg0) = m ((c.tc : Thread Cert.FguReferenceIdeal.nD Cert.FguReferenceIdeal.τ).loc Cert.FguReferenceIdeal.main_arg0)
      ∧ r.2.mem ((c.tc : Thread Cert.FguReferenceIdeal.nD Cert.FguReferenceIdeal.τ).loc Cert.FguReferenceIdeal.main_arg1) = m ((c.tc : Thread Cert.FguReferenceIdeal.nD Cert.FguReferenceIdeal.τ).loc Cert.FguReferenceIdeal.main_arg1))
      ∧ r.2.sem = fun _ => 0)

def quiescent_FdownKernel [hFdownKernel : Cert.FdownKernel.Facts] : Prop :=
  ∀ (m : (ℓ : Loc Cert.FdownKernel.nD Cert.FdownKernel.τ Cert.FdownKernel.sig) → Buf (Elt Bits) ℓ) (g : Dev Cert.FdownKernel.nD → PrngReg), Pre_FdownKernel m →
    θ_run (Cert.FdownKernel.defs (F := Bits)) (onTc (τ := Cert.FdownKernel.τ) (Cert.FdownKernel.main (F := Bits))) ⟨m, fun _ => 0, g⟩ (fun r => (∀ c : Dev Cert.FdownKernel.nD,
      r.2.mem ((c.tc : Thread Cert.FdownKernel.nD Cert.FdownKernel.τ).loc Cert.FdownKernel.main_arg0) = m ((c.tc : Thread Cert.FdownKernel.nD Cert.FdownKernel.τ).loc Cert.FdownKernel.main_arg0)
      ∧ r.2.mem ((c.tc : Thread Cert.FdownKernel.nD Cert.FdownKernel.τ).loc Cert.FdownKernel.main_arg1) = m ((c.tc : Thread Cert.FdownKernel.nD Cert.FdownKernel.τ).loc Cert.FdownKernel.main_arg1)
      ∧ r.2.mem ((c.tc : Thread Cert.FdownKernel.nD Cert.FdownKernel.τ).loc Cert.FdownKernel.main_arg2) = m ((c.tc : Thread Cert.FdownKernel.nD Cert.FdownKernel.τ).loc Cert.FdownKernel.main_arg2)
      ∧ r.2.mem ((c.tc : Thread Cert.FdownKernel.nD Cert.FdownKernel.τ).loc Cert.FdownKernel.main_arg3) = m ((c.tc : Thread Cert.FdownKernel.nD Cert.FdownKernel.τ).loc Cert.FdownKernel.main_arg3))
      ∧ r.2.sem = fun _ => 0)

def quiescent_FdownKernelIdeal [hFdownKernelIdeal : Cert.FdownKernelIdeal.Facts] : Prop :=
  ∀ (m : (ℓ : Loc Cert.FdownKernelIdeal.nD Cert.FdownKernelIdeal.τ Cert.FdownKernelIdeal.sig) → Buf (Elt Ideal) ℓ) (g : Dev Cert.FdownKernelIdeal.nD → PrngReg), Pre_FdownKernelIdeal m →
    θ_run (Cert.FdownKernelIdeal.defs (F := Ideal)) (onTc (τ := Cert.FdownKernelIdeal.τ) (Cert.FdownKernelIdeal.main (F := Ideal))) ⟨m, fun _ => 0, g⟩ (fun r => (∀ c : Dev Cert.FdownKernelIdeal.nD,
      r.2.mem ((c.tc : Thread Cert.FdownKernelIdeal.nD Cert.FdownKernelIdeal.τ).loc Cert.FdownKernelIdeal.main_arg0) = m ((c.tc : Thread Cert.FdownKernelIdeal.nD Cert.FdownKernelIdeal.τ).loc Cert.FdownKernelIdeal.main_arg0)
      ∧ r.2.mem ((c.tc : Thread Cert.FdownKernelIdeal.nD Cert.FdownKernelIdeal.τ).loc Cert.FdownKernelIdeal.main_arg1) = m ((c.tc : Thread Cert.FdownKernelIdeal.nD Cert.FdownKernelIdeal.τ).loc Cert.FdownKernelIdeal.main_arg1)
      ∧ r.2.mem ((c.tc : Thread Cert.FdownKernelIdeal.nD Cert.FdownKernelIdeal.τ).loc Cert.FdownKernelIdeal.main_arg2) = m ((c.tc : Thread Cert.FdownKernelIdeal.nD Cert.FdownKernelIdeal.τ).loc Cert.FdownKernelIdeal.main_arg2)
      ∧ r.2.mem ((c.tc : Thread Cert.FdownKernelIdeal.nD Cert.FdownKernelIdeal.τ).loc Cert.FdownKernelIdeal.main_arg3) = m ((c.tc : Thread Cert.FdownKernelIdeal.nD Cert.FdownKernelIdeal.τ).loc Cert.FdownKernelIdeal.main_arg3))
      ∧ r.2.sem = fun _ => 0)

def quiescent_FdownReferenceIdeal [hFdownReferenceIdeal : Cert.FdownReferenceIdeal.Facts] : Prop :=
  ∀ (m : (ℓ : Loc Cert.FdownReferenceIdeal.nD Cert.FdownReferenceIdeal.τ Cert.FdownReferenceIdeal.sig) → Buf (Elt Ideal) ℓ) (g : Dev Cert.FdownReferenceIdeal.nD → PrngReg), Pre_FdownReferenceIdeal m →
    θ_run (Cert.FdownReferenceIdeal.defs (F := Ideal)) (onTc (τ := Cert.FdownReferenceIdeal.τ) (Cert.FdownReferenceIdeal.main (F := Ideal))) ⟨m, fun _ => 0, g⟩ (fun r => (∀ c : Dev Cert.FdownReferenceIdeal.nD,
      r.2.mem ((c.tc : Thread Cert.FdownReferenceIdeal.nD Cert.FdownReferenceIdeal.τ).loc Cert.FdownReferenceIdeal.main_arg0) = m ((c.tc : Thread Cert.FdownReferenceIdeal.nD Cert.FdownReferenceIdeal.τ).loc Cert.FdownReferenceIdeal.main_arg0)
      ∧ r.2.mem ((c.tc : Thread Cert.FdownReferenceIdeal.nD Cert.FdownReferenceIdeal.τ).loc Cert.FdownReferenceIdeal.main_arg1) = m ((c.tc : Thread Cert.FdownReferenceIdeal.nD Cert.FdownReferenceIdeal.τ).loc Cert.FdownReferenceIdeal.main_arg1)
      ∧ r.2.mem ((c.tc : Thread Cert.FdownReferenceIdeal.nD Cert.FdownReferenceIdeal.τ).loc Cert.FdownReferenceIdeal.main_arg2) = m ((c.tc : Thread Cert.FdownReferenceIdeal.nD Cert.FdownReferenceIdeal.τ).loc Cert.FdownReferenceIdeal.main_arg2)
      ∧ r.2.mem ((c.tc : Thread Cert.FdownReferenceIdeal.nD Cert.FdownReferenceIdeal.τ).loc Cert.FdownReferenceIdeal.main_arg3) = m ((c.tc : Thread Cert.FdownReferenceIdeal.nD Cert.FdownReferenceIdeal.τ).loc Cert.FdownReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)) →
    ∃ (v0 : (c : Dev Cert.DxKernelIdeal.nD) → Buf (Elt Ideal) ((c.tc : Thread Cert.DxKernelIdeal.nD Cert.DxKernelIdeal.τ).loc Cert.DxKernelIdeal.main_v0)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v4) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v5) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_GuxKernel_GuxKernelIdeal : Prop :=
  True

def algebraic_GuxKernelIdeal_GuxReferenceIdeal [hGuxKernelIdeal : Cert.GuxKernelIdeal.Facts] [hGuxReferenceIdeal : Cert.GuxReferenceIdeal.Facts] : Prop :=
  ∀ (m : (ℓ : Loc Cert.GuxKernelIdeal.nD Cert.GuxKernelIdeal.τ Cert.GuxKernelIdeal.sig) → Buf (Elt Ideal) ℓ) (g : Dev Cert.GuxKernelIdeal.nD → PrngReg)
    (m' : (ℓ : Loc Cert.GuxReferenceIdeal.nD Cert.GuxReferenceIdeal.τ Cert.GuxReferenceIdeal.sig) → Buf (Elt Ideal) ℓ) (g' : Dev Cert.GuxReferenceIdeal.nD → PrngReg), Pre_GuxKernelIdeal m →
    (∀ c : Dev Cert.GuxKernelIdeal.nD,
      m' ((c.tc : Thread Cert.GuxReferenceIdeal.nD Cert.GuxReferenceIdeal.τ).loc Cert.GuxReferenceIdeal.main_arg0) = m ((c.tc : Thread Cert.GuxKernelIdeal.nD Cert.GuxKernelIdeal.τ).loc Cert.GuxKernelIdeal.main_arg0)
      ∧ m' ((c.tc : Thread Cert.GuxReferenceIdeal.nD Cert.GuxReferenceIdeal.τ).loc Cert.GuxReferenceIdeal.main_arg1) = m ((c.tc : Thread Cert.GuxKernelIdeal.nD Cert.GuxKernelIdeal.τ).loc Cert.GuxKernelIdeal.main_arg1)) →
    ∃ (v0 : (c : Dev Cert.GuxKernelIdeal.nD) → Buf (Elt Ideal) ((c.tc : Thread Cert.GuxKernelIdeal.nD Cert.GuxKernelIdeal.τ).loc Cert.GuxKernelIdeal.main_v0)),
      θ_run (Cert.GuxKernelIdeal.defs (F := Ideal)) (onTc (τ := Cert.GuxKernelIdeal.τ) (Cert.GuxKernelIdeal.main (F := Ideal))) ⟨m, fun _ => 0, g⟩ (fun r => ∀ c : Dev Cert.GuxKernelIdeal.nD,
          r.2.mem ((c.tc : Thread Cert.GuxKernelIdeal.nD Cert.GuxKernelIdeal.τ).loc Cert.GuxKernelIdeal.main_v0) = v0 c
          ∧ r.2.mem ((c.tc : Thread Cert.GuxKernelIdeal.nD Cert.GuxKernelIdeal.τ).loc Cert.GuxKernelIdeal.main_arg0) = m ((c.tc : Thread Cert.GuxKernelIdeal.nD Cert.GuxKernelIdeal.τ).loc Cert.GuxKernelIdeal.main_arg0)
          ∧ r.2.mem ((c.tc : Thread Cert.GuxKernelIdeal.nD Cert.GuxKernelIdeal.τ).loc Cert.GuxKernelIdeal.main_arg1) = m ((c.tc : Thread Cert.GuxKernelIdeal.nD Cert.GuxKernelIdeal.τ).loc Cert.GuxKernelIdeal.main_arg1))
      ∧ θ_run (Cert.GuxReferenceIdeal.defs (F := Ideal)) (onTc (τ := Cert.GuxReferenceIdeal.τ) (Cert.GuxReferenceIdeal.main (F := Ideal))) ⟨m', fun _ => 0, g'⟩ (fun r => ∀ c : Dev Cert.GuxReferenceIdeal.nD,
          r.2.mem ((c.tc : Thread Cert.GuxReferenceIdeal.nD Cert.GuxReferenceIdeal.τ).loc Cert.GuxReferenceIdeal.main_v18) = v0 c
          ∧ r.2.mem ((c.tc : Thread Cert.GuxReferenceIdeal.nD Cert.GuxReferenceIdeal.τ).loc Cert.GuxReferenceIdeal.main_arg0) = m' ((c.tc : Thread Cert.GuxReferenceIdeal.nD Cert.GuxReferenceIdeal.τ).loc Cert.GuxReferenceIdeal.main_arg0)
          ∧ r.2.mem ((c.tc : Thread Cert.GuxReferenceIdeal.nD Cert.GuxReferenceIdeal.τ).loc Cert.GuxReferenceIdeal.main_arg1) = m' ((c.tc : Thread Cert.GuxReferenceIdeal.nD Cert.GuxReferenceIdeal.τ).loc Cert.GuxReferenceIdeal.main_arg1))

def preserves_GuwKernel_GuwKernelIdeal : Prop :=
  True

def algebraic_GuwKernelIdeal_GuwReferenceIdeal [hGuwKernelIdeal : Cert.GuwKernelIdeal.Facts] [hGuwReferenceIdeal : Cert.GuwReferenceIdeal.Facts] : Prop :=
  ∀ (m : (ℓ : Loc Cert.GuwKernelIdeal.nD Cert.GuwKernelIdeal.τ Cert.GuwKernelIdeal.sig) → Buf (Elt Ideal) ℓ) (g : Dev Cert.GuwKernelIdeal.nD → PrngReg)
    (m' : (ℓ : Loc Cert.GuwReferenceIdeal.nD Cert.GuwReferenceIdeal.τ Cert.GuwReferenceIdeal.sig) → Buf (Elt Ideal) ℓ) (g' : Dev Cert.GuwReferenceIdeal.nD → PrngReg), Pre_GuwKernelIdeal m →
    (∀ c : Dev Cert.GuwKernelIdeal.nD,
      m' ((c.tc : Thread Cert.GuwReferenceIdeal.nD Cert.GuwReferenceIdeal.τ).loc Cert.GuwReferenceIdeal.main_arg0) = m ((c.tc : Thread Cert.GuwKernelIdeal.nD Cert.GuwKernelIdeal.τ).loc Cert.GuwKernelIdeal.main_arg0)
      ∧ m' ((c.tc : Thread Cert.GuwReferenceIdeal.nD Cert.GuwReferenceIdeal.τ).loc Cert.GuwReferenceIdeal.main_arg1) = m ((c.tc : Thread Cert.GuwKernelIdeal.nD Cert.GuwKernelIdeal.τ).loc Cert.GuwKernelIdeal.main_arg1)) →
    ∃ (v0 : (c : Dev Cert.GuwKernelIdeal.nD) → Buf (Elt Ideal) ((c.tc : Thread Cert.GuwKernelIdeal.nD Cert.GuwKernelIdeal.τ).loc Cert.GuwKernelIdeal.main_v0)),
      θ_run (Cert.GuwKernelIdeal.defs (F := Ideal)) (onTc (τ := Cert.GuwKernelIdeal.τ) (Cert.GuwKernelIdeal.main (F := Ideal))) ⟨m, fun _ => 0, g⟩ (fun r => ∀ c : Dev Cert.GuwKernelIdeal.nD,
          r.2.mem ((c.tc : Thread Cert.GuwKernelIdeal.nD Cert.GuwKernelIdeal.τ).loc Cert.GuwKernelIdeal.main_v0) = v0 c
          ∧ r.2.mem ((c.tc : Thread Cert.GuwKernelIdeal.nD Cert.GuwKernelIdeal.τ).loc Cert.GuwKernelIdeal.main_arg0) = m ((c.tc : Thread Cert.GuwKernelIdeal.nD Cert.GuwKernelIdeal.τ).loc Cert.GuwKernelIdeal.main_arg0)
          ∧ r.2.mem ((c.tc : Thread Cert.GuwKernelIdeal.nD Cert.GuwKernelIdeal.τ).loc Cert.GuwKernelIdeal.main_arg1) = m ((c.tc : Thread Cert.GuwKernelIdeal.nD Cert.GuwKernelIdeal.τ).loc Cert.GuwKernelIdeal.main_arg1))
      ∧ θ_run (Cert.GuwReferenceIdeal.defs (F := Ideal)) (onTc (τ := Cert.GuwReferenceIdeal.τ) (Cert.GuwReferenceIdeal.main (F := Ideal))) ⟨m', fun _ => 0, g'⟩ (fun r => ∀ c : Dev Cert.GuwReferenceIdeal.nD,
          r.2.mem ((c.tc : Thread Cert.GuwReferenceIdeal.nD Cert.GuwReferenceIdeal.τ).loc Cert.GuwReferenceIdeal.main_v24) = v0 c
          ∧ r.2.mem ((c.tc : Thread Cert.GuwReferenceIdeal.nD Cert.GuwReferenceIdeal.τ).loc Cert.GuwReferenceIdeal.main_arg0) = m' ((c.tc : Thread Cert.GuwReferenceIdeal.nD Cert.GuwReferenceIdeal.τ).loc Cert.GuwReferenceIdeal.main_arg0)
          ∧ r.2.mem ((c.tc : Thread Cert.GuwReferenceIdeal.nD Cert.GuwReferenceIdeal.τ).loc Cert.GuwReferenceIdeal.main_arg1) = m' ((c.tc : Thread Cert.GuwReferenceIdeal.nD Cert.GuwReferenceIdeal.τ).loc Cert.GuwReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v7) = v0 c
          ∧ r.2.mem ((c.tc : Thread Cert.GateReferenceIdeal.nD Cert.GateReferenceIdeal.τ).loc Cert.GateReferenceIdeal.main_v6) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_NormKernel_NormKernelIdeal : Prop :=
  True

def algebraic_NormKernelIdeal_NormReferenceIdeal_pre_finite7 [hNormKernelIdeal : Cert.NormKernelIdeal.Facts] [hNormReferenceIdeal : Cert.NormReferenceIdeal.Facts] [hPre_finite7 : Cert.Pre_finite7.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite7 m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v0_2)) (v3 : (c : Dev Cert.NormKernelIdeal.nD) → Buf (Elt Ideal) ((c.tc : Thread Cert.NormKernelIdeal.nD Cert.NormKernelIdeal.τ).loc Cert.NormKernelIdeal.main_v0_3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v0_2) = v2 c
          ∧ r.2.mem ((c.tc : Thread Cert.NormKernelIdeal.nD Cert.NormKernelIdeal.τ).loc Cert.NormKernelIdeal.main_v0_3) = v3 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v49) = v0 c
          ∧ r.2.mem ((c.tc : Thread Cert.NormReferenceIdeal.nD Cert.NormReferenceIdeal.τ).loc Cert.NormReferenceIdeal.main_v32) = v1 c
          ∧ r.2.mem ((c.tc : Thread Cert.NormReferenceIdeal.nD Cert.NormReferenceIdeal.τ).loc Cert.NormReferenceIdeal.main_v27) = v2 c
          ∧ r.2.mem ((c.tc : Thread Cert.NormReferenceIdeal.nD Cert.NormReferenceIdeal.τ).loc Cert.NormReferenceIdeal.main_v24) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_OutxKernel_OutxKernelIdeal : Prop :=
  True

def algebraic_OutxKernelIdeal_OutxReferenceIdeal [hOutxKernelIdeal : Cert.OutxKernelIdeal.Facts] [hOutxReferenceIdeal : Cert.OutxReferenceIdeal.Facts] : Prop :=
  ∀ (m : (ℓ : Loc Cert.OutxKernelIdeal.nD Cert.OutxKernelIdeal.τ Cert.OutxKernelIdeal.sig) → Buf (Elt Ideal) ℓ) (g : Dev Cert.OutxKernelIdeal.nD → PrngReg)
    (m' : (ℓ : Loc Cert.OutxReferenceIdeal.nD Cert.OutxReferenceIdeal.τ Cert.OutxReferenceIdeal.sig) → Buf (Elt Ideal) ℓ) (g' : Dev Cert.OutxReferenceIdeal.nD → PrngReg), Pre_OutxKernelIdeal m →
    (∀ c : Dev Cert.OutxKernelIdeal.nD,
      m' ((c.tc : Thread Cert.OutxReferenceIdeal.nD Cert.OutxReferenceIdeal.τ).loc Cert.OutxReferenceIdeal.main_arg0) = m ((c.tc : Thread Cert.OutxKernelIdeal.nD Cert.OutxKernelIdeal.τ).loc Cert.OutxKernelIdeal.main_arg0)
      ∧ m' ((c.tc : Thread Cert.OutxReferenceIdeal.nD Cert.OutxReferenceIdeal.τ).loc Cert.OutxReferenceIdeal.main_arg1) = m ((c.tc : Thread Cert.OutxKernelIdeal.nD Cert.OutxKernelIdeal.τ).loc Cert.OutxKernelIdeal.main_arg1)) →
    ∃ (v0 : (c : Dev Cert.OutxKernelIdeal.nD) → Buf (Elt Ideal) ((c.tc : Thread Cert.OutxKernelIdeal.nD Cert.OutxKernelIdeal.τ).loc Cert.OutxKernelIdeal.main_v0)),
      θ_run (Cert.OutxKernelIdeal.defs (F := Ideal)) (onTc (τ := Cert.OutxKernelIdeal.τ) (Cert.OutxKernelIdeal.main (F := Ideal))) ⟨m, fun _ => 0, g⟩ (fun r => ∀ c : Dev Cert.OutxKernelIdeal.nD,
          r.2.mem ((c.tc : Thread Cert.OutxKernelIdeal.nD Cert.OutxKernelIdeal.τ).loc Cert.OutxKernelIdeal.main_v0) = v0 c
          ∧ r.2.mem ((c.tc : Thread Cert.OutxKernelIdeal.nD Cert.OutxKernelIdeal.τ).loc Cert.OutxKernelIdeal.main_arg0) = m ((c.tc : Thread Cert.OutxKernelIdeal.nD Cert.OutxKernelIdeal.τ).loc Cert.OutxKernelIdeal.main_arg0)
          ∧ r.2.mem ((c.tc : Thread Cert.OutxKernelIdeal.nD Cert.OutxKernelIdeal.τ).loc Cert.OutxKernelIdeal.main_arg1) = m ((c.tc : Thread Cert.OutxKernelIdeal.nD Cert.OutxKernelIdeal.τ).loc Cert.OutxKernelIdeal.main_arg1))
      ∧ θ_run (Cert.OutxReferenceIdeal.defs (F := Ideal)) (onTc (τ := Cert.OutxReferenceIdeal.τ) (Cert.OutxReferenceIdeal.main (F := Ideal))) ⟨m', fun _ => 0, g'⟩ (fun r => ∀ c : Dev Cert.OutxReferenceIdeal.nD,
          r.2.mem ((c.tc : Thread Cert.OutxReferenceIdeal.nD Cert.OutxReferenceIdeal.τ).loc Cert.OutxReferenceIdeal.main_v4) = v0 c
          ∧ r.2.mem ((c.tc : Thread Cert.OutxReferenceIdeal.nD Cert.OutxReferenceIdeal.τ).loc Cert.OutxReferenceIdeal.main_arg0) = m' ((c.tc : Thread Cert.OutxReferenceIdeal.nD Cert.OutxReferenceIdeal.τ).loc Cert.OutxReferenceIdeal.main_arg0)
          ∧ r.2.mem ((c.tc : Thread Cert.OutxReferenceIdeal.nD Cert.OutxReferenceIdeal.τ).loc Cert.OutxReferenceIdeal.main_arg1) = m' ((c.tc : Thread Cert.OutxReferenceIdeal.nD Cert.OutxReferenceIdeal.τ).loc Cert.OutxReferenceIdeal.main_arg1))

def preserves_OutwKernel_OutwKernelIdeal : Prop :=
  True

def algebraic_OutwKernelIdeal_OutwReferenceIdeal [hOutwKernelIdeal : Cert.OutwKernelIdeal.Facts] [hOutwReferenceIdeal : Cert.OutwReferenceIdeal.Facts] : Prop :=
  ∀ (m : (ℓ : Loc Cert.OutwKernelIdeal.nD Cert.OutwKernelIdeal.τ Cert.OutwKernelIdeal.sig) → Buf (Elt Ideal) ℓ) (g : Dev Cert.OutwKernelIdeal.nD → PrngReg)
    (m' : (ℓ : Loc Cert.OutwReferenceIdeal.nD Cert.OutwReferenceIdeal.τ Cert.OutwReferenceIdeal.sig) → Buf (Elt Ideal) ℓ) (g' : Dev Cert.OutwReferenceIdeal.nD → PrngReg), Pre_OutwKernelIdeal m →
    (∀ c : Dev Cert.OutwKernelIdeal.nD,
      m' ((c.tc : Thread Cert.OutwReferenceIdeal.nD Cert.OutwReferenceIdeal.τ).loc Cert.OutwReferenceIdeal.main_arg0) = m ((c.tc : Thread Cert.OutwKernelIdeal.nD Cert.OutwKernelIdeal.τ).loc Cert.OutwKernelIdeal.main_arg0)
      ∧ m' ((c.tc : Thread Cert.OutwReferenceIdeal.nD Cert.OutwReferenceIdeal.τ).loc Cert.OutwReferenceIdeal.main_arg1) = m ((c.tc : Thread Cert.OutwKernelIdeal.nD Cert.OutwKernelIdeal.τ).loc Cert.OutwKernelIdeal.main_arg1)) →
    ∃ (v0 : (c : Dev Cert.OutwKernelIdeal.nD) → Buf (Elt Ideal) ((c.tc : Thread Cert.OutwKernelIdeal.nD Cert.OutwKernelIdeal.τ).loc Cert.OutwKernelIdeal.main_v0)),
      θ_run (Cert.OutwKernelIdeal.defs (F := Ideal)) (onTc (τ := Cert.OutwKernelIdeal.τ) (Cert.OutwKernelIdeal.main (F := Ideal))) ⟨m, fun _ => 0, g⟩ (fun r => ∀ c : Dev Cert.OutwKernelIdeal.nD,
          r.2.mem ((c.tc : Thread Cert.OutwKernelIdeal.nD Cert.OutwKernelIdeal.τ).loc Cert.OutwKernelIdeal.main_v0) = v0 c
          ∧ r.2.mem ((c.tc : Thread Cert.OutwKernelIdeal.nD Cert.OutwKernelIdeal.τ).loc Cert.OutwKernelIdeal.main_arg0) = m ((c.tc : Thread Cert.OutwKernelIdeal.nD Cert.OutwKernelIdeal.τ).loc Cert.OutwKernelIdeal.main_arg0)
          ∧ r.2.mem ((c.tc : Thread Cert.OutwKernelIdeal.nD Cert.OutwKernelIdeal.τ).loc Cert.OutwKernelIdeal.main_arg1) = m ((c.tc : Thread Cert.OutwKernelIdeal.nD Cert.OutwKernelIdeal.τ).loc Cert.OutwKernelIdeal.main_arg1))
      ∧ θ_run (Cert.OutwReferenceIdeal.defs (F := Ideal)) (onTc (τ := Cert.OutwReferenceIdeal.τ) (Cert.OutwReferenceIdeal.main (F := Ideal))) ⟨m', fun _ => 0, g'⟩ (fun r => ∀ c : Dev Cert.OutwReferenceIdeal.nD,
          r.2.mem ((c.tc : Thread Cert.OutwReferenceIdeal.nD Cert.OutwReferenceIdeal.τ).loc Cert.OutwReferenceIdeal.main_v5) = v0 c
          ∧ r.2.mem ((c.tc : Thread Cert.OutwReferenceIdeal.nD Cert.OutwReferenceIdeal.τ).loc Cert.OutwReferenceIdeal.main_arg0) = m' ((c.tc : Thread Cert.OutwReferenceIdeal.nD Cert.OutwReferenceIdeal.τ).loc Cert.OutwReferenceIdeal.main_arg0)
          ∧ r.2.mem ((c.tc : Thread Cert.OutwReferenceIdeal.nD Cert.OutwReferenceIdeal.τ).loc Cert.OutwReferenceIdeal.main_arg1) = m' ((c.tc : Thread Cert.OutwReferenceIdeal.nD Cert.OutwReferenceIdeal.τ).loc Cert.OutwReferenceIdeal.main_arg1))

def preserves_InxKernel_InxKernelIdeal : Prop :=
  True

def algebraic_InxKernelIdeal_InxReferenceIdeal [hInxKernelIdeal : Cert.InxKernelIdeal.Facts] [hInxReferenceIdeal : Cert.InxReferenceIdeal.Facts] : Prop :=
  ∀ (m : (ℓ : Loc Cert.InxKernelIdeal.nD Cert.InxKernelIdeal.τ Cert.InxKernelIdeal.sig) → Buf (Elt Ideal) ℓ) (g : Dev Cert.InxKernelIdeal.nD → PrngReg)
    (m' : (ℓ : Loc Cert.InxReferenceIdeal.nD Cert.InxReferenceIdeal.τ Cert.InxReferenceIdeal.sig) → Buf (Elt Ideal) ℓ) (g' : Dev Cert.InxReferenceIdeal.nD → PrngReg), Pre_InxKernelIdeal m →
    (∀ c : Dev Cert.InxKernelIdeal.nD,
      m' ((c.tc : Thread Cert.InxReferenceIdeal.nD Cert.InxReferenceIdeal.τ).loc Cert.InxReferenceIdeal.main_arg0) = m ((c.tc : Thread Cert.InxKernelIdeal.nD Cert.InxKernelIdeal.τ).loc Cert.InxKernelIdeal.main_arg0)
      ∧ m' ((c.tc : Thread Cert.InxReferenceIdeal.nD Cert.InxReferenceIdeal.τ).loc Cert.InxReferenceIdeal.main_arg1) = m ((c.tc : Thread Cert.InxKernelIdeal.nD Cert.InxKernelIdeal.τ).loc Cert.InxKernelIdeal.main_arg1)) →
    ∃ (v0 : (c : Dev Cert.InxKernelIdeal.nD) → Buf (Elt Ideal) ((c.tc : Thread Cert.InxKernelIdeal.nD Cert.InxKernelIdeal.τ).loc Cert.InxKernelIdeal.main_v0)),
      θ_run (Cert.InxKernelIdeal.defs (F := Ideal)) (onTc (τ := Cert.InxKernelIdeal.τ) (Cert.InxKernelIdeal.main (F := Ideal))) ⟨m, fun _ => 0, g⟩ (fun r => ∀ c : Dev Cert.InxKernelIdeal.nD,
          r.2.mem ((c.tc : Thread Cert.InxKernelIdeal.nD Cert.InxKernelIdeal.τ).loc Cert.InxKernelIdeal.main_v0) = v0 c
          ∧ r.2.mem ((c.tc : Thread Cert.InxKernelIdeal.nD Cert.InxKernelIdeal.τ).loc Cert.InxKernelIdeal.main_arg0) = m ((c.tc : Thread Cert.InxKernelIdeal.nD Cert.InxKernelIdeal.τ).loc Cert.InxKernelIdeal.main_arg0)
          ∧ r.2.mem ((c.tc : Thread Cert.InxKernelIdeal.nD Cert.InxKernelIdeal.τ).loc Cert.InxKernelIdeal.main_arg1) = m ((c.tc : Thread Cert.InxKernelIdeal.nD Cert.InxKernelIdeal.τ).loc Cert.InxKernelIdeal.main_arg1))
      ∧ θ_run (Cert.InxReferenceIdeal.defs (F := Ideal)) (onTc (τ := Cert.InxReferenceIdeal.τ) (Cert.InxReferenceIdeal.main (F := Ideal))) ⟨m', fun _ => 0, g'⟩ (fun r => ∀ c : Dev Cert.InxReferenceIdeal.nD,
          r.2.mem ((c.tc : Thread Cert.InxReferenceIdeal.nD Cert.InxReferenceIdeal.τ).loc Cert.InxReferenceIdeal.main_v4) = v0 c
          ∧ r.2.mem ((c.tc : Thread Cert.InxReferenceIdeal.nD Cert.InxReferenceIdeal.τ).loc Cert.InxReferenceIdeal.main_arg0) = m' ((c.tc : Thread Cert.InxReferenceIdeal.nD Cert.InxReferenceIdeal.τ).loc Cert.InxReferenceIdeal.main_arg0)
          ∧ r.2.mem ((c.tc : Thread Cert.InxReferenceIdeal.nD Cert.InxReferenceIdeal.τ).loc Cert.InxReferenceIdeal.main_arg1) = m' ((c.tc : Thread Cert.InxReferenceIdeal.nD Cert.InxReferenceIdeal.τ).loc Cert.InxReferenceIdeal.main_arg1))

def preserves_InwKernel_InwKernelIdeal : Prop :=
  True

def algebraic_InwKernelIdeal_InwReferenceIdeal [hInwKernelIdeal : Cert.InwKernelIdeal.Facts] [hInwReferenceIdeal : Cert.InwReferenceIdeal.Facts] : Prop :=
  ∀ (m : (ℓ : Loc Cert.InwKernelIdeal.nD Cert.InwKernelIdeal.τ Cert.InwKernelIdeal.sig) → Buf (Elt Ideal) ℓ) (g : Dev Cert.InwKernelIdeal.nD → PrngReg)
    (m' : (ℓ : Loc Cert.InwReferenceIdeal.nD Cert.InwReferenceIdeal.τ Cert.InwReferenceIdeal.sig) → Buf (Elt Ideal) ℓ) (g' : Dev Cert.InwReferenceIdeal.nD → PrngReg), Pre_InwKernelIdeal m →
    (∀ c : Dev Cert.InwKernelIdeal.nD,
      m' ((c.tc : Thread Cert.InwReferenceIdeal.nD Cert.InwReferenceIdeal.τ).loc Cert.InwReferenceIdeal.main_arg0) = m ((c.tc : Thread Cert.InwKernelIdeal.nD Cert.InwKernelIdeal.τ).loc Cert.InwKernelIdeal.main_arg0)
      ∧ m' ((c.tc : Thread Cert.InwReferenceIdeal.nD Cert.InwReferenceIdeal.τ).loc Cert.InwReferenceIdeal.main_arg1) = m ((c.tc : Thread Cert.InwKernelIdeal.nD Cert.InwKernelIdeal.τ).loc Cert.InwKernelIdeal.main_arg1)) →
    ∃ (v0 : (c : Dev Cert.InwKernelIdeal.nD) → Buf (Elt Ideal) ((c.tc : Thread Cert.InwKernelIdeal.nD Cert.InwKernelIdeal.τ).loc Cert.InwKernelIdeal.main_v0)),
      θ_run (Cert.InwKernelIdeal.defs (F := Ideal)) (onTc (τ := Cert.InwKernelIdeal.τ) (Cert.InwKernelIdeal.main (F := Ideal))) ⟨m, fun _ => 0, g⟩ (fun r => ∀ c : Dev Cert.InwKernelIdeal.nD,
          r.2.mem ((c.tc : Thread Cert.InwKernelIdeal.nD Cert.InwKernelIdeal.τ).loc Cert.InwKernelIdeal.main_v0) = v0 c
          ∧ r.2.mem ((c.tc : Thread Cert.InwKernelIdeal.nD Cert.InwKernelIdeal.τ).loc Cert.InwKernelIdeal.main_arg0) = m ((c.tc : Thread Cert.InwKernelIdeal.nD Cert.InwKernelIdeal.τ).loc Cert.InwKernelIdeal.main_arg0)
          ∧ r.2.mem ((c.tc : Thread Cert.InwKernelIdeal.nD Cert.InwKernelIdeal.τ).loc Cert.InwKernelIdeal.main_arg1) = m ((c.tc : Thread Cert.InwKernelIdeal.nD Cert.InwKernelIdeal.τ).loc Cert.InwKernelIdeal.main_arg1))
      ∧ θ_run (Cert.InwReferenceIdeal.defs (F := Ideal)) (onTc (τ := Cert.InwReferenceIdeal.τ) (Cert.InwReferenceIdeal.main (F := Ideal))) ⟨m', fun _ => 0, g'⟩ (fun r => ∀ c : Dev Cert.InwReferenceIdeal.nD,
          r.2.mem ((c.tc : Thread Cert.InwReferenceIdeal.nD Cert.InwReferenceIdeal.τ).loc Cert.InwReferenceIdeal.main_v5) = v0 c
          ∧ r.2.mem ((c.tc : Thread Cert.InwReferenceIdeal.nD Cert.InwReferenceIdeal.τ).loc Cert.InwReferenceIdeal.main_arg0) = m' ((c.tc : Thread Cert.InwReferenceIdeal.nD Cert.InwReferenceIdeal.τ).loc Cert.InwReferenceIdeal.main_arg0)
          ∧ r.2.mem ((c.tc : Thread Cert.InwReferenceIdeal.nD Cert.InwReferenceIdeal.τ).loc Cert.InwReferenceIdeal.main_arg1) = m' ((c.tc : Thread Cert.InwReferenceIdeal.nD Cert.InwReferenceIdeal.τ).loc Cert.InwReferenceIdeal.main_arg1))

def preserves_FinKernel_FinKernelIdeal : Prop :=
  True

def algebraic_FinKernelIdeal_FinReferenceIdeal [hFinKernelIdeal : Cert.FinKernelIdeal.Facts] [hFinReferenceIdeal : Cert.FinReferenceIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinKernelIdeal m →
    (∀ c : Dev Cert.FinKernelIdeal.nD,
      m' ((c.tc : Thread Cert.FinReferenceIdeal.nD Cert.FinReferenceIdeal.τ).loc Cert.FinReferenceIdeal.main_arg0) = m ((c.tc : Thread Cert.FinKernelIdeal.nD Cert.FinKernelIdeal.τ).loc Cert.FinKernelIdeal.main_arg0)
      ∧ m' ((c.tc : Thread Cert.FinReferenceIdeal.nD Cert.FinReferenceIdeal.τ).loc Cert.FinReferenceIdeal.main_arg1) = m ((c.tc : Thread Cert.FinKernelIdeal.nD Cert.FinKernelIdeal.τ).loc Cert.FinKernelIdeal.main_arg1)) →
    ∃ (v0 : (c : Dev Cert.FinKernelIdeal.nD) → Buf (Elt Ideal) ((c.tc : Thread Cert.FinKernelIdeal.nD Cert.FinKernelIdeal.τ).loc Cert.FinKernelIdeal.main_v0)),
      θ_run (Cert.FinKernelIdeal.defs (F := Ideal)) (onTc (τ := Cert.FinKernelIdeal.τ) (Cert.FinKernelIdeal.main (F := Ideal))) ⟨m, fun _ => 0, g⟩ (fun r => ∀ c : Dev Cert.FinKernelIdeal.nD,
          r.2.mem ((c.tc : Thread Cert.FinKernelIdeal.nD Cert.FinKernelIdeal.τ).loc Cert.FinKernelIdeal.main_v0) = v0 c
          ∧ r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
          ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v2) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1))

def preserves_FoutKernel_FoutKernelIdeal : Prop :=
  True

def algebraic_FoutKernelIdeal_FoutReferenceIdeal [hFoutKernelIdeal : Cert.FoutKernelIdeal.Facts] [hFoutReferenceIdeal : Cert.FoutReferenceIdeal.Facts] : Prop :=
  ∀ (m : (ℓ : Loc Cert.FoutKernelIdeal.nD Cert.FoutKernelIdeal.τ Cert.FoutKernelIdeal.sig) → Buf (Elt Ideal) ℓ) (g : Dev Cert.FoutKernelIdeal.nD → PrngReg)
    (m' : (ℓ : Loc Cert.FoutReferenceIdeal.nD Cert.FoutReferenceIdeal.τ Cert.FoutReferenceIdeal.sig) → Buf (Elt Ideal) ℓ) (g' : Dev Cert.FoutReferenceIdeal.nD → PrngReg), Pre_FoutKernelIdeal m →
    (∀ c : Dev Cert.FoutKernelIdeal.nD,
      m' ((c.tc : Thread Cert.FoutReferenceIdeal.nD Cert.FoutReferenceIdeal.τ).loc Cert.FoutReferenceIdeal.main_arg0) = m ((c.tc : Thread Cert.FoutKernelIdeal.nD Cert.FoutKernelIdeal.τ).loc Cert.FoutKernelIdeal.main_arg0)
      ∧ m' ((c.tc : Thread Cert.FoutReferenceIdeal.nD Cert.FoutReferenceIdeal.τ).loc Cert.FoutReferenceIdeal.main_arg1) = m ((c.tc : Thread Cert.FoutKernelIdeal.nD Cert.FoutKernelIdeal.τ).loc Cert.FoutKernelIdeal.main_arg1)
      ∧ m' ((c.tc : Thread Cert.FoutReferenceIdeal.nD Cert.FoutReferenceIdeal.τ).loc Cert.FoutReferenceIdeal.main_arg2) = m ((c.tc : Thread Cert.FoutKernelIdeal.nD Cert.FoutKernelIdeal.τ).loc Cert.FoutKernelIdeal.main_arg2)
      ∧ m' ((c.tc : Thread Cert.FoutReferenceIdeal.nD Cert.FoutReferenceIdeal.τ).loc Cert.FoutReferenceIdeal.main_arg3) = m ((c.tc : Thread Cert.FoutKernelIdeal.nD Cert.FoutKernelIdeal.τ).loc Cert.FoutKernelIdeal.main_arg3)) →
    ∃ (v0 : (c : Dev Cert.FoutKernelIdeal.nD) → Buf (Elt Ideal) ((c.tc : Thread Cert.FoutKernelIdeal.nD Cert.FoutKernelIdeal.τ).loc Cert.FoutKernelIdeal.main_v0_0)) (v1 : (c : Dev Cert.FoutKernelIdeal.nD) → Buf (Elt Ideal) ((c.tc : Thread Cert.FoutKernelIdeal.nD Cert.FoutKernelIdeal.τ).loc Cert.FoutKernelIdeal.main_v0_1)),
      θ_run (Cert.FoutKernelIdeal.defs (F := Ideal)) (onTc (τ := Cert.FoutKernelIdeal.τ) (Cert.FoutKernelIdeal.main (F := Ideal))) ⟨m, fun _ => 0, g⟩ (fun r => ∀ c : Dev Cert.FoutKernelIdeal.nD,
          r.2.mem ((c.tc : Thread Cert.FoutKernelIdeal.nD Cert.FoutKernelIdeal.τ).loc Cert.FoutKernelIdeal.main_v0_0) = v0 c
          ∧ r.2.mem ((c.tc : Thread Cert.FoutKernelIdeal.nD Cert.FoutKernelIdeal.τ).loc Cert.FoutKernelIdeal.main_v0_1) = v1 c
          ∧ r.2.mem ((c.tc : Thread Cert.FoutKernelIdeal.nD Cert.FoutKernelIdeal.τ).loc Cert.FoutKernelIdeal.main_arg0) = m ((c.tc : Thread Cert.FoutKernelIdeal.nD Cert.FoutKernelIdeal.τ).loc Cert.FoutKernelIdeal.main_arg0)
          ∧ r.2.mem ((c.tc : Thread Cert.FoutKernelIdeal.nD Cert.FoutKernelIdeal.τ).loc Cert.FoutKernelIdeal.main_arg1) = m ((c.tc : Thread Cert.FoutKernelIdeal.nD Cert.FoutKernelIdeal.τ).loc Cert.FoutKernelIdeal.main_arg1)
          ∧ r.2.mem ((c.tc : Thread Cert.FoutKernelIdeal.nD Cert.FoutKernelIdeal.τ).loc Cert.FoutKernelIdeal.main_arg2) = m ((c.tc : Thread Cert.FoutKernelIdeal.nD Cert.FoutKernelIdeal.τ).loc Cert.FoutKernelIdeal.main_arg2)
          ∧ r.2.mem ((c.tc : Thread Cert.FoutKernelIdeal.nD Cert.FoutKernelIdeal.τ).loc Cert.FoutKernelIdeal.main_arg3) = m ((c.tc : Thread Cert.FoutKernelIdeal.nD Cert.FoutKernelIdeal.τ).loc Cert.FoutKernelIdeal.main_arg3))
      ∧ θ_run (Cert.FoutReferenceIdeal.defs (F := Ideal)) (onTc (τ := Cert.FoutReferenceIdeal.τ) (Cert.FoutReferenceIdeal.main (F := Ideal))) ⟨m', fun _ => 0, g'⟩ (fun r => ∀ c : Dev Cert.FoutReferenceIdeal.nD,
          r.2.mem ((c.tc : Thread Cert.FoutReferenceIdeal.nD Cert.FoutReferenceIdeal.τ).loc Cert.FoutReferenceIdeal.main_v2) = v0 c
          ∧ r.2.mem ((c.tc : Thread Cert.FoutReferenceIdeal.nD Cert.FoutReferenceIdeal.τ).loc Cert.FoutReferenceIdeal.main_v5) = v1 c
          ∧ r.2.mem ((c.tc : Thread Cert.FoutReferenceIdeal.nD Cert.FoutReferenceIdeal.τ).loc Cert.FoutReferenceIdeal.main_arg0) = m' ((c.tc : Thread Cert.FoutReferenceIdeal.nD Cert.FoutReferenceIdeal.τ).loc Cert.FoutReferenceIdeal.main_arg0)
          ∧ r.2.mem ((c.tc : Thread Cert.FoutReferenceIdeal.nD Cert.FoutReferenceIdeal.τ).loc Cert.FoutReferenceIdeal.main_arg1) = m' ((c.tc : Thread Cert.FoutReferenceIdeal.nD Cert.FoutReferenceIdeal.τ).loc Cert.FoutReferenceIdeal.main_arg1)
          ∧ r.2.mem ((c.tc : Thread Cert.FoutReferenceIdeal.nD Cert.FoutReferenceIdeal.τ).loc Cert.FoutReferenceIdeal.main_arg2) = m' ((c.tc : Thread Cert.FoutReferenceIdeal.nD Cert.FoutReferenceIdeal.τ).loc Cert.FoutReferenceIdeal.main_arg2)
          ∧ r.2.mem ((c.tc : Thread Cert.FoutReferenceIdeal.nD Cert.FoutReferenceIdeal.τ).loc Cert.FoutReferenceIdeal.main_arg3) = m' ((c.tc : Thread Cert.FoutReferenceIdeal.nD Cert.FoutReferenceIdeal.τ).loc Cert.FoutReferenceIdeal.main_arg3))

def preserves_FguKernel_FguKernelIdeal : Prop :=
  True

def algebraic_FguKernelIdeal_FguReferenceIdeal [hFguKernelIdeal : Cert.FguKernelIdeal.Facts] [hFguReferenceIdeal : Cert.FguReferenceIdeal.Facts] : Prop :=
  ∀ (m : (ℓ : Loc Cert.FguKernelIdeal.nD Cert.FguKernelIdeal.τ Cert.FguKernelIdeal.sig) → Buf (Elt Ideal) ℓ) (g : Dev Cert.FguKernelIdeal.nD → PrngReg)
    (m' : (ℓ : Loc Cert.FguReferenceIdeal.nD Cert.FguReferenceIdeal.τ Cert.FguReferenceIdeal.sig) → Buf (Elt Ideal) ℓ) (g' : Dev Cert.FguReferenceIdeal.nD → PrngReg), Pre_FguKernelIdeal m →
    (∀ c : Dev Cert.FguKernelIdeal.nD,
      m' ((c.tc : Thread Cert.FguReferenceIdeal.nD Cert.FguReferenceIdeal.τ).loc Cert.FguReferenceIdeal.main_arg0) = m ((c.tc : Thread Cert.FguKernelIdeal.nD Cert.FguKernelIdeal.τ).loc Cert.FguKernelIdeal.main_arg0)
      ∧ m' ((c.tc : Thread Cert.FguReferenceIdeal.nD Cert.FguReferenceIdeal.τ).loc Cert.FguReferenceIdeal.main_arg1) = m ((c.tc : Thread Cert.FguKernelIdeal.nD Cert.FguKernelIdeal.τ).loc Cert.FguKernelIdeal.main_arg1)) →
    ∃ (v0 : (c : Dev Cert.FguKernelIdeal.nD) → Buf (Elt Ideal) ((c.tc : Thread Cert.FguKernelIdeal.nD Cert.FguKernelIdeal.τ).loc Cert.FguKernelIdeal.main_v0)),
      θ_run (Cert.FguKernelIdeal.defs (F := Ideal)) (onTc (τ := Cert.FguKernelIdeal.τ) (Cert.FguKernelIdeal.main (F := Ideal))) ⟨m, fun _ => 0, g⟩ (fun r => ∀ c : Dev Cert.FguKernelIdeal.nD,
          r.2.mem ((c.tc : Thread Cert.FguKernelIdeal.nD Cert.FguKernelIdeal.τ).loc Cert.FguKernelIdeal.main_v0) = v0 c
          ∧ r.2.mem ((c.tc : Thread Cert.FguKernelIdeal.nD Cert.FguKernelIdeal.τ).loc Cert.FguKernelIdeal.main_arg0) = m ((c.tc : Thread Cert.FguKernelIdeal.nD Cert.FguKernelIdeal.τ).loc Cert.FguKernelIdeal.main_arg0)
          ∧ r.2.mem ((c.tc : Thread Cert.FguKernelIdeal.nD Cert.FguKernelIdeal.τ).loc Cert.FguKernelIdeal.main_arg1) = m ((c.tc : Thread Cert.FguKernelIdeal.nD Cert.FguKernelIdeal.τ).loc Cert.FguKernelIdeal.main_arg1))
      ∧ θ_run (Cert.FguReferenceIdeal.defs (F := Ideal)) (onTc (τ := Cert.FguReferenceIdeal.τ) (Cert.FguReferenceIdeal.main (F := Ideal))) ⟨m', fun _ => 0, g'⟩ (fun r => ∀ c : Dev Cert.FguReferenceIdeal.nD,
          r.2.mem ((c.tc : Thread Cert.FguReferenceIdeal.nD Cert.FguReferenceIdeal.τ).loc Cert.FguReferenceIdeal.main_v13) = v0 c
          ∧ r.2.mem ((c.tc : Thread Cert.FguReferenceIdeal.nD Cert.FguReferenceIdeal.τ).loc Cert.FguReferenceIdeal.main_arg0) = m' ((c.tc : Thread Cert.FguReferenceIdeal.nD Cert.FguReferenceIdeal.τ).loc Cert.FguReferenceIdeal.main_arg0)
          ∧ r.2.mem ((c.tc : Thread Cert.FguReferenceIdeal.nD Cert.FguReferenceIdeal.τ).loc Cert.FguReferenceIdeal.main_arg1) = m' ((c.tc : Thread Cert.FguReferenceIdeal.nD Cert.FguReferenceIdeal.τ).loc Cert.FguReferenceIdeal.main_arg1))

def preserves_FdownKernel_FdownKernelIdeal : Prop :=
  True

def algebraic_FdownKernelIdeal_FdownReferenceIdeal [hFdownKernelIdeal : Cert.FdownKernelIdeal.Facts] [hFdownReferenceIdeal : Cert.FdownReferenceIdeal.Facts] : Prop :=
  ∀ (m : (ℓ : Loc Cert.FdownKernelIdeal.nD Cert.FdownKernelIdeal.τ Cert.FdownKernelIdeal.sig) → Buf (Elt Ideal) ℓ) (g : Dev Cert.FdownKernelIdeal.nD → PrngReg)
    (m' : (ℓ : Loc Cert.FdownReferenceIdeal.nD Cert.FdownReferenceIdeal.τ Cert.FdownReferenceIdeal.sig) → Buf (Elt Ideal) ℓ) (g' : Dev Cert.FdownReferenceIdeal.nD → PrngReg), Pre_FdownKernelIdeal m →
    (∀ c : Dev Cert.FdownKernelIdeal.nD,
      m' ((c.tc : Thread Cert.FdownReferenceIdeal.nD Cert.FdownReferenceIdeal.τ).loc Cert.FdownReferenceIdeal.main_arg0) = m ((c.tc : Thread Cert.FdownKernelIdeal.nD Cert.FdownKernelIdeal.τ).loc Cert.FdownKernelIdeal.main_arg0)
      ∧ m' ((c.tc : Thread Cert.FdownReferenceIdeal.nD Cert.FdownReferenceIdeal.τ).loc Cert.FdownReferenceIdeal.main_arg1) = m ((c.tc : Thread Cert.FdownKernelIdeal.nD Cert.FdownKernelIdeal.τ).loc Cert.FdownKernelIdeal.main_arg1)
      ∧ m' ((c.tc : Thread Cert.FdownReferenceIdeal.nD Cert.FdownReferenceIdeal.τ).loc Cert.FdownReferenceIdeal.main_arg2) = m ((c.tc : Thread Cert.FdownKernelIdeal.nD Cert.FdownKernelIdeal.τ).loc Cert.FdownKernelIdeal.main_arg2)
      ∧ m' ((c.tc : Thread Cert.FdownReferenceIdeal.nD Cert.FdownReferenceIdeal.τ).loc Cert.FdownReferenceIdeal.main_arg3) = m ((c.tc : Thread Cert.FdownKernelIdeal.nD Cert.FdownKernelIdeal.τ).loc Cert.FdownKernelIdeal.main_arg3)) →
    ∃ (v0 : (c : Dev Cert.FdownKernelIdeal.nD) → Buf (Elt Ideal) ((c.tc : Thread Cert.FdownKernelIdeal.nD Cert.FdownKernelIdeal.τ).loc Cert.FdownKernelIdeal.main_v0_0)) (v1 : (c : Dev Cert.FdownKernelIdeal.nD) → Buf (Elt Ideal) ((c.tc : Thread Cert.FdownKernelIdeal.nD Cert.FdownKernelIdeal.τ).loc Cert.FdownKernelIdeal.main_v0_1)),
      θ_run (Cert.FdownKernelIdeal.defs (F := Ideal)) (onTc (τ := Cert.FdownKernelIdeal.τ) (Cert.FdownKernelIdeal.main (F := Ideal))) ⟨m, fun _ => 0, g⟩ (fun r => ∀ c : Dev Cert.FdownKernelIdeal.nD,
          r.2.mem ((c.tc : Thread Cert.FdownKernelIdeal.nD Cert.FdownKernelIdeal.τ).loc Cert.FdownKernelIdeal.main_v0_0) = v0 c
          ∧ r.2.mem ((c.tc : Thread Cert.FdownKernelIdeal.nD Cert.FdownKernelIdeal.τ).loc Cert.FdownKernelIdeal.main_v0_1) = v1 c
          ∧ r.2.mem ((c.tc : Thread Cert.FdownKernelIdeal.nD Cert.FdownKernelIdeal.τ).loc Cert.FdownKernelIdeal.main_arg0) = m ((c.tc : Thread Cert.FdownKernelIdeal.nD Cert.FdownKernelIdeal.τ).loc Cert.FdownKernelIdeal.main_arg0)
          ∧ r.2.mem ((c.tc : Thread Cert.FdownKernelIdeal.nD Cert.FdownKernelIdeal.τ).loc Cert.FdownKernelIdeal.main_arg1) = m ((c.tc : Thread Cert.FdownKernelIdeal.nD Cert.FdownKernelIdeal.τ).loc Cert.FdownKernelIdeal.main_arg1)
          ∧ r.2.mem ((c.tc : Thread Cert.FdownKernelIdeal.nD Cert.FdownKernelIdeal.τ).loc Cert.FdownKernelIdeal.main_arg2) = m ((c.tc : Thread Cert.FdownKernelIdeal.nD Cert.FdownKernelIdeal.τ).loc Cert.FdownKernelIdeal.main_arg2)
          ∧ r.2.mem ((c.tc : Thread Cert.FdownKernelIdeal.nD Cert.FdownKernelIdeal.τ).loc Cert.FdownKernelIdeal.main_arg3) = m ((c.tc : Thread Cert.FdownKernelIdeal.nD Cert.FdownKernelIdeal.τ).loc Cert.FdownKernelIdeal.main_arg3))
      ∧ θ_run (Cert.FdownReferenceIdeal.defs (F := Ideal)) (onTc (τ := Cert.FdownReferenceIdeal.τ) (Cert.FdownReferenceIdeal.main (F := Ideal))) ⟨m', fun _ => 0, g'⟩ (fun r => ∀ c : Dev Cert.FdownReferenceIdeal.nD,
          r.2.mem ((c.tc : Thread Cert.FdownReferenceIdeal.nD Cert.FdownReferenceIdeal.τ).loc Cert.FdownReferenceIdeal.main_v2) = v0 c
          ∧ r.2.mem ((c.tc : Thread Cert.FdownReferenceIdeal.nD Cert.FdownReferenceIdeal.τ).loc Cert.FdownReferenceIdeal.main_v5) = v1 c
          ∧ r.2.mem ((c.tc : Thread Cert.FdownReferenceIdeal.nD Cert.FdownReferenceIdeal.τ).loc Cert.FdownReferenceIdeal.main_arg0) = m' ((c.tc : Thread Cert.FdownReferenceIdeal.nD Cert.FdownReferenceIdeal.τ).loc Cert.FdownReferenceIdeal.main_arg0)
          ∧ r.2.mem ((c.tc : Thread Cert.FdownReferenceIdeal.nD Cert.FdownReferenceIdeal.τ).loc Cert.FdownReferenceIdeal.main_arg1) = m' ((c.tc : Thread Cert.FdownReferenceIdeal.nD Cert.FdownReferenceIdeal.τ).loc Cert.FdownReferenceIdeal.main_arg1)
          ∧ r.2.mem ((c.tc : Thread Cert.FdownReferenceIdeal.nD Cert.FdownReferenceIdeal.τ).loc Cert.FdownReferenceIdeal.main_arg2) = m' ((c.tc : Thread Cert.FdownReferenceIdeal.nD Cert.FdownReferenceIdeal.τ).loc Cert.FdownReferenceIdeal.main_arg2)
          ∧ r.2.mem ((c.tc : Thread Cert.FdownReferenceIdeal.nD Cert.FdownReferenceIdeal.τ).loc Cert.FdownReferenceIdeal.main_arg3) = m' ((c.tc : Thread Cert.FdownReferenceIdeal.nD Cert.FdownReferenceIdeal.τ).loc Cert.FdownReferenceIdeal.main_arg3))

def Claim : Prop :=
  ∃ (hKernel : Cert.Kernel.Facts) (hKernelIdeal : Cert.KernelIdeal.Facts) (hReferenceIdeal : Cert.ReferenceIdeal.Facts) (hDxKernel : Cert.DxKernel.Facts) (hDxKernelIdeal : Cert.DxKernelIdeal.Facts) (hDxReferenceIdeal : Cert.DxReferenceIdeal.Facts) (hDwKernel : Cert.DwKernel.Facts) (hDwKernelIdeal : Cert.DwKernelIdeal.Facts) (hDwReferenceIdeal : Cert.DwReferenceIdeal.Facts) (hGuxKernel : Cert.GuxKernel.Facts) (hGuxKernelIdeal : Cert.GuxKernelIdeal.Facts) (hGuxReferenceIdeal : Cert.GuxReferenceIdeal.Facts) (hGuwKernel : Cert.GuwKernel.Facts) (hGuwKernelIdeal : Cert.GuwKernelIdeal.Facts) (hGuwReferenceIdeal : Cert.GuwReferenceIdeal.Facts) (hGateKernel : Cert.GateKernel.Facts) (hGateKernelIdeal : Cert.GateKernelIdeal.Facts) (hGateReferenceIdeal : Cert.GateReferenceIdeal.Facts) (hNormKernel : Cert.NormKernel.Facts) (hNormKernelIdeal : Cert.NormKernelIdeal.Facts) (hNormReferenceIdeal : Cert.NormReferenceIdeal.Facts) (hOutxKernel : Cert.OutxKernel.Facts) (hOutxKernelIdeal : Cert.OutxKernelIdeal.Facts) (hOutxReferenceIdeal : Cert.OutxReferenceIdeal.Facts) (hOutwKernel : Cert.OutwKernel.Facts) (hOutwKernelIdeal : Cert.OutwKernelIdeal.Facts) (hOutwReferenceIdeal : Cert.OutwReferenceIdeal.Facts) (hInxKernel : Cert.InxKernel.Facts) (hInxKernelIdeal : Cert.InxKernelIdeal.Facts) (hInxReferenceIdeal : Cert.InxReferenceIdeal.Facts) (hInwKernel : Cert.InwKernel.Facts) (hInwKernelIdeal : Cert.InwKernelIdeal.Facts) (hInwReferenceIdeal : Cert.InwReferenceIdeal.Facts) (hFinKernel : Cert.FinKernel.Facts) (hFinKernelIdeal : Cert.FinKernelIdeal.Facts) (hFinReferenceIdeal : Cert.FinReferenceIdeal.Facts) (hFoutKernel : Cert.FoutKernel.Facts) (hFoutKernelIdeal : Cert.FoutKernelIdeal.Facts) (hFoutReferenceIdeal : Cert.FoutReferenceIdeal.Facts) (hFguKernel : Cert.FguKernel.Facts) (hFguKernelIdeal : Cert.FguKernelIdeal.Facts) (hFguReferenceIdeal : Cert.FguReferenceIdeal.Facts) (hFdownKernel : Cert.FdownKernel.Facts) (hFdownKernelIdeal : Cert.FdownKernelIdeal.Facts) (hFdownReferenceIdeal : Cert.FdownReferenceIdeal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_GuxKernel (hGuxKernel := hGuxKernel)
    ∧ quiescent_GuxKernelIdeal (hGuxKernelIdeal := hGuxKernelIdeal)
    ∧ quiescent_GuxReferenceIdeal (hGuxReferenceIdeal := hGuxReferenceIdeal)
    ∧ quiescent_GuwKernel (hGuwKernel := hGuwKernel)
    ∧ quiescent_GuwKernelIdeal (hGuwKernelIdeal := hGuwKernelIdeal)
    ∧ quiescent_GuwReferenceIdeal (hGuwReferenceIdeal := hGuwReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_NormKernel (hNormKernel := hNormKernel)
    ∧ quiescent_NormKernelIdeal (hNormKernelIdeal := hNormKernelIdeal)
    ∧ quiescent_NormKernelIdeal_pre_finite7 (hNormKernelIdeal := hNormKernelIdeal) (hPre_finite7 := hPre_finite7)
    ∧ quiescent_NormReferenceIdeal (hNormReferenceIdeal := hNormReferenceIdeal)
    ∧ quiescent_NormReferenceIdeal_pre_finite7 (hNormReferenceIdeal := hNormReferenceIdeal) (hPre_finite7 := hPre_finite7)
    ∧ quiescent_OutxKernel (hOutxKernel := hOutxKernel)
    ∧ quiescent_OutxKernelIdeal (hOutxKernelIdeal := hOutxKernelIdeal)
    ∧ quiescent_OutxReferenceIdeal (hOutxReferenceIdeal := hOutxReferenceIdeal)
    ∧ quiescent_OutwKernel (hOutwKernel := hOutwKernel)
    ∧ quiescent_OutwKernelIdeal (hOutwKernelIdeal := hOutwKernelIdeal)
    ∧ quiescent_OutwReferenceIdeal (hOutwReferenceIdeal := hOutwReferenceIdeal)
    ∧ quiescent_InxKernel (hInxKernel := hInxKernel)
    ∧ quiescent_InxKernelIdeal (hInxKernelIdeal := hInxKernelIdeal)
    ∧ quiescent_InxReferenceIdeal (hInxReferenceIdeal := hInxReferenceIdeal)
    ∧ quiescent_InwKernel (hInwKernel := hInwKernel)
    ∧ quiescent_InwKernelIdeal (hInwKernelIdeal := hInwKernelIdeal)
    ∧ quiescent_InwReferenceIdeal (hInwReferenceIdeal := hInwReferenceIdeal)
    ∧ quiescent_FinKernel (hFinKernel := hFinKernel)
    ∧ quiescent_FinKernelIdeal (hFinKernelIdeal := hFinKernelIdeal)
    ∧ quiescent_FinReferenceIdeal (hFinReferenceIdeal := hFinReferenceIdeal)
    ∧ quiescent_FoutKernel (hFoutKernel := hFoutKernel)
    ∧ quiescent_FoutKernelIdeal (hFoutKernelIdeal := hFoutKernelIdeal)
    ∧ quiescent_FoutReferenceIdeal (hFoutReferenceIdeal := hFoutReferenceIdeal)
    ∧ quiescent_FguKernel (hFguKernel := hFguKernel)
    ∧ quiescent_FguKernelIdeal (hFguKernelIdeal := hFguKernelIdeal)
    ∧ quiescent_FguReferenceIdeal (hFguReferenceIdeal := hFguReferenceIdeal)
    ∧ quiescent_FdownKernel (hFdownKernel := hFdownKernel)
    ∧ quiescent_FdownKernelIdeal (hFdownKernelIdeal := hFdownKernelIdeal)
    ∧ quiescent_FdownReferenceIdeal (hFdownReferenceIdeal := hFdownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DxKernel_DxKernelIdeal
    ∧ algebraic_DxKernelIdeal_DxReferenceIdeal (hDxKernelIdeal := hDxKernelIdeal) (hDxReferenceIdeal := hDxReferenceIdeal)
    ∧ preserves_DwKernel_DwKernelIdeal
    ∧ algebraic_DwKernelIdeal_DwReferenceIdeal (hDwKernelIdeal := hDwKernelIdeal) (hDwReferenceIdeal := hDwReferenceIdeal)
    ∧ preserves_GuxKernel_GuxKernelIdeal
    ∧ algebraic_GuxKernelIdeal_GuxReferenceIdeal (hGuxKernelIdeal := hGuxKernelIdeal) (hGuxReferenceIdeal := hGuxReferenceIdeal)
    ∧ preserves_GuwKernel_GuwKernelIdeal
    ∧ algebraic_GuwKernelIdeal_GuwReferenceIdeal (hGuwKernelIdeal := hGuwKernelIdeal) (hGuwReferenceIdeal := hGuwReferenceIdeal)
    ∧ preserves_GateKernel_GateKernelIdeal
    ∧ algebraic_GateKernelIdeal_GateReferenceIdeal (hGateKernelIdeal := hGateKernelIdeal) (hGateReferenceIdeal := hGateReferenceIdeal)
    ∧ preserves_NormKernel_NormKernelIdeal
    ∧ algebraic_NormKernelIdeal_NormReferenceIdeal_pre_finite7 (hNormKernelIdeal := hNormKernelIdeal) (hNormReferenceIdeal := hNormReferenceIdeal) (hPre_finite7 := hPre_finite7)
    ∧ preserves_OutxKernel_OutxKernelIdeal
    ∧ algebraic_OutxKernelIdeal_OutxReferenceIdeal (hOutxKernelIdeal := hOutxKernelIdeal) (hOutxReferenceIdeal := hOutxReferenceIdeal)
    ∧ preserves_OutwKernel_OutwKernelIdeal
    ∧ algebraic_OutwKernelIdeal_OutwReferenceIdeal (hOutwKernelIdeal := hOutwKernelIdeal) (hOutwReferenceIdeal := hOutwReferenceIdeal)
    ∧ preserves_InxKernel_InxKernelIdeal
    ∧ algebraic_InxKernelIdeal_InxReferenceIdeal (hInxKernelIdeal := hInxKernelIdeal) (hInxReferenceIdeal := hInxReferenceIdeal)
    ∧ preserves_InwKernel_InwKernelIdeal
    ∧ algebraic_InwKernelIdeal_InwReferenceIdeal (hInwKernelIdeal := hInwKernelIdeal) (hInwReferenceIdeal := hInwReferenceIdeal)
    ∧ preserves_FinKernel_FinKernelIdeal
    ∧ algebraic_FinKernelIdeal_FinReferenceIdeal (hFinKernelIdeal := hFinKernelIdeal) (hFinReferenceIdeal := hFinReferenceIdeal)
    ∧ preserves_FoutKernel_FoutKernelIdeal
    ∧ algebraic_FoutKernelIdeal_FoutReferenceIdeal (hFoutKernelIdeal := hFoutKernelIdeal) (hFoutReferenceIdeal := hFoutReferenceIdeal)
    ∧ preserves_FguKernel_FguKernelIdeal
    ∧ algebraic_FguKernelIdeal_FguReferenceIdeal (hFguKernelIdeal := hFguKernelIdeal) (hFguReferenceIdeal := hFguReferenceIdeal)
    ∧ preserves_FdownKernel_FdownKernelIdeal
    ∧ algebraic_FdownKernelIdeal_FdownReferenceIdeal (hFdownKernelIdeal := hFdownKernelIdeal) (hFdownReferenceIdeal := hFdownReferenceIdeal)
-- ==== Pre_finite.lean ====
abbrev S8192x5120 : Shape := ⟨2, ![8192, 5120]⟩
abbrev S8192x2048 : Shape := ⟨2, ![8192, 2048]⟩
abbrev S8x8192 : Shape := ⟨2, ![8, 8192]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S8192x5120 .f32) (main_arg1 : FVec F S8192x2048 .f32) (main_arg2 : FVec F S8x8192 .f32) : IVec S_ 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  main_v13
-- ==== Pre_finite7.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2048 .f32) (main_arg1 : FVec F S8192x2048 .f32) (main_arg2 : FVec F S8192x2048 .f32) (main_arg3 : FVec F S1x2048 .f32) (main_arg4 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_v3 main_v7 main_v11 main_v15
-- ==== Kernel.lean ====
abbrev S8192x5120 : Shape := ⟨2, ![8192, 5120]⟩
abbrev S8192x2048 : Shape := ⟨2, ![8192, 2048]⟩
abbrev S8x8192 : Shape := ⟨2, ![8, 8192]⟩
abbrev S136 : Shape := ⟨1, ![136]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S1024x8192 : Shape := ⟨2, ![1024, 8192]⟩
abbrev S512x128 : Shape := ⟨2, ![512, 128]⟩
abbrev S1 : Shape := ⟨1, ![1]⟩
abbrev S128x512 : Shape := ⟨2, ![128, 512]⟩
abbrev S1x1x512 : Shape := ⟨3, ![1, 1, 512]⟩
abbrev S1x512x1 : Shape := ⟨3, ![1, 512, 1]⟩
abbrev S128x8192 : Shape := ⟨2, ![128, 8192]⟩
abbrev S1x1x8192 : Shape := ⟨3, ![1, 1, 8192]⟩
abbrev S512x1 : Shape := ⟨2, ![512, 1]⟩
abbrev S16x128x512 : Shape := ⟨3, ![16, 128, 512]⟩
abbrev S16x1x512 : Shape := ⟨3, ![16, 1, 512]⟩
abbrev S512 : Shape := ⟨1, ![512]⟩
abbrev S1x512 : Shape := ⟨2, ![1, 512]⟩
abbrev S512x512 : Shape := ⟨2, ![512, 512]⟩
abbrev S1x128x512 : Shape := ⟨3, ![1, 128, 512]⟩

abbrev nBuf : Space → Nat
  | .hbm => 73
  | .vmem => 36
  | .smem => 3
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S8x8192, .f32⟩
  | .hbm, ⟨3, _⟩ => ⟨S8192x1024, .f32⟩
  | .hbm, ⟨4, _⟩ => ⟨S8192x8x128, .f32⟩
  | .hbm, ⟨5, _⟩ => ⟨S8x8192x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8192x1024, .f32⟩
  | .hbm, ⟨55, _⟩ => ⟨S8192x8x128, .f32⟩
  | .hbm, ⟨56, _⟩ => ⟨S8x8192x128, .f32⟩
  | .hbm, ⟨57, _⟩ => ⟨S8x8192x128, .f32⟩
  | .hbm, ⟨58, _⟩ => ⟨S8x128x8192, .f32⟩
  | .hbm, ⟨59, _⟩ => ⟨S1024x8192, .f32⟩
  | .hbm, ⟨60, _⟩ => ⟨S8192x1024, .f32⟩
  | .hbm, ⟨61, _⟩ => ⟨S1024x8192, .f32⟩
  | .hbm, ⟨62, _⟩ => ⟨S1024x8192, .bf16⟩
  | .hbm, ⟨63, _⟩ => ⟨S8192x1024, .f32⟩
  | .hbm, ⟨64, _⟩ => ⟨S1024x8192, .f32⟩
  | .hbm, ⟨65, _⟩ => ⟨S8x8192x1, .f32⟩
  | .hbm, ⟨66, _⟩ => ⟨S8x1x8192, .f32⟩
  | .hbm, ⟨67, _⟩ => ⟨S8x1x8192, .f32⟩
  | .hbm, ⟨68, _⟩ => ⟨S1024x8192, .bf16⟩
  | .hbm, ⟨69, _⟩ => ⟨S8192x1024, .bf16⟩
  | .hbm, ⟨70, _⟩ => ⟨S8192x1024, .bf16⟩
  | .hbm, ⟨71, _⟩ => ⟨S8x8192x1, .f32⟩
  | .hbm, ⟨72, _⟩ => ⟨S8x1x8192, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x512, .bf16⟩
  | .local _ .vmem, ⟨7, _⟩ => ⟨S128x512, .bf16⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512x1, .f32⟩
  | .local _ .vmem, ⟨19, _⟩ => ⟨S1x512x1, .f32⟩
  | .local _ .vmem, ⟨20, _⟩ => ⟨S128x8192, .bf16⟩
  | .local _ .vmem, ⟨21, _⟩ => ⟨S128x8192, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S1x512x1, .f32⟩
  | .local _ .vmem, ⟨27, _⟩ => ⟨S1x512x1, .f32⟩
  | .local _ .vmem, ⟨28, _⟩ => ⟨S1x1x8192, .f32⟩
  | .local _ .vmem, ⟨29, _⟩ => ⟨S1x1x8192, .f32⟩
  | .local _ .vmem, ⟨30, _⟩ => ⟨S512x128, .f32⟩
  | .local _ .vmem, ⟨31, _⟩ => ⟨S512x128, .f32⟩
  | .local _ .vmem, ⟨32, _⟩ => ⟨S512x1, .f32⟩
  | .local _ .vmem, ⟨33, _⟩ => ⟨S16x128x512, .f32⟩
  | .local _ .vmem, ⟨34, _⟩ => ⟨S16x1x512, .f32⟩
  | .local _ .vmem, ⟨35, _⟩ => ⟨S16x1x512, .f32⟩
  | .local _ .smem, ⟨0, _⟩ => ⟨S136, .i32⟩
  | .local _ .smem, ⟨1, _⟩ => ⟨S136, .i32⟩
  | .local _ .smem, ⟨2, _⟩ => ⟨S136, .i32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v55_2 : Ref sig .tc := ⟨.hbm, 70, rfl⟩
abbrev main_v55_3 : Ref sig .tc := ⟨.hbm, 71, rfl⟩
abbrev main_v55_4 : Ref sig .tc := ⟨.hbm, 72, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 136], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v3 : BitVec 32) : Fin 3 → Nat :=
  let v39 : Index := Scalar.indexCast v3
  let c0_14 : Index := 0#32
  let c0_15 : Index := 0#32
  ![v39.toNat, 0, 0]
def k0_cond3 (v5 : BitVec 32) : BitVec 1 :=
  let c16_i32 : BitVec 32 := 16#32
  let v14 : BitVec 32 := Scalar.andi v5 c16_i32
  let c0_i32_3 : BitVec 32 := 0#32
  let v15 : BitVec 1 := Scalar.cmpi .ne v14 c0_i32_3
  let v16 : BitVec 32 := Scalar.extui v15
  let c0_i32_4 : BitVec 32 := 0#32
  let v17 : BitVec 1 := Scalar.cmpi .ne v16 c0_i32_4
  v17

def k0_chk1 (v3 : BitVec 32) (v5 : BitVec 32) : Prop :=
  (∀ (k0_h3 : k0_cond3 v5 = 1#1), ∀ a, (k0_off2 v3) a + S1x1x512.size a ≤ S16x1x512.size a)
theorem k0_off2_inb : ∀ (v3 : BitVec 32) (v5 : BitVec 32) (k0_hw1 : k0_chk1 v3 v5), ∀ (k0_h3 : k0_cond3 v5 = 1#1), ∀ a, (k0_off2 v3) a + S1x1x512.size a ≤ S16x1x512.size a := fun v3 v5 k0_hw1 k0_h3 => k0_hw1 k0_h3

def k0_off3 (v3 : BitVec 32) : Fin 3 → Nat :=
  let v71 : Index := Scalar.indexCast v3
  let c0_37 : Index := 0#32
  let c0_38 : Index := 0#32
  ![v71.toNat, 0, 0]
def k0_cond4 (v1 : BitVec 32) (v3 : BitVec 32) : BitVec 1 :=
  let v18 : BitVec 1 := Scalar.cmpi .eq v3 v1
  let v19 : BitVec 32 := Scalar.extui v18
  let c0_i32_5 : BitVec 32 := 0#32
  let v20 : BitVec 1 := Scalar.cmpi .ne v19 c0_i32_5
  v20

def k0_off4 (v3 : BitVec 32) : Fin 3 → Nat :=
  let v103 : Index := Scalar.indexCast v3
  let c0_56 : Index := 0#32
  let c0_57 : Index := 0#32
  ![v103.toNat, 0, 0]
def k0_off5 (v3 : BitVec 32) : Fin 3 → Nat :=
  let v66 : Index := Scalar.indexCast v3
  let c0_36 : Index := 0#32
  let c0_37 : Index := 0#32
  ![v66.toNat, 0, 0]
def k0_cond5 (v1 : BitVec 32) (v3 : BitVec 32) : BitVec 1 :=
  let v21 : BitVec 1 := Scalar.cmpi .ne v3 v1
  let v22 : BitVec 32 := Scalar.extui v21
  let c0_i32_6 : BitVec 32 := 0#32
  let v23 : BitVec 1 := Scalar.cmpi .ne v22 c0_i32_6
  v23

def k0_off6 (v3 : BitVec 32) : Fin 3 → Nat :=
  let v98 : Index := Scalar.indexCast v3
  let c0_55 : Index := 0#32
  let c0_56 : Index := 0#32
  ![v98.toNat, 0, 0]

def k0_chk2 (v1 : BitVec 32) (v3 : BitVec 32) : Prop :=
  (∀ (k0_h4 : k0_cond4 v1 v3 = 1#1), ∀ a, (k0_off3 v3) a + S1x1x512.size a ≤ S16x1x512.size a) ∧
  (∀ (k0_h4 : k0_cond4 v1 v3 = 1#1), ∀ a, (k0_off4 v3) a + S1x128x512.size a ≤ S16x128x512.size a) ∧
  (∀ (k0_h5 : k0_cond5 v1 v3 = 1#1), ∀ a, (k0_off5 v3) a + S1x1x512.size a ≤ S16x1x512.size a) ∧
  (∀ (k0_h5 : k0_cond5 v1 v3 = 1#1), ∀ a, (k0_off6 v3) a + S1x128x512.size a ≤ S16x128x512.size a)
theorem k0_off3_inb : ∀ (v1 : BitVec 32) (v3 : BitVec 32) (k0_hw2 : k0_chk2 v1 v3), ∀ (k0_h4 : k0_cond4 v1 v3 = 1#1), ∀ a, (k0_off3 v3) a + S1x1x512.size a ≤ S16x1x512.size a := fun v1 v3 k0_hw2 k0_h4 => k0_hw2.1 k0_h4
theorem k0_off4_inb : ∀ (v1 : BitVec 32) (v3 : BitVec 32) (k0_hw2 : k0_chk2 v1 v3), ∀ (k0_h4 : k0_cond4 v1 v3 = 1#1), ∀ a, (k0_off4 v3) a + S1x128x512.size a ≤ S16x128x512.size a := fun v1 v3 k0_hw2 k0_h4 => k0_hw2.2.1 k0_h4
theorem k0_off5_inb : ∀ (v1 : BitVec 32) (v3 : BitVec 32) (k0_hw2 : k0_chk2 v1 v3), ∀ (k0_h5 : k0_cond5 v1 v3 = 1#1), ∀ a, (k0_off5 v3) a + S1x1x512.size a ≤ S16x1x512.size a := fun v1 v3 k0_hw2 k0_h5 => k0_hw2.2.2.1 k0_h5
theorem k0_off6_inb : ∀ (v1 : BitVec 32) (v3 : BitVec 32) (k0_hw2 : k0_chk2 v1 v3), ∀ (k0_h5 : k0_cond5 v1 v3 = 1#1), ∀ a, (k0_off6 v3) a + S1x128x512.size a ≤ S16x128x512.size a := fun v1 v3 k0_hw2 k0_h5 => k0_hw2.2.2.2 k0_h5

def k0_cond7 (v5 : BitVec 32) : BitVec 1 :=
  let c8_i32 : BitVec 32 := 8#32
  let v28 : BitVec 32 := Scalar.andi v5 c8_i32
  let c0_i32_9 : BitVec 32 := 0#32
  let v29 : BitVec 1 := Scalar.cmpi .ne v28 c0_i32_9
  let v30 : BitVec 32 := Scalar.extui v29
  let c0_i32_10 : BitVec 32 := 0#32
  let v31 : BitVec 1 := Scalar.cmpi .ne v30 c0_i32_10
  v31

def k0_cond6 (v5 : BitVec 32) : BitVec 1 :=
  let c2_i32 : BitVec 32 := 2#32
  let v24 : BitVec 32 := Scalar.andi v5 c2_i32
  let c0_i32_7 : BitVec 32 := 0#32
  let v25 : BitVec 1 := Scalar.cmpi .ne v24 c0_i32_7
  let v26 : BitVec 32 := Scalar.extui v25
  let c0_i32_8 : BitVec 32 := 0#32
  let v27 : BitVec 1 := Scalar.cmpi .ne v26 c0_i32_8
  v27

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c12_i32 : BitVec 32 := 12#32
  let v2 : BitVec 32 := Scalar.addi c12_i32 arg0
  let c0_i32 : BitVec 32 := 0#32
  ![v1.toNat, v2.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c20_i32 : BitVec 32 := 20#32
  let v2 : BitVec 32 := Scalar.addi c20_i32 arg0
  let c0_i32 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![arg0.toNat, v1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let v2 : BitVec 1 := Scalar.cmpi .eq v1 c0_i32
  let v3 : Index := Scalar.indexCast arg1
  let v4 : BitVec 32 := pf.at 1 (Rect.unit (s := S136) ![v3.toNat] S1.size (k0_off1_inb i)) numel1_S1
  let c15_i32 : BitVec 32 := 15#32
  let v5 : BitVec 32 := Scalar.select v2 v4 c15_i32
  let c0_i32_0 : BitVec 32 := 0#32
  ![arg0.toNat, v5.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let v2 : BitVec 1 := Scalar.cmpi .eq v1 c0_i32
  let v3 : Index := Scalar.indexCast arg1
  let v4 : BitVec 32 := pf.at 1 (Rect.unit (s := S136) ![v3.toNat] S1.size (k0_off1_inb i)) numel1_S1
  let c15_i32 : BitVec 32 := 15#32
  let v5 : BitVec 32 := Scalar.select v2 v4 c15_i32
  let c0_i32_0 : BitVec 32 := 0#32
  ![arg0.toNat, v5.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_8 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_9 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_12 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_13 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x5120 : Shape := ⟨2, ![8192, 5120]⟩
abbrev S8192x2048 : Shape := ⟨2, ![8192, 2048]⟩
abbrev S8x8192 : Shape := ⟨2, ![8, 8192]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S1024x8192 : Shape := ⟨2, ![1024, 8192]⟩

abbrev nBuf : Space → Nat
  | .hbm => 127
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S8x8192, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x1x8192, .f32⟩
  | .hbm, ⟨20, _⟩ => ⟨S8x8192x8192, .f32⟩
  | .hbm, ⟨21, _⟩ => ⟨S8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .i1⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S8x8192, .i1⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x1, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S8x8192x128, .f32⟩
  | .hbm, ⟨74, _⟩ => ⟨S8192x8x128, .f32⟩
  | .hbm, ⟨75, _⟩ => ⟨S8192x1024, .f32⟩
  | .hbm, ⟨76, _⟩ => ⟨S8192x1024, .f32⟩
  | .hbm, ⟨77, _⟩ => ⟨S8192x8x128, .f32⟩
  | .hbm, ⟨78, _⟩ => ⟨S8x8192x128, .f32⟩
  | .hbm, ⟨79, _⟩ => ⟨S8x128x8192, .f32⟩
  | .hbm, ⟨80, _⟩ => ⟨S8x8192x128, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S8x8192x1, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S8x8192x8192, .f32⟩
  | .hbm, ⟨100, _⟩ => ⟨S_, .f32⟩
  | .hbm, ⟨101, _⟩ => ⟨S8x8192, .f32⟩
  | .hbm, ⟨102, _⟩ => ⟨S8x1x8192, .f32⟩
  | .hbm, ⟨103, _⟩ => ⟨S_, .f32⟩
  | .hbm, ⟨104, _⟩ => ⟨S8x8192, .f32⟩
  | .hbm, ⟨105, _⟩ => ⟨S_, .f32⟩
  | .hbm, ⟨106, _⟩ => ⟨S8x8192, .f32⟩
  | .hbm, ⟨107, _⟩ => ⟨S8x8192x1, .f32⟩
  | .hbm, ⟨108, _⟩ => ⟨S_, .f32⟩
  | .hbm, ⟨109, _⟩ => ⟨S8x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x128, .f32⟩
  | .hbm, ⟨114, _⟩ => ⟨S8x8192x128, .f32⟩
  | .hbm, ⟨115, _⟩ => ⟨S8192x8x128, .f32⟩
  | .hbm, ⟨116, _⟩ => ⟨S8192x1024, .f32⟩
  | .hbm, ⟨117, _⟩ => ⟨S8192x8x128, .f32⟩
  | .hbm, ⟨118, _⟩ => ⟨S8192x1024, .f32⟩
  | .hbm, ⟨119, _⟩ => ⟨S8192x8x128, .f32⟩
  | .hbm, ⟨120, _⟩ => ⟨S8192x1024, .f32⟩
  | .hbm, ⟨121, _⟩ => ⟨S1024x8192, .f32⟩
  | .hbm, ⟨122, _⟩ => ⟨S1024x8192, .bf16⟩
  | .hbm, ⟨123, _⟩ => ⟨S8192x1024, .bf16⟩
  | .hbm, ⟨124, _⟩ => ⟨S8192x1024, .bf16⟩
  | .hbm, ⟨125, _⟩ => ⟨S8x8192x1, .f32⟩
  | .hbm, ⟨126, _⟩ => ⟨S8x1x8192, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== DxKernel.lean ====
abbrev S8192x2048 : Shape := ⟨2, ![8192, 2048]⟩
abbrev S5632x2048 : Shape := ⟨2, ![5632, 2048]⟩
abbrev S8192x5632 : Shape := ⟨2, ![8192, 5632]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwKernel.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GuxKernel.lean ====
abbrev S8192x11264 : Shape := ⟨2, ![8192, 11264]⟩
abbrev S2x2048x5632 : Shape := ⟨3, ![2, 2048, 5632]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 9
  | .smem => 0
  | _ => 0

abbrev bufTy : (tb : Table) → Fin (tcTables nBuf tb) → BufTy
  | .hbm, ⟨0, _⟩ => ⟨S8192x11264, .bf16⟩
  | .hbm, ⟨1, _⟩ => ⟨S2x2048x5632, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GuxReferenceIdeal.lean ====
abbrev S8192x11264 : Shape := ⟨2, ![8192, 11264]⟩
abbrev S2x2048x5632 : Shape := ⟨3, ![2, 2048, 5632]⟩
abbrev S_ : Shape := ⟨0, ![]⟩
abbrev S8192x2048 : Shape := ⟨2, ![8192, 2048]⟩
abbrev S1x2048x5632 : Shape := ⟨3, ![1, 2048, 5632]⟩
abbrev S2048x5632 : Shape := ⟨2, ![2048, 5632]⟩
abbrev S8192x5632 : Shape := ⟨2, ![8192, 5632]⟩
abbrev S8192x11x2x512 : Shape := ⟨4, ![8192, 11, 2, 512]⟩
abbrev S8192x11x1x512 : Shape := ⟨4, ![8192, 11, 1, 512]⟩
abbrev S8192x11x512 : Shape := ⟨3, ![8192, 11, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2x2048x5632, .bf16⟩
  | .hbm, ⟨2, _⟩ => ⟨S2x2048x5632, .f32⟩
  | .hbm, ⟨3, _⟩ => ⟨S_, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S8192x11x2x512, .f32⟩
  | .hbm, ⟨13, _⟩ => ⟨S8192x11x1x512, .f32⟩
  | .hbm, ⟨14, _⟩ => ⟨S8192x11x512, .f32⟩
  | .hbm, ⟨15, _⟩ => ⟨S8192x5632, .f32⟩
  | .hbm, ⟨16, _⟩ => ⟨S8192x11x1x512, .f32⟩
  | .hbm, ⟨17, _⟩ => ⟨S8192x11x512, .f32⟩
  | .hbm, ⟨18, _⟩ => ⟨S8192x5632, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== GuwKernel.lean ====
abbrev S8192x2048 : Shape := ⟨2, ![8192, 2048]⟩
abbrev S8192x11264 : Shape := ⟨2, ![8192, 11264]⟩
abbrev S2x2048x5632 : Shape := ⟨3, ![2, 2048, 5632]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2x2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuwReferenceIdeal.lean ====
abbrev S8192x2048 : Shape := ⟨2, ![8192, 2048]⟩
abbrev S8192x11264 : Shape := ⟨2, ![8192, 11264]⟩
abbrev S_ : Shape := ⟨0, ![]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S8192x11x2x512 : Shape := ⟨4, ![8192, 11, 2, 512]⟩
abbrev S8192x11x1x512 : Shape := ⟨4, ![8192, 11, 1, 512]⟩
abbrev S8192x11x512 : Shape := ⟨3, ![8192, 11, 512]⟩
abbrev S5632x2048 : Shape := ⟨2, ![5632, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2x2048x5632, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S8192x11x2x512, .f32⟩
  | .hbm, ⟨13, _⟩ => ⟨S8192x11x1x512, .f32⟩
  | .hbm, ⟨14, _⟩ => ⟨S8192x11x512, .f32⟩
  | .hbm, ⟨15, _⟩ => ⟨S8192x5632, .f32⟩
  | .hbm, ⟨16, _⟩ => ⟨S8192x11x1x512, .f32⟩
  | .hbm, ⟨17, _⟩ => ⟨S8192x11x512, .f32⟩
  | .hbm, ⟨18, _⟩ => ⟨S8192x5632, .f32⟩
  | .hbm, ⟨19, _⟩ => ⟨S5632x2048, .f32⟩
  | .hbm, ⟨20, _⟩ => ⟨S2048x5632, .f32⟩
  | .hbm, ⟨21, _⟩ => ⟨S5632x2048, .f32⟩
  | .hbm, ⟨22, _⟩ => ⟨S2048x5632, .f32⟩
  | .hbm, ⟨23, _⟩ => ⟨S1x2048x5632, .f32⟩
  | .hbm, ⟨24, _⟩ => ⟨S_, .f32⟩
  | .hbm, ⟨25, _⟩ => ⟨S2x2048x5632, .f32⟩
  | .hbm, ⟨26, _⟩ => ⟨S1x2048x5632, .f32⟩
  | .hbm, ⟨27, _⟩ => ⟨S_, .f32⟩
  | .hbm, ⟨28, _⟩ => ⟨S2x2048x5632, .f32⟩
  | .hbm, ⟨29, _⟩ => ⟨S2x2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== GateKernel.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateReferenceIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== NormKernel.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== OutxKernel.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutxReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutwKernel.lean ====
abbrev S8192x2048 : Shape := ⟨2, ![8192, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutwReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InxKernel.lean ====
abbrev S8192x5120 : Shape := ⟨2, ![8192, 5120]⟩
abbrev S2048x5120 : Shape := ⟨2, ![2048, 5120]⟩
abbrev S8192x2048 : Shape := ⟨2, ![8192, 2048]⟩
abbrev S512x2560 : Shape := ⟨2, ![512, 2560]⟩
abbrev S1024x2560 : Shape := ⟨2, ![1024, 2560]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S1024x2560, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InxReferenceIdeal.lean ====
abbrev S8192x5120 : Shape := ⟨2, ![8192, 5120]⟩
abbrev S2048x5120 : Shape := ⟨2, ![2048, 5120]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S_, .f32⟩
  | .hbm, ⟨3, _⟩ => ⟨S8192x2048, .f32⟩
  | .hbm, ⟨4, _⟩ => ⟨S2048x5120, .f32⟩
  | .hbm, ⟨5, _⟩ => ⟨S8192x5120, .f32⟩
  | .hbm, ⟨6, _⟩ => ⟨S8192x5120, .f32⟩
  | .hbm, ⟨7, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InwKernel.lean ====
abbrev S8192x2048 : Shape := ⟨2, ![8192, 2048]⟩
abbrev S8192x5120 : Shape := ⟨2, ![8192, 5120]⟩
abbrev S2048x5120 : Shape := ⟨2, ![2048, 5120]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x5120, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InwReferenceIdeal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FinKernel.lean ====
abbrev S8192x2048 : Shape := ⟨2, ![8192, 2048]⟩
abbrev S2048x5120 : Shape := ⟨2, ![2048, 5120]⟩
abbrev S8192x5120 : Shape := ⟨2, ![8192, 5120]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FinReferenceIdeal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FoutKernel.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FoutReferenceIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FguKernel.lean ====
abbrev S8192x2048 : Shape := ⟨2, ![8192, 2048]⟩
abbrev S2x2048x5632 : Shape := ⟨3, ![2, 2048, 5632]⟩
abbrev S8192x11264 : Shape := ⟨2, ![8192, 11264]⟩
abbrev S1024x2048 : Shape := ⟨2, ![1024, 2048]⟩
abbrev S1x2048x512 : Shape := ⟨3, ![1, 2048, 512]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FguReferenceIdeal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S8192x11x512 : Shape := ⟨3, ![8192, 11, 512]⟩
abbrev S8192x11x1x512 : Shape := ⟨4, ![8192, 11, 1, 512]⟩
abbrev S8192x11x2x512 : Shape := ⟨4, ![8192, 11, 2, 512]⟩
abbrev S8192x11264 : Shape := ⟨2, ![8192, 11264]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .bf16⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S1x2048x5632, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x11x512, .f32⟩
  | .hbm, ⟨11, _⟩ => ⟨S8192x11x512, .f32⟩
  | .hbm, ⟨12, _⟩ => ⟨S8192x11x1x512, .f32⟩
  | .hbm, ⟨13, _⟩ => ⟨S8192x11x1x512, .f32⟩
  | .hbm, ⟨14, _⟩ => ⟨S8192x11x2x512, .f32⟩
  | .hbm, ⟨15, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== FdownKernel.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S512x2816 : Shape := ⟨2, ![512, 2816]⟩
abbrev S2816x1024 : Shape := ⟨2, ![2816, 1024]⟩
abbrev S512x1024 : Shape := ⟨2, ![512, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FdownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.FlashSegments.lean ====
module

public import proofs.«01_k».proof.Proof.Gen.KernelIdeal
public import proofs.«01_k».proof.Proof.Gen.KernelIdeal.Skeleton
public import Idealize.ShloMosaic.Lib.VecWindow
public import Idealize.ShloMosaic.Lib.Tactic
public import Idealize.ShloMosaic.Lib.Tactic.Stretches
public import Idealize.ShloMosaic.Lib.Pointwise

/-! # The pieces of one grid point of the attention's backward call

The body of the kernel is cut before each of its seven tests; for each piece one lemma says what it leaves in the buffers it
touches, as a plain function of what they held. -/

@[expose] public section

set_option maxRecDepth 16384

noncomputable section

namespace Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

cut_chain s := k0_part11_skel at 6, 7, 8, 9, 10, 11, 12

/-- The six buffers the kernel keeps between grid points: the three running sums of a key block and, by query block, the
    running sums of the two query gradients and the row sums `∑ do·o`. -/
structure St (F : FTy → Type) where
  dk : Vec F S512x128 .f32
  dv : Vec F S512x128 .f32
  dfk : Vec F S512x1 .f32
  dq : Vec F S16x128x512 .f32
  dfq : Vec F S16x1x512 .f32
  delta : Vec F S16x1x512 .f32

/-- The ten blocks a grid point reads. -/
structure Blk (F : FTy → Type) where
  q : Vec F S512x128 .f32
  k : Vec F S512x128 .f32
  v : Vec F S512x128 .f32
  kt : Vec F S128x512 .bf16
  dO : Vec F S512x128 .f32
  dOt : Vec F S128x512 .f32
  oT : Vec F S128x512 .f32
  lse : Vec F S1x1x512 .f32
  fq : Vec F S1x1x512 .f32
  fk : Vec F S1x512x1 .f32

theorem inb_d (j : Fin 16) : ∀ a, (![j.val, 0, 0] : Fin 3 → ℕ) a + S1x1x512.size a ≤ S16x1x512.size a := by
  revert j; decide
theorem inb_q (j : Fin 16) : ∀ a, (![j.val, 0, 0] : Fin 3 → ℕ) a + S1x128x512.size a ≤ S16x128x512.size a := by
  revert j; decide

/-- Row block `j` of a buffer of sixteen rows, -/
abbrev slD (x : Vec F S16x1x512 .f32) (j : Fin 16) : Vec F S1x1x512 .f32 := VecWindow.window x ![j.val, 0, 0] S1x1x512.size (inb_d j)
/-- and of sixteen matrices; -/
abbrev slQ (x : Vec F S16x128x512 .f32) (j : Fin 16) : Vec F S1x128x512 .f32 := VecWindow.window x ![j.val, 0, 0] S1x128x512.size (inb_q j)
/-- the same written. -/
abbrev putD (x : Vec F S16x1x512 .f32) (j : Fin 16) (w : Vec F S1x1x512 .f32) : Vec F S16x1x512 .f32 := VecWindow.put x ![j.val, 0, 0] S1x1x512.size w
abbrev putQ (x : Vec F S16x128x512 .f32) (j : Fin 16) (w : Vec F S1x128x512 .f32) : Vec F S16x128x512 .f32 := VecWindow.put x ![j.val, 0, 0] S1x128x512.size w

/-- The word of a block number. -/
abbrev wd (j : Fin 16) : BitVec 32 := BitVec.ofNat 32 j.val

/-- The test of one flag, as the kernel makes it. -/
abbrev bit (v5 n : BitVec 32) : Prop := Scalar.cmpi .ne (Scalar.extui (Scalar.cmpi .ne (Scalar.andi v5 n) 0#32) : BitVec 32) 0#32 = 1#1

/-- The first point of a head clears the query sums. -/
def st2 (v5 : BitVec 32) (s : St F) : St F := if bit v5 4#32 then { s with dq := k0_pay46, dfq := k0_pay47 } else s
/-- The first point of a key block clears the key sums. -/
def st3 (v5 : BitVec 32) (s : St F) : St F := if bit v5 1#32 then { s with dk := k0_pay48, dv := k0_pay49, dfk := k0_pay50 } else s
/-- In the sweep of the first key block the row sum of each query block is stored. -/
def st4 (j : Fin 16) (v5 : BitVec 32) (b : Blk F) (s : St F) : St F :=
  if bit v5 16#32 then { s with delta := putD s.delta j (k0_pay51 b.dOt b.oT) } else s

/-- The block of attention weights on the diagonal, masked, -/
abbrev pD (b : Blk F) : FVec F S512x512 .f32 := k0_pay1 b.q b.k b.fq b.fk b.lse
/-- and below it. -/
abbrev pL (b : Blk F) : FVec F S512x512 .f32 := k0_pay7 b.q b.k b.fq b.fk b.lse

/-- A block on the diagonal adds its terms to all five sums. -/
def st5 (k j : Fin 16) (b : Blk F) (s : St F) : St F :=
  if k0_cond4 (wd k) (wd j) = 1#1 then
    { s with
      dv := k0_pay2 b.q b.k b.fq b.fk b.lse s.dv b.dO
      dk := k0_pay4 (pD b) b.v b.dO (slD s.delta j) s.dk b.q
      dfk := k0_pay5 (pD b) b.v b.dO (slD s.delta j) s.dfk
      dfq := putD s.dfq j (k0_pay52 (k0_pay6 (pD b) b.v b.dO (slD s.delta j) (slD s.dfq j)))
      dq := putQ s.dq j (k0_pay53 (k0_pay3 (pD b) b.v b.dO (slD s.delta j)) (slQ s.dq j) b.kt) }
  else s

/-- So does a block below the diagonal. -/
def st6 (k j : Fin 16) (b : Blk F) (s : St F) : St F :=
  if k0_cond5 (wd k) (wd j) = 1#1 then
    { s with
      dv := k0_pay8 b.q b.k b.fq b.fk b.lse s.dv b.dO
      dk := k0_pay12 (pL b) (k0_pay9 b.v) (k0_pay10 b.dO) (slD s.delta j) s.dk b.q
      dfk := k0_pay13 (pL b) (k0_pay9 b.v) (k0_pay10 b.dO) (slD s.delta j) s.dfk
      dfq := putD s.dfq j (k0_pay14 (pL b) (k0_pay9 b.v) (k0_pay10 b.dO) (slD s.delta j) (slD s.dfq j))
      dq := putQ s.dq j (k0_pay54 (k0_pay11 (pL b) (k0_pay9 b.v) (k0_pay10 b.dO) (slD s.delta j)) (slQ s.dq j) b.kt) }
  else s

/-- What a grid point makes of the six buffers. -/
def step (k j : Fin 16) (v5 : BitVec 32) (b : Blk F) (s : St F) : St F := st6 k j b (st5 k j b (st4 j v5 b (st3 v5 (st2 v5 s))))

theorem off2_eq (j : Fin 16) : k0_off2 (wd j) = ![j.val, 0, 0] := by revert j; decide +kernel
theorem off3_eq (j : Fin 16) : k0_off3 (wd j) = ![j.val, 0, 0] := by revert j; decide +kernel
theorem off4_eq (j : Fin 16) : k0_off4 (wd j) = ![j.val, 0, 0] := by revert j; decide +kernel
theorem off5_eq (j : Fin 16) : k0_off5 (wd j) = ![j.val, 0, 0] := by revert j; decide +kernel
theorem off6_eq (j : Fin 16) : k0_off6 (wd j) = ![j.val, 0, 0] := by revert j; decide +kernel

section Segments
variable (c : Dev nD) (E : Set ℕ) {α : Type} (κ : Prog (TpuEff nD τ sig (Elt F) Λ₀ .tc) α)

set_option maxHeartbeats 1000000

theorem s2_spec {Q : α → sProp 𝕄} {arg23 : Memref sig .tc .vmem S16x128x512 .f32} {arg24 : Memref sig .tc .vmem S16x1x512 .f32} (v5 : BitVec 32) (s : St F) :
    iprop(owns (c : Thread nD τ) arg23 fullShare s.dq ∗ owns (c : Thread nD τ) arg24 fullShare s.dfq
      ∗ ((owns (c : Thread nD τ) arg23 fullShare (st2 v5 s).dq ∗ owns (c : Thread nD τ) arg24 fullShare (st2 v5 s).dfq)
          -∗ wp frame (wpE (defs₀ (F := F)) Variants.none c none) E κ Q))
    ⊢ wp frame (wpE (defs₀ (F := F)) Variants.none c none) E (s2 arg23 arg24 v5 κ) Q := by
  unfold s2
  by_cases hc : bit v5 4#32
  · rw [st2, if_pos hc]
    unfold owns
    iintro ⟨⟨%f23, %h23, H23⟩, ⟨%f24, %h24, H24⟩, Hk⟩
    sl_exec (disch := sl_exact hc)
    iapply Hk
    isplitl [H23]
    · iexists _; isplitr; swap; · iexact H23
      ipureintro; exact View.read_writes_full _ _ _ _ _
    · iexists _; isplitr; swap; · iexact H24
      ipureintro; exact View.read_writes_full _ _ _ _ _
  · rw [st2, if_neg hc]
    iintro ⟨H23, H24, Hk⟩
    sl_exec (disch := sl_exact hc)
    iapply Hk
    iframe

theorem s3_spec {Q : α → sProp 𝕄} {arg20 arg21 : Memref sig .tc .vmem S512x128 .f32} {arg22 : Memref sig .tc .vmem S512x1 .f32} (v5 : BitVec 32) (s : St F) :
    iprop(owns (c : Thread nD τ) arg20 fullShare s.dk ∗ owns (c : Thread nD τ) arg21 fullShare s.dv ∗ owns (c : Thread nD τ) arg22 fullShare s.dfk
      ∗ ((owns (c : Thread nD τ) arg20 fullShare (st3 v5 s).dk ∗ owns (c : Thread nD τ) arg21 fullShare (st3 v5 s).dv
            ∗ owns (c : Thread nD τ) arg22 fullShare (st3 v5 s).dfk)
          -∗ wp frame (wpE (defs₀ (F := F)) Variants.none c none) E κ Q))
    ⊢ wp frame (wpE (defs₀ (F := F)) Variants.none c none) E (s3 arg20 arg21 arg22 v5 κ) Q := by
  unfold s3
  by_cases hc : bit v5 1#32
  · rw [st3, if_pos hc]
    unfold owns
    iintro ⟨⟨%f20, %h20, H20⟩, ⟨%f21, %h21, H21⟩, ⟨%f22, %h22, H22⟩, Hk⟩
    sl_exec (disch := sl_exact hc)
    iapply Hk
    isplitl [H20]
    · iexists _; isplitr; swap; · iexact H20
      ipureintro; exact View.read_writes_full _ _ _ _ _
    isplitl [H21]
    · iexists _; isplitr; swap; · iexact H21
      ipureintro; exact View.read_writes_full _ _ _ _ _
    · iexists _; isplitr; swap; · iexact H22
      ipureintro; exact View.read_writes_full _ _ _ _ _
  · rw [st3, if_neg hc]
    iintro ⟨H20, H21, H22, Hk⟩
    sl_exec (disch := sl_exact hc)
    iapply Hk
    iframe

theorem s4_spec {Q : α → sProp 𝕄} {arg10 arg11 : Memref sig .tc .vmem S128x512 .f32} {arg25 : Memref sig .tc .vmem S16x1x512 .f32} (j : Fin 16) (v5 : BitVec 32)
    (hw : PLift (k0_chk1 (wd j) v5)) (b : Blk F) (s : St F) :
    iprop(owns (c : Thread nD τ) arg10 fullShare b.dOt ∗ owns (c : Thread nD τ) arg11 fullShare b.oT ∗ owns (c : Thread nD τ) arg25 fullShare s.delta
      ∗ ((owns (c : Thread nD τ) arg10 fullShare b.dOt ∗ owns (c : Thread nD τ) arg11 fullShare b.oT
            ∗ owns (c : Thread nD τ) arg25 fullShare (st4 j v5 b s).delta)
          -∗ wp frame (wpE (defs₀ (F := F)) Variants.none c none) E κ Q))
    ⊢ wp frame (wpE (defs₀ (F := F)) Variants.none c none) E (s4 arg10 arg11 arg25 (wd j) v5 hw κ) Q := by
  unfold s4
  by_cases hc : bit v5 16#32
  · rw [st4, if_pos hc]
    unfold owns
    iintro ⟨⟨%f10, %h10, H10⟩, ⟨%f11, %h11, H11⟩, ⟨%f25, %h25, H25⟩, Hk⟩
    have r10 := (View.readAt_full (Val := Elt F) arg10.view f10 inb_S128x512_S128x512_0_0).trans h10
    have r11 := (View.readAt_full (Val := Elt F) arg11.view f11 inb_S128x512_S128x512_0_0).trans h11
    sl_exec (disch := sl_exact hc)
    iapply Hk
    isplitl [H10]
    · iexists _; isplitr; swap; · iexact H10
      ipureintro; exact h10
    isplitl [H11]
    · iexists _; isplitr; swap; · iexact H11
      ipureintro; exact h11
    · iexists _; isplitr; swap; · iexact H25
      ipureintro
      rw [View.read_writes_cons_put _ _ _ _ _ (off2_eq j)]
      rw [View.writes_nil, h25]
  · rw [st4, if_neg hc]
    iintro ⟨H10, H11, H25, Hk⟩
    sl_exec (disch := sl_exact hc)
    iapply Hk
    iframe

set_option maxHeartbeats 4000000 in
theorem s5_spec {Q : α → sProp 𝕄} (i : grid0.Coords) (arg2 : Memref sig .tc .smem S136 .i32) (harg2 : arg2.IsWhole) (arg3 : Memref sig .tc .smem S136 .i32) (harg3 : arg3.IsWhole) (arg4 : Memref sig .tc .smem S136 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x512x1 .f32) (harg14 : arg14.IsWhole) (arg15 : Memref sig .tc .vmem S128x8192 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S1x512x1 .f32) (harg18 : arg18.IsWhole) (arg19 : Memref sig .tc .vmem S1x1x8192 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x1 .f32) (harg22 : arg22.IsWhole) (arg23 : Memref sig .tc .vmem S16x128x512 .f32) (harg23 : arg23.IsWhole) (arg24 : Memref sig .tc .vmem S16x1x512 .f32) (harg24 : arg24.IsWhole) (arg25 : Memref sig .tc .vmem S16x1x512 .f32) (harg25 : arg25.IsWhole) (k j : Fin 16)
    (hw : PLift (k0_chk2 (wd k) (wd j))) (b : Blk F) (s : St F) :
    iprop(owns (c : Thread nD τ) arg5 fullShare b.q ∗ owns (c : Thread nD τ) arg6 fullShare b.k ∗ owns (c : Thread nD τ) arg7 fullShare b.v
      ∗ owns (c : Thread nD τ) arg8 fullShare b.kt ∗ owns (c : Thread nD τ) arg9 fullShare b.dO ∗ owns (c : Thread nD τ) arg12 fullShare b.lse
      ∗ owns (c : Thread nD τ) arg13 fullShare b.fq ∗ owns (c : Thread nD τ) arg14 fullShare b.fk
      ∗ owns (c : Thread nD τ) arg20 fullShare s.dk ∗ owns (c : Thread nD τ) arg21 fullShare s.dv ∗ owns (c : Thread nD τ) arg22 fullShare s.dfk
      ∗ owns (c : Thread nD τ) arg23 fullShare s.dq ∗ owns (c : Thread nD τ) arg24 fullShare s.dfq ∗ owns (c : Thread nD τ) arg25 fullShare s.delta
      ∗ ((owns (c : Thread nD τ) arg5 fullShare b.q ∗ owns (c : Thread nD τ) arg6 fullShare b.k ∗ owns (c : Thread nD τ) arg7 fullShare b.v
      ∗ owns (c : Thread nD τ) arg8 fullShare b.kt ∗ owns (c : Thread nD τ) arg9 fullShare b.dO ∗ owns (c : Thread nD τ) arg12 fullShare b.lse
      ∗ owns (c : Thread nD τ) arg13 fullShare b.fq ∗ owns (c : Thread nD τ) arg14 fullShare b.fk
      ∗ owns (c : Thread nD τ) arg20 fullShare (st5 k j b s).dk ∗ owns (c : Thread nD τ) arg21 fullShare (st5 k j b s).dv
      ∗ owns (c : Thread nD τ) arg22 fullShare (st5 k j b s).dfk
      ∗ owns (c : Thread nD τ) arg23 fullShare (st5 k j b s).dq ∗ owns (c : Thread nD τ) arg24 fullShare (st5 k j b s).dfq
      ∗ owns (c : Thread nD τ) arg25 fullShare (st5 k j b s).delta)
          -∗ wp frame (wpE (defs₀ (F := F)) Variants.none c none) E κ Q))
    ⊢ wp frame (wpE (defs₀ (F := F)) Variants.none c none) E (s5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (wd k) (wd j) hw κ) Q := by
  unfold s5
  by_cases hc : k0_cond4 (wd k) (wd j) = 1#1
  · rw [st5, if_pos hc]
    simp only [k0_part1_eq_skeleton, k0_part2_eq_skeleton]
    unfold k0_part1_skel k0_part2_skel
    unfold owns
    iintro ⟨⟨%f5, %h5, H5⟩, ⟨%f6, %h6, H6⟩, ⟨%f7, %h7, H7⟩, ⟨%f8, %h8, H8⟩, ⟨%f9, %h9, H9⟩, ⟨%f12, %h12, H12⟩, ⟨%f13, %h13, H13⟩, ⟨%f14, %h14, H14⟩, ⟨%f20, %h20, H20⟩, ⟨%f21, %h21, H21⟩, ⟨%f22, %h22, H22⟩, ⟨%f23, %h23, H23⟩, ⟨%f24, %h24, H24⟩, ⟨%f25, %h25, H25⟩, Hk⟩
    sl_exec (disch := sl_exact hc)
    iapply Hk
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    have r5 := (View.readAt_full (Val := Elt F) arg5.view f5 inb_S512x128_S512x128_0_0).trans h5
    have r6 := (View.readAt_full (Val := Elt F) arg6.view f6 inb_S512x128_S512x128_0_0).trans h6
    have r7 := (View.readAt_full (Val := Elt F) arg7.view f7 inb_S512x128_S512x128_0_0).trans h7
    have r8 := (View.readAt_full (Val := Elt F) arg8.view f8 inb_S128x512_S128x512_0_0).trans h8
    have r9 := (View.readAt_full (Val := Elt F) arg9.view f9 inb_S512x128_S512x128_0_0).trans h9
    have r12 := (View.readAt_full (Val := Elt F) arg12.view f12 inb_S1x1x512_S1x1x512_0_0_0).trans h12
    have r13 := (View.readAt_full (Val := Elt F) arg13.view f13 inb_S1x1x512_S1x1x512_0_0_0).trans h13
    have r14 := (View.readAt_full (Val := Elt F) arg14.view f14 inb_S1x512x1_S1x512x1_0_0_0).trans h14
    have r20 := (View.readAt_full (Val := Elt F) arg20.view f20 inb_S512x128_S512x128_0_0).trans h20
    have r21 := (View.readAt_full (Val := Elt F) arg21.view f21 inb_S512x128_S512x128_0_0).trans h21
    have r22 := (View.readAt_full (Val := Elt F) arg22.view f22 inb_S512x1_S512x1_0_0).trans h22
    have r25 : ∀ inb : (∀ a, k0_off3 (wd j) a + S1x1x512.size a ≤ S16x1x512.size a), View.readAt (Elt F) arg25.view (Rect.unit (s := S16x1x512) (k0_off3 (wd j)) S1x1x512.size inb).toLoadRect f25 = slD s.delta j := fun inb => by
      rw [View.readAt_unit _ _ _ (off3_eq j) (inb_d j), h25]
    have r24 : ∀ inb : (∀ a, k0_off3 (wd j) a + S1x1x512.size a ≤ S16x1x512.size a), View.readAt (Elt F) arg24.view (Rect.unit (s := S16x1x512) (k0_off3 (wd j)) S1x1x512.size inb).toLoadRect f24 = slD s.dfq j := fun inb => by
      rw [View.readAt_unit _ _ _ (off3_eq j) (inb_d j), h24]
    have r23 : ∀ inb : (∀ a, k0_off4 (wd j) a + S1x128x512.size a ≤ S16x128x512.size a), View.readAt (Elt F) arg23.view (Rect.unit (s := S16x128x512) (k0_off4 (wd j)) S1x128x512.size inb).toLoadRect f23 = slQ s.dq j := fun inb => by
      rw [View.readAt_unit _ _ _ (off4_eq j) (inb_q j), h23]
    isplitl [H20]
    · iexists _; isplitr; swap; · iexact H20
      ipureintro
      exact (View.read_writes_full _ _ _ _ _).trans (by rw [r25, r5, r6, r7, r9, r12, r13, r14, r20])
    isplitl [H21]
    · iexists _; isplitr; swap; · iexact H21
      ipureintro
      exact (View.read_writes_full _ _ _ _ _).trans (by rw [r5, r6, r9, r12, r13, r14, r21])
    isplitl [H22]
    · iexists _; isplitr; swap; · iexact H22
      ipureintro
      exact (View.read_writes_full _ _ _ _ _).trans (by rw [r25, r5, r6, r7, r9, r12, r13, r14, r22])
    isplitl [H23]
    · iexists _; isplitr; swap; · iexact H23
      ipureintro
      rw [View.read_writes_cons_put _ _ _ _ _ (off4_eq j), View.writes_nil, h23]
      rw [r25, r23, r5, r6, r7, r8, r9, r12, r13, r14]
    isplitl [H24]
    · iexists _; isplitr; swap; · iexact H24
      ipureintro
      rw [View.read_writes_cons_put _ _ _ _ _ (off3_eq j), View.writes_nil, h24]
      rw [r25, r24, r5, r6, r7, r9, r12, r13, r14]
    iexists _; isplitr; swap; · iexact H25
    ipureintro; exact h25
  · rw [st5, if_neg hc]
    iintro ⟨H5, H6, H7, H8, H9, H12, H13, H14, H20, H21, H22, H23, H24, H25, Hk⟩
    sl_exec (disch := sl_exact hc)
    iapply Hk
    iframe

set_option maxHeartbeats 4000000 in
theorem s6_spec {Q : α → sProp 𝕄} (i : grid0.Coords) (arg2 : Memref sig .tc .smem S136 .i32) (harg2 : arg2.IsWhole) (arg3 : Memref sig .tc .smem S136 .i32) (harg3 : arg3.IsWhole) (arg4 : Memref sig .tc .smem S136 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x512x1 .f32) (harg14 : arg14.IsWhole) (arg15 : Memref sig .tc .vmem S128x8192 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S1x512x1 .f32) (harg18 : arg18.IsWhole) (arg19 : Memref sig .tc .vmem S1x1x8192 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x1 .f32) (harg22 : arg22.IsWhole) (arg23 : Memref sig .tc .vmem S16x128x512 .f32) (harg23 : arg23.IsWhole) (arg24 : Memref sig .tc .vmem S16x1x512 .f32) (harg24 : arg24.IsWhole) (arg25 : Memref sig .tc .vmem S16x1x512 .f32) (harg25 : arg25.IsWhole) (k j : Fin 16)
    (hw : PLift (k0_chk2 (wd k) (wd j))) (b : Blk F) (s : St F) :
    iprop(owns (c : Thread nD τ) arg5 fullShare b.q ∗ owns (c : Thread nD τ) arg6 fullShare b.k ∗ owns (c : Thread nD τ) arg7 fullShare b.v
      ∗ owns (c : Thread nD τ) arg8 fullShare b.kt ∗ owns (c : Thread nD τ) arg9 fullShare b.dO ∗ owns (c : Thread nD τ) arg12 fullShare b.lse
      ∗ owns (c : Thread nD τ) arg13 fullShare b.fq ∗ owns (c : Thread nD τ) arg14 fullShare b.fk
      ∗ owns (c : Thread nD τ) arg20 fullShare s.dk ∗ owns (c : Thread nD τ) arg21 fullShare s.dv ∗ owns (c : Thread nD τ) arg22 fullShare s.dfk
      ∗ owns (c : Thread nD τ) arg23 fullShare s.dq ∗ owns (c : Thread nD τ) arg24 fullShare s.dfq ∗ owns (c : Thread nD τ) arg25 fullShare s.delta
      ∗ ((owns (c : Thread nD τ) arg5 fullShare b.q ∗ owns (c : Thread nD τ) arg6 fullShare b.k ∗ owns (c : Thread nD τ) arg7 fullShare b.v
      ∗ owns (c : Thread nD τ) arg8 fullShare b.kt ∗ owns (c : Thread nD τ) arg9 fullShare b.dO ∗ owns (c : Thread nD τ) arg12 fullShare b.lse
      ∗ owns (c : Thread nD τ) arg13 fullShare b.fq ∗ owns (c : Thread nD τ) arg14 fullShare b.fk
      ∗ owns (c : Thread nD τ) arg20 fullShare (st6 k j b s).dk ∗ owns (c : Thread nD τ) arg21 fullShare (st6 k j b s).dv
      ∗ owns (c : Thread nD τ) arg22 fullShare (st6 k j b s).dfk
      ∗ owns (c : Thread nD τ) arg23 fullShare (st6 k j b s).dq ∗ owns (c : Thread nD τ) arg24 fullShare (st6 k j b s).dfq
      ∗ owns (c : Thread nD τ) arg25 fullShare (st6 k j b s).delta)
          -∗ wp frame (wpE (defs₀ (F := F)) Variants.none c none) E κ Q))
    ⊢ wp frame (wpE (defs₀ (F := F)) Variants.none c none) E (s6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (wd k) (wd j) hw κ) Q := by
  unfold s6
  by_cases hc : k0_cond5 (wd k) (wd j) = 1#1
  · rw [st6, if_pos hc]
    simp only [k0_part3_eq_skeleton, k0_part4_eq_skeleton]
    unfold k0_part3_skel k0_part4_skel
    unfold owns
    iintro ⟨⟨%f5, %h5, H5⟩, ⟨%f6, %h6, H6⟩, ⟨%f7, %h7, H7⟩, ⟨%f8, %h8, H8⟩, ⟨%f9, %h9, H9⟩, ⟨%f12, %h12, H12⟩, ⟨%f13, %h13, H13⟩, ⟨%f14, %h14, H14⟩, ⟨%f20, %h20, H20⟩, ⟨%f21, %h21, H21⟩, ⟨%f22, %h22, H22⟩, ⟨%f23, %h23, H23⟩, ⟨%f24, %h24, H24⟩, ⟨%f25, %h25, H25⟩, Hk⟩
    sl_exec (disch := sl_exact hc)
    iapply Hk
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    have r5 := (View.readAt_full (Val := Elt F) arg5.view f5 inb_S512x128_S512x128_0_0).trans h5
    have r6 := (View.readAt_full (Val := Elt F) arg6.view f6 inb_S512x128_S512x128_0_0).trans h6
    have r7 := (View.readAt_full (Val := Elt F) arg7.view f7 inb_S512x128_S512x128_0_0).trans h7
    have r8 := (View.readAt_full (Val := Elt F) arg8.view f8 inb_S128x512_S128x512_0_0).trans h8
    have r9 := (View.readAt_full (Val := Elt F) arg9.view f9 inb_S512x128_S512x128_0_0).trans h9
    have r12 := (View.readAt_full (Val := Elt F) arg12.view f12 inb_S1x1x512_S1x1x512_0_0_0).trans h12
    have r13 := (View.readAt_full (Val := Elt F) arg13.view f13 inb_S1x1x512_S1x1x512_0_0_0).trans h13
    have r14 := (View.readAt_full (Val := Elt F) arg14.view f14 inb_S1x512x1_S1x512x1_0_0_0).trans h14
    have r20 := (View.readAt_full (Val := Elt F) arg20.view f20 inb_S512x128_S512x128_0_0).trans h20
    have r21 := (View.readAt_full (Val := Elt F) arg21.view f21 inb_S512x128_S512x128_0_0).trans h21
    have r22 := (View.readAt_full (Val := Elt F) arg22.view f22 inb_S512x1_S512x1_0_0).trans h22
    have r25 : ∀ inb : (∀ a, k0_off5 (wd j) a + S1x1x512.size a ≤ S16x1x512.size a), View.readAt (Elt F) arg25.view (Rect.unit (s := S16x1x512) (k0_off5 (wd j)) S1x1x512.size inb).toLoadRect f25 = slD s.delta j := fun inb => by
      rw [View.readAt_unit _ _ _ (off5_eq j) (inb_d j), h25]
    have r24 : ∀ inb : (∀ a, k0_off5 (wd j) a + S1x1x512.size a ≤ S16x1x512.size a), View.readAt (Elt F) arg24.view (Rect.unit (s := S16x1x512) (k0_off5 (wd j)) S1x1x512.size inb).toLoadRect f24 = slD s.dfq j := fun inb => by
      rw [View.readAt_unit _ _ _ (off5_eq j) (inb_d j), h24]
    have r23 : ∀ inb : (∀ a, k0_off6 (wd j) a + S1x128x512.size a ≤ S16x128x512.size a), View.readAt (Elt F) arg23.view (Rect.unit (s := S16x128x512) (k0_off6 (wd j)) S1x128x512.size inb).toLoadRect f23 = slQ s.dq j := fun inb => by
      rw [View.readAt_unit _ _ _ (off6_eq j) (inb_q j), h23]
    isplitl [H20]
    · iexists _; isplitr; swap; · iexact H20
      ipureintro
      exact (View.read_writes_full _ _ _ _ _).trans (by rw [r25, r5, r6, r7, r9, r12, r13, r14, r20])
    isplitl [H21]
    · iexists _; isplitr; swap; · iexact H21
      ipureintro
      exact (View.read_writes_full _ _ _ _ _).trans (by rw [r5, r6, r9, r12, r13, r14, r21])
    isplitl [H22]
    · iexists _; isplitr; swap; · iexact H22
      ipureintro
      exact (View.read_writes_full _ _ _ _ _).trans (by rw [r25, r5, r6, r7, r9, r12, r13, r14, r22])
    isplitl [H23]
    · iexists _; isplitr; swap; · iexact H23
      ipureintro
      rw [View.read_writes_cons_put _ _ _ _ _ (off6_eq j), View.writes_nil, h23]
      rw [r25, r23, r5, r6, r7, r8, r9, r12, r13, r14]
    isplitl [H24]
    · iexists _; isplitr; swap; · iexact H24
      ipureintro
      rw [View.read_writes_cons_put _ _ _ _ _ (off5_eq j), View.writes_nil, h24]
      rw [r25, r24, r5, r6, r7, r9, r12, r13, r14]
    iexists _; isplitr; swap; · iexact H25
    ipureintro; exact h25
  · rw [st6, if_neg hc]
    iintro ⟨H5, H6, H7, H8, H9, H12, H13, H14, H20, H21, H22, H23, H24, H25, Hk⟩
    sl_exec (disch := sl_exact hc)
    iapply Hk
    iframe

/-- The results of the last point of a key block. -/
def o16 (v5 : BitVec 32) (s : St F) (x : Vec F S512x128 .bf16) : Vec F S512x128 .bf16 := if bit v5 2#32 then k0_pay55 s.dk else x
def o17 (v5 : BitVec 32) (s : St F) (x : Vec F S512x128 .bf16) : Vec F S512x128 .bf16 := if bit v5 2#32 then k0_pay56 s.dv else x
def o18 (v5 : BitVec 32) (s : St F) (x : Vec F S1x512x1 .f32) : Vec F S1x512x1 .f32 := if bit v5 2#32 then k0_pay57 s.dfk else x

theorem s7_spec {Q : α → sProp 𝕄} {arg16 arg17 : Memref sig .tc .vmem S512x128 .bf16} (harg16 : arg16.IsWhole) (harg17 : arg17.IsWhole) {arg18 : Memref sig .tc .vmem S1x512x1 .f32}
    {arg20 arg21 : Memref sig .tc .vmem S512x128 .f32} {arg22 : Memref sig .tc .vmem S512x1 .f32} (v5 : BitVec 32) (s : St F)
    (x16 x17 : Vec F S512x128 .bf16) (x18 : Vec F S1x512x1 .f32) :
    iprop(owns (c : Thread nD τ) arg16 fullShare x16 ∗ owns (c : Thread nD τ) arg17 fullShare x17 ∗ owns (c : Thread nD τ) arg18 fullShare x18
      ∗ owns (c : Thread nD τ) arg20 fullShare s.dk ∗ owns (c : Thread nD τ) arg21 fullShare s.dv ∗ owns (c : Thread nD τ) arg22 fullShare s.dfk
      ∗ ((owns (c : Thread nD τ) arg16 fullShare (o16 v5 s x16) ∗ owns (c : Thread nD τ) arg17 fullShare (o17 v5 s x17)
            ∗ owns (c : Thread nD τ) arg18 fullShare (o18 v5 s x18)
            ∗ owns (c : Thread nD τ) arg20 fullShare s.dk ∗ owns (c : Thread nD τ) arg21 fullShare s.dv
            ∗ owns (c : Thread nD τ) arg22 fullShare s.dfk)
          -∗ wp frame (wpE (defs₀ (F := F)) Variants.none c none) E κ Q))
    ⊢ wp frame (wpE (defs₀ (F := F)) Variants.none c none) E (s7 arg16 harg16 arg17 harg17 arg18 arg20 arg21 arg22 v5 κ) Q := by
  unfold s7
  by_cases hc : bit v5 2#32
  · rw [o16, o17, o18, if_pos hc, if_pos hc, if_pos hc]
    unfold owns
    iintro ⟨⟨%f16, %h16, H16⟩, ⟨%f17, %h17, H17⟩, ⟨%f18, %h18, H18⟩, ⟨%f20, %h20, H20⟩, ⟨%f21, %h21, H21⟩, ⟨%f22, %h22, H22⟩, Hk⟩
    have r20 := (View.readAt_full (Val := Elt F) arg20.view f20 inb_S512x128_S512x128_0_0).trans h20
    have r21 := (View.readAt_full (Val := Elt F) arg21.view f21 inb_S512x128_S512x128_0_0).trans h21
    have r22 := (View.readAt_full (Val := Elt F) arg22.view f22 inb_S512x1_S512x1_0_0).trans h22
    sl_exec (disch := sl_exact hc)
    iapply Hk
    isplitl [H16]
    · iexists _; isplitr; swap; · iexact H16
      ipureintro; exact (View.read_writes_full _ _ _ _ _)
    isplitl [H17]
    · iexists _; isplitr; swap; · iexact H17
      ipureintro; exact (View.read_writes_full _ _ _ _ _)
    isplitl [H18]
    · iexists _; isplitr; swap; · iexact H18
      ipureintro; exact (View.read_writes_full _ _ _ _ _)
    isplitl [H20]
    · iexists _; isplitr; swap; · iexact H20
      ipureintro; exact h20
    isplitl [H21]
    · iexists _; isplitr; swap; · iexact H21
      ipureintro; exact h21
    iexists _; isplitr; swap; · iexact H22
    ipureintro; exact h22
  · rw [o16, o17, o18, if_neg hc, if_neg hc, if_neg hc]
    iintro ⟨H16, H17, H18, H20, H21, H22, Hk⟩
    sl_exec (disch := sl_exact hc)
    iapply Hk
    iframe

/-- The query gradient of a whole head, laid out from its sixteen blocks, -/
def outDq (x : Vec F S16x128x512 .f32) : Vec F S128x8192 .bf16 := fun y =>
  k0_pay15 (slQ x ⟨(y 1).val / 512, Nat.div_lt_of_lt_mul (y 1).isLt⟩) (ix2 (y 0) ⟨(y 1).val % 512, Nat.mod_lt _ (by decide)⟩)
/-- and the gradient of the queries' decay. -/
def outDfq (x : Vec F S16x1x512 .f32) : Vec F S1x1x8192 .f32 := fun y =>
  k0_pay16 (slD x ⟨(y 2).val / 512, Nat.div_lt_of_lt_mul (y 2).isLt⟩) (ix3 (0 : Fin 1) (0 : Fin 1) ⟨(y 2).val % 512, Nat.mod_lt _ (by decide)⟩)

/-- The stores of the first `n` blocks, the last first. -/
def piecesQ (x : Vec F S16x128x512 .f32) : (n : ℕ) → n ≤ 16 → List (View.Piece (Elt F) S128x8192 .bf16)
  | 0, _ => []
  | n + 1, h => ⟨Rect.unit (s := S128x8192) ![0, 512 * n] S128x512.size (by intro a; fin_cases a <;> simp [S128x512, S128x8192] <;> omega),
      k0_pay15 (slQ x ⟨n, h⟩)⟩ :: piecesQ x n (Nat.le_of_succ_le h)
def piecesD (x : Vec F S16x1x512 .f32) : (n : ℕ) → n ≤ 16 → List (View.Piece (Elt F) S1x1x8192 .f32)
  | 0, _ => []
  | n + 1, h => ⟨Rect.unit (s := S1x1x8192) ![0, 0, 512 * n] S1x1x512.size (by intro a; fin_cases a <;> simp [S1x1x512, S1x1x8192] <;> omega),
      k0_pay16 (slD x ⟨n, h⟩)⟩ :: piecesD x n (Nat.le_of_succ_le h)

theorem read_piecesQ (v : View sig .tc .vmem S128x8192 .bf16) (f) (x : Vec F S16x128x512 .f32) (n : ℕ) (h : n ≤ 16) (y : S128x8192.Idx)
    (hy : (y 1).val < 512 * n) : v.read (Elt F) (v.writes (Elt F) f (piecesQ x n h)) y = outDq x y := by
  induction n with
  | zero => omega
  | succ n ih =>
    rw [piecesQ, View.read_writes_cons_put _ _ _ _ _ rfl]
    unfold VecWindow.put
    split
    · rename_i hin
      have h1 : 512 * n ≤ (y 1).val := (hin 1).1
      have hd : (y 1).val / 512 = n := by omega
      have hm : (y 1).val % 512 = (y 1).val - 512 * n := by omega
      unfold outDq
      rw [show (⟨(y 1).val / 512, Nat.div_lt_of_lt_mul (y 1).isLt⟩ : Fin 16) = ⟨n, h⟩ from Fin.ext hd]
      refine congrArg (k0_pay15 (slQ x ⟨n, h⟩)) ?_
      funext a
      fin_cases a
      · exact Fin.ext (by show (y 0).val - 0 = _; rfl)
      · exact Fin.ext hm.symm
    · rename_i hin
      refine ih _ ?_
      by_contra hlt
      refine hin fun a => ?_
      fin_cases a
      · exact ⟨Nat.zero_le _, by show (y 0).val < 0 + 128; have : (y 0).val < 128 := (y 0).isLt; omega⟩
      · exact ⟨by show 512 * n ≤ (y 1).val; omega, by show (y 1).val < 512 * n + 512; omega⟩

theorem read_piecesD (v : View sig .tc .vmem S1x1x8192 .f32) (f) (x : Vec F S16x1x512 .f32) (n : ℕ) (h : n ≤ 16) (y : S1x1x8192.Idx)
    (hy : (y 2).val < 512 * n) : v.read (Elt F) (v.writes (Elt F) f (piecesD x n h)) y = outDfq x y := by
  induction n with
  | zero => omega
  | succ n ih =>
    have y0 : (y 0).val < 1 := (y 0).isLt
    have y1 : (y 1).val < 1 := (y 1).isLt
    rw [piecesD, View.read_writes_cons_put _ _ _ _ _ rfl]
    unfold VecWindow.put
    split
    · rename_i hin
      have h1 : 512 * n ≤ (y 2).val := (hin 2).1
      have hd : (y 2).val / 512 = n := by omega
      have hm : (y 2).val % 512 = (y 2).val - 512 * n := by omega
      unfold outDfq
      rw [show (⟨(y 2).val / 512, Nat.div_lt_of_lt_mul (y 2).isLt⟩ : Fin 16) = ⟨n, h⟩ from Fin.ext hd]
      refine congrArg (k0_pay16 (slD x ⟨n, h⟩)) ?_
      funext a
      fin_cases a
      · exact Fin.ext (by show (y 0).val - 0 = 0; omega)
      · exact Fin.ext (by show (y 1).val - 0 = 0; omega)
      · exact Fin.ext hm.symm
    · rename_i hin
      refine ih _ ?_
      by_contra hlt
      refine hin fun a => ?_
      fin_cases a
      · exact ⟨Nat.zero_le _, by show (y 0).val < 0 + 1; omega⟩
      · exact ⟨Nat.zero_le _, by show (y 1).val < 0 + 1; omega⟩
      · exact ⟨by show 512 * n ≤ (y 2).val; omega, by show (y 2).val < 512 * n + 512; omega⟩

/-- The results of the last point of a head. -/
def o15 (v5 : BitVec 32) (s : St F) (x : Vec F S128x8192 .bf16) : Vec F S128x8192 .bf16 := if bit v5 8#32 then outDq s.dq else x
def o19 (v5 : BitVec 32) (s : St F) (x : Vec F S1x1x8192 .f32) : Vec F S1x1x8192 .f32 := if bit v5 8#32 then outDfq s.dfq else x

set_option maxHeartbeats 4000000 in
theorem s8_spec {Q : α → sProp 𝕄} (i : grid0.Coords) (arg2 : Memref sig .tc .smem S136 .i32) (harg2 : arg2.IsWhole) (arg3 : Memref sig .tc .smem S136 .i32) (harg3 : arg3.IsWhole) (arg4 : Memref sig .tc .smem S136 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x512x1 .f32) (harg14 : arg14.IsWhole) (arg15 : Memref sig .tc .vmem S128x8192 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S1x512x1 .f32) (harg18 : arg18.IsWhole) (arg19 : Memref sig .tc .vmem S1x1x8192 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x1 .f32) (harg22 : arg22.IsWhole) (arg23 : Memref sig .tc .vmem S16x128x512 .f32) (harg23 : arg23.IsWhole) (arg24 : Memref sig .tc .vmem S16x1x512 .f32) (harg24 : arg24.IsWhole) (arg25 : Memref sig .tc .vmem S16x1x512 .f32) (harg25 : arg25.IsWhole) (v5 : BitVec 32) (s : St F) (x15 : Vec F S128x8192 .bf16) (x19 : Vec F S1x1x8192 .f32) :
    iprop(owns (c : Thread nD τ) arg15 fullShare x15 ∗ owns (c : Thread nD τ) arg19 fullShare x19
      ∗ owns (c : Thread nD τ) arg23 fullShare s.dq ∗ owns (c : Thread nD τ) arg24 fullShare s.dfq
      ∗ ((owns (c : Thread nD τ) arg15 fullShare (o15 v5 s x15) ∗ owns (c : Thread nD τ) arg19 fullShare (o19 v5 s x19)
            ∗ owns (c : Thread nD τ) arg23 fullShare s.dq ∗ owns (c : Thread nD τ) arg24 fullShare s.dfq)
          -∗ wp frame (wpE (defs₀ (F := F)) Variants.none c none) E κ Q))
    ⊢ wp frame (wpE (defs₀ (F := F)) Variants.none c none) E (s8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 κ) Q := by
  unfold s8
  by_cases hc : bit v5 8#32
  · rw [o15, o19, if_pos hc, if_pos hc]
    simp only [k0_part5_eq_skeleton, k0_part6_eq_skeleton, k0_part7_eq_skeleton, k0_part8_eq_skeleton, k0_part9_eq_skeleton, k0_part10_eq_skeleton]
    unfold k0_part5_skel k0_part6_skel k0_part7_skel k0_part8_skel k0_part9_skel k0_part10_skel
    unfold owns
    iintro ⟨⟨%f15, %h15, H15⟩, ⟨%f19, %h19, H19⟩, ⟨%f23, %h23, H23⟩, ⟨%f24, %h24, H24⟩, Hk⟩
    sl_exec (disch := sl_exact hc)
    iapply Hk
    isplitl [H15]
    · iexists _; isplitr; swap; · iexact H15
      ipureintro
      rw [← h23]
      funext y
      exact read_piecesQ arg15.view f15 (arg23.view.read (Elt F) f23) 16 le_rfl y (y 1).isLt
    isplitl [H19]
    · iexists _; isplitr; swap; · iexact H19
      ipureintro
      rw [← h24]
      funext y
      exact read_piecesD arg19.view f19 (arg24.view.read (Elt F) f24) 16 le_rfl y (y 2).isLt
    isplitl [H23]
    · iexists _; isplitr; swap; · iexact H23
      ipureintro; exact h23
    iexists _; isplitr; swap; · iexact H24
    ipureintro; exact h24
  · rw [o15, o19, if_neg hc, if_neg hc]
    iintro ⟨H15, H19, H23, H24, Hk⟩
    sl_exec (disch := sl_exact hc)
    iapply Hk
    iframe

end Segments
end Flash
-- ==== Proof.FlashBody.lean ====
module

public import proofs.«01_k».proof.Proof.FlashSegments

/-! # One grid point of the attention's backward call -/

@[expose] public section

set_option maxRecDepth 16384

noncomputable section

namespace Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Untouched
variable (k j : Fin 16) (v5 : BitVec 32) (b : Blk F) (s : St F)
theorem st2_dk : (st2 v5 s).dk = s.dk := by unfold st2; split <;> rfl
theorem st2_dv : (st2 v5 s).dv = s.dv := by unfold st2; split <;> rfl
theorem st2_dfk : (st2 v5 s).dfk = s.dfk := by unfold st2; split <;> rfl
theorem st2_delta : (st2 v5 s).delta = s.delta := by unfold st2; split <;> rfl
theorem st3_dq : (st3 v5 s).dq = s.dq := by unfold st3; split <;> rfl
theorem st3_dfq : (st3 v5 s).dfq = s.dfq := by unfold st3; split <;> rfl
theorem st3_delta : (st3 v5 s).delta = s.delta := by unfold st3; split <;> rfl
theorem st4_dk : (st4 j v5 b s).dk = s.dk := by unfold st4; split <;> rfl
theorem st4_dv : (st4 j v5 b s).dv = s.dv := by unfold st4; split <;> rfl
theorem st4_dfk : (st4 j v5 b s).dfk = s.dfk := by unfold st4; split <;> rfl
theorem st4_dq : (st4 j v5 b s).dq = s.dq := by unfold st4; split <;> rfl
theorem st4_dfq : (st4 j v5 b s).dfq = s.dfq := by unfold st4; split <;> rfl
theorem st5_delta : (st5 k j b s).delta = s.delta := by unfold st5; split <;> rfl
theorem st6_delta : (st6 k j b s).delta = s.delta := by unfold st6; split <;> rfl
end Untouched

section Body
variable (c : Dev nD) (E : Set ℕ)

/-- The word a table holds for a grid point. -/
abbrev tw (t : S136.Idx → BitVec 32) (i : grid0.Coords) : BitVec 32 :=
  t ((Rect.unit (s := S136) (k0_off1 i) S1.size (k0_off1_inb i)).emb (Shape.Idx.first (numel1_S1.symm ▸ Nat.one_pos)))

theorem chk1_all (j : Fin 16) (v5 : BitVec 32) : k0_chk1 (wd j) v5 := fun _ a => by rw [off2_eq]; exact inb_d j a

theorem chk2_all (k j : Fin 16) : k0_chk2 (wd k) (wd j) :=
  ⟨fun _ a => by rw [off3_eq]; exact inb_d j a, fun _ a => by rw [off4_eq]; exact inb_q j a,
    fun _ a => by rw [off5_eq]; exact inb_d j a, fun _ a => by rw [off6_eq]; exact inb_q j a⟩

set_option maxHeartbeats 1000000 in
theorem s1_spec {α : Type} {Q : α → sProp 𝕄} (i : grid0.Coords) (arg2 arg3 arg4 : Memref sig .tc .smem S136 .i32) (q2 : PosShare TreeShare)
    (t0 t1 t2 : S136.Idx → BitVec 32) (k j : Fin 16) (v5 : BitVec 32) (ht0 : tw t0 i = wd k) (ht1 : tw t1 i = wd j) (ht2 : tw t2 i = v5)
    (κ : (v1 v3 : BitVec 32) → PLift (k0_chk2 v1 v3) → (v5 : BitVec 32) → PLift (k0_chk1 v3 v5) → Prog (TpuEff nD τ sig (Elt F) Λ₀ .tc) α) :
    iprop(owns (c : Thread nD τ) arg2 q2 t0
      ∗ owns (c : Thread nD τ) arg3 q2 t1
      ∗ owns (c : Thread nD τ) arg4 q2 t2
      ∗ ((owns (c : Thread nD τ) arg2 q2 t0
      ∗ owns (c : Thread nD τ) arg3 q2 t1
      ∗ owns (c : Thread nD τ) arg4 q2 t2)
        -∗ wp frame (wpE (defs₀ (F := F)) Variants.none c none) E (κ (wd k) (wd j) ⟨chk2_all k j⟩ v5 ⟨chk1_all j v5⟩) Q))
    ⊢ wp frame (wpE (defs₀ (F := F)) Variants.none c none) E (s1 (F := F) i arg2 arg3 arg4 κ) Q := by
  unfold s1
  subst ht2
  unfold owns
  iintro ⟨⟨%f2, %h2, H2⟩, ⟨%f3, %h3, H3⟩, ⟨%f4, %h4, H4⟩, Hk⟩
  subst h2 h3 h4
  have hc2 : k0_chk2 (tw (arg2.view.read (Elt F) f2) i) (tw (arg3.view.read (Elt F) f3) i) := by rw [ht0, ht1]; exact chk2_all k j
  have hc1 : k0_chk1 (tw (arg3.view.read (Elt F) f3) i) (tw (arg4.view.read (Elt F) f4) i) := by rw [ht1]; exact chk1_all j _
  sl_exec (disch := first | sl_exact hc1 | sl_exact hc2)
  have hκ : ∀ (w1 w3 : BitVec 32) (a : PLift (k0_chk2 w1 w3)) (b' : PLift (k0_chk1 w3 (tw (arg4.view.read (Elt F) f4) i))), w1 = wd k → w3 = wd j →
      κ w1 w3 a (tw (arg4.view.read (Elt F) f4) i) b' = κ (wd k) (wd j) ⟨chk2_all k j⟩ (tw (arg4.view.read (Elt F) f4) i) ⟨chk1_all j _⟩ := by
    rintro _ _ ⟨_⟩ ⟨_⟩ rfl rfl; rfl
  have e := hκ (tw (arg2.view.read (Elt F) f2) i) (tw (arg3.view.read (Elt F) f3) i) ⟨hc2⟩ ⟨hc1⟩ ht0 ht1
  change BIBase.Entails _ (wp frame (wpE (defs₀ (F := F)) Variants.none c none) E (κ (tw (arg2.view.read (Elt F) f2) i) (tw (arg3.view.read (Elt F) f3) i) ⟨hc2⟩
    (tw (arg4.view.read (Elt F) f4) i) ⟨hc1⟩) Q)
  rw [e]
  iintro ⟨⟨⟨H2, H3⟩, H4⟩, Hk⟩
  iapply Hk
  isplitl [H2]
  · iexists _; isplitr; swap; · iexact H2
    ipureintro; rfl
  isplitl [H3]
  · iexists _; isplitr; swap; · iexact H3
    ipureintro; rfl
  iexists _; isplitr; swap; · iexact H4
  ipureintro; rfl

set_option maxHeartbeats 4000000 in
/-- The body at a grid point of key block `k` and query block `j`: the five results and the six kept buffers after it. -/
theorem body_spec (i : grid0.Coords) (arg2 : Memref sig .tc .smem S136 .i32) (harg2 : arg2.IsWhole) (arg3 : Memref sig .tc .smem S136 .i32) (harg3 : arg3.IsWhole) (arg4 : Memref sig .tc .smem S136 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S1x512x1 .f32) (harg14 : arg14.IsWhole) (arg15 : Memref sig .tc .vmem S128x8192 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S1x512x1 .f32) (harg18 : arg18.IsWhole) (arg19 : Memref sig .tc .vmem S1x1x8192 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x1 .f32) (harg22 : arg22.IsWhole) (arg23 : Memref sig .tc .vmem S16x128x512 .f32) (harg23 : arg23.IsWhole) (arg24 : Memref sig .tc .vmem S16x1x512 .f32) (harg24 : arg24.IsWhole) (arg25 : Memref sig .tc .vmem S16x1x512 .f32) (harg25 : arg25.IsWhole) (q2 : PosShare TreeShare) (t0 t1 t2 : S136.Idx → BitVec 32) (k j : Fin 16) (v5 : BitVec 32)
    (ht0 : tw t0 i = wd k) (ht1 : tw t1 i = wd j) (ht2 : tw t2 i = v5) (b : Blk F) (s : St F)
    (x15 : Vec F S128x8192 .bf16) (x16 x17 : Vec F S512x128 .bf16) (x18 : Vec F S1x512x1 .f32) (x19 : Vec F S1x1x8192 .f32) (Q : PUnit → sProp 𝕄) :
    iprop(owns (c : Thread nD τ) arg2 q2 t0
      ∗ owns (c : Thread nD τ) arg3 q2 t1
      ∗ owns (c : Thread nD τ) arg4 q2 t2
      ∗ owns (c : Thread nD τ) arg5 fullShare b.q
      ∗ owns (c : Thread nD τ) arg6 fullShare b.k
      ∗ owns (c : Thread nD τ) arg7 fullShare b.v
      ∗ owns (c : Thread nD τ) arg8 fullShare b.kt
      ∗ owns (c : Thread nD τ) arg9 fullShare b.dO
      ∗ owns (c : Thread nD τ) arg10 fullShare b.dOt
      ∗ owns (c : Thread nD τ) arg11 fullShare b.oT
      ∗ owns (c : Thread nD τ) arg12 fullShare b.lse
      ∗ owns (c : Thread nD τ) arg13 fullShare b.fq
      ∗ owns (c : Thread nD τ) arg14 fullShare b.fk
      ∗ owns (c : Thread nD τ) arg15 fullShare x15
      ∗ owns (c : Thread nD τ) arg16 fullShare x16
      ∗ owns (c : Thread nD τ) arg17 fullShare x17
      ∗ owns (c : Thread nD τ) arg18 fullShare x18
      ∗ owns (c : Thread nD τ) arg19 fullShare x19
      ∗ owns (c : Thread nD τ) arg20 fullShare s.dk
      ∗ owns (c : Thread nD τ) arg21 fullShare s.dv
      ∗ owns (c : Thread nD τ) arg22 fullShare s.dfk
      ∗ owns (c : Thread nD τ) arg23 fullShare s.dq
      ∗ owns (c : Thread nD τ) arg24 fullShare s.dfq
      ∗ owns (c : Thread nD τ) arg25 fullShare s.delta
      ∗ ((owns (c : Thread nD τ) arg2 q2 t0
      ∗ owns (c : Thread nD τ) arg3 q2 t1
      ∗ owns (c : Thread nD τ) arg4 q2 t2
      ∗ owns (c : Thread nD τ) arg5 fullShare b.q
      ∗ owns (c : Thread nD τ) arg6 fullShare b.k
      ∗ owns (c : Thread nD τ) arg7 fullShare b.v
      ∗ owns (c : Thread nD τ) arg8 fullShare b.kt
      ∗ owns (c : Thread nD τ) arg9 fullShare b.dO
      ∗ owns (c : Thread nD τ) arg10 fullShare b.dOt
      ∗ owns (c : Thread nD τ) arg11 fullShare b.oT
      ∗ owns (c : Thread nD τ) arg12 fullShare b.lse
      ∗ owns (c : Thread nD τ) arg13 fullShare b.fq
      ∗ owns (c : Thread nD τ) arg14 fullShare b.fk
      ∗ owns (c : Thread nD τ) arg15 fullShare (o15 v5 (step k j v5 b s) x15)
      ∗ owns (c : Thread nD τ) arg16 fullShare (o16 v5 (step k j v5 b s) x16)
      ∗ owns (c : Thread nD τ) arg17 fullShare (o17 v5 (step k j v5 b s) x17)
      ∗ owns (c : Thread nD τ) arg18 fullShare (o18 v5 (step k j v5 b s) x18)
      ∗ owns (c : Thread nD τ) arg19 fullShare (o19 v5 (step k j v5 b s) x19)
      ∗ owns (c : Thread nD τ) arg20 fullShare (step k j v5 b s).dk
      ∗ owns (c : Thread nD τ) arg21 fullShare (step k j v5 b s).dv
      ∗ owns (c : Thread nD τ) arg22 fullShare (step k j v5 b s).dfk
      ∗ owns (c : Thread nD τ) arg23 fullShare (step k j v5 b s).dq
      ∗ owns (c : Thread nD τ) arg24 fullShare (step k j v5 b s).dfq
      ∗ owns (c : Thread nD τ) arg25 fullShare (step k j v5 b s).delta) -∗ Q ⟨⟩))
    ⊢ wp frame (wpE (defs₀ (F := F)) Variants.none c none) E (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
  rw [cc0_flash_bwd_eq_skeleton]; unfold cc0_flash_bwd_skel
  rw [k0_part11_eq_skeleton, s1.eq, wp_bind]
  unfold step
  have h2 := fun (κ : Prog (TpuEff nD τ sig (Elt F) Λ₀ .tc) PUnit) (Q : PUnit → sProp 𝕄) => s2_spec (Q := Q) (arg23 := arg23) (arg24 := arg24) c E κ v5 s
  have h3 := fun (κ : Prog (TpuEff nD τ sig (Elt F) Λ₀ .tc) PUnit) (Q : PUnit → sProp 𝕄) => s3_spec (Q := Q) (arg20 := arg20) (arg21 := arg21) (arg22 := arg22) c E κ v5 (st2 v5 s)
  simp only [st2_dk, st2_dv, st2_dfk, st2_delta, st3_dq, st3_dfq, st3_delta, st4_dk, st4_dv, st4_dfk, st4_dq, st4_dfq, st5_delta, st6_delta] at h3
  have h4 := fun (κ : Prog (TpuEff nD τ sig (Elt F) Λ₀ .tc) PUnit) (Q : PUnit → sProp 𝕄) => s4_spec (Q := Q) (arg10 := arg10) (arg11 := arg11) (arg25 := arg25) c E κ j v5 ⟨chk1_all j v5⟩ b (st3 v5 (st2 v5 s))
  simp only [st2_dk, st2_dv, st2_dfk, st2_delta, st3_dq, st3_dfq, st3_delta, st4_dk, st4_dv, st4_dfk, st4_dq, st4_dfq, st5_delta, st6_delta] at h4
  have h5 := fun (κ : Prog (TpuEff nD τ sig (Elt F) Λ₀ .tc) PUnit) (Q : PUnit → sProp 𝕄) => s5_spec (Q := Q)  c E κ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k j ⟨chk2_all k j⟩ b (st4 j v5 b (st3 v5 (st2 v5 s)))
  simp only [st2_dk, st2_dv, st2_dfk, st2_delta, st3_dq, st3_dfq, st3_delta, st4_dk, st4_dv, st4_dfk, st4_dq, st4_dfq, st5_delta, st6_delta] at h5
  have h6 := fun (κ : Prog (TpuEff nD τ sig (Elt F) Λ₀ .tc) PUnit) (Q : PUnit → sProp 𝕄) => s6_spec (Q := Q)  c E κ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k j ⟨chk2_all k j⟩ b (st5 k j b (st4 j v5 b (st3 v5 (st2 v5 s))))
  simp only [st2_dk, st2_dv, st2_dfk, st2_delta, st3_dq, st3_dfq, st3_delta, st4_dk, st4_dv, st4_dfk, st4_dq, st4_dfq, st5_delta, st6_delta] at h6
  have h7 := fun (κ : Prog (TpuEff nD τ sig (Elt F) Λ₀ .tc) PUnit) (Q : PUnit → sProp 𝕄) => s7_spec (Q := Q) (arg18 := arg18) (arg20 := arg20) (arg21 := arg21) (arg22 := arg22) c E κ harg16 harg17 v5 (st6 k j b (st5 k j b (st4 j v5 b (st3 v5 (st2 v5 s))))) x16 x17 x18
  simp only [st2_dk, st2_dv, st2_dfk, st2_delta, st3_dq, st3_dfq, st3_delta, st4_dk, st4_dv, st4_dfk, st4_dq, st4_dfq, st5_delta, st6_delta] at h7
  have h8 := fun (κ : Prog (TpuEff nD τ sig (Elt F) Λ₀ .tc) PUnit) (Q : PUnit → sProp 𝕄) => s8_spec (Q := Q)  c E κ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 (st6 k j b (st5 k j b (st4 j v5 b (st3 v5 (st2 v5 s))))) x15 x19
  simp only [st2_dk, st2_dv, st2_dfk, st2_delta, st3_dq, st3_dfq, st3_delta, st4_dk, st4_dv, st4_dfk, st4_dq, st4_dfq, st5_delta, st6_delta] at h8
  simp only [st2_dk, st2_dv, st2_dfk, st2_delta, st3_dq, st3_dfq, st3_delta, st4_dk, st4_dv, st4_dfk, st4_dq, st4_dfq, st5_delta, st6_delta]
  iintro ⟨H2, H3, H4, H5, H6, H7, H8, H9, H10, H11, H12, H13, H14, H15, H16, H17, H18, H19, H20, H21, H22, H23, H24, H25, Hk⟩
  iapply (s1_spec c E i arg2 arg3 arg4 q2 t0 t1 t2 k j v5 ht0 ht1 ht2)
  iframe H2 H3 H4
  iintro ⟨H2, H3, H4⟩
  rw [s2.eq]
  iapply (h2 _ _)
  iframe H23 H24
  iintro ⟨H23, H24⟩
  rw [s3.eq]
  iapply (h3 _ _)
  iframe H20 H21 H22
  iintro ⟨H20, H21, H22⟩
  rw [s4.eq]
  iapply (h4 _ _)
  iframe H10 H11 H25
  iintro ⟨H10, H11, H25⟩
  rw [s5.eq]
  iapply (h5 _ _)
  iframe H5 H6 H7 H8 H9 H12 H13 H14 H20 H21 H22 H23 H24 H25
  iintro ⟨H5, H6, H7, H8, H9, H12, H13, H14, H20, H21, H22, H23, H24, H25⟩
  rw [s6.eq]
  iapply (h6 _ _)
  iframe H5 H6 H7 H8 H9 H12 H13 H14 H20 H21 H22 H23 H24 H25
  iintro ⟨H5, H6, H7, H8, H9, H12, H13, H14, H20, H21, H22, H23, H24, H25⟩
  rw [s7.eq]
  iapply (h7 _ _)
  iframe H16 H17 H18 H20 H21 H22
  iintro ⟨H16, H17, H18, H20, H21, H22⟩
  rw [s8.eq]
  iapply (h8 _ _)
  iframe H15 H19 H23 H24
  iintro ⟨H15, H19, H23, H24⟩
  unfold s8.tail
  sl_exec
  sl_step
  iapply Hk
  iframe

end Body
end Flash
-- ==== Proof.FlashTables.lean ====
module

public import proofs.«01_k».proof.Proof.FlashBody
public import proofs.«01_k».proof.Proof.Gen.KernelIdeal.Launch

/-! # The schedule of the attention's backward call

The call visits, for each of the eight heads, the 136 pairs (block of keys, block of queries) on and
below the diagonal. Three tables of words name the pair and its flags. This module states them in closed
form, and what they make of the windows' blocks. -/

@[expose] public section

set_option maxRecDepth 16384

noncomputable section

namespace Flash

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- The block of keys and the block of queries of a head's `r`-th step. -/
def kjOf (r : Fin 136) : Fin 16 := Fin.ofNat 16 (lit0 r).toNat
def qiOf (r : Fin 136) : Fin 16 := Fin.ofNat 16 (lit1 r).toNat

theorem lit0_eq : ∀ r : Fin 136, lit0 r = wd (kjOf r) := by decide +kernel
theorem lit1_eq : ∀ r : Fin 136, lit1 r = wd (qiOf r) := by decide +kernel

theorem wd_toNat : ∀ j : Fin 16, (wd j).toNat = j.val := by decide +kernel
theorem wd_eq_zero : ∀ j : Fin 16, wd j = 0#32 ↔ j = 0 := by decide +kernel

theorem bit_last : ∀ r : Fin 136, bit (lit2 r) 2#32 ↔ qiOf r = 15 := by unfold bit; decide +kernel
theorem bit_first : ∀ r : Fin 136, bit (lit2 r) 1#32 ↔ qiOf r = kjOf r := by unfold bit; decide +kernel
theorem bit_headFirst : ∀ r : Fin 136, bit (lit2 r) 4#32 ↔ r = 0 := by unfold bit; decide +kernel
theorem bit_headLast : ∀ r : Fin 136, bit (lit2 r) 8#32 ↔ r = 135 := by unfold bit; decide +kernel
theorem bit_keyZero : ∀ r : Fin 136, bit (lit2 r) 16#32 ↔ kjOf r = 0 := by unfold bit; decide +kernel

theorem cond4_eq : ∀ k j : Fin 16, k0_cond4 (wd k) (wd j) = 1#1 ↔ k = j := by decide +kernel
theorem cond5_eq : ∀ k j : Fin 16, k0_cond5 (wd k) (wd j) = 1#1 ↔ k ≠ j := by decide +kernel

theorem kj_le_qi : ∀ r : Fin 136, kjOf r ≤ qiOf r := by decide +kernel
theorem kj_zero : kjOf 0 = 0 := by decide +kernel
theorem qi_zero : qiOf 0 = 0 := by decide +kernel
/-- The next step is the next block of queries, or the next block of keys at its diagonal. -/
theorem next_in : ∀ r r' : Fin 136, r'.val = r.val + 1 → qiOf r ≠ 15 → kjOf r' = kjOf r ∧ (qiOf r').val = (qiOf r).val + 1 := by
  decide +kernel
theorem next_out : ∀ r r' : Fin 136, r'.val = r.val + 1 → qiOf r = 15 → (kjOf r').val = (kjOf r).val + 1 ∧ qiOf r' = kjOf r' := by
  decide +kernel
theorem kj_last : kjOf 135 = 15 := by decide +kernel
theorem qi_last : qiOf 135 = 15 := by decide +kernel

/-- The tables, as the host writes them. -/
def tab0 : S136.Idx → BitVec 32 := fun i => lit0 (S136.rowMajor i)
def tab1 : S136.Idx → BitVec 32 := fun i => lit1 (S136.rowMajor i)
def tab2 : S136.Idx → BitVec 32 := fun i => lit2 (S136.rowMajor i)

theorem row_at (i : grid0.Coords) :
    S136.rowMajor ((Rect.unit (s := S136) (k0_off1 i) S1.size (k0_off1_inb i)).emb (Shape.Idx.first (numel1_S1.symm ▸ Nat.one_pos)))
      = i 1 := by
  refine Fin.ext ((Shape.rowMajor_val_one _).trans ?_)
  have h : (i 1).val < 136 := (i 1).isLt
  have h0 : k0_off1 i 0 = (i 1).val := by
    show (BitVec.ofNat 32 (i 1).val).toNat = _
    rw [BitVec.toNat_ofNat, Nat.mod_eq_of_lt (by omega)]
  refine (Rect.emb_apply _ _ _).trans ?_
  refine (congrArg₂ (fun x y => x + 1 * y) h0 (?_ : _ = 0)).trans (by omega)
  exact Nat.lt_one_iff.1 (Fin.isLt _)

theorem tw0 (i : grid0.Coords) : tw tab0 i = wd (kjOf (i 1)) := by
  unfold tw tab0; rw [row_at]; exact lit0_eq _
theorem tw1 (i : grid0.Coords) : tw tab1 i = wd (qiOf (i 1)) := by
  unfold tw tab1; rw [row_at]; exact lit1_eq _
theorem tw2 (i : grid0.Coords) : tw tab2 i = lit2 (i 1) := by
  unfold tw tab2; rw [row_at]

/-- What the call finds in its tables. -/
def tabs : pre0.Contents (Elt F)
  | 0 => tab0
  | 1 => tab1
  | 2 => tab2
  | ⟨_ + 3, h⟩ => absurd h (Nat.not_lt.2 (Nat.le_add_left _ _))

theorem at0 (i : grid0.Coords) h : (tabs (F := F)).at 0 (Rect.unit (s := S136) (k0_off1 i) S1.size (k0_off1_inb i)) h = wd (kjOf (i 1)) := tw0 i
theorem at1 (i : grid0.Coords) h : (tabs (F := F)).at 1 (Rect.unit (s := S136) (k0_off1 i) S1.size (k0_off1_inb i)) h = wd (qiOf (i 1)) := tw1 i

theorem add4 : ∀ h : Fin 8, (Scalar.addi 4#32 (BitVec.ofNat 32 h.val)).toNat = 4 + h.val := by decide +kernel
theorem add12 : ∀ h : Fin 8, (Scalar.addi 12#32 (BitVec.ofNat 32 h.val)).toNat = 12 + h.val := by decide +kernel
theorem add20 : ∀ h : Fin 8, (Scalar.addi 20#32 (BitVec.ofNat 32 h.val)).toNat = 20 + h.val := by decide +kernel
theorem hd : ∀ h : Fin 8, (BitVec.ofNat 32 h.val).toNat = h.val := by decide +kernel

/-- The block of the query-side transposes: fetched only while the first block of keys is at hand. -/
def qz (r : Fin 136) : Fin 16 := if kjOf r = 0 then qiOf r else 15

theorem sel_qz (r : Fin 136) :
    (Scalar.select (Scalar.cmpi .eq (wd (kjOf r)) 0#32) (wd (qiOf r)) 15#32).toNat = (qz r).val := by
  revert r; decide +kernel

section Maps
variable (i : grid0.Coords)
local notation "pf" => tabs (F := F)
theorem tr0 : cc0_transform_0 k0_off1_inb numel1_S1 pf i = ![(qiOf (i 1)).val, 4 + (i 0).val] := by
  unfold cc0_transform_0; dsimp only; congr 1
  · rw [← wd_toNat]; exact congrArg BitVec.toNat (at1 i _)
  · congr 1; exact add4 (i 0)
theorem tr1 : cc0_transform_1 k0_off1_inb numel1_S1 pf i = ![(kjOf (i 1)).val, 12 + (i 0).val] := by
  unfold cc0_transform_1; dsimp only; congr 1
  · rw [← wd_toNat]; exact congrArg BitVec.toNat (at0 i _)
  · congr 1; exact add12 (i 0)
theorem tr2 : cc0_transform_2 k0_off1_inb numel1_S1 pf i = ![(kjOf (i 1)).val, 20 + (i 0).val] := by
  unfold cc0_transform_2; dsimp only; congr 1
  · rw [← wd_toNat]; exact congrArg BitVec.toNat (at0 i _)
  · congr 1; exact add20 (i 0)
theorem tr3 : cc0_transform_3 k0_off1_inb numel1_S1 pf i = ![(i 0).val, (kjOf (i 1)).val] := by
  unfold cc0_transform_3; dsimp only; congr 1
  · exact hd (i 0)
  · congr 1; rw [← wd_toNat]; exact congrArg BitVec.toNat (at0 i _)
theorem tr4 : cc0_transform_4 k0_off1_inb numel1_S1 pf i = ![(qiOf (i 1)).val, 4 + (i 0).val] := by
  unfold cc0_transform_4; dsimp only; congr 1
  · rw [← wd_toNat]; exact congrArg BitVec.toNat (at1 i _)
  · congr 1; exact add4 (i 0)
theorem tr5 : cc0_transform_5 k0_off1_inb numel1_S1 pf i = ![(i 0).val, (qz (i 1)).val] := by
  unfold cc0_transform_5; dsimp only; congr 1
  · exact hd (i 0)
  · congr 1; refine Eq.trans ?_ (sel_qz (i 1))
    exact congrArg₂ (fun x y : BitVec 32 => (Scalar.select (Scalar.cmpi .eq x 0#32) y 15#32).toNat) (at0 i _) (at1 i _)
theorem tr6 : cc0_transform_6 k0_off1_inb numel1_S1 pf i = ![(i 0).val, (qz (i 1)).val] := by
  unfold cc0_transform_6; dsimp only; congr 1
  · exact hd (i 0)
  · congr 1; refine Eq.trans ?_ (sel_qz (i 1))
    exact congrArg₂ (fun x y : BitVec 32 => (Scalar.select (Scalar.cmpi .eq x 0#32) y 15#32).toNat) (at0 i _) (at1 i _)
theorem tr7 : cc0_transform_7 k0_off1_inb numel1_S1 pf i = ![(i 0).val, 0, (qiOf (i 1)).val] := by
  unfold cc0_transform_7; dsimp only; congr 1
  · exact hd (i 0)
  · congr 1; congr 1; rw [← wd_toNat]; exact congrArg BitVec.toNat (at1 i _)
theorem tr8 : cc0_transform_8 k0_off1_inb numel1_S1 pf i = ![(i 0).val, 0, (qiOf (i 1)).val] := by
  unfold cc0_transform_8; dsimp only; congr 1
  · exact hd (i 0)
  · congr 1; congr 1; rw [← wd_toNat]; exact congrArg BitVec.toNat (at1 i _)
theorem tr9 : cc0_transform_9 k0_off1_inb numel1_S1 pf i = ![(i 0).val, (kjOf (i 1)).val, 0] := by
  unfold cc0_transform_9; dsimp only; congr 1
  · exact hd (i 0)
  · congr 1; rw [← wd_toNat]; exact congrArg BitVec.toNat (at0 i _)
theorem tr11 : cc0_transform_11 k0_off1_inb numel1_S1 pf i = ![(kjOf (i 1)).val, (i 0).val] := by
  unfold cc0_transform_11; dsimp only; congr 1
  · rw [← wd_toNat]; exact congrArg BitVec.toNat (at0 i _)
  · congr 1; exact hd (i 0)
theorem tr12 : cc0_transform_12 k0_off1_inb numel1_S1 pf i = ![(kjOf (i 1)).val, (i 0).val] := by
  unfold cc0_transform_12; dsimp only; congr 1
  · rw [← wd_toNat]; exact congrArg BitVec.toNat (at0 i _)
  · congr 1; exact hd (i 0)
theorem tr13 : cc0_transform_13 k0_off1_inb numel1_S1 pf i = ![(i 0).val, (kjOf (i 1)).val, 0] := by
  unfold cc0_transform_13; dsimp only; congr 1
  · exact hd (i 0)
  · congr 1; rw [← wd_toNat]; exact congrArg BitVec.toNat (at0 i _)
end Maps

/-- A block whose rows are a multiple of the packing is whole words. -/
theorem words_of_dvd {s : Shape} {p : Nat} (h2 : 2 ≤ s.rank) {size ix : Fin s.rank → Nat} (inb : ∀ a, (ix a + 1) * size a ≤ s.size a)
    (h : p ∣ size (s.rowAx h2)) : (Rect.block (s := s) size ix inb).WholeWords p :=
  .inl (.inr ⟨h2, rfl, .inl ⟨h.mul_left _, h⟩⟩)

theorem ok_tabs : ok0 (F := F) tabs := by
  have hh (i : grid0.Coords) : (i 0).val < 8 := (i 0).isLt
  unfold ok0
  refine ⟨fun i => ?_, fun i => ?_, fun i => ?_, fun i => ?_, fun i => ?_, fun i => ?_, fun i => ?_, fun i => ?_, fun i => ?_,
    fun i => ?_, fun i => ?_, fun i => ?_, fun i => ?_⟩
  · rw [tr0]; have := hh i; have := (qiOf (i 1)).isLt; exact ⟨by intro a; fin_cases a <;> simp <;> omega, .inl rfl⟩
  · rw [tr1]; have := hh i; have := (kjOf (i 1)).isLt; exact ⟨by intro a; fin_cases a <;> simp <;> omega, .inl rfl⟩
  · rw [tr2]; have := hh i; have := (kjOf (i 1)).isLt; exact ⟨by intro a; fin_cases a <;> simp <;> omega, .inl rfl⟩
  · rw [tr3]; have := hh i; have := (kjOf (i 1)).isLt
    exact ⟨by intro a; fin_cases a <;> simp <;> omega, .inr (words_of_dvd (by decide) _ (by decide))⟩
  · rw [tr4]; have := hh i; have := (qiOf (i 1)).isLt; exact ⟨by intro a; fin_cases a <;> simp <;> omega, .inl rfl⟩
  · rw [tr5]; have := hh i; have := (qz (i 1)).isLt; exact ⟨by intro a; fin_cases a <;> simp <;> omega, .inl rfl⟩
  · rw [tr6]; have := hh i; have := (qz (i 1)).isLt; exact ⟨by intro a; fin_cases a <;> simp <;> omega, .inl rfl⟩
  · rw [tr7]; have := hh i; have := (qiOf (i 1)).isLt; exact ⟨by intro a; fin_cases a <;> simp <;> omega, .inl rfl⟩
  · rw [tr8]; have := hh i; have := (qiOf (i 1)).isLt; exact ⟨by intro a; fin_cases a <;> simp <;> omega, .inl rfl⟩
  · rw [tr9]; have := hh i; have := (kjOf (i 1)).isLt; exact ⟨by intro a; fin_cases a <;> simp <;> omega, .inl rfl⟩
  · rw [tr11]; have := hh i; have := (kjOf (i 1)).isLt
    exact ⟨by intro a; fin_cases a <;> simp <;> omega, .inr (words_of_dvd (by decide) _ (by decide))⟩
  · rw [tr12]; have := hh i; have := (kjOf (i 1)).isLt
    exact ⟨by intro a; fin_cases a <;> simp <;> omega, .inr (words_of_dvd (by decide) _ (by decide))⟩
  · rw [tr13]; have := hh i; have := (kjOf (i 1)).isLt; exact ⟨by intro a; fin_cases a <;> simp <;> omega, .inl rfl⟩

/-- The tables are admissible. -/
def adm : (p : Fin 1) → (pcfgs (F := F) p).Adm
  | 0 => ⟨tabs, ok_tabs⟩
  | ⟨_ + 1, h⟩ => absurd h (Nat.not_lt.2 (Nat.le_add_left _ _))

/-- A grid point's head and step. -/
theorem coord0 (t : Fin grid0.N) : (grid0.coords t 0).val = t.val / 136 := by
  have h : t.val < 1088 := N_0 ▸ t.isLt
  have := Pipeline.Grid.coords_val t 0 (S := 136) (B := 8) (by decide +kernel) rfl
  omega
theorem coord1 (t : Fin grid0.N) : (grid0.coords t 1).val = t.val % 136 := by
  have := Pipeline.Grid.coords_val t 1 (S := 1) (B := 136) (by decide +kernel) rfl
  omega

end Flash
-- ==== Proof.FlashFrame.lean ====
module

public import proofs.«01_k».proof.Proof.FlashTables
public import Idealize.ShloMosaic.Lib.Pipeline.FrameBody
public import Idealize.ShloMosaic.Lib.Pipeline.ArrRel
public import Idealize.ShloMosaic.Lib.Claim

/-! # The run of the attention's backward call

What the body finds in its scratch buffers at a grid point is what the points before it left, begun from
anything at the first point (`Reach`). With that as the pipeline's invariant every point's body runs, and
so does the whole program. -/

@[expose] public section

set_option maxRecDepth 16384

noncomputable section

namespace Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- The pipeline at its tables. -/
abbrev cf : Pipeline.Cfg sig Λ₀ := cfg0 (F := F) (adm 0)

variable (m : (ℓ : Loc nD τ sig) → Buf (Elt F) ℓ) (ρ : Dev nD → PrngReg)

/-- What a buffer holds when the call begins: the host's operations on the launch memory. -/
def V (c : Dev nD) (b : Ref sig .tc) : Buf (Elt F) ((c : Thread nD τ).loc b) :=
  StableHlo.after (List.flatten [hostOps0, hostOps0_1, hostOps0_2]) (fun b => m (c, b)) b

/-- A window's block at a point. -/
def ib (c : Dev nD) (w : Fin (cf (F := F)).W) (t : Fin (cf (F := F)).N) :
    (((cf (F := F)).win w).xblock ((cf (F := F)).grid.coords t)).Idx → Elt F ((cf (F := F)).win w).elt :=
  (((cf (F := F)).win w).blk t).view.read (Elt F) (V m c (Pipeline.arrRef spec0 w))

/-- The blocks a point reads, -/
def blkAt (c : Dev nD) (t : Fin (cf (F := F)).N) : Blk F :=
  ⟨ib m c 0 t, ib m c 1 t, ib m c 2 t, ib m c 3 t, ib m c 4 t, ib m c 5 t, ib m c 6 t, ib m c 7 t, ib m c 8 t, ib m c 9 t⟩

abbrev rowAt (t : Fin grid0.N) : Fin 136 := grid0.coords t 1

/-- and what it makes of the scratch buffers. -/
def stepAt (c : Dev nD) (t : Fin (cf (F := F)).N) (s : St F) : St F :=
  step (kjOf (rowAt t)) (qiOf (rowAt t)) (lit2 (rowAt t)) (blkAt m c t) s

/-- What the scratch buffers may hold before a point. -/
def Reach (c : Dev nD) : ℕ → St F → Prop
  | 0, _ => True
  | n + 1, s' => ∃ h : n < (cf (F := F)).N, ∃ s, Reach c n s ∧ s' = stepAt m c ⟨n, h⟩ s

/-- The scratch buffers, the tables and the generator's register. -/
def PhiS (c : Dev nD) (s : St F) : sProp 𝕄 :=
  iprop(owns (c : Thread nD τ) (Memref.whole cc0_scratch0) fullShare s.dk
    ∗ owns (c : Thread nD τ) (Memref.whole cc0_scratch1) fullShare s.dv
    ∗ owns (c : Thread nD τ) (Memref.whole cc0_scratch2) fullShare s.dfk
    ∗ owns (c : Thread nD τ) (Memref.whole cc0_scratch3) fullShare s.dq
    ∗ owns (c : Thread nD τ) (Memref.whole cc0_scratch4) fullShare s.dfq
    ∗ owns (c : Thread nD τ) (Memref.whole cc0_scratch5) fullShare s.delta)

def PhiT (c : Dev nD) : sProp 𝕄 :=
  iprop(owns (c : Thread nD τ) (Memref.whole main_c) fullShare.right tab0
    ∗ owns (c : Thread nD τ) (Memref.whole main_c_0) fullShare.right tab1
    ∗ owns (c : Thread nD τ) (Memref.whole main_c_1) fullShare.right tab2)

def Phi (c : Dev nD) (n : ℕ) : sProp 𝕄 :=
  iprop((∃ s, ⌜Reach m c n s⌝ ∗ PhiS c s) ∗ PhiT c ∗ ∃ r, prngReg c r)

/-- What the body may leave in a window's buffer. -/
def afterW (c : Dev nD) (w : Fin (cf (F := F)).W) (t : Fin (cf (F := F)).N) :
    (Y X : ((cf (F := F)).win w).block.Idx → Elt F ((cf (F := F)).win w).elt) → Prop :=
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ => fun Y X => X = Y
  | ⟨10, _⟩ => fun Y X => ∃ s, Reach m c t.val s ∧ X = o15 (lit2 (rowAt t)) (stepAt m c t s) Y
  | ⟨11, _⟩ => fun Y X => ∃ s, Reach m c t.val s ∧ X = o16 (lit2 (rowAt t)) (stepAt m c t s) Y
  | ⟨12, _⟩ => fun Y X => ∃ s, Reach m c t.val s ∧ X = o17 (lit2 (rowAt t)) (stepAt m c t s) Y
  | ⟨13, _⟩ => fun Y X => ∃ s, Reach m c t.val s ∧ X = o18 (lit2 (rowAt t)) (stepAt m c t s) Y
  | ⟨14, _⟩ => fun Y X => ∃ s, Reach m c t.val s ∧ X = o19 (lit2 (rowAt t)) (stepAt m c t s) Y
  | ⟨_ + 15, h⟩ => absurd h (Nat.not_lt.2 (Nat.le_add_left _ _))

/-- The pipeline's proof data. -/
def rdat (c : Dev nD) : RDat τ (Elt F) Unit ℕ (UR sig nD τ) ℕ (cf (F := F)) c where
  A w := V m c (Pipeline.arrRef spec0 w)
  after := afterW m c
  Φ t := Phi m c t.val
  q := Pipeline.shareOf spec0
  owed _ := 0

theorem A_eq (c : Dev nD) (w : Fin (cf (F := F)).W) : (rdat m c).A w = V m c (Pipeline.arrRef spec0 w) := by
  dsimp only [rdat]

/-- An input's buffer holds its block at every point. -/
theorem finds_in (c : Dev nD) (w : Fin (cf (F := F)).W) (hw : ((cf (F := F)).win w).isOut = false)
    (hk : ∀ t Y X, afterW m c w t Y X → X = Y) (t : Fin (cf (F := F)).N) (Y) (h : (rdat m c).Finds w t Y) :
    ∃ d, Y = (rdat m c).fetched w t d :=
  (rdat m c).finds_in_eq_fetched w hw (fun _ _ _ => rfl) hk t Y h

section Finds
variable (c : Dev nD) (t : Fin (cf (F := F)).N)
theorem finds0 (Y) (h : (rdat m c).Finds 0 t Y) : Y = (blkAt m c t).q :=
  let ⟨_, e⟩ := finds_in m c 0 rfl (fun _ _ _ h => h) t Y h; e.trans rfl
theorem finds1 (Y) (h : (rdat m c).Finds 1 t Y) : Y = (blkAt m c t).k :=
  let ⟨_, e⟩ := finds_in m c 1 rfl (fun _ _ _ h => h) t Y h; e.trans rfl
theorem finds2 (Y) (h : (rdat m c).Finds 2 t Y) : Y = (blkAt m c t).v :=
  let ⟨_, e⟩ := finds_in m c 2 rfl (fun _ _ _ h => h) t Y h; e.trans rfl
theorem finds3 (Y) (h : (rdat m c).Finds 3 t Y) : Y = (blkAt m c t).kt :=
  let ⟨_, e⟩ := finds_in m c 3 rfl (fun _ _ _ h => h) t Y h; e.trans rfl
theorem finds4 (Y) (h : (rdat m c).Finds 4 t Y) : Y = (blkAt m c t).dO :=
  let ⟨_, e⟩ := finds_in m c 4 rfl (fun _ _ _ h => h) t Y h; e.trans rfl
theorem finds5 (Y) (h : (rdat m c).Finds 5 t Y) : Y = (blkAt m c t).dOt :=
  let ⟨_, e⟩ := finds_in m c 5 rfl (fun _ _ _ h => h) t Y h; e.trans rfl
theorem finds6 (Y) (h : (rdat m c).Finds 6 t Y) : Y = (blkAt m c t).oT :=
  let ⟨_, e⟩ := finds_in m c 6 rfl (fun _ _ _ h => h) t Y h; e.trans rfl
theorem finds7 (Y) (h : (rdat m c).Finds 7 t Y) : Y = (blkAt m c t).lse :=
  let ⟨_, e⟩ := finds_in m c 7 rfl (fun _ _ _ h => h) t Y h; e.trans rfl
theorem finds8 (Y) (h : (rdat m c).Finds 8 t Y) : Y = (blkAt m c t).fq :=
  let ⟨_, e⟩ := finds_in m c 8 rfl (fun _ _ _ h => h) t Y h; e.trans rfl
theorem finds9 (Y) (h : (rdat m c).Finds 9 t Y) : Y = (blkAt m c t).fk :=
  let ⟨_, e⟩ := finds_in m c 9 rfl (fun _ _ _ h => h) t Y h; e.trans rfl
end Finds

/-- A buffer held whole is owned as a memref, -/
theorem own_whole (c : Dev nD) (b : Ref sig .tc) (q : PosShare TreeShare) (f : Buf (Elt F) ((c : Thread nD τ).loc b)) :
    (((c : Thread nD τ).loc b) ↦{q} f : sProp 𝕄) ⊢ owns (c : Thread nD τ) (Memref.whole b) q f := by
  unfold owns
  iintro H; iexists f
  isplitr
  · ipureintro; rfl
  · rw [show (Memref.whole b).view.set = Finset.univ from View.set_whole b]
    iexact H
/-- and back. -/
theorem whole_own (c : Dev nD) (b : Ref sig .tc) (q : PosShare TreeShare) (f : Buf (Elt F) ((c : Thread nD τ).loc b)) :
    owns (c : Thread nD τ) (Memref.whole b) q f ⊢ (((c : Thread nD τ).loc b) ↦{q} f : sProp 𝕄) := by
  unfold owns
  iintro ⟨%g, %h, H⟩
  have e : g = f := h
  subst e
  rw [show (Memref.whole b).view.set = Finset.univ from View.set_whole b]
  iexact H

end Flash
-- ==== Proof.FlashRun.lean ====
module

public import proofs.«01_k».proof.Proof.FlashFrame
public import Idealize.ShloMosaic.Lib.Pipeline.FrameBody
public import Idealize.ShloMosaic.Lib.Pipeline.ArrRel
public import Idealize.ShloMosaic.Lib.Claim

/-! # The run, from its points -/

@[expose] public section

set_option maxRecDepth 16384

noncomputable section

namespace Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem pref3 (c : Dev nD) : (Pipeline.ΦT pre0 (tabs (F := F)) c : sProp 𝕄)
    = iprop((((c : Thread nD τ).loc main_c) ↦{fullShare.right} tab0) ∗ (((c : Thread nD τ).loc main_c_0) ↦{fullShare.right} tab1)
      ∗ (((c : Thread nD τ).loc main_c_1) ↦{fullShare.right} tab2)) :=
  bigSep_univ_eq_bigSepL [(0 : Fin 3), (1 : Fin 3), (2 : Fin 3)] (by decide) (by decide) _

theorem hin (c : Dev nD) : iprop(Pipeline.ΦA spec0 c ∗ Pipeline.ΦT pre0 (tabs (F := F)) c) ⊢ (Phi m c 0 : sProp 𝕄) := by
  rw [pref3]
  unfold Pipeline.ΦA Phi PhiS PhiT
  rw [scopedRest0_eq]
  iintro ⟨⟨⟨⟨%f0, H0⟩, ⟨%f1, H1⟩, ⟨%f2, H2⟩, ⟨%f3, H3⟩, ⟨%f4, H4⟩, ⟨%f5, H5⟩⟩, Hp⟩, T0, T1, T2⟩
  isplitl [H0 H1 H2 H3 H4 H5]
  · iexists (⟨f0, f1, f2, f3, f4, f5⟩ : St F)
    isplitr
    · ipureintro; trivial
    isplitl [H0]; · iapply (own_whole c cc0_scratch0 fullShare f0); iexact H0
    isplitl [H1]; · iapply (own_whole c cc0_scratch1 fullShare f1); iexact H1
    isplitl [H2]; · iapply (own_whole c cc0_scratch2 fullShare f2); iexact H2
    isplitl [H3]; · iapply (own_whole c cc0_scratch3 fullShare f3); iexact H3
    isplitl [H4]; · iapply (own_whole c cc0_scratch4 fullShare f4); iexact H4
    iapply (own_whole c cc0_scratch5 fullShare f5); iexact H5
  isplitl [T0 T1 T2]
  · isplitl [T0]; · iapply (own_whole c main_c fullShare.right tab0); iexact T0
    isplitl [T1]; · iapply (own_whole c main_c_0 fullShare.right tab1); iexact T1
    iapply (own_whole c main_c_1 fullShare.right tab2); iexact T2
  iexact Hp

theorem hout (c : Dev nD) (n : ℕ) : (Phi m c n : sProp 𝕄) ⊢ Pipeline.ΦA spec0 c := by
  unfold Pipeline.ΦA Phi PhiS
  rw [scopedRest0_eq]
  iintro ⟨⟨%s, %hs, H0, H1, H2, H3, H4, H5⟩, HT, Hp⟩
  isplitr [Hp]
  · isplitl [H0]; · iexists s.dk; iapply (whole_own c cc0_scratch0 fullShare s.dk); iexact H0
    isplitl [H1]; · iexists s.dv; iapply (whole_own c cc0_scratch1 fullShare s.dv); iexact H1
    isplitl [H2]; · iexists s.dfk; iapply (whole_own c cc0_scratch2 fullShare s.dfk); iexact H2
    isplitl [H3]; · iexists s.dq; iapply (whole_own c cc0_scratch3 fullShare s.dq); iexact H3
    isplitl [H4]; · iexists s.dfq; iapply (whole_own c cc0_scratch4 fullShare s.dfq); iexact H4
    iexists s.delta; iapply (whole_own c cc0_scratch5 fullShare s.delta); iexact H5
  iexact Hp

/-- The body's row of the program's table. -/
theorem row (t : Fin (cf (F := F)).N) : defs₀ (F := F) .tc (cf (F := F)).body ((cf (F := F)).bodyArgs t ((cf (F := F)).slots t)) = cc0_flash_bwd (F := F) (grid0.coords t) (Memref.whole main_c) (Memref.isWhole_whole _) (Memref.whole main_c_0) (Memref.isWhole_whole _) (Memref.whole main_c_1) (Memref.isWhole_whole _) (spec0_0.stage ((cf (F := F)).slots t 0)) (hstage0_0 (((cf (F := F)).slots t 0).cast nbuf0_0)) (spec0_1.stage ((cf (F := F)).slots t 1)) (hstage0_1 (((cf (F := F)).slots t 1).cast nbuf0_1)) (spec0_2.stage ((cf (F := F)).slots t 2)) (hstage0_2 (((cf (F := F)).slots t 2).cast nbuf0_2)) (spec0_3.stage ((cf (F := F)).slots t 3)) (hstage0_3 (((cf (F := F)).slots t 3).cast nbuf0_3)) (spec0_4.stage ((cf (F := F)).slots t 4)) (hstage0_4 (((cf (F := F)).slots t 4).cast nbuf0_4)) (spec0_5.stage ((cf (F := F)).slots t 5)) (hstage0_5 (((cf (F := F)).slots t 5).cast nbuf0_5)) (spec0_6.stage ((cf (F := F)).slots t 6)) (hstage0_6 (((cf (F := F)).slots t 6).cast nbuf0_6)) (spec0_7.stage ((cf (F := F)).slots t 7)) (hstage0_7 (((cf (F := F)).slots t 7).cast nbuf0_7)) (spec0_8.stage ((cf (F := F)).slots t 8)) (hstage0_8 (((cf (F := F)).slots t 8).cast nbuf0_8)) (spec0_9.stage ((cf (F := F)).slots t 9)) (hstage0_9 (((cf (F := F)).slots t 9).cast nbuf0_9)) (spec0_10.stage ((cf (F := F)).slots t 10)) (hstage0_10 (((cf (F := F)).slots t 10).cast nbuf0_10)) (spec0_11.stage ((cf (F := F)).slots t 11)) (hstage0_11 (((cf (F := F)).slots t 11).cast nbuf0_11)) (spec0_12.stage ((cf (F := F)).slots t 12)) (hstage0_12 (((cf (F := F)).slots t 12).cast nbuf0_12)) (spec0_13.stage ((cf (F := F)).slots t 13)) (hstage0_13 (((cf (F := F)).slots t 13).cast nbuf0_13)) (spec0_14.stage ((cf (F := F)).slots t 14)) (hstage0_14 (((cf (F := F)).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := by
  unfold defs₀; rw [Defs.onTc_tc]

section Facts
variable (c : Dev nD) (t : Fin (cf (F := F)).N)
theorem Phi_at (u) : (rdat m c).Φ u = Phi m c u.val := by dsimp only [rdat]
theorem Phi_cast : Phi m c t.castSucc.val = Phi m c t.val := congrArg (Phi m c) (Fin.val_castSucc t)
theorem Phi_succ : Phi m c t.succ.val = Phi m c (t.val + 1) := congrArg (Phi m c) (Fin.val_succ t)
theorem owes_at (u u') : (rdat m c).owesAt () u = (rdat m c).owesAt () u' := rfl
end Facts

set_option maxHeartbeats 400000 in
theorem body_ok (c : Dev nD) : (rdat m c).BodyObligation (defs₀ (F := F)) Variants.none () Set.univ := fun t Y hY => by
  rw [bigSep_W0, bigSep_W0, row, Phi_at, Phi_at, Phi_cast, Phi_succ, owes_at m c t.succ t.castSucc]
  unfold Phi PhiS PhiT
  iintro ⟨⟨⟨%s, %hs, S0, S1, S2, S3, S4, S5⟩, ⟨T0, T1, T2⟩, Hp⟩, Ho, W0, W1, W2, W3, W4, W5, W6, W7, W8, W9, W10, W11, W12, W13, W14⟩
  iapply (body_spec c Set.univ (grid0.coords t) (Memref.whole main_c) (Memref.isWhole_whole _) (Memref.whole main_c_0) (Memref.isWhole_whole _) (Memref.whole main_c_1) (Memref.isWhole_whole _) (spec0_0.stage ((cf (F := F)).slots t 0)) (hstage0_0 (((cf (F := F)).slots t 0).cast nbuf0_0)) (spec0_1.stage ((cf (F := F)).slots t 1)) (hstage0_1 (((cf (F := F)).slots t 1).cast nbuf0_1)) (spec0_2.stage ((cf (F := F)).slots t 2)) (hstage0_2 (((cf (F := F)).slots t 2).cast nbuf0_2)) (spec0_3.stage ((cf (F := F)).slots t 3)) (hstage0_3 (((cf (F := F)).slots t 3).cast nbuf0_3)) (spec0_4.stage ((cf (F := F)).slots t 4)) (hstage0_4 (((cf (F := F)).slots t 4).cast nbuf0_4)) (spec0_5.stage ((cf (F := F)).slots t 5)) (hstage0_5 (((cf (F := F)).slots t 5).cast nbuf0_5)) (spec0_6.stage ((cf (F := F)).slots t 6)) (hstage0_6 (((cf (F := F)).slots t 6).cast nbuf0_6)) (spec0_7.stage ((cf (F := F)).slots t 7)) (hstage0_7 (((cf (F := F)).slots t 7).cast nbuf0_7)) (spec0_8.stage ((cf (F := F)).slots t 8)) (hstage0_8 (((cf (F := F)).slots t 8).cast nbuf0_8)) (spec0_9.stage ((cf (F := F)).slots t 9)) (hstage0_9 (((cf (F := F)).slots t 9).cast nbuf0_9)) (spec0_10.stage ((cf (F := F)).slots t 10)) (hstage0_10 (((cf (F := F)).slots t 10).cast nbuf0_10)) (spec0_11.stage ((cf (F := F)).slots t 11)) (hstage0_11 (((cf (F := F)).slots t 11).cast nbuf0_11)) (spec0_12.stage ((cf (F := F)).slots t 12)) (hstage0_12 (((cf (F := F)).slots t 12).cast nbuf0_12)) (spec0_13.stage ((cf (F := F)).slots t 13)) (hstage0_13 (((cf (F := F)).slots t 13).cast nbuf0_13)) (spec0_14.stage ((cf (F := F)).slots t 14)) (hstage0_14 (((cf (F := F)).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right tab0 tab1 tab2
    (kjOf (rowAt t)) (qiOf (rowAt t)) (lit2 (rowAt t)) (tw0 _) (tw1 _) (tw2 _) (blkAt m c t) s (Y 10) (Y 11) (Y 12) (Y 13) (Y 14) _)
  isplitl [T0]; · iexact T0
  isplitl [T1]; · iexact T1
  isplitl [T2]; · iexact T2
  isplitl [W0]; · rw [finds0 m c t (Y 0) (hY 0)]; iexact W0
  isplitl [W1]; · rw [finds1 m c t (Y 1) (hY 1)]; iexact W1
  isplitl [W2]; · rw [finds2 m c t (Y 2) (hY 2)]; iexact W2
  isplitl [W3]; · rw [finds3 m c t (Y 3) (hY 3)]; iexact W3
  isplitl [W4]; · rw [finds4 m c t (Y 4) (hY 4)]; iexact W4
  isplitl [W5]; · rw [finds5 m c t (Y 5) (hY 5)]; iexact W5
  isplitl [W6]; · rw [finds6 m c t (Y 6) (hY 6)]; iexact W6
  isplitl [W7]; · rw [finds7 m c t (Y 7) (hY 7)]; iexact W7
  isplitl [W8]; · rw [finds8 m c t (Y 8) (hY 8)]; iexact W8
  isplitl [W9]; · rw [finds9 m c t (Y 9) (hY 9)]; iexact W9
  isplitl [W10]; · iexact W10
  isplitl [W11]; · iexact W11
  isplitl [W12]; · iexact W12
  isplitl [W13]; · iexact W13
  isplitl [W14]; · iexact W14
  isplitl [S0]; · iexact S0
  isplitl [S1]; · iexact S1
  isplitl [S2]; · iexact S2
  isplitl [S3]; · iexact S3
  isplitl [S4]; · iexact S4
  isplitl [S5]; · iexact S5
  iintro ⟨T0, T1, T2, W0, W1, W2, W3, W4, W5, W6, W7, W8, W9, W10, W11, W12, W13, W14, S0, S1, S2, S3, S4, S5⟩
  isplitl [S0 S1 S2 S3 S4 S5 T0 T1 T2 Hp]
  · isplitl [S0 S1 S2 S3 S4 S5]
    · iexists (stepAt m c t s)
      isplitr
      · ipureintro; exact ⟨t.isLt, s, hs, rfl⟩
      isplitl [S0]; · iexact S0
      isplitl [S1]; · iexact S1
      isplitl [S2]; · iexact S2
      isplitl [S3]; · iexact S3
      isplitl [S4]; · iexact S4
      iexact S5
    isplitl [T0 T1 T2]
    · isplitl [T0]; · iexact T0
      isplitl [T1]; · iexact T1
      iexact T2
    iexact Hp
  isplitl [Ho]; · iexact Ho
  isplitl [W0]
  · iexists _; isplitr
    swap; · iexact W0
    ipureintro; exact (finds0 m c t (Y 0) (hY 0)).symm
  isplitl [W1]
  · iexists _; isplitr
    swap; · iexact W1
    ipureintro; exact (finds1 m c t (Y 1) (hY 1)).symm
  isplitl [W2]
  · iexists _; isplitr
    swap; · iexact W2
    ipureintro; exact (finds2 m c t (Y 2) (hY 2)).symm
  isplitl [W3]
  · iexists _; isplitr
    swap; · iexact W3
    ipureintro; exact (finds3 m c t (Y 3) (hY 3)).symm
  isplitl [W4]
  · iexists _; isplitr
    swap; · iexact W4
    ipureintro; exact (finds4 m c t (Y 4) (hY 4)).symm
  isplitl [W5]
  · iexists _; isplitr
    swap; · iexact W5
    ipureintro; exact (finds5 m c t (Y 5) (hY 5)).symm
  isplitl [W6]
  · iexists _; isplitr
    swap; · iexact W6
    ipureintro; exact (finds6 m c t (Y 6) (hY 6)).symm
  isplitl [W7]
  · iexists _; isplitr
    swap; · iexact W7
    ipureintro; exact (finds7 m c t (Y 7) (hY 7)).symm
  isplitl [W8]
  · iexists _; isplitr
    swap; · iexact W8
    ipureintro; exact (finds8 m c t (Y 8) (hY 8)).symm
  isplitl [W9]
  · iexists _; isplitr
    swap; · iexact W9
    ipureintro; exact (finds9 m c t (Y 9) (hY 9)).symm
  isplitl [W10]
  · iexists _; isplitr
    swap; · iexact W10
    ipureintro; exact ⟨s, hs, rfl⟩
  isplitl [W11]
  · iexists _; isplitr
    swap; · iexact W11
    ipureintro; exact ⟨s, hs, rfl⟩
  isplitl [W12]
  · iexists _; isplitr
    swap; · iexact W12
    ipureintro; exact ⟨s, hs, rfl⟩
  isplitl [W13]
  · iexists _; isplitr
    swap; · iexact W13
    ipureintro; exact ⟨s, hs, rfl⟩
  iexists _; isplitr
  swap; · iexact W14
  ipureintro; exact ⟨s, hs, rfl⟩

end Flash
-- ==== Proof.FlashLaunch.lean ====
module

public import proofs.«01_k».proof.Proof.FlashRun
public import Idealize.ShloMosaic.Lib.Pipeline.FrameBody
public import Idealize.ShloMosaic.Lib.Pipeline.ArrRel
public import Idealize.ShloMosaic.Lib.Claim

/-! # The run of the whole program -/

@[expose] public section

set_option maxRecDepth 16384

noncomputable section

namespace Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hmain : Pipeline.HMainP (Ix := Unit) (Name := ℕ) (U := UR sig nD τ) (Lvl := ℕ) (pcfgs (F := F)) 0 (defs₀ (F := F)) Variants.none m (main (F := F)) (V m) :=
  Pipeline.hmainP_prefixes _ 0 defs₀ Variants.none m main [hostOps0, hostOps0_1, hostOps0_2]
    ⟨hostOps0_sub, hostOps0_1_sub, hostOps0_2_sub⟩ ⟨by repeat' first | exact rfl | refine ⟨rfl, ?_⟩, by repeat' first | exact rfl | refine ⟨rfl, ?_⟩, by repeat' first | exact rfl | refine ⟨rfl, ?_⟩⟩
    (fun c => (main_chain c).trans rfl)

theorem V_c (c : Dev nD) : V m c main_c = tab0 := by
  unfold V; entry_read; rfl
theorem V_c_0 (c : Dev nD) : V m c main_c_0 = tab1 := by
  unfold V; entry_read; rfl
theorem V_c_1 (c : Dev nD) : V m c main_c_1 = tab2 := by
  unfold V; entry_read; rfl

theorem hpf (c : Dev nD) : ∀ k, V m c (pre0.ref k) = (tabs (F := F)) k
  | 0 => V_c m c
  | 1 => V_c_0 m c
  | 2 => V_c_1 m c
  | ⟨_ + 3, h⟩ => absurd h (Nat.not_lt.2 (Nat.le_add_left _ _))

set_option backward.isDefEq.respectTransparency.types false in
set_option maxHeartbeats 800000 in
theorem run_quiescent : θ_run (defs (F := F)) (onTc (τ := τ) (main (F := F))) (s₀ m ρ)
    (fun r => Pipeline.RDat.FramePost (cf (F := F)) (rdat m) (V m) r ∧ r.2.sem = fun _ => 0) :=
  Pipeline.RDat.θ_run_frameP_track_shared (Q' := _) (pcfgs (F := F)) adm (0 : Fin 1) launch₀0 defs₀ Variants.none (rdat m) m ρ main
    (hbody := body_ok m) (hq := fun _ _ _ => rfl) (howed := fun _ _ => rfl) (V := V m) (hmain := hmain m)
    (hA := A_eq m) (hpf := hpf m) (hin := hin m) (hout := fun c => hout m c _)

theorem V_arg0 (c : Dev nD) : V m c main_arg0 = m ((c : Thread nD τ).loc main_arg0) := by
  unfold V; entry_read; rfl
theorem V_arg1 (c : Dev nD) : V m c main_arg1 = m ((c : Thread nD τ).loc main_arg1) := by
  unfold V; entry_read; rfl
theorem V_arg2 (c : Dev nD) : V m c main_arg2 = m ((c : Thread nD τ).loc main_arg2) := by
  unfold V; entry_read; rfl

theorem rest2 : main_arg2 ∈ Pipeline.restRefs sig spec0 := Pipeline.mem_restRefs_of main_arg2 (by decide) (by decide)

/-- The whole program runs, its arguments end unchanged and its machine is quiescent. -/
theorem frame : θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 0 rfl).trans (V_arg0 m c),
     (h.1.arr_in c 4 rfl).trans (V_arg1 m c),
     ((h.1 c).2 main_arg2 rest2).trans (V_arg2 m c)⟩, h.2⟩) (run_quiescent m ρ)

end Flash
-- ==== Proof.FlashFrames.lean ====
module

public import proofs.«01_k».proof.Defs
public import proofs.«01_k».proof.Proof.FlashLaunch
public import proofs.«01_k».proof.Proof.FlashBitsLaunch
public import proofs.«01_k».proof.Proof.Gen.Kernel

/-! # The frames of the attention's backward call -/

@[expose] public section

set_option maxRecDepth 16384

noncomputable section

namespace Flash

open Idealize.ShloMosaic Idealize.ShloMosaic.TcCoe
open Idealize.SL.Sem

theorem frame_ideal : Cert.quiescent_KernelIdeal (hKernelIdeal := Cert.KernelIdeal.Gen.facts) := fun m ρ _ => frame m ρ

theorem frame_ideal_finite [hPre : Cert.Pre_finite.Facts] :
    Cert.quiescent_KernelIdeal_pre_finite (hKernelIdeal := Cert.KernelIdeal.Gen.facts) := fun m ρ _ => frame m ρ

/-- The printed program differs from the ideal one in the mask's word, so its run is a development of its own. -/
theorem frame_kernel : Cert.quiescent_Kernel (hKernel := Cert.Kernel.Gen.facts) := fun m ρ _ => FlashBits.frame m ρ

end Flash
-- ==== Proof.AttnReal.lean ====
/-
  The attention's mathematics over the real numbers: the causal softmax of the logits, its gradient, and the five
  gradients that are claimed, together with the steps between extended reals and reals that a finite input allows.
-/
module

public import Idealize.ShloMosaic.Lib.Pointwise
public import Idealize.ShloMosaic.Lib.IdealHost

@[expose] public section

noncomputable section

namespace Attn

open Idealize.ShloMosaic

/-- The embedding of the reals carries a finite sum to the sum. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem ofBits_neg_inf : Ideal.ofBits .f32 0xFF800000#32 = (⊥ : EReal) := by simp [Ideal.ofBits, Ideal.ieee]

theorem ofBits_pos_inf : Ideal.ofBits .f32 0x7F800000#32 = (⊤ : EReal) := by simp [Ideal.ofBits, Ideal.ieee]

/-- The factor of the logits, as a real number. -/
def scale : ℝ := 11863283 / 134217728

theorem ofBits_scale : Ideal.ofBits .f32 0x3DB504F3#32 = ((scale : ℝ) : EReal) := by
  unfold scale
  simp [Ideal.ofBits, Ideal.ieee, -EReal.coe_mul]; norm_num

/-- One device's inputs: queries, keys, values and the incoming gradient per head, and the forget gates' running sums. -/
structure Inputs where
  q : Fin 8 → Fin 8192 → Fin 128 → ℝ
  k : Fin 8 → Fin 8192 → Fin 128 → ℝ
  v : Fin 8 → Fin 8192 → Fin 128 → ℝ
  g : Fin 8 → Fin 8192 → Fin 128 → ℝ
  f : Fin 8 → Fin 8192 → ℝ

variable (A : Inputs) (h : Fin 8)

/-- The logit of query `i` and key `j`. -/
def Inputs.s (i j : Fin 8192) : ℝ := (∑ d, A.q h i d * A.k h j d) * scale + A.f h i - A.f h j

/-- The masked logit. -/
def Inputs.sx (i j : Fin 8192) : EReal := if j ≤ i then ((A.s h i j : ℝ) : EReal) else ⊥

/-- A row's largest logit. -/
def Inputs.m (i : Fin 8192) : ℝ := (Finset.univ.fold max (⊥ : EReal) (A.sx h i)).toReal

/-- The largest logit of a row is a real number: the diagonal is never masked. -/
theorem fold_sx (i : Fin 8192) : Finset.univ.fold max (⊥ : EReal) (A.sx h i) = ((A.m h i : ℝ) : EReal) := by
  obtain ⟨j, -, hj⟩ := Finset.exists_mem_eq_sup (Finset.univ : Finset (Fin 8192)) ⟨i, Finset.mem_univ _⟩ (A.sx h i)
  have hs : Finset.univ.fold max (⊥ : EReal) (A.sx h i) = Finset.univ.sup (A.sx h i) := rfl
  have hi : A.sx h i i ≤ A.sx h i j := hj ▸ Finset.le_sup (Finset.mem_univ i)
  unfold Inputs.m
  rw [hs, hj]
  unfold Inputs.sx at hi ⊢
  split
  · rfl
  · rename_i hn
    rw [if_neg hn, if_pos le_rfl] at hi
    exact absurd (le_bot_iff.mp hi) (EReal.coe_ne_bot _)

/-- The exponential of a logit less its row's largest; zero where masked. -/
def Inputs.e (i j : Fin 8192) : ℝ := if j ≤ i then Real.exp (A.s h i j - A.m h i) else 0

theorem exp_sx (i j : Fin 8192) : Ideal.exp (A.sx h i j - ((A.m h i : ℝ) : EReal)) = ((A.e h i j : ℝ) : EReal) := by
  unfold Inputs.sx Inputs.e
  split
  · rw [← EReal.coe_sub]; rfl
  · rw [EReal.bot_sub]; rfl

/-- A row's sum of exponentials. -/
def Inputs.L (i : Fin 8192) : ℝ := ∑ j, A.e h i j

theorem e_nonneg (i j : Fin 8192) : 0 ≤ A.e h i j := by
  unfold Inputs.e; split
  · exact (Real.exp_pos _).le
  · exact le_rfl

theorem L_pos (i : Fin 8192) : 0 < A.L h i :=
  Finset.sum_pos' (fun j _ => e_nonneg A h i j) ⟨i, Finset.mem_univ _, by unfold Inputs.e; rw [if_pos le_rfl]; exact Real.exp_pos _⟩

/-- A row's log-sum. -/
def Inputs.lse (i : Fin 8192) : ℝ := A.m h i + Real.log (A.L h i)

theorem log_L (i : Fin 8192) : Ideal.log ((A.L h i : ℝ) : EReal) = ((Real.log (A.L h i) : ℝ) : EReal) := by
  rw [Ideal.log_coe, if_neg (not_le.mpr (L_pos A h i))]

/-- The attention's weight. -/
def Inputs.P (i j : Fin 8192) : ℝ := A.e h i j / A.L h i

theorem P_above {i j : Fin 8192} (hij : ¬ j ≤ i) : A.P h i j = 0 := by
  unfold Inputs.P Inputs.e; rw [if_neg hij, zero_div]

/-- The weight from the log-sum. -/
theorem exp_lse {i j : Fin 8192} (hij : j ≤ i) : Real.exp (A.s h i j - A.lse h i) = A.P h i j := by
  unfold Inputs.P Inputs.e Inputs.lse
  rw [if_pos hij, ← sub_sub, Real.exp_sub, Real.exp_log (L_pos A h i)]

/-- The weight's gradient. -/
def Inputs.dP (i j : Fin 8192) : ℝ := ∑ d, A.g h i d * A.v h j d

/-- A row's product of weights and their gradients. -/
def Inputs.delta (i : Fin 8192) : ℝ := ∑ j, A.P h i j * A.dP h i j

/-- The logit's gradient. -/
def Inputs.dS (i j : Fin 8192) : ℝ := A.P h i j * (A.dP h i j - A.delta h i)

theorem dS_above {i j : Fin 8192} (hij : ¬ j ≤ i) : A.dS h i j = 0 := by
  unfold Inputs.dS; rw [P_above A h hij, zero_mul]

/-- The forward pass's output. -/
def Inputs.o (i : Fin 8192) (d : Fin 128) : ℝ := ∑ j, A.P h i j * A.v h j d

/-- The row's product is also the output against its gradient. -/
theorem delta_eq (i : Fin 8192) : ∑ d, A.g h i d * A.o h i d = A.delta h i := by
  unfold Inputs.o Inputs.delta Inputs.dP
  simp only [Finset.mul_sum]
  rw [Finset.sum_comm]
  exact Finset.sum_congr rfl fun j _ => Finset.sum_congr rfl fun d _ => by ring

/-- The softmax's gradient as its derivative is usually written out from exponentials and their sum. -/
theorem dS_quot (i j : Fin 8192) :
    (A.dP h i j / A.L h i + -∑ l, A.dP h i l * (1 / (A.L h i * A.L h i)) * A.e h i l) * A.e h i j = A.dS h i j := by
  have hL := (L_pos A h i).ne'
  have hsum : ∑ l, A.dP h i l * (1 / (A.L h i * A.L h i)) * A.e h i l = A.delta h i / A.L h i := by
    unfold Inputs.delta Inputs.P
    rw [Finset.sum_div]
    exact Finset.sum_congr rfl fun l _ => by field_simp
  rw [hsum]
  unfold Inputs.dS Inputs.P
  field_simp
  ring

/-- The five gradients. -/
def Inputs.dq (i : Fin 8192) (d : Fin 128) : ℝ := ∑ j, A.dS h i j * scale * A.k h j d
def Inputs.dk (j : Fin 8192) (d : Fin 128) : ℝ := ∑ i, A.dS h i j * scale * A.q h i d
def Inputs.dv (j : Fin 8192) (d : Fin 128) : ℝ := ∑ i, A.g h i d * A.P h i j
def Inputs.dfk (j : Fin 8192) : ℝ := ∑ i, -A.dS h i j
def Inputs.dfq (i : Fin 8192) : ℝ := ∑ j, A.dS h i j

end Attn

end
-- ==== Proof.AttnRef.lean ====
/-
  The reference read index by index: its masked logits, their exponentials, the row sums and the logits' gradient, from
  finite inputs, are the real functions of `AttnReal`.
-/
module

public import proofs.«01_k».proof.Defs
public import proofs.«01_k».proof.Proof.Gen.ReferenceIdeal
public import proofs.«01_k».proof.Proof.AttnReal
public import Idealize.ShloMosaic.Lib.Pointwise

@[expose] public section

set_option maxRecDepth 16384

noncomputable section

namespace Attn

open Idealize.ShloMosaic Cert.ReferenceIdeal Cert.ReferenceIdeal.Gen

/-! ## The arrays, as the reference's operations build them -/

variable (z : FVec Ideal S8192x5120 .f32) (dy : FVec Ideal S8192x2048 .f32) (f : FVec Ideal S8x8192 .f32)

abbrev heads (x : FVec Ideal S8192x1024 .f32) : FVec Ideal S8x8192x128 .f32 :=
  transpose S8x8192x128 [1, 0, 2] (shapeCast _ x shapeCasts_S8192x1024_S8192x8x128) transposes_S8192x8x128_S8x8192x128_1_0_2

def qA : FVec Ideal S8x8192x128 .f32 := heads (extractStridedSlice S8192x1024 ![0, 512] z slices_S8192x5120_S8192x1024_0_512)
def kA : FVec Ideal S8x8192x128 .f32 := heads (extractStridedSlice S8192x1024 ![0, 1536] z slices_S8192x5120_S8192x1024_0_1536)
def vA : FVec Ideal S8x8192x128 .f32 := heads (extractStridedSlice S8192x1024 ![0, 2560] z slices_S8192x5120_S8192x1024_0_2560)
def gA : FVec Ideal S8x8192x128 .f32 := heads (extractStridedSlice S8192x1024 ![0, 512] dy slices_S8192x2048_S8192x1024_0_512)

/-- Which keys a query sees. -/
def maskA : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The masked logits. -/
def sA : FVec Ideal S8x8192x8192 .f32 :=
  select maskA (subf (addf (mulf (Host.dotGeneral (φ₁ := .f32) (φ₂ := .f32) dot_S8x8192x128_S8x8192x128_S8x8192x8192_2_2_1_1_0_0 none (qA z) (kA z)) (broadcastInDim S8x8192x8192 ![] bcast_S_S8x8192x8192 (constant S_ .f32 0x3DB504F3#32))) (broadcastInDim S8x8192x8192 ![0, 1, 2] bcast_S8x8192x1_S8x8192x8192_0_1_2 (broadcastInDim S8x8192x1 ![0, 1] bcast_S8x8192_S8x8192x1_0_1 f))) (broadcastInDim S8x8192x8192 ![0, 1, 2] bcast_S8x1x8192_S8x8192x8192_0_1_2 (broadcastInDim S8x1x8192 ![0, 2] bcast_S8x8192_S8x1x8192_0_2 f))) (broadcastInDim S8x8192x8192 ![] bcast_S_S8x8192x8192 (id (constant S_ .f32 0xFF800000#32)))

/-- The rows' largest logits. -/
def mA : FVec Ideal S8x8192 .f32 := Host.reduce FloatOps.maximumf (sA z f) (constant S_ .f32 0xFF800000#32) reducesTo_S8x8192x8192_S8x8192_d2 h_S_

/-- The same, kept from falling below −∞. -/
def mmA : FVec Ideal S8x8192 .f32 := maximumf (broadcastInDim S8x8192 ![] bcast_S_S8x8192 (constant S_ .f32 0xFF800000#32)) (mA z f)

/-- A row's value under every key. -/
def rowsA (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)

/-- The exponentials, from the rows' largest logits. -/
def expA (x : FVec Ideal S8x8192 .f32) : FVec Ideal S8x8192x8192 .f32 := Host.exp (subf (sA z f) (rowsA x))

def eA : FVec Ideal S8x8192x8192 .f32 := expA z f (mmA z f)

/-- The rows' sums. -/
def lA : FVec Ideal S8x8192x1 .f32 :=
  broadcastInDim S8x8192x1 ![0, 1] bcast_S8x8192_S8x8192x1_0_1 (Host.reduceAdd (eA z f) (constant S_ .f32 0x00000000#32) reducesTo_S8x8192x8192_S8x8192_d2 h_S_)

/-- The weights. -/
def pA : FVec Ideal S8x8192x8192 .f32 :=
  Host.divf (eA z f) (broadcastInDim S8x8192x8192 ![0, 1, 2] bcast_S8x8192x1_S8x8192x8192_0_1_2 (lA z f))

/-- The weights' gradient. -/
def dpA : FVec Ideal S8x8192x8192 .f32 :=
  Host.dotGeneral (φ₁ := .f32) (φ₂ := .f32) dot_S8x8192x128_S8x8192x128_S8x8192x8192_2_2_1_1_0_0 none (gA dy) (vA z)

/-- What the division's denominator contributes to a row. -/
def rowA : FVec Ideal S8x8192 .f32 :=
  Host.reduceAdd (mulf (mulf (dpA z dy) (broadcastInDim S8x8192x8192 ![0, 1, 2] bcast_S8x8192x1_S8x8192x8192_0_1_2 (Host.divf (broadcastInDim S8x8192x1 ![] bcast_S_S8x8192x1 (constant S_ .f32 0x3F800000#32)) (mulf (lA z f) (lA z f))))) (eA z f)) (constant S_ .f32 0x00000000#32) reducesTo_S8x8192x8192_S8x8192_d2 h_S_

/-- The logits' gradient. -/
def dsA : FVec Ideal S8x8192x8192 .f32 :=
  select maskA (mulf (addf (Host.divf (dpA z dy) (broadcastInDim S8x8192x8192 ![0, 1, 2] bcast_S8x8192x1_S8x8192x8192_0_1_2 (lA z f))) (broadcastInDim S8x8192x8192 ![0, 1] bcast_S8x8192_S8x8192x8192_0_1 (Host.reduceAdd (Host.negf (shapeCast _ (rowA z dy f) shapeCasts_S8x8192_S8x8192x1)) (constant S_ .f32 0x00000000#32) reducesTo_S8x8192x1_S8x8192_d2 h_S_))) (eA z f)) (broadcastInDim S8x8192x8192 ![] bcast_S_S8x8192x8192 (constant S_ .f32 0x00000000#32))

/-! ## From finite inputs -/

/-- The real inputs of a device's arrays. -/
def inputs (z : S8192x5120.Idx → ℝ) (dy : S8192x2048.Idx → ℝ) (f : S8x8192.Idx → ℝ) : Inputs where
  q h i d := z (ix2 i ⟨512 + (h.val * 128 + d.val), by omega⟩)
  k h i d := z (ix2 i ⟨1536 + (h.val * 128 + d.val), by omega⟩)
  v h i d := z (ix2 i ⟨2560 + (h.val * 128 + d.val), by omega⟩)
  g h i d := dy (ix2 i ⟨512 + (h.val * 128 + d.val), by omega⟩)
  f h i := f (ix2 h i)

/-- Reals as extended reals, array by array. -/
abbrev up {s : Shape} (x : s.Idx → ℝ) : FVec Ideal s .f32 := fun i => ((x i : ℝ) : EReal)

variable (z : S8192x5120.Idx → ℝ) (dy : S8192x2048.Idx → ℝ) (f : S8x8192.Idx → ℝ)

theorem qA_at (h : Fin 8) (i : Fin 8192) (d : Fin 128) : qA (up z) (ix3 h i d) = ((inputs z dy f).q h i d : EReal) := by
  pointwise [qA]
  rfl

theorem kA_at (h : Fin 8) (i : Fin 8192) (d : Fin 128) : kA (up z) (ix3 h i d) = ((inputs z dy f).k h i d : EReal) := by
  pointwise [kA]
  rfl

theorem vA_at (h : Fin 8) (i : Fin 8192) (d : Fin 128) : vA (up z) (ix3 h i d) = ((inputs z dy f).v h i d : EReal) := by
  pointwise [vA]
  rfl

theorem gA_at (h : Fin 8) (i : Fin 8192) (d : Fin 128) : gA (up dy) (ix3 h i d) = ((inputs z dy f).g h i d : EReal) := by
  pointwise [gA]
  rfl

/-- Comparing positions as words compares them as numbers. -/
theorem sle_word (n : ℕ) (hn : n ≤ 2 ^ 31) (a b : Fin n) :
    IntOp.cmpi .sle (BitVec.ofNat 32 a.val) (BitVec.ofNat 32 b.val) = if a ≤ b then 1#1 else 0#1 := by
  have ha := a.isLt; have hb := b.isLt
  have ea : (BitVec.ofNat 32 a.val).toInt = a.val := by
    rw [BitVec.toInt_eq_toNat_of_lt (by rw [BitVec.toNat_ofNat]; omega), BitVec.toNat_ofNat]; omega
  have eb : (BitVec.ofNat 32 b.val).toInt = b.val := by
    rw [BitVec.toInt_eq_toNat_of_lt (by rw [BitVec.toNat_ofNat]; omega), BitVec.toNat_ofNat]; omega
  have e : (BitVec.ofNat 32 a.val).sle (BitVec.ofNat 32 b.val) = decide (a ≤ b) := by
    unfold BitVec.sle
    rw [ea, eb]
    exact decide_eq_decide.mpr (by rw [Fin.le_def]; omega)
  show BitVec.ofBool ((BitVec.ofNat 32 a.val).sle (BitVec.ofNat 32 b.val)) = _
  rw [e]
  split
  · rename_i hab; rw [decide_eq_true hab]; rfl
  · rename_i hab; rw [decide_eq_false hab]; rfl

theorem maskA_at (h : Fin 8) (i j : Fin 8192) : maskA (ix3 h i j) = if j ≤ i then 1#1 else 0#1 := by
  pointwise [maskA]
  exact sle_word 8192 (by norm_num) j i

theorem sA_at (h : Fin 8) (i j : Fin 8192) : sA (up z) (up f) (ix3 h i j) = (inputs z dy f).sx h i j := by
  pointwise [sA]
  rw [maskA_at, ofBits_scale]
  simp only [qA_at z dy f, kA_at z dy f, ← EReal.coe_mul, ← coe_sum]
  unfold Inputs.sx
  split
  · rw [ValueIdx.select_one, ← EReal.coe_add, ← EReal.coe_sub]; rfl
  · rw [ValueIdx.select_zero]; exact ofBits_neg_inf

theorem mA_at (h : Fin 8) (i : Fin 8192) : mA (up z) (up f) (ix2 h i) = ((inputs z dy f).m h i : EReal) := by
  pointwise [mA]
  simp only [sA_at z dy f, ofBits_neg_inf]
  exact fold_sx _ h i

theorem max_at (x y : FVec Ideal S8x8192 .f32) (j : S8x8192.Idx) : maximumf x y j = max (x j) (y j) := rfl

theorem neg_inf_at (j : S_.Idx) : constant (F := Ideal) S_ .f32 0xFF800000#32 j = (⊥ : EReal) := ofBits_neg_inf

theorem mmA_at (h : Fin 8) (i : Fin 8192) : mmA (up z) (up f) (ix2 h i) = ((inputs z dy f).m h i : EReal) := by
  unfold mmA
  rw [max_at, ValueIdx.broadcastInDim_scalar_apply, neg_inf_at, mA_at z dy f]
  exact bot_sup_eq _

theorem rowsA_at (x : FVec Ideal S8x8192 .f32) (h : Fin 8) (i j : Fin 8192) : rowsA x (ix3 h i j) = x (ix2 h i) := by
  pointwise [rowsA]

theorem exp_at {s : Shape} (x : FVec Ideal s .f32) (j : s.Idx) : Host.exp x j = Ideal.exp (x j) := rfl
theorem sub_at {s : Shape} (x y : FVec Ideal s .f32) (j : s.Idx) : subf x y j = x j - y j := rfl

theorem expA_at (x : FVec Ideal S8x8192 .f32) (h : Fin 8) (i j : Fin 8192) :
    expA (up z) (up f) x (ix3 h i j) = Ideal.exp (sA (up z) (up f) (ix3 h i j) - rowsA x (ix3 h i j)) := by
  unfold expA
  rw [exp_at, sub_at]

theorem eA_at (h : Fin 8) (i j : Fin 8192) : eA (up z) (up f) (ix3 h i j) = ((inputs z dy f).e h i j : EReal) := by
  unfold eA
  rw [expA_at, rowsA_at, mmA_at z dy f, sA_at z dy f]
  exact exp_sx _ h i j

theorem lA_at (h : Fin 8) (i : Fin 8192) (o : Fin 1) : lA (up z) (up f) (ix3 h i o) = ((inputs z dy f).L h i : EReal) := by
  pointwise [lA]
  simp only [eA_at z dy f, ← coe_sum]
  rfl

theorem pA_at (h : Fin 8) (i j : Fin 8192) : pA (up z) (up f) (ix3 h i j) = ((inputs z dy f).P h i j : EReal) := by
  pointwise [pA]
  rw [eA_at z dy f, lA_at z dy f, Ideal.div_coe (L_pos _ h i).ne', ← EReal.coe_mul]
  unfold Inputs.P
  rw [mul_one_div]

theorem dpA_at (h : Fin 8) (i j : Fin 8192) : dpA (up z) (up dy) (ix3 h i j) = ((inputs z dy f).dP h i j : EReal) := by
  pointwise [dpA]
  simp only [gA_at z dy f, vA_at z dy f, ← EReal.coe_mul, ← coe_sum]
  rfl

theorem rowA_at (h : Fin 8) (i : Fin 8192) : rowA (up z) (up dy) (up f) (ix2 h i)
    = ((∑ l, (inputs z dy f).dP h i l * (1 / ((inputs z dy f).L h i * (inputs z dy f).L h i)) * (inputs z dy f).e h i l : ℝ) : EReal) := by
  pointwise [rowA]
  have hL := L_pos (inputs z dy f) h i
  simp only [eA_at z dy f, lA_at z dy f, dpA_at z dy f, ← EReal.coe_mul, Ideal.div_coe (mul_pos hL hL).ne', one_mul, ← coe_sum]

theorem dsA_at (h : Fin 8) (i j : Fin 8192) : dsA (up z) (up dy) (up f) (ix3 h i j) = ((inputs z dy f).dS h i j : EReal) := by
  pointwise [dsA]
  rw [maskA_at]
  split
  · rw [ValueIdx.select_one, rowA_at, dpA_at z dy f, lA_at z dy f, eA_at z dy f, Ideal.div_coe (L_pos _ h i).ne', Fin.sum_univ_one,
      ← dS_quot, ← EReal.coe_neg, ← EReal.coe_mul, ← EReal.coe_add, ← EReal.coe_mul, mul_one_div]
  · rename_i hij
    rw [ValueIdx.select_zero, dS_above _ h hij]; rfl

end Attn

end
-- ==== Proof.AttnHost.lean ====
/-
  The arrays the host prepares for the backward call, from finite inputs: the transposed keys and gradients, the forward
  pass's output and log-sums.
-/
module

public import proofs.«01_k».proof.Proof.AttnRef
public import proofs.«01_k».proof.Proof.FlashFrame

@[expose] public section

set_option maxRecDepth 16384

noncomputable section

namespace Attn

open Idealize.ShloMosaic Cert.KernelIdeal Cert.KernelIdeal.Gen Idealize.ShloMosaic.TcCoe Idealize.SL.Sem
open Flash (V)

section Read
variable (m : (ℓ : Loc nD τ sig) → Buf (Elt Ideal) ℓ) (c : Dev nD)

abbrev zOf : FVec Ideal S8192x5120 .f32 := m ((c : Thread nD τ).loc main_arg0)
abbrev dyOf : FVec Ideal S8192x2048 .f32 := m ((c : Thread nD τ).loc main_arg1)
abbrev fOf : FVec Ideal S8x8192 .f32 := m ((c : Thread nD τ).loc main_arg2)

def v46A (z : FVec Ideal S8192x5120 .f32) (f : FVec Ideal S8x8192 .f32) : FVec Ideal S1024x8192 .f32 :=
  shapeCast _ (transpose S8x128x8192 [0, 2, 1] (Host.dotGeneral (φ₁ := .f32) (φ₂ := .f32) dot_S8x8192x8192_S8x8192x128_S8x8192x128_2_1_1_2_0_0 none (pA z f) (vA z)) transposes_S8x8192x128_S8x128x8192_0_2_1) shapeCasts_S8x128x8192_S1024x8192

def v49A (z : FVec Ideal S8192x5120 .f32) : FVec Ideal S1024x8192 .bf16 :=
  truncf .bf16 (transpose S1024x8192 [1, 0] (extractStridedSlice S8192x1024 ![0, 1536] z slices_S8192x5120_S8192x1024_0_1536) transposes_S8192x1024_S1024x8192_1_0) bitsLt_bf16_f32

def v51A (dy : FVec Ideal S8192x2048 .f32) : FVec Ideal S1024x8192 .f32 :=
  transpose S1024x8192 [1, 0] (extractStridedSlice S8192x1024 ![0, 512] dy slices_S8192x2048_S8192x1024_0_512) transposes_S8192x1024_S1024x8192_1_0

def v54A (z : FVec Ideal S8192x5120 .f32) (f : FVec Ideal S8x8192 .f32) : FVec Ideal S8x1x8192 .f32 :=
  broadcastInDim S8x1x8192 ![0, 2] bcast_S8x8192_S8x1x8192_0_2 (addf (mA z f) (Host.log (Host.reduceAdd (expA z f (mA z f)) (constant S_ .f32 0x00000000#32) reducesTo_S8x8192x8192_S8x8192_d2 h_S_)))

theorem V_v49 : V m c main_v49 = v49A (zOf m c) := by
  unfold V
  entry_read
  rfl
theorem V_v51 : V m c main_v51 = v51A (dyOf m c) := by
  unfold V
  entry_read
  rfl
theorem V_v52 : V m c main_v52 = broadcastInDim S8x8192x1 ![0, 1] bcast_S8x8192_S8x8192x1_0_1 (fOf m c) := by
  unfold V
  entry_read
  rfl
theorem V_v53 : V m c main_v53 = broadcastInDim S8x1x8192 ![0, 2] bcast_S8x8192_S8x1x8192_0_2 (fOf m c) := by
  unfold V
  entry_read
  rfl
theorem V_v46 : V m c main_v46 = v46A (zOf m c) (fOf m c) := by
  unfold V
  simp only [hostOps0, hostOps0_1, hostOps0_2, List.flatten_cons, List.flatten_nil, List.cons_append, List.nil_append,
    List.append_nil, StableHlo.TRef.nullary, StableHlo.TRef.ternary, StableHlo.TRef.unary, StableHlo.TRef.toBuf,
    StableHlo.TRef.ofBuf, cast_eq]
  after_results_simp
  rfl

theorem V_v54 : V m c main_v54 = v54A (zOf m c) (fOf m c) := by
  unfold V
  simp only [hostOps0, hostOps0_1, hostOps0_2, List.flatten_cons, List.flatten_nil, List.cons_append, List.nil_append,
    List.append_nil, StableHlo.TRef.nullary, StableHlo.TRef.ternary, StableHlo.TRef.unary, StableHlo.TRef.toBuf,
    StableHlo.TRef.ofBuf, cast_eq]
  after_results_simp
  rfl

end Read

variable (z : S8192x5120.Idx → ℝ) (dy : S8192x2048.Idx → ℝ) (f : S8x8192.Idx → ℝ)

theorem v46A_at (r : Fin 1024) (i : Fin 8192) : v46A (up z) (up f) (ix2 r i)
    = (((inputs z dy f).o ⟨r.val / 128, Nat.div_lt_of_lt_mul r.isLt⟩ i ⟨r.val % 128, Nat.mod_lt _ (by norm_num)⟩ : ℝ) : EReal) := by
  pointwise [v46A]
  simp only [pA_at z dy f, vA_at z dy f, ← EReal.coe_mul, ← coe_sum]
  rfl

theorem v49A_at (r : Fin 1024) (i : Fin 8192) : v49A (up z) (ix2 r i)
    = (((inputs z dy f).k ⟨r.val / 128, Nat.div_lt_of_lt_mul r.isLt⟩ i ⟨r.val % 128, Nat.mod_lt _ (by norm_num)⟩ : ℝ) : EReal) := by
  pointwise [v49A]
  show ((z _ : ℝ) : EReal) = ((z _ : ℝ) : EReal)
  congr 3
  refine Fin.ext ?_
  show 1536 + r.val = 1536 + (r.val / 128 * 128 + r.val % 128)
  omega

theorem v51A_at (r : Fin 1024) (i : Fin 8192) : v51A (up dy) (ix2 r i)
    = (((inputs z dy f).g ⟨r.val / 128, Nat.div_lt_of_lt_mul r.isLt⟩ i ⟨r.val % 128, Nat.mod_lt _ (by norm_num)⟩ : ℝ) : EReal) := by
  pointwise [v51A]
  show ((dy _ : ℝ) : EReal) = ((dy _ : ℝ) : EReal)
  congr 3
  refine Fin.ext ?_
  show 512 + r.val = 512 + (r.val / 128 * 128 + r.val % 128)
  omega

theorem v52_at (h : Fin 8) (i : Fin 8192) (o : Fin 1) :
    broadcastInDim S8x8192x1 ![0, 1] bcast_S8x8192_S8x8192x1_0_1 (up f) (ix3 h i o) = (((inputs z dy f).f h i : ℝ) : EReal) := by
  pointwise
  rfl

theorem v53_at (h : Fin 8) (i : Fin 8192) (o : Fin 1) :
    broadcastInDim S8x1x8192 ![0, 2] bcast_S8x8192_S8x1x8192_0_2 (up f) (ix3 h o i) = (((inputs z dy f).f h i : ℝ) : EReal) := by
  pointwise
  rfl

theorem log_at {s : Shape} (x : FVec Ideal s .f32) (j : s.Idx) : Host.log x j = Ideal.log (x j) := rfl
theorem add_at {s : Shape} (x y : FVec Ideal s .f32) (j : s.Idx) : addf x y j = x j + y j := rfl

/-- The sums of exponentials behind the log-sums. -/
theorem sum_at (h : Fin 8) (i : Fin 8192) :
    Host.reduceAdd (expA (up z) (up f) (mA (up z) (up f))) (constant S_ .f32 0x00000000#32) reducesTo_S8x8192x8192_S8x8192_d2 h_S_ (ix2 h i)
      = (((inputs z dy f).L h i : ℝ) : EReal) := by
  pointwise
  simp only [expA_at, rowsA_at, mA_at z dy f, sA_at z dy f, exp_sx, ← coe_sum]
  rfl

theorem v54A_at (h : Fin 8) (i : Fin 8192) (o : Fin 1) : v54A (up z) (up f) (ix3 h o i) = (((inputs z dy f).lse h i : ℝ) : EReal) := by
  have e : v54A (up z) (up f) (ix3 h o i) = addf (mA (up z) (up f)) (Host.log (Host.reduceAdd (expA (up z) (up f) (mA (up z) (up f))) (constant S_ .f32 0x00000000#32) reducesTo_S8x8192x8192_S8x8192_d2 h_S_)) (ix2 h i) := by
    unfold v54A
    generalize addf (mA (up z) (up f)) _ = y
    pointwise
  rw [e, add_at, log_at, sum_at z dy f, mA_at z dy f, log_L, ← EReal.coe_add]
  rfl

end Attn

end
-- ==== Proof.FlashMath.lean ====
/-
  The arithmetic of one block of the attention's backward call over the extended reals: each stored array at an index,
  as a sum over the block.
-/
module

public import proofs.«01_k».proof.Proof.AttnHost
public import Idealize.ShloMosaic.Rules

@[expose] public section

set_option maxRecDepth 16384

noncomputable section

namespace Flash

open Idealize.ShloMosaic Cert.KernelIdeal Cert.KernelIdeal.Gen Idealize.ShloMosaic.TcCoe Idealize.SL.Sem

section Pays
variable (q k v dO w : Vec Ideal S512x128 .f32) (fq lse dl wr : Vec Ideal S1x1x512 .f32) (fk : Vec Ideal S1x512x1 .f32)
  (p : FVec Ideal S512x512 .f32) (wk : Vec Ideal S512x1 .f32) (wq : Vec Ideal S1x128x512 .f32) (kt : Vec Ideal S128x512 .bf16)

theorem pay7_at (y x : Fin 512) : k0_pay7 q k fq fk lse (ix2 y x)
    = Ideal.exp ((∑ d : Fin 128, k (ix2 y d) * q (ix2 x d)) * ((Attn.scale : ℝ) : EReal) + fq (ix3 0 0 x) - fk (ix3 0 y 0) - lse (ix3 0 0 x)) := by
  pointwise [k0_pay7]
  rw [Attn.ofBits_scale]

theorem mask_bot : (Named.named κ "mask" 0xF149F2CA#32 : Ideal .f32) = ⊥ :=
  IdealRules.named_const.ideal_named_scalar _ _ _ _ rfl

theorem pay1_at (y x : Fin 512) : k0_pay1 q k fq fk lse (ix2 y x)
    = Ideal.exp ((if y ≤ x then (∑ d : Fin 128, k (ix2 y d) * q (ix2 x d)) * ((Attn.scale : ℝ) : EReal) + fq (ix3 0 0 x) - fk (ix3 0 y 0) else ⊥)
        - lse (ix3 0 0 x)) := by
  pointwise [k0_pay1]
  rw [Attn.ofBits_scale, mask_bot, Attn.sle_word 512 (by norm_num)]
  split
  · rw [ValueIdx.select_one]
  · rw [ValueIdx.select_zero]

theorem pay3_at (y x : Fin 512) : k0_pay3 p v dO dl (ix2 y x)
    = p (ix2 y x) * ((∑ d : Fin 128, v (ix2 y d) * dO (ix2 x d)) - dl (ix3 0 0 x)) := by
  pointwise [k0_pay3]
theorem pay11_eq : k0_pay11 p (k0_pay9 v) (k0_pay10 dO) dl = k0_pay3 p v dO dl := rfl
theorem pay2_at (y : Fin 512) (d : Fin 128) : k0_pay2 q k fq fk lse w dO (ix2 y d)
    = w (ix2 y d) + ∑ x : Fin 512, k0_pay1 q k fq fk lse (ix2 y x) * dO (ix2 x d) := by
  unfold k0_pay2
  generalize k0_pay1 q k fq fk lse = p
  pointwise
theorem pay8_at (y : Fin 512) (d : Fin 128) : k0_pay8 q k fq fk lse w dO (ix2 y d)
    = w (ix2 y d) + ∑ x : Fin 512, k0_pay7 q k fq fk lse (ix2 y x) * dO (ix2 x d) := by
  unfold k0_pay8
  generalize k0_pay7 q k fq fk lse = p
  pointwise
theorem pay4_at (y : Fin 512) (d : Fin 128) : k0_pay4 p v dO dl w q (ix2 y d)
    = w (ix2 y d) + ∑ x : Fin 512, k0_pay3 p v dO dl (ix2 y x) * q (ix2 x d) := by
  unfold k0_pay4
  generalize k0_pay3 p v dO dl = p
  pointwise
theorem pay12_eq : k0_pay12 p (k0_pay9 v) (k0_pay10 dO) dl w q = k0_pay4 p v dO dl w q := rfl
theorem pay5_at (y : Fin 512) (o : Fin 1) : k0_pay5 p v dO dl wk (ix2 y o)
    = wk (ix2 y o) + ∑ x : Fin 512, k0_pay3 p v dO dl (ix2 y x) := by
  unfold k0_pay5
  generalize k0_pay3 p v dO dl = p
  pointwise
theorem pay13_eq : k0_pay13 p (k0_pay9 v) (k0_pay10 dO) dl wk = k0_pay5 p v dO dl wk := rfl
theorem pay6_at (x : Fin 512) : k0_pay52 (k0_pay6 p v dO dl wr) (ix3 0 0 x)
    = wr (ix3 0 0 x) + ∑ y : Fin 512, k0_pay3 p v dO dl (ix2 y x) := by
  unfold k0_pay6
  generalize k0_pay3 p v dO dl = p
  pointwise [k0_pay52]
theorem pay14_eq : k0_pay14 p (k0_pay9 v) (k0_pay10 dO) dl wr = k0_pay52 (k0_pay6 p v dO dl wr) := rfl
theorem pay51_at (a b : Vec Ideal S128x512 .f32) (x : Fin 512) : k0_pay51 a b (ix3 0 0 x)
    = ∑ d : Fin 128, a (ix2 d x) * b (ix2 d x) := by
  pointwise [k0_pay51]
theorem pay53_at (d : Fin 128) (x : Fin 512) : k0_pay53 p wq kt (ix3 0 d x)
    = wq (ix3 0 d x) + ∑ y : Fin 512, kt (ix2 d y) * p (ix2 y x) := by
  pointwise [k0_pay53]
theorem pay54_eq : k0_pay54 p wq kt = k0_pay53 p wq kt := rfl
theorem pay15_at (d : Fin 128) (x : Fin 512) : k0_pay15 wq (ix2 d x) = wq (ix3 0 d x) * ((Attn.scale : ℝ) : EReal) := by
  pointwise [k0_pay15]
  rw [Attn.ofBits_scale]
theorem pay16_at (x : Fin 512) : k0_pay16 wr (ix3 0 0 x) = wr (ix3 0 0 x) := by
  pointwise [k0_pay16]
theorem pay55_at (y : Fin 512) (d : Fin 128) : k0_pay55 w (ix2 y d) = w (ix2 y d) * ((Attn.scale : ℝ) : EReal) := by
  pointwise [k0_pay55]
  rw [Attn.ofBits_scale]
theorem pay56_at (y : Fin 512) (d : Fin 128) : k0_pay56 w (ix2 y d) = w (ix2 y d) := by
  pointwise [k0_pay56]
theorem pay57_at (y : Fin 512) : k0_pay57 wk (ix3 0 y 0) = 0 - wk (ix2 y 0) := by
  pointwise [k0_pay57]
theorem pay46_at (a : Fin 16) (d : Fin 128) (x : Fin 512) : (k0_pay46 (F := Ideal)) (ix3 a d x) = 0 := by
  pointwise [k0_pay46]
theorem pay47_at (a : Fin 16) (x : Fin 512) : (k0_pay47 (F := Ideal)) (ix3 a 0 x) = 0 := by
  pointwise [k0_pay47]
theorem pay48_at (y : Fin 512) (d : Fin 128) : (k0_pay48 (F := Ideal)) (ix2 y d) = 0 := by
  pointwise [k0_pay48]
theorem pay49_at (y : Fin 512) (d : Fin 128) : (k0_pay49 (F := Ideal)) (ix2 y d) = 0 := by
  pointwise [k0_pay49]
theorem pay50_at (y : Fin 512) : (k0_pay50 (F := Ideal)) (ix2 y 0) = 0 := by
  pointwise [k0_pay50]
end Pays

section Slices
variable {F : FTy → Type} [FloatOps F] [Named F]

/-- A row block read at an index, -/
theorem slD_at (x : Vec F S16x1x512 .f32) (j : Fin 16) (a : Fin 512) : slD x j (ix3 0 0 a) = x (ix3 j 0 a) := by
  show x _ = x _
  congr 1
  funext b; apply Fin.ext
  match b with
  | ⟨0, _⟩ => show j.val + 0 = j.val; omega
  | ⟨1, _⟩ => rfl
  | ⟨2, _⟩ => show 0 + 1 * a.val = a.val; omega
theorem slQ_at (x : Vec F S16x128x512 .f32) (j : Fin 16) (d : Fin 128) (a : Fin 512) : slQ x j (ix3 0 d a) = x (ix3 j d a) := by
  show x _ = x _
  congr 1
  funext b; apply Fin.ext
  match b with
  | ⟨0, _⟩ => show j.val + 0 = j.val; omega
  | ⟨1, _⟩ => show 0 + 1 * d.val = d.val; omega
  | ⟨2, _⟩ => show 0 + 1 * a.val = a.val; omega

/-- written, and the others kept. -/
theorem slD_put (x : Vec F S16x1x512 .f32) (j : Fin 16) (w : Vec F S1x1x512 .f32) : slD (putD x j w) j = w :=
  VecWindow.window_put_same x _ _ (inb_d j) w
theorem slQ_put (x : Vec F S16x128x512 .f32) (j : Fin 16) (w : Vec F S1x128x512 .f32) : slQ (putQ x j w) j = w :=
  VecWindow.window_put_same x _ _ (inb_q j) w
theorem slD_put_ne (x : Vec F S16x1x512 .f32) {i j : Fin 16} (h : i ≠ j) (w : Vec F S1x1x512 .f32) : slD (putD x j w) i = slD x i := by
  have hv := Fin.val_ne_of_ne h
  refine VecWindow.window_put_of_disjoint x ![j.val, 0, 0] S1x1x512.size _ _ (inb_d i) w (0 : Fin 3) ?_
  show i.val + 1 ≤ j.val ∨ j.val + 1 ≤ i.val
  omega
theorem slQ_put_ne (x : Vec F S16x128x512 .f32) {i j : Fin 16} (h : i ≠ j) (w : Vec F S1x128x512 .f32) : slQ (putQ x j w) i = slQ x i := by
  have hv := Fin.val_ne_of_ne h
  refine VecWindow.window_put_of_disjoint x ![j.val, 0, 0] S1x128x512.size _ _ (inb_q i) w (0 : Fin 3) ?_
  show i.val + 1 ≤ j.val ∨ j.val + 1 ≤ i.val
  omega
end Slices

end Flash

end
-- ==== Proof.FlashSums.lean ====
/-
  Sums over the 8192 positions taken sixteen blocks of 512 at a time.
-/
module

public import Mathlib.Algebra.BigOperators.Fin
public import Mathlib.Algebra.BigOperators.Ring.Finset
public import Mathlib.Data.Real.Basic
public import Mathlib.Logic.Equiv.Fin.Basic

@[expose] public section

noncomputable section

namespace Flash

/-- Position `a` of block `j`. -/
def pos (j : Fin 16) (a : Fin 512) : Fin 8192 := ⟨j.val * 512 + a.val, by omega⟩

theorem pos_div (i : Fin 8192) : pos ⟨i.val / 512, by omega⟩ ⟨i.val % 512, Nat.mod_lt _ (by norm_num)⟩ = i := by
  apply Fin.ext
  show i.val / 512 * 512 + i.val % 512 = i.val
  omega

/-- A sum over the positions, block by block. -/
theorem sum_rows (g : Fin 8192 → ℝ) : ∑ i, g i = ∑ j : Fin 16, ∑ a : Fin 512, g (pos j a) := by
  rw [← Fintype.sum_prod_type']
  refine (Fintype.sum_equiv (finProdFinEquiv (m := 16) (n := 512)) _ _ fun p => ?_).symm
  congr 1
  apply Fin.ext
  show p.1.val * 512 + p.2.val = p.2.val + 512 * p.1.val
  omega

/-- The sum over the positions of the first `n` blocks. -/
def sumTo (n : ℕ) (g : Fin 8192 → ℝ) : ℝ := ∑ i, if i.val < n * 512 then g i else 0

theorem sumTo_blocks (n : ℕ) (g : Fin 8192 → ℝ) : sumTo n g = ∑ j : Fin 16, if j.val < n then ∑ a, g (pos j a) else 0 := by
  unfold sumTo
  rw [sum_rows]
  refine Finset.sum_congr rfl fun j _ => ?_
  split
  · refine Finset.sum_congr rfl fun a _ => if_pos ?_
    show j.val * 512 + a.val < n * 512
    omega
  · refine Finset.sum_eq_zero fun a _ => if_neg ?_
    show ¬ j.val * 512 + a.val < n * 512
    omega

theorem sumTo_zero (g : Fin 8192 → ℝ) : sumTo 0 g = 0 :=
  Finset.sum_eq_zero fun i _ => if_neg (by omega)

theorem sumTo_all (g : Fin 8192 → ℝ) : sumTo 16 g = ∑ i, g i :=
  Finset.sum_congr rfl fun i _ => if_pos (by omega)

/-- One block more. -/
theorem sumTo_succ (n : Fin 16) (g : Fin 8192 → ℝ) : sumTo (n.val + 1) g = sumTo n.val g + ∑ a, g (pos n a) := by
  rw [sumTo_blocks, sumTo_blocks]
  have e : ∀ j : Fin 16, (if j.val < n.val + 1 then ∑ a, g (pos j a) else 0)
      = (if j.val < n.val then ∑ a, g (pos j a) else 0) + if n = j then ∑ a, g (pos j a) else 0 := by
    intro j
    by_cases h : j.val < n.val
    · rw [if_pos (by omega), if_pos h, if_neg (fun e => by rw [e] at h; omega), add_zero]
    · by_cases h' : n = j
      · subst h'
        rw [if_pos (by omega), if_neg h, if_pos rfl, zero_add]
      · have := Fin.val_ne_of_ne h'
        rw [if_neg (by omega), if_neg h, if_neg h', add_zero]
  simp only [e, Finset.sum_add_distrib, Finset.sum_ite_eq, Finset.mem_univ, if_true]

/-- Blocks of zeros add nothing. -/
theorem sumTo_vanish (n : ℕ) (g : Fin 8192 → ℝ) (h : ∀ i, i.val < n * 512 → g i = 0) : sumTo n g = 0 :=
  Finset.sum_eq_zero fun i _ => by split <;> [exact h i ‹_›; rfl]

theorem sumTo_stay (n : Fin 16) (g : Fin 8192 → ℝ) (h : ∀ a, g (pos n a) = 0) : sumTo (n.val + 1) g = sumTo n.val g := by
  rw [sumTo_succ, Finset.sum_eq_zero fun a _ => h a, add_zero]

end Flash

end
-- ==== Proof.FlashGood.lean ====
/-
  What the scratch buffers of the attention's backward call hold, over the reals: the running sums of the gradients, block
  by block, kept by every grid point.
-/
module

public import proofs.«01_k».proof.Proof.FlashMath
public import proofs.«01_k».proof.Proof.FlashSums

@[expose] public section

set_option maxRecDepth 16384

noncomputable section

namespace Flash

open Idealize.ShloMosaic Cert.KernelIdeal Cert.KernelIdeal.Gen Idealize.ShloMosaic.TcCoe Idealize.SL.Sem
open Attn (Inputs coe_sum)

variable (A : Inputs) (h : Fin 8)

/-- The blocks a grid point reads: query block `j` and key block `k` of head `h`; the transposed gradient and output are
    those of query block `z`. -/
structure IsBlk (k j z : Fin 16) (b : Blk Ideal) : Prop where
  q : ∀ a d, b.q (ix2 a d) = ((A.q h (pos j a) d : ℝ) : EReal)
  v : ∀ a d, b.v (ix2 a d) = ((A.v h (pos k a) d : ℝ) : EReal)
  kt : ∀ d a, b.kt (ix2 d a) = ((A.k h (pos k a) d : ℝ) : EReal)
  dO : ∀ a d, b.dO (ix2 a d) = ((A.g h (pos j a) d : ℝ) : EReal)
  dOt : ∀ d a, b.dOt (ix2 d a) = ((A.g h (pos z a) d : ℝ) : EReal)
  oT : ∀ d a, b.oT (ix2 d a) = ((A.o h (pos z a) d : ℝ) : EReal)
  lse : ∀ a, b.lse (ix3 0 0 a) = ((A.lse h (pos j a) : ℝ) : EReal)
  fq : ∀ a, b.fq (ix3 0 0 a) = ((A.f h (pos j a) : ℝ) : EReal)
  fk : ∀ a, b.fk (ix3 0 a 0) = ((A.f h (pos k a) : ℝ) : EReal)
  k : ∀ a d, b.k (ix2 a d) = ((A.k h (pos k a) d : ℝ) : EReal)

/-- The sums of key block `k` over the first `n` query blocks. -/
structure KeySums (k : Fin 16) (n : ℕ) (s : St Ideal) : Prop where
  dk : ∀ y d, s.dk (ix2 y d) = ((sumTo n (fun i => A.dS h i (pos k y) * A.q h i d) : ℝ) : EReal)
  dv : ∀ y d, s.dv (ix2 y d) = ((sumTo n (fun i => A.P h i (pos k y) * A.g h i d) : ℝ) : EReal)
  dfk : ∀ y, s.dfk (ix2 y 0) = ((sumTo n (fun i => A.dS h i (pos k y)) : ℝ) : EReal)

/-- The sums of each query block over its first `N` key blocks. -/
structure QuerySums (N : Fin 16 → ℕ) (s : St Ideal) : Prop where
  dq : ∀ j d x, slQ s.dq j (ix3 0 d x) = ((sumTo (N j) (fun l => A.k h l d * A.dS h (pos j x) l) : ℝ) : EReal)
  dfq : ∀ j x, slD s.dfq j (ix3 0 0 x) = ((sumTo (N j) (fun l => A.dS h (pos j x) l) : ℝ) : EReal)

/-- The row sums stored in the head's first sweep. -/
def Deltas (k : Fin 16) (n : ℕ) (s : St Ideal) : Prop :=
  ∀ j : Fin 16, (0 < k.val ∨ j.val < n) → ∀ x, slD s.delta j (ix3 0 0 x) = ((A.delta h (pos j x) : ℝ) : EReal)

/-- In the sweep of key block `k` the first `n` query blocks have it already. -/
def upTo (k : Fin 16) (n : ℕ) (j : Fin 16) : ℕ := if j.val < n then k.val + 1 else k.val

/-- Before a grid point, -/
structure Pre (r : Fin 136) (s : St Ideal) : Prop where
  key : qiOf r ≠ kjOf r → KeySums A h (kjOf r) (qiOf r).val s
  query : r ≠ 0 → QuerySums A h (upTo (kjOf r) (qiOf r).val) s
  delta : Deltas A h (kjOf r) (qiOf r).val s

/-- and after it. -/
structure Post (k j : Fin 16) (s : St Ideal) : Prop where
  key : KeySums A h k (j.val + 1) s
  query : QuerySums A h (upTo k (j.val + 1)) s
  delta : Deltas A h k (j.val + 1) s

theorem row_lt {j k : Fin 16} (hjk : j.val < k.val) (x y : Fin 512) : ¬ pos k y ≤ pos j x := by
  rw [Fin.le_def]
  show ¬ k.val * 512 + y.val ≤ j.val * 512 + x.val
  omega

theorem row_le {j k : Fin 16} (hjk : k.val < j.val) (x y : Fin 512) : pos k y ≤ pos j x := by
  rw [Fin.le_def]
  show k.val * 512 + y.val ≤ j.val * 512 + x.val
  omega

theorem row_same (j : Fin 16) (x y : Fin 512) : pos j y ≤ pos j x ↔ y ≤ x := by
  rw [Fin.le_def, Fin.le_def]
  show j.val * 512 + y.val ≤ j.val * 512 + x.val ↔ _
  omega

/-- Positions before a key block have no weight on it. -/
theorem before {k : Fin 16} {y : Fin 512} {i : Fin 8192} (hi : i.val < k.val * 512) : ¬ pos k y ≤ i := by
  rw [Fin.le_def]
  show ¬ k.val * 512 + y.val ≤ i.val
  omega

section Block
variable {A h} {k j z : Fin 16} {b : Blk Ideal} (hb : IsBlk A h k j z b)
include hb

/-- The logits of a block. -/
theorem logit (y x : Fin 512) :
    (∑ d : Fin 128, b.k (ix2 y d) * b.q (ix2 x d)) * ((Attn.scale : ℝ) : EReal) + b.fq (ix3 0 0 x) - b.fk (ix3 0 y 0)
      = ((A.s h (pos j x) (pos k y) : ℝ) : EReal) := by
  simp only [hb.k, hb.q, hb.fq, hb.fk, ← EReal.coe_mul, ← coe_sum, ← EReal.coe_add, ← EReal.coe_sub]
  unfold Inputs.s
  congr 4
  exact Finset.sum_congr rfl fun d _ => mul_comm _ _

/-- The weights of a block below the diagonal, -/
theorem pL_at (hkj : k.val < j.val) (y x : Fin 512) : pL b (ix2 y x) = ((A.P h (pos j x) (pos k y) : ℝ) : EReal) := by
  unfold pL
  rw [pay7_at, logit hb, hb.lse, ← EReal.coe_sub, ← Attn.exp_lse A h (row_le hkj x y)]
  rfl

/-- and on it. -/
theorem pD_at (hkj : k = j) (y x : Fin 512) : pD b (ix2 y x) = ((A.P h (pos j x) (pos k y) : ℝ) : EReal) := by
  unfold pD
  rw [pay1_at, logit hb, hb.lse]
  split
  · rename_i hyx
    rw [← EReal.coe_sub, ← Attn.exp_lse A h (by rw [hkj]; exact (row_same j x y).mpr hyx)]
    rfl
  · rename_i hyx
    rw [EReal.bot_sub, Attn.P_above A h (by rw [hkj]; exact fun e => hyx ((row_same j x y).mp e))]
    rfl

variable {p : FVec Ideal S512x512 .f32} (hp : ∀ y x, p (ix2 y x) = ((A.P h (pos j x) (pos k y) : ℝ) : EReal))
  {dl : Vec Ideal S1x1x512 .f32} (hd : ∀ x, dl (ix3 0 0 x) = ((A.delta h (pos j x) : ℝ) : EReal))
include hp hd

/-- The logits' gradients of a block. -/
theorem ds_at (y x : Fin 512) : k0_pay3 p b.v b.dO dl (ix2 y x) = ((A.dS h (pos j x) (pos k y) : ℝ) : EReal) := by
  rw [pay3_at, hp, hd]
  simp only [hb.v, hb.dO, ← EReal.coe_mul, ← coe_sum, ← EReal.coe_sub]
  unfold Inputs.dS Inputs.dP
  congr 3
  exact Finset.sum_congr rfl fun d _ => mul_comm _ _

/-- A block's terms added to the five sums. -/
theorem add_block {s : St Ideal} {dv' : Vec Ideal S512x128 .f32}
    (hdv : ∀ y d, dv' (ix2 y d) = s.dv (ix2 y d) + ∑ x : Fin 512, p (ix2 y x) * b.dO (ix2 x d))
    (hk : KeySums A h k j.val s) (hq : QuerySums A h (upTo k j.val) s) (hdl : Deltas A h k (j.val + 1) s) :
    Post A h k j { s with
      dv := dv'
      dk := k0_pay4 p b.v b.dO dl s.dk b.q
      dfk := k0_pay5 p b.v b.dO dl s.dfk
      dfq := putD s.dfq j (k0_pay52 (k0_pay6 p b.v b.dO dl (slD s.dfq j)))
      dq := putQ s.dq j (k0_pay53 (k0_pay3 p b.v b.dO dl) (slQ s.dq j) b.kt) } where
  key := by
    refine ⟨fun y d => ?_, fun y d => ?_, fun y => ?_⟩
    · show k0_pay4 p b.v b.dO dl s.dk b.q (ix2 y d) = _
      rw [pay4_at, hk.dk, sumTo_succ, EReal.coe_add, coe_sum]
      simp only [ds_at hb hp hd, hb.q, EReal.coe_mul]
    · show dv' (ix2 y d) = _
      rw [hdv, hk.dv, sumTo_succ, EReal.coe_add, coe_sum]
      simp only [hp, hb.dO, EReal.coe_mul]
    · show k0_pay5 p b.v b.dO dl s.dfk (ix2 y 0) = _
      rw [pay5_at, hk.dfk, sumTo_succ, EReal.coe_add, coe_sum]
      simp only [ds_at hb hp hd]
  query := by
    have ej : upTo k j.val j = k.val := if_neg (lt_irrefl _)
    have ej' : upTo k (j.val + 1) j = k.val + 1 := if_pos (Nat.lt_succ_self _)
    have en : ∀ i : Fin 16, i ≠ j → upTo k (j.val + 1) i = upTo k j.val i := fun i hi => by
      have := Fin.val_ne_of_ne hi
      unfold upTo
      by_cases hl : i.val < j.val
      · rw [if_pos hl, if_pos (by omega)]
      · rw [if_neg hl, if_neg (by omega)]
    refine ⟨fun i d x => ?_, fun i x => ?_⟩
    · show slQ (putQ s.dq j _) i (ix3 0 d x) = _
      by_cases hi : i = j
      · subst hi
        rw [slQ_put, pay53_at, hq.dq, ej, ej', sumTo_succ, EReal.coe_add, coe_sum]
        simp only [ds_at hb hp hd, hb.kt, EReal.coe_mul]
      · rw [slQ_put_ne _ hi, hq.dq, en i hi]
    · show slD (putD s.dfq j _) i (ix3 0 0 x) = _
      by_cases hi : i = j
      · subst hi
        rw [slD_put, pay6_at, hq.dfq, ej, ej', sumTo_succ, EReal.coe_add, coe_sum]
        simp only [ds_at hb hp hd]
      · rw [slD_put_ne _ hi, hq.dfq, en i hi]
  delta := hdl

end Block

/-- The block on the diagonal, -/
theorem st5_good {A : Inputs} {h : Fin 8} {k j z : Fin 16} {b : Blk Ideal} (hb : IsBlk A h k j z b) (hkj : k = j) {s : St Ideal}
    (hk : KeySums A h k j.val s) (hq : QuerySums A h (upTo k j.val) s) (hdl : Deltas A h k (j.val + 1) s) : Post A h k j (st5 k j b s) := by
  have hd := hdl j (Or.inr (Nat.lt_succ_self _))
  have hdv := pay2_at b.q b.k b.dO s.dv b.fq b.lse b.fk
  have e : st5 k j b s = _ := if_pos ((cond4_eq k j).mpr hkj)
  rw [e]
  exact add_block (p := pD b) (dl := slD s.delta j) (dv' := k0_pay2 b.q b.k b.fq b.fk b.lse s.dv b.dO) hb (pD_at hb hkj) hd hdv hk hq hdl

/-- and one below it. -/
theorem st6_good {A : Inputs} {h : Fin 8} {k j z : Fin 16} {b : Blk Ideal} (hb : IsBlk A h k j z b) (hkj : k.val < j.val) {s : St Ideal}
    (hk : KeySums A h k j.val s) (hq : QuerySums A h (upTo k j.val) s) (hdl : Deltas A h k (j.val + 1) s) : Post A h k j (st6 k j b s) := by
  have hd := hdl j (Or.inr (Nat.lt_succ_self _))
  have hdv := pay8_at b.q b.k b.dO s.dv b.fq b.lse b.fk
  have e : st6 k j b s = _ := if_pos ((cond5_eq k j).mpr (fun e => by rw [e] at hkj; exact lt_irrefl _ hkj))
  rw [e, pay12_eq, pay13_eq, pay14_eq, pay11_eq, pay54_eq]
  exact add_block (p := pL b) (dl := slD s.delta j) (dv' := k0_pay8 b.q b.k b.fq b.fk b.lse s.dv b.dO) hb (pL_at hb hkj) hd hdv hk hq hdl

/-- Every grid point keeps the sums. -/
theorem step_good (r : Fin 136) {b : Blk Ideal} (hb : IsBlk A h (kjOf r) (qiOf r) (qz r) b) {s : St Ideal} (hs : Pre A h r s) :
    Post A h (kjOf r) (qiOf r) (step (kjOf r) (qiOf r) (lit2 r) b s) := by
  have hle := kj_le_qi r
  unfold step
  -- the query sums after the first test
  have q2 : QuerySums A h (upTo (kjOf r) (qiOf r).val) (st2 (lit2 r) s) := by
    unfold st2
    by_cases h0 : r = 0
    · rw [if_pos ((bit_headFirst r).mpr h0)]
      have e : ∀ j, upTo (kjOf r) (qiOf r).val j = 0 := fun j => by
        rw [h0, kj_zero, qi_zero]; exact if_neg (Nat.not_lt_zero _)
      refine ⟨fun j d x => ?_, fun j x => ?_⟩
      · show slQ k0_pay46 j (ix3 0 d x) = _
        rw [slQ_at, pay46_at, e, sumTo_zero]; rfl
      · show slD k0_pay47 j (ix3 0 0 x) = _
        rw [slD_at, pay47_at, e, sumTo_zero]; rfl
    · rw [if_neg (fun e => h0 ((bit_headFirst r).mp e))]
      exact hs.query h0
  have k2 : qiOf r ≠ kjOf r → KeySums A h (kjOf r) (qiOf r).val (st2 (lit2 r) s) := fun hn => by
    have := hs.key hn
    unfold st2
    split
    · exact ⟨this.dk, this.dv, this.dfk⟩
    · exact this
  have d2 : Deltas A h (kjOf r) (qiOf r).val (st2 (lit2 r) s) := by
    have := hs.delta
    unfold st2
    split
    · exact this
    · exact this
  generalize st2 (lit2 r) s = s2 at q2 k2 d2 ⊢
  -- the key sums after the second
  have k3 : KeySums A h (kjOf r) (qiOf r).val (st3 (lit2 r) s2) := by
    unfold st3
    by_cases h0 : qiOf r = kjOf r
    · rw [if_pos ((bit_first r).mpr h0), h0]
      refine ⟨fun y d => ?_, fun y d => ?_, fun y => ?_⟩
      · show k0_pay48 (ix2 y d) = _
        rw [pay48_at, sumTo_vanish _ _ fun i hi => by rw [Attn.dS_above A h (before hi), zero_mul]]; rfl
      · show k0_pay49 (ix2 y d) = _
        rw [pay49_at, sumTo_vanish _ _ fun i hi => by rw [Attn.P_above A h (before hi), zero_mul]]; rfl
      · show k0_pay50 (ix2 y 0) = _
        rw [pay50_at, sumTo_vanish _ _ fun i hi => Attn.dS_above A h (before hi)]; rfl
    · rw [if_neg (fun e => h0 ((bit_first r).mp e))]
      exact k2 h0
  have q3 : QuerySums A h (upTo (kjOf r) (qiOf r).val) (st3 (lit2 r) s2) := by
    unfold st3
    split
    · exact ⟨q2.dq, q2.dfq⟩
    · exact q2
  have d3 : Deltas A h (kjOf r) (qiOf r).val (st3 (lit2 r) s2) := by
    unfold st3
    split
    · exact d2
    · exact d2
  generalize st3 (lit2 r) s2 = s3 at k3 q3 d3 ⊢
  -- the row sums after the third
  have d4 : Deltas A h (kjOf r) ((qiOf r).val + 1) (st4 (qiOf r) (lit2 r) b s3) := by
    unfold st4
    by_cases h0 : kjOf r = 0
    · rw [if_pos ((bit_keyZero r).mpr h0)]
      intro i hi x
      have hz : qz r = qiOf r := if_pos h0
      show slD (putD s3.delta (qiOf r) (k0_pay51 b.dOt b.oT)) i (ix3 0 0 x) = _
      by_cases hij : i = qiOf r
      · rw [hij, slD_put, pay51_at]
        simp only [hb.dOt, hb.oT, hz, ← EReal.coe_mul, ← coe_sum]
        rw [Attn.delta_eq]
      · have := Fin.val_ne_of_ne hij
        have hk0 : (kjOf r).val = 0 := by rw [h0]; rfl
        rw [slD_put_ne _ hij]
        exact d3 i (by omega) x
    · rw [if_neg (fun e => h0 ((bit_keyZero r).mp e))]
      have := Fin.val_ne_of_ne h0
      exact fun i _ x => d3 i (Or.inl (Nat.pos_of_ne_zero this)) x
  have k4 : KeySums A h (kjOf r) (qiOf r).val (st4 (qiOf r) (lit2 r) b s3) := by
    unfold st4
    split
    · exact ⟨k3.dk, k3.dv, k3.dfk⟩
    · exact k3
  have q4 : QuerySums A h (upTo (kjOf r) (qiOf r).val) (st4 (qiOf r) (lit2 r) b s3) := by
    unfold st4
    split
    · exact ⟨q3.dq, q3.dfq⟩
    · exact q3
  generalize st4 (qiOf r) (lit2 r) b s3 = s4 at k4 q4 d4 ⊢
  by_cases hkj : kjOf r = qiOf r
  · have e6 : ∀ t, st6 (kjOf r) (qiOf r) b t = t := fun t => if_neg fun e => (cond5_eq _ _).mp e hkj
    rw [e6]
    exact st5_good hb hkj k4 q4 d4
  · have e5 : st5 (kjOf r) (qiOf r) b s4 = s4 := if_neg fun e => hkj ((cond4_eq _ _).mp e)
    rw [e5]
    exact st6_good hb (lt_of_le_of_ne hle (Fin.val_ne_of_ne hkj)) k4 q4 d4

/-- The first point of a head may find anything. -/
theorem pre_first (s : St Ideal) : Pre A h 0 s where
  key := fun hn => absurd (qi_zero.trans kj_zero.symm) hn
  query := fun hn => absurd rfl hn
  delta := fun j hj => by rw [kj_zero, qi_zero] at hj; exact absurd hj (by simp)

/-- What a point leaves is what the next of the head may find. -/
theorem pre_next (r r' : Fin 136) (hr : r'.val = r.val + 1) {s : St Ideal} (hs : Post A h (kjOf r) (qiOf r) s) : Pre A h r' s := by
  by_cases h15 : qiOf r = 15
  · obtain ⟨hk, hq⟩ := next_out r r' hr h15
    refine ⟨fun hn => absurd hq hn, fun _ => ?_, ?_⟩
    · have key : ∀ (j : Fin 16) (g : Fin 8192 → ℝ), (∀ l, ¬ l ≤ pos j 511 → g l = 0) →
          sumTo (upTo (kjOf r) ((qiOf r).val + 1) j) g = sumTo (upTo (kjOf r') (qiOf r').val j) g := by
        intro j g hg
        have e1 : upTo (kjOf r) ((qiOf r).val + 1) j = (kjOf r').val := by
          rw [h15]; unfold upTo
          rw [if_pos (show j.val < (15 : Fin 16).val + 1 from j.isLt), hk]
        rw [e1, hq]
        unfold upTo
        split
        · rename_i hj
          exact (sumTo_stay _ _ fun a => hg _ (row_lt hj _ _)).symm
        · rfl
      have hlast : ∀ (j : Fin 16) (x : Fin 512) (l : Fin 8192), ¬ l ≤ pos j 511 → ¬ l ≤ pos j x := fun j x l hl e => hl <| by
        rw [Fin.le_def] at e ⊢
        have e' : l.val ≤ j.val * 512 + x.val := e
        show l.val ≤ j.val * 512 + 511
        omega
      refine ⟨fun j d x => ?_, fun j x => ?_⟩
      · rw [hs.query.dq, key j _ fun l hl => by rw [Attn.dS_above A h (hlast j x l hl), mul_zero]]
      · rw [hs.query.dfq, key j _ fun l hl => Attn.dS_above A h (hlast j x l hl)]
    · intro j _ x
      exact hs.delta j (Or.inr (by rw [h15]; exact j.isLt)) x
  · obtain ⟨hk, hq⟩ := next_in r r' hr h15
    refine ⟨fun _ => ?_, fun _ => ?_, ?_⟩
    · rw [hk, hq]; exact hs.key
    · rw [hk, hq]; exact hs.query
    · rw [hk, hq]; exact hs.delta

end Flash

end
-- ==== Proof.AttnBlocks.lean ====
/-
  The blocks a grid point of the attention's backward call reads, from finite inputs.
-/
module

public import proofs.«01_k».proof.Proof.FlashGood
public import proofs.«01_k».proof.Proof.FlashLaunch

@[expose] public section

set_option maxRecDepth 16384

noncomputable section

namespace Attn

open Idealize.ShloMosaic Cert.KernelIdeal Cert.KernelIdeal.Gen Idealize.ShloMosaic.TcCoe Idealize.SL.Sem
open Flash (V cf adm ib blkAt rowAt kjOf qiOf qz pos IsBlk)

variable (m : (ℓ : Loc nD τ sig) → Buf (Elt Ideal) ℓ) (c : Dev nD)
variable (z : S8192x5120.Idx → ℝ) (dy : S8192x2048.Idx → ℝ) (f : S8x8192.Idx → ℝ)
variable (hz : zOf m c = up z) (hdy : dyOf m c = up dy) (hf : fOf m c = up f)
variable (t : Fin grid0.N)

/-- A grid point's head. -/
abbrev headAt : Fin 8 := grid0.coords t 0

section Index
theorem index0 : ((cf (F := Ideal)).win 0).index t = ![(qiOf (rowAt t)).val, 4 + (headAt t).val] := Flash.tr0 _
theorem index1 : ((cf (F := Ideal)).win 1).index t = ![(kjOf (rowAt t)).val, 12 + (headAt t).val] := Flash.tr1 _
theorem index2 : ((cf (F := Ideal)).win 2).index t = ![(kjOf (rowAt t)).val, 20 + (headAt t).val] := Flash.tr2 _
theorem index3 : ((cf (F := Ideal)).win 3).index t = ![(headAt t).val, (kjOf (rowAt t)).val] := Flash.tr3 _
theorem index4 : ((cf (F := Ideal)).win 4).index t = ![(qiOf (rowAt t)).val, 4 + (headAt t).val] := Flash.tr4 _
theorem index5 : ((cf (F := Ideal)).win 5).index t = ![(headAt t).val, (qz (rowAt t)).val] := Flash.tr5 _
theorem index6 : ((cf (F := Ideal)).win 6).index t = ![(headAt t).val, (qz (rowAt t)).val] := Flash.tr6 _
theorem index7 : ((cf (F := Ideal)).win 7).index t = ![(headAt t).val, 0, (qiOf (rowAt t)).val] := Flash.tr7 _
theorem index8 : ((cf (F := Ideal)).win 8).index t = ![(headAt t).val, 0, (qiOf (rowAt t)).val] := Flash.tr8 _
theorem index9 : ((cf (F := Ideal)).win 9).index t = ![(headAt t).val, (kjOf (rowAt t)).val, 0] := Flash.tr9 _
end Index

/-- An array of the transposed heads, read by head; -/
theorem at_rows {x : S1024x8192.Idx → EReal} {G : Fin 8 → Fin 8192 → Fin 128 → ℝ}
    (hx : ∀ r i, x (ix2 r i) = ((G ⟨r.val / 128, Nat.div_lt_of_lt_mul r.isLt⟩ i ⟨r.val % 128, Nat.mod_lt _ (by norm_num)⟩ : ℝ) : EReal))
    (h : Fin 8) (i : Fin 8192) (d : Fin 128) (y : S1024x8192.Idx) (h0 : (y 0).val = h.val * 128 + d.val) (h1 : (y 1).val = i.val) :
    x y = ((G h i d : ℝ) : EReal) := by
  have e : y = ix2 ⟨h.val * 128 + d.val, by omega⟩ i := by
    funext b; apply Fin.ext
    match b with
    | ⟨0, _⟩ => exact h0
    | ⟨1, _⟩ => exact h1
  rw [e, hx]
  congr 2
  · apply Fin.ext; show (h.val * 128 + d.val) / 128 = h.val; omega
  · apply Fin.ext; show (h.val * 128 + d.val) % 128 = d.val; omega

/-- one of rows of scalars, -/
theorem at_row {x : S8x1x8192.Idx → EReal} {G : Fin 8 → Fin 8192 → ℝ} (hx : ∀ h i (o : Fin 1), x (ix3 h o i) = ((G h i : ℝ) : EReal))
    (h : Fin 8) (i : Fin 8192) (y : S8x1x8192.Idx) (h0 : (y 0).val = h.val) (h2 : (y 2).val = i.val) : x y = ((G h i : ℝ) : EReal) := by
  have e : y = ix3 h 0 i := by
    funext b; apply Fin.ext
    match b with
    | ⟨0, _⟩ => exact h0
    | ⟨1, _⟩ => exact Nat.lt_one_iff.mp (y 1).isLt
    | ⟨2, _⟩ => exact h2
  rw [e, hx]

/-- and one of columns. -/
theorem at_col {x : S8x8192x1.Idx → EReal} {G : Fin 8 → Fin 8192 → ℝ} (hx : ∀ h i (o : Fin 1), x (ix3 h i o) = ((G h i : ℝ) : EReal))
    (h : Fin 8) (i : Fin 8192) (y : S8x8192x1.Idx) (h0 : (y 0).val = h.val) (h1 : (y 1).val = i.val) : x y = ((G h i : ℝ) : EReal) := by
  have e : y = ix3 h i 0 := by
    funext b; apply Fin.ext
    match b with
    | ⟨0, _⟩ => exact h0
    | ⟨1, _⟩ => exact h1
    | ⟨2, _⟩ => exact Nat.lt_one_iff.mp (y 2).isLt
  rw [e, hx]

include hz in
theorem read_q (a : Fin 512) (d : Fin 128) :
    (blkAt m c t).q (ix2 a d) = (((inputs z dy f).q (headAt t) (pos (qiOf (rowAt t)) a) d : ℝ) : EReal) := by
  show V m c main_arg0 ((((cf (F := Ideal)).win 0).blk t).view.emb (ix2 a d)) = _
  rw [Flash.V_arg0]
  refine (congrFun hz _).trans ?_
  show ((z _ : ℝ) : EReal) = ((z _ : ℝ) : EReal)
  congr 2
  funext b; apply Fin.ext
  match b with
  | ⟨0, _⟩ =>
    show ((cf (F := Ideal)).win 0).index t (0 : Fin 2) * 512 + 1 * a.val = (qiOf (rowAt t)).val * 512 + a.val
    rw [index0]
    show (qiOf (rowAt t)).val * 512 + 1 * a.val = _
    omega
  | ⟨1, _⟩ =>
    show ((cf (F := Ideal)).win 0).index t (1 : Fin 2) * 128 + 1 * d.val = 512 + ((headAt t).val * 128 + d.val)
    rw [index0]
    show (4 + (headAt t).val) * 128 + 1 * d.val = _
    omega

include hz in
theorem read_k (a : Fin 512) (d : Fin 128) :
    (blkAt m c t).k (ix2 a d) = (((inputs z dy f).k (headAt t) (pos (kjOf (rowAt t)) a) d : ℝ) : EReal) := by
  show V m c main_arg0 ((((cf (F := Ideal)).win 1).blk t).view.emb (ix2 a d)) = _
  rw [Flash.V_arg0]
  refine (congrFun hz _).trans ?_
  show ((z _ : ℝ) : EReal) = ((z _ : ℝ) : EReal)
  congr 2
  funext b; apply Fin.ext
  match b with
  | ⟨0, _⟩ =>
    show ((cf (F := Ideal)).win 1).index t (0 : Fin 2) * 512 + 1 * a.val = (kjOf (rowAt t)).val * 512 + a.val
    rw [index1]
    show (kjOf (rowAt t)).val * 512 + 1 * a.val = _
    omega
  | ⟨1, _⟩ =>
    show ((cf (F := Ideal)).win 1).index t (1 : Fin 2) * 128 + 1 * d.val = 1536 + ((headAt t).val * 128 + d.val)
    rw [index1]
    show (12 + (headAt t).val) * 128 + 1 * d.val = _
    omega

include hz in
theorem read_v (a : Fin 512) (d : Fin 128) :
    (blkAt m c t).v (ix2 a d) = (((inputs z dy f).v (headAt t) (pos (kjOf (rowAt t)) a) d : ℝ) : EReal) := by
  show V m c main_arg0 ((((cf (F := Ideal)).win 2).blk t).view.emb (ix2 a d)) = _
  rw [Flash.V_arg0]
  refine (congrFun hz _).trans ?_
  show ((z _ : ℝ) : EReal) = ((z _ : ℝ) : EReal)
  congr 2
  funext b; apply Fin.ext
  match b with
  | ⟨0, _⟩ =>
    show ((cf (F := Ideal)).win 2).index t (0 : Fin 2) * 512 + 1 * a.val = (kjOf (rowAt t)).val * 512 + a.val
    rw [index2]
    show (kjOf (rowAt t)).val * 512 + 1 * a.val = _
    omega
  | ⟨1, _⟩ =>
    show ((cf (F := Ideal)).win 2).index t (1 : Fin 2) * 128 + 1 * d.val = 2560 + ((headAt t).val * 128 + d.val)
    rw [index2]
    show (20 + (headAt t).val) * 128 + 1 * d.val = _
    omega

include hdy in
theorem read_dO (a : Fin 512) (d : Fin 128) :
    (blkAt m c t).dO (ix2 a d) = (((inputs z dy f).g (headAt t) (pos (qiOf (rowAt t)) a) d : ℝ) : EReal) := by
  show V m c main_arg1 ((((cf (F := Ideal)).win 4).blk t).view.emb (ix2 a d)) = _
  rw [Flash.V_arg1]
  refine (congrFun hdy _).trans ?_
  show ((dy _ : ℝ) : EReal) = ((dy _ : ℝ) : EReal)
  congr 2
  funext b; apply Fin.ext
  match b with
  | ⟨0, _⟩ =>
    show ((cf (F := Ideal)).win 4).index t (0 : Fin 2) * 512 + 1 * a.val = (qiOf (rowAt t)).val * 512 + a.val
    rw [index4]
    show (qiOf (rowAt t)).val * 512 + 1 * a.val = _
    omega
  | ⟨1, _⟩ =>
    show ((cf (F := Ideal)).win 4).index t (1 : Fin 2) * 128 + 1 * d.val = 512 + ((headAt t).val * 128 + d.val)
    rw [index4]
    show (4 + (headAt t).val) * 128 + 1 * d.val = _
    omega

include hz in
theorem read_kt (d : Fin 128) (a : Fin 512) :
    (blkAt m c t).kt (ix2 d a) = (((inputs z dy f).k (headAt t) (pos (kjOf (rowAt t)) a) d : ℝ) : EReal) := by
  show V m c main_v49 ((((cf (F := Ideal)).win 3).blk t).view.emb (ix2 d a)) = _
  rw [V_v49, hz]
  refine at_rows (v49A_at z dy f) (headAt t) (pos (kjOf (rowAt t)) a) d _ ?_ ?_
  · show ((cf (F := Ideal)).win 3).index t (0 : Fin 2) * 128 + 1 * d.val = (headAt t).val * 128 + d.val
    rw [index3]
    show (headAt t).val * 128 + 1 * d.val = _
    omega
  · show ((cf (F := Ideal)).win 3).index t (1 : Fin 2) * 512 + 1 * a.val = (kjOf (rowAt t)).val * 512 + a.val
    rw [index3]
    show (kjOf (rowAt t)).val * 512 + 1 * a.val = _
    omega

include hdy in
theorem read_dOt (d : Fin 128) (a : Fin 512) :
    (blkAt m c t).dOt (ix2 d a) = (((inputs z dy f).g (headAt t) (pos (qz (rowAt t)) a) d : ℝ) : EReal) := by
  show V m c main_v51 ((((cf (F := Ideal)).win 5).blk t).view.emb (ix2 d a)) = _
  rw [V_v51, hdy]
  refine at_rows (v51A_at z dy f) (headAt t) (pos (qz (rowAt t)) a) d _ ?_ ?_
  · show ((cf (F := Ideal)).win 5).index t (0 : Fin 2) * 128 + 1 * d.val = (headAt t).val * 128 + d.val
    rw [index5]
    show (headAt t).val * 128 + 1 * d.val = _
    omega
  · show ((cf (F := Ideal)).win 5).index t (1 : Fin 2) * 512 + 1 * a.val = (qz (rowAt t)).val * 512 + a.val
    rw [index5]
    show (qz (rowAt t)).val * 512 + 1 * a.val = _
    omega

include hz hf in
theorem read_oT (d : Fin 128) (a : Fin 512) :
    (blkAt m c t).oT (ix2 d a) = (((inputs z dy f).o (headAt t) (pos (qz (rowAt t)) a) d : ℝ) : EReal) := by
  show V m c main_v46 ((((cf (F := Ideal)).win 6).blk t).view.emb (ix2 d a)) = _
  rw [V_v46, hz, hf]
  refine at_rows (v46A_at z dy f) (headAt t) (pos (qz (rowAt t)) a) d _ ?_ ?_
  · show ((cf (F := Ideal)).win 6).index t (0 : Fin 2) * 128 + 1 * d.val = (headAt t).val * 128 + d.val
    rw [index6]
    show (headAt t).val * 128 + 1 * d.val = _
    omega
  · show ((cf (F := Ideal)).win 6).index t (1 : Fin 2) * 512 + 1 * a.val = (qz (rowAt t)).val * 512 + a.val
    rw [index6]
    show (qz (rowAt t)).val * 512 + 1 * a.val = _
    omega

theorem ib_lse (x : S8x1x8192.Idx → EReal) (e : V m c main_v54 = x) (y) :
    ib m c 7 t y = (((cf (F := Ideal)).win 7).blk t).view.read (Elt Ideal) x y := by
  rw [← e]; rfl
theorem emb_lse (x : S8x1x8192.Idx → EReal) (y) :
    (((cf (F := Ideal)).win 7).blk t).view.read (Elt Ideal) x y = x ((((cf (F := Ideal)).win 7).blk t).view.emb y) := rfl

include hz hf in
theorem read_lse (a : Fin 512) :
    (blkAt m c t).lse (ix3 0 0 a) = (((inputs z dy f).lse (headAt t) (pos (qiOf (rowAt t)) a) : ℝ) : EReal) := by
  have e : V m c main_v54 = v54A (up z) (up f) := by rw [V_v54, hz, hf]
  have hx := v54A_at z dy f
  revert e hx
  generalize v54A (up z) (up f) = x
  generalize (inputs z dy f).lse = G
  intro e hx
  refine (ib_lse m c t x e (ix3 0 0 a)).trans ((emb_lse t x _).trans ?_)
  refine at_row hx (headAt t) (pos (qiOf (rowAt t)) a) _ ?_ ?_
  · show ((cf (F := Ideal)).win 7).index t (0 : Fin 3) * 1 + 1 * 0 = (headAt t).val
    rw [index7]
    show (headAt t).val * 1 + 1 * 0 = _
    omega
  · show ((cf (F := Ideal)).win 7).index t (2 : Fin 3) * 512 + 1 * a.val = (qiOf (rowAt t)).val * 512 + a.val
    rw [index7]
    show (qiOf (rowAt t)).val * 512 + 1 * a.val = _
    omega

include hf in
theorem read_fq (a : Fin 512) :
    (blkAt m c t).fq (ix3 0 0 a) = (((inputs z dy f).f (headAt t) (pos (qiOf (rowAt t)) a) : ℝ) : EReal) := by
  show V m c main_v53 ((((cf (F := Ideal)).win 8).blk t).view.emb (ix3 0 0 a)) = _
  rw [V_v53, hf]
  refine at_row (v53_at z dy f) (headAt t) (pos (qiOf (rowAt t)) a) _ ?_ ?_
  · show ((cf (F := Ideal)).win 8).index t (0 : Fin 3) * 1 + 1 * 0 = (headAt t).val
    rw [index8]
    show (headAt t).val * 1 + 1 * 0 = _
    omega
  · show ((cf (F := Ideal)).win 8).index t (2 : Fin 3) * 512 + 1 * a.val = (qiOf (rowAt t)).val * 512 + a.val
    rw [index8]
    show (qiOf (rowAt t)).val * 512 + 1 * a.val = _
    omega

include hf in
theorem read_fk (a : Fin 512) :
    (blkAt m c t).fk (ix3 0 a 0) = (((inputs z dy f).f (headAt t) (pos (kjOf (rowAt t)) a) : ℝ) : EReal) := by
  show V m c main_v52 ((((cf (F := Ideal)).win 9).blk t).view.emb (ix3 0 a 0)) = _
  rw [V_v52, hf]
  refine at_col (v52_at z dy f) (headAt t) (pos (kjOf (rowAt t)) a) _ ?_ ?_
  · show ((cf (F := Ideal)).win 9).index t (0 : Fin 3) * 1 + 1 * 0 = (headAt t).val
    rw [index9]
    show (headAt t).val * 1 + 1 * 0 = _
    omega
  · show ((cf (F := Ideal)).win 9).index t (1 : Fin 3) * 512 + 1 * a.val = (kjOf (rowAt t)).val * 512 + a.val
    rw [index9]
    show (kjOf (rowAt t)).val * 512 + 1 * a.val = _
    omega

include hz hdy hf in
/-- The blocks of a point. -/
theorem isBlk : IsBlk (inputs z dy f) (headAt t) (kjOf (rowAt t)) (qiOf (rowAt t)) (qz (rowAt t)) (blkAt m c t) where
  q := read_q m c z dy f hz t
  v := read_v m c z dy f hz t
  kt := read_kt m c z dy f hz t
  dO := read_dO m c z dy f hdy t
  dOt := read_dOt m c z dy f hdy t
  oT := read_oT m c z dy f hz hf t
  lse := read_lse m c z dy f hz hf t
  fq := read_fq m c z dy f hf t
  fk := read_fk m c z dy f hf t
  k := read_k m c z dy f hz t

end Attn

end
-- ==== Proof.AttnOut.lean ====
/-
  What the attention's backward call writes back, block by block: the gradients of the queries, keys, values and forget sums.
-/
module

public import proofs.«01_k».proof.Proof.AttnBlocks

@[expose] public section

set_option maxRecDepth 16384

noncomputable section

namespace Attn

open Idealize.ShloMosaic Cert.KernelIdeal Cert.KernelIdeal.Gen Idealize.ShloMosaic.TcCoe Idealize.SL.Sem
open Flash (V cf adm ib blkAt rowAt kjOf qiOf qz pos IsBlk Reach stepAt Pre Post upTo sumTo St)

variable (m : (ℓ : Loc nD τ sig) → Buf (Elt Ideal) ℓ) (c : Dev nD)
variable (z : S8192x5120.Idx → ℝ) (dy : S8192x2048.Idx → ℝ) (f : S8x8192.Idx → ℝ)
variable (hz : zOf m c = up z) (hdy : dyOf m c = up dy) (hf : fOf m c = up f)

include hz hdy hf in
/-- What a point may find, -/
theorem reach_pre : ∀ (n : ℕ) (hn : n < grid0.N) (s : St Ideal), Reach m c n s →
    Pre (inputs z dy f) (headAt ⟨n, hn⟩) (rowAt ⟨n, hn⟩) s
  | 0, hn, s, _ => by
    have e : rowAt ⟨0, hn⟩ = 0 := Fin.ext (Flash.coord1 ⟨0, hn⟩)
    rw [e]
    exact Flash.pre_first _ _ s
  | n + 1, hn, s, ⟨hn', s₀, h₀, e₀⟩ => by
    have c1 : (rowAt ⟨n + 1, hn⟩).val = (n + 1) % 136 := Flash.coord1 _
    have c0 : (headAt ⟨n + 1, hn⟩).val = (n + 1) / 136 := Flash.coord0 _
    have d1 : (rowAt ⟨n, hn'⟩).val = n % 136 := Flash.coord1 _
    have d0 : (headAt ⟨n, hn'⟩).val = n / 136 := Flash.coord0 _
    by_cases h : (n + 1) % 136 = 0
    · have e : rowAt ⟨n + 1, hn⟩ = 0 := Fin.ext (c1.trans h)
      rw [e]
      exact Flash.pre_first _ _ s
    · have eh : headAt ⟨n + 1, hn⟩ = headAt ⟨n, hn'⟩ := Fin.ext (by omega)
      rw [eh, e₀]
      exact Flash.pre_next _ _ _ _ (by omega) (Flash.step_good _ _ _ (isBlk m c z dy f hz hdy hf ⟨n, hn'⟩) (reach_pre n hn' s₀ h₀))

variable (t : Fin grid0.N) {s : St Ideal}

include hz hdy hf in
/-- and what it leaves. -/
theorem reach_post (hs : Reach m c t.val s) : Post (inputs z dy f) (headAt t) (kjOf (rowAt t)) (qiOf (rowAt t)) (stepAt m c t s) :=
  Flash.step_good _ _ _ (isBlk m c z dy f hz hdy hf t) (reach_pre m c z dy f hz hdy hf t.val t.isLt s hs)

section Writes
variable {A : Inputs} {h : Fin 8} {k j : Fin 16} (hp : Post A h k j s)
include hp

theorem dk_write (hj : j = 15) (a : Fin 512) (d : Fin 128) : k0_pay55 s.dk (ix2 a d) = ((A.dk h (pos k a) d : ℝ) : EReal) := by
  subst hj
  rw [Flash.pay55_at, hp.key.dk, ← EReal.coe_mul]
  refine congrArg _ ((congrArg (· * scale) (Flash.sumTo_all _)).trans ?_)
  unfold Inputs.dk
  rw [Finset.sum_mul]
  exact Finset.sum_congr rfl fun i _ => by ring

theorem dv_write (hj : j = 15) (a : Fin 512) (d : Fin 128) : k0_pay56 s.dv (ix2 a d) = ((A.dv h (pos k a) d : ℝ) : EReal) := by
  subst hj
  rw [Flash.pay56_at, hp.key.dv]
  refine congrArg _ ((Flash.sumTo_all _).trans ?_)
  unfold Inputs.dv
  exact Finset.sum_congr rfl fun i _ => by ring

theorem dfk_write (hj : j = 15) (a : Fin 512) : k0_pay57 s.dfk (ix3 0 a 0) = ((A.dfk h (pos k a) : ℝ) : EReal) := by
  subst hj
  rw [Flash.pay57_at, hp.key.dfk, zero_sub, ← EReal.coe_neg]
  refine congrArg _ ((congrArg Neg.neg (Flash.sumTo_all _)).trans ?_)
  unfold Inputs.dfk
  rw [Finset.sum_neg_distrib]

theorem upTo_last (hk : k = 15) (hj : j = 15) (i : Fin 16) : upTo k (j.val + 1) i = 16 := by
  subst hj; subst hk
  exact if_pos (show i.val < (15 : Fin 16).val + 1 from i.isLt)

theorem dq_write (hk : k = 15) (hj : j = 15) (d : Fin 128) (i : Fin 8192) :
    Flash.outDq s.dq (ix2 d i) = ((A.dq h i d : ℝ) : EReal) := by
  have e : Flash.outDq s.dq (ix2 d i) = k0_pay15 (Flash.slQ s.dq ⟨i.val / 512, by omega⟩) (ix2 d ⟨i.val % 512, Nat.mod_lt _ (by norm_num)⟩) := rfl
  rw [e, Flash.pay15_at, hp.query.dq, upTo_last hp hk hj, ← EReal.coe_mul]
  refine congrArg _ ((congrArg (· * scale) (Flash.sumTo_all _)).trans ?_)
  unfold Inputs.dq
  rw [Finset.sum_mul]
  refine Finset.sum_congr rfl fun l _ => ?_
  rw [Flash.pos_div]
  ring

theorem dfq_write (hk : k = 15) (hj : j = 15) (i : Fin 8192) :
    Flash.outDfq s.dfq (ix3 0 0 i) = ((A.dfq h i : ℝ) : EReal) := by
  have e : Flash.outDfq s.dfq (ix3 0 0 i) = k0_pay16 (Flash.slD s.dfq ⟨i.val / 512, by omega⟩) (ix3 0 0 ⟨i.val % 512, Nat.mod_lt _ (by norm_num)⟩) := rfl
  rw [e, Flash.pay16_at, hp.query.dfq, upTo_last hp hk hj]
  refine congrArg _ ((Flash.sumTo_all _).trans ?_)
  unfold Inputs.dfq
  refine Finset.sum_congr rfl fun l _ => ?_
  rw [Flash.pos_div]
end Writes

end Attn

end
-- ==== Proof.AttnRefOut.lean ====
/-
  The reference's five results, from finite inputs, are the five gradients of `AttnReal`.
-/
module

public import proofs.«01_k».proof.Proof.AttnRef
public import proofs.«01_k».proof.Proof.Gen.ReferenceIdeal.Run

@[expose] public section

set_option maxRecDepth 16384

noncomputable section

namespace Attn

open Idealize.ShloMosaic Cert.ReferenceIdeal Cert.ReferenceIdeal.Gen Idealize.ShloMosaic.TcCoe Idealize.SL.Sem

/-! ## The results as arrays -/

def G0 (A : Inputs) (x : S1024x8192.Idx) : EReal :=
  ((A.dq ⟨(x 0).val / 128, Nat.div_lt_of_lt_mul (x 0).isLt⟩ (x 1) ⟨(x 0).val % 128, Nat.mod_lt _ (by norm_num)⟩ : ℝ) : EReal)
def G1 (A : Inputs) (x : S8192x1024.Idx) : EReal :=
  ((A.dk ⟨(x 1).val / 128, Nat.div_lt_of_lt_mul (x 1).isLt⟩ (x 0) ⟨(x 1).val % 128, Nat.mod_lt _ (by norm_num)⟩ : ℝ) : EReal)
def G2 (A : Inputs) (x : S8192x1024.Idx) : EReal :=
  ((A.dv ⟨(x 1).val / 128, Nat.div_lt_of_lt_mul (x 1).isLt⟩ (x 0) ⟨(x 1).val % 128, Nat.mod_lt _ (by norm_num)⟩ : ℝ) : EReal)
def G3 (A : Inputs) (x : S8x8192x1.Idx) : EReal := ((A.dfk (x 0) (x 1) : ℝ) : EReal)
def G4 (A : Inputs) (x : S8x1x8192.Idx) : EReal := ((A.dfq (x 0) (x 2) : ℝ) : EReal)

variable (z : FVec Ideal S8192x5120 .f32) (dy : FVec Ideal S8192x2048 .f32) (f : FVec Ideal S8x8192 .f32)

/-- The logits' gradient times the factor. -/
def dscA : FVec Ideal S8x8192x8192 .f32 := mulf (dsA z dy f) (broadcastInDim S8x8192x8192 ![] bcast_S_S8x8192x8192 (constant S_ .f32 0x3DB504F3#32))

def out0A : FVec Ideal S1024x8192 .bf16 :=
  truncf .bf16 (transpose S1024x8192 [1, 0] (shapeCast _ (transpose S8192x8x128 [1, 0, 2] (Host.dotGeneral (φ₁ := .f32) (φ₂ := .f32) dot_S8x8192x8192_S8x8192x128_S8x8192x128_2_1_1_2_0_0 none (dscA z dy f) (kA z)) transposes_S8x8192x128_S8192x8x128_1_0_2) shapeCasts_S8192x8x128_S8192x1024) transposes_S8192x1024_S1024x8192_1_0) bitsLt_bf16_f32

def out1A : FVec Ideal S8192x1024 .bf16 :=
  truncf .bf16 (shapeCast _ (transpose S8192x8x128 [1, 0, 2] (Host.dotGeneral (φ₁ := .f32) (φ₂ := .f32) dot_S8x8192x8192_S8x8192x128_S8x8192x128_1_1_2_2_0_0 none (dscA z dy f) (qA z)) transposes_S8x8192x128_S8192x8x128_1_0_2) shapeCasts_S8192x8x128_S8192x1024) bitsLt_bf16_f32

def out2A : FVec Ideal S8192x1024 .bf16 :=
  truncf .bf16 (shapeCast _ (transpose S8192x8x128 [1, 0, 2] (transpose S8x8192x128 [0, 2, 1] (Host.dotGeneral (φ₁ := .f32) (φ₂ := .f32) dot_S8x8192x128_S8x8192x8192_S8x128x8192_1_1_2_2_0_0 none (gA dy) (pA z f)) transposes_S8x128x8192_S8x8192x128_0_2_1) transposes_S8x8192x128_S8192x8x128_1_0_2) shapeCasts_S8192x8x128_S8192x1024) bitsLt_bf16_f32

def out3A : FVec Ideal S8x8192x1 .f32 :=
  broadcastInDim S8x8192x1 ![0, 1] bcast_S8x8192_S8x8192x1_0_1 (Host.reduceAdd (shapeCast _ (Host.reduceAdd (Host.negf (dsA z dy f)) (constant S_ .f32 0x00000000#32) reducesTo_S8x8192x8192_S8x8192_d1 h_S_) shapeCasts_S8x8192_S8x1x8192) (constant S_ .f32 0x00000000#32) reducesTo_S8x1x8192_S8x8192_d1 h_S_)

def out4A : FVec Ideal S8x1x8192 .f32 :=
  broadcastInDim S8x1x8192 ![0, 2] bcast_S8x8192_S8x1x8192_0_2 (Host.reduceAdd (shapeCast _ (Host.reduceAdd (dsA z dy f) (constant S_ .f32 0x00000000#32) reducesTo_S8x8192x8192_S8x8192_d2 h_S_) shapeCasts_S8x8192_S8x8192x1) (constant S_ .f32 0x00000000#32) reducesTo_S8x8192x1_S8x8192_d2 h_S_)

section
variable (m : (ℓ : Loc nD τ sig) → Buf (Elt Ideal) ℓ) (c : Dev nD)
theorem res0 : Value.res_out0 m c = out0A (m ((c : Thread nD τ).loc main_arg0)) (m ((c : Thread nD τ).loc main_arg1)) (m ((c : Thread nD τ).loc main_arg2)) := rfl
theorem res1 : Value.res_out1 m c = out1A (m ((c : Thread nD τ).loc main_arg0)) (m ((c : Thread nD τ).loc main_arg1)) (m ((c : Thread nD τ).loc main_arg2)) := rfl
theorem res2 : Value.res_out2 m c = out2A (m ((c : Thread nD τ).loc main_arg0)) (m ((c : Thread nD τ).loc main_arg1)) (m ((c : Thread nD τ).loc main_arg2)) := rfl
theorem res3 : Value.res_out3 m c = out3A (m ((c : Thread nD τ).loc main_arg0)) (m ((c : Thread nD τ).loc main_arg1)) (m ((c : Thread nD τ).loc main_arg2)) := rfl
theorem res4 : Value.res_out4 m c = out4A (m ((c : Thread nD τ).loc main_arg0)) (m ((c : Thread nD τ).loc main_arg1)) (m ((c : Thread nD τ).loc main_arg2)) := rfl
end

variable (z : S8192x5120.Idx → ℝ) (dy : S8192x2048.Idx → ℝ) (f : S8x8192.Idx → ℝ)

theorem dscA_at (h : Fin 8) (i j : Fin 8192) : dscA (up z) (up dy) (up f) (ix3 h i j) = (((inputs z dy f).dS h i j * scale : ℝ) : EReal) := by
  pointwise [dscA]
  rw [dsA_at, ofBits_scale, ← EReal.coe_mul]

theorem out0_eq : out0A (up z) (up dy) (up f) = G0 (inputs z dy f) := by
  funext x
  unfold out0A
  idx_vars x
  pointwise
  simp only [dscA_at, kA_at z dy f, ← EReal.coe_mul, ← coe_sum]
  rfl

theorem out1_eq : out1A (up z) (up dy) (up f) = G1 (inputs z dy f) := by
  funext x
  unfold out1A
  idx_vars x
  pointwise
  simp only [dscA_at, qA_at z dy f, ← EReal.coe_mul, ← coe_sum]
  rfl

theorem out2_eq : out2A (up z) (up dy) (up f) = G2 (inputs z dy f) := by
  funext x
  unfold out2A
  idx_vars x
  pointwise
  simp only [gA_at z dy f, pA_at z dy f, ← EReal.coe_mul, ← coe_sum]
  rfl

theorem out3_eq : out3A (up z) (up dy) (up f) = G3 (inputs z dy f) := by
  funext x
  unfold out3A
  idx_vars x
  pointwise
  rw [Fin.sum_univ_one]
  simp only [dsA_at, ← EReal.coe_neg, ← coe_sum]
  rfl

theorem out4_eq : out4A (up z) (up dy) (up f) = G4 (inputs z dy f) := by
  funext x
  unfold out4A
  idx_vars x
  pointwise
  rw [Fin.sum_univ_one]
  simp only [dsA_at, ← coe_sum]
  rfl

/-- The reference runs, keeps its arguments, and declares no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_ref_finite [hPre : Cert.Pre_finite.Facts] :
    Cert.quiescent_ReferenceIdeal_pre_finite (hReferenceIdeal := Cert.ReferenceIdeal.Gen.facts) := fun m g _ => frame_ref m g trivial

end Attn

end
-- ==== Proof.AttnArrays.lean ====
/-
  The five arrays the attention's backward call leaves are the gradients.
-/
module

public import proofs.«01_k».proof.Proof.AttnOut
public import proofs.«01_k».proof.Proof.AttnRefOut
public import Idealize.ShloMosaic.Lib.Pipeline.Covers
public import Idealize.ShloMosaic.Lib.Pipeline.ValueKit.Geometry

@[expose] public section

set_option maxRecDepth 16384

noncomputable section

namespace Attn

open Idealize.ShloMosaic Cert.KernelIdeal Cert.KernelIdeal.Gen Idealize.ShloMosaic.TcCoe Idealize.SL.Sem
open Flash (V cf adm ib blkAt rowAt kjOf qiOf qz pos Reach stepAt Post St rdat)

theorem tr10 (i : grid0.Coords) : cc0_transform_10 i = ![(i 0).val, 0] := by
  unfold cc0_transform_10; dsimp only; congr 1; exact Flash.hd (i 0)
theorem tr14 (i : grid0.Coords) : cc0_transform_14 i = ![(i 0).val, 0, 0] := by
  unfold cc0_transform_14; dsimp only; congr 1; exact Flash.hd (i 0)

section Flush
variable (t : Fin grid0.N)

theorem index10 : ((cf (F := Ideal)).win 10).index t = ![(headAt t).val, 0] := tr10 _
theorem index11 : ((cf (F := Ideal)).win 11).index t = ![(kjOf (rowAt t)).val, (headAt t).val] := Flash.tr11 _
theorem index12 : ((cf (F := Ideal)).win 12).index t = ![(kjOf (rowAt t)).val, (headAt t).val] := Flash.tr12 _
theorem index13 : ((cf (F := Ideal)).win 13).index t = ![(headAt t).val, (kjOf (rowAt t)).val, 0] := Flash.tr13 _
theorem index14 : ((cf (F := Ideal)).win 14).index t = ![(headAt t).val, 0, 0] := tr14 _

variable (ht : t.val + 1 = grid0.N ∨ ∃ h : t.val + 1 < grid0.N, (headAt ⟨t.val + 1, h⟩ ≠ headAt t ∨ kjOf (rowAt ⟨t.val + 1, h⟩) ≠ kjOf (rowAt t)))
include ht in
/-- A key block is written back after its last query block, -/
theorem last_of_flush : qiOf (rowAt t) = 15 := by
  have c1 : (rowAt t).val = t.val % 136 := Flash.coord1 _
  have c0 : (headAt t).val = t.val / 136 := Flash.coord0 _
  by_contra hq
  have hr : (rowAt t).val ≠ 135 := fun e => hq (by rw [show rowAt t = 135 from Fin.ext e]; exact Flash.qi_last)
  rcases ht with h | ⟨h, hne⟩
  · have h' := h.trans N_0; omega
  · have d1 : (rowAt ⟨t.val + 1, h⟩).val = (t.val + 1) % 136 := Flash.coord1 _
    have d0 : (headAt ⟨t.val + 1, h⟩).val = (t.val + 1) / 136 := Flash.coord0 _
    rcases hne with hne | hne
    · exact hne (Fin.ext (by omega))
    · exact hne (Flash.next_in _ _ (by omega) hq).1

variable (ht' : t.val + 1 = grid0.N ∨ ∃ h : t.val + 1 < grid0.N, headAt ⟨t.val + 1, h⟩ ≠ headAt t)
include ht' in
/-- and a head's query gradients after its last point. -/
theorem end_of_flush : rowAt t = 135 := by
  have c1 : (rowAt t).val = t.val % 136 := Flash.coord1 _
  have c0 : (headAt t).val = t.val / 136 := Flash.coord0 _
  apply Fin.ext
  show (rowAt t).val = 135
  rcases ht' with h | ⟨h, hne⟩
  · have h' := h.trans N_0; omega
  · have d0 : (headAt ⟨t.val + 1, h⟩).val = (t.val + 1) / 136 := Flash.coord0 _
    have := Fin.val_ne_of_ne hne
    omega

theorem flush10 (hf : ((cf (F := Ideal)).win 10).flush t = true) : rowAt t = 135 := by
  refine end_of_flush t ((Pipeline.Window.flush_out _ rfl t).mp hf |>.imp_right fun ⟨h, hne⟩ => ⟨h, fun e => hne ?_⟩)
  rw [index10, index10, e]
theorem flush14 (hf : ((cf (F := Ideal)).win 14).flush t = true) : rowAt t = 135 := by
  refine end_of_flush t ((Pipeline.Window.flush_out _ rfl t).mp hf |>.imp_right fun ⟨h, hne⟩ => ⟨h, fun e => hne ?_⟩)
  rw [index14, index14, e]
theorem flush11 (hf : ((cf (F := Ideal)).win 11).flush t = true) : qiOf (rowAt t) = 15 := by
  refine last_of_flush t ((Pipeline.Window.flush_out _ rfl t).mp hf |>.imp_right fun ⟨h, hne⟩ => ⟨h, ?_⟩)
  by_contra hn
  obtain ⟨e0, e1⟩ := not_or.mp hn
  exact hne (by rw [index11, index11, not_not.mp e0, not_not.mp e1])
theorem flush12 (hf : ((cf (F := Ideal)).win 12).flush t = true) : qiOf (rowAt t) = 15 := by
  refine last_of_flush t ((Pipeline.Window.flush_out _ rfl t).mp hf |>.imp_right fun ⟨h, hne⟩ => ⟨h, ?_⟩)
  by_contra hn
  obtain ⟨e0, e1⟩ := not_or.mp hn
  exact hne (by rw [index12, index12, not_not.mp e0, not_not.mp e1])
theorem flush13 (hf : ((cf (F := Ideal)).win 13).flush t = true) : qiOf (rowAt t) = 15 := by
  refine last_of_flush t ((Pipeline.Window.flush_out _ rfl t).mp hf |>.imp_right fun ⟨h, hne⟩ => ⟨h, ?_⟩)
  by_contra hn
  obtain ⟨e0, e1⟩ := not_or.mp hn
  exact hne (by rw [index13, index13, not_not.mp e0, not_not.mp e1])
end Flush

section Cover
/-- Some step works on any key block. -/
theorem kj_onto : ∀ k : Fin 16, ∃ r : Fin 136, kjOf r = k := by decide +kernel

/-- The grid point's coordinates. -/
def coordsOf (h : Fin 8) (r : Fin 136) : grid0.Coords
  | 0 => h
  | 1 => r
  | ⟨_ + 2, hh⟩ => absurd hh (Nat.not_lt.2 (Nat.le_add_left _ _))

theorem covers11 : ((cf (F := Ideal)).win 11).Covers :=
  ((cf (F := Ideal)).win 11).covers_of_indexMap_surj rfl (by decide) fun β => by
    obtain ⟨r, hr⟩ := kj_onto ⟨(β (0 : Fin 2)).val, (β (0 : Fin 2)).isLt⟩
    refine ⟨coordsOf ⟨(β (1 : Fin 2)).val, (β (1 : Fin 2)).isLt⟩ r, fun a => ?_⟩
    refine (congrFun (Flash.tr11 (F := Ideal) (coordsOf _ r)) a).trans ?_
    match a with
    | ⟨0, _⟩ => exact congrArg Fin.val hr
    | ⟨1, _⟩ => rfl
theorem covers12 : ((cf (F := Ideal)).win 12).Covers :=
  ((cf (F := Ideal)).win 12).covers_of_indexMap_surj rfl (by decide) fun β => by
    obtain ⟨r, hr⟩ := kj_onto ⟨(β (0 : Fin 2)).val, (β (0 : Fin 2)).isLt⟩
    refine ⟨coordsOf ⟨(β (1 : Fin 2)).val, (β (1 : Fin 2)).isLt⟩ r, fun a => ?_⟩
    refine (congrFun (Flash.tr12 (F := Ideal) (coordsOf _ r)) a).trans ?_
    match a with
    | ⟨0, _⟩ => exact congrArg Fin.val hr
    | ⟨1, _⟩ => rfl

theorem covers13 : ((cf (F := Ideal)).win 13).Covers :=
  ((cf (F := Ideal)).win 13).covers_of_indexMap_surj rfl (by decide) fun β => by
    obtain ⟨r, hr⟩ := kj_onto ⟨(β (1 : Fin 3)).val, (β (1 : Fin 3)).isLt⟩
    refine ⟨coordsOf ⟨(β (0 : Fin 3)).val, (β (0 : Fin 3)).isLt⟩ r, fun a => ?_⟩
    refine (congrFun (Flash.tr13 (F := Ideal) (coordsOf _ r)) a).trans ?_
    match a with
    | ⟨0, _⟩ => rfl
    | ⟨1, _⟩ => exact congrArg Fin.val hr
    | ⟨2, _⟩ => exact (Nat.lt_one_iff.mp (β (2 : Fin 3)).isLt).symm

theorem covers10 : ((cf (F := Ideal)).win 10).Covers :=
  ((cf (F := Ideal)).win 10).covers_of_indexMap_surj rfl (by decide) fun β => by
    obtain ⟨r, hr⟩ := kj_onto 0
    refine ⟨coordsOf ⟨(β (0 : Fin 2)).val, (β (0 : Fin 2)).isLt⟩ r, fun a => ?_⟩
    refine (congrFun (tr10 (coordsOf _ r)) a).trans ?_
    match a with
    | ⟨0, _⟩ => rfl
    | ⟨1, _⟩ => exact (Nat.lt_one_iff.mp (β (1 : Fin 2)).isLt).symm

theorem covers14 : ((cf (F := Ideal)).win 14).Covers :=
  ((cf (F := Ideal)).win 14).covers_of_indexMap_surj rfl (by decide) fun β => by
    obtain ⟨r, hr⟩ := kj_onto 0
    refine ⟨coordsOf ⟨(β (0 : Fin 3)).val, (β (0 : Fin 3)).isLt⟩ r, fun a => ?_⟩
    refine (congrFun (tr14 (coordsOf _ r)) a).trans ?_
    match a with
    | ⟨0, _⟩ => rfl
    | ⟨1, _⟩ => exact (Nat.lt_one_iff.mp (β (1 : Fin 3)).isLt).symm
    | ⟨2, _⟩ => exact (Nat.lt_one_iff.mp (β (2 : Fin 3)).isLt).symm

end Cover

section Final
variable {m : (ℓ : Loc nD τ sig) → Buf (Elt Ideal) ℓ} (c : Dev nD)
variable {z : S8192x5120.Idx → ℝ} {dy : S8192x2048.Idx → ℝ} {f : S8x8192.Idx → ℝ}
variable (hz : zOf m c = up z) (hdy : dyOf m c = up dy) (hf : fOf m c = up f)

section At
variable (A : Inputs) (h : Fin 8) (p : Fin 8192) (d : Fin 128)
theorem G0_at (x : S1024x8192.Idx) (h0 : (x 0).val = h.val * 128 + d.val) (h1 : (x 1).val = p.val) :
    G0 A x = ((A.dq h p d : ℝ) : EReal) := by
  unfold G0
  congr 2
  · apply Fin.ext; show (x 0).val / 128 = h.val; omega
  · exact Fin.ext h1
  · apply Fin.ext; show (x 0).val % 128 = d.val; omega
theorem G1_at (x : S8192x1024.Idx) (h0 : (x 0).val = p.val) (h1 : (x 1).val = h.val * 128 + d.val) :
    G1 A x = ((A.dk h p d : ℝ) : EReal) := by
  unfold G1
  congr 2
  · apply Fin.ext; show (x 1).val / 128 = h.val; omega
  · exact Fin.ext h0
  · apply Fin.ext; show (x 1).val % 128 = d.val; omega
theorem G2_at (x : S8192x1024.Idx) (h0 : (x 0).val = p.val) (h1 : (x 1).val = h.val * 128 + d.val) :
    G2 A x = ((A.dv h p d : ℝ) : EReal) := by
  unfold G2
  congr 2
  · apply Fin.ext; show (x 1).val / 128 = h.val; omega
  · exact Fin.ext h0
  · apply Fin.ext; show (x 1).val % 128 = d.val; omega
theorem G3_at (x : S8x8192x1.Idx) (h0 : (x 0).val = h.val) (h1 : (x 1).val = p.val) :
    G3 A x = ((A.dfk h p : ℝ) : EReal) := by
  unfold G3
  congr 2
  · exact Fin.ext h0
  · exact Fin.ext h1
theorem G4_at (x : S8x1x8192.Idx) (h0 : (x 0).val = h.val) (h2 : (x 2).val = p.val) :
    G4 A x = ((A.dfq h p : ℝ) : EReal) := by
  unfold G4
  congr 2
  · exact Fin.ext h0
  · exact Fin.ext h2
end At

variable (t : Fin grid0.N) {s : Flash.St Ideal} (hs : Reach m c t.val s)
include hz hdy hf hs

theorem write10 (hfl : ((cf (F := Ideal)).win 10).flush t = true) (Y : Vec Ideal S128x8192 .bf16) (y : S128x8192.Idx) (x : S1024x8192.Idx)
    (h0 : (x 0).val = (headAt t).val * 128 + (y 0).val) (h1 : (x 1).val = (y 1).val) :
    Flash.o15 (lit2 (rowAt t)) (stepAt m c t s) Y y = G0 (inputs z dy f) x := by
  have hr := flush10 t hfl
  have hk : kjOf (rowAt t) = 15 := by rw [hr]; exact Flash.kj_last
  have hq : qiOf (rowAt t) = 15 := by rw [hr]; exact Flash.qi_last
  unfold Flash.o15
  rw [if_pos ((Flash.bit_headLast _).mpr hr)]
  idx_vars y
  exact (dq_write (reach_post m c z dy f hz hdy hf t hs) hk hq _ _).trans (G0_at _ _ _ _ x h0 h1).symm
theorem write11 (hfl : ((cf (F := Ideal)).win 11).flush t = true) (Y : Vec Ideal S512x128 .bf16) (y : S512x128.Idx) (x : S8192x1024.Idx)
    (h0 : (x 0).val = (kjOf (rowAt t)).val * 512 + (y 0).val) (h1 : (x 1).val = (headAt t).val * 128 + (y 1).val) :
    Flash.o16 (lit2 (rowAt t)) (stepAt m c t s) Y y = G1 (inputs z dy f) x := by
  unfold Flash.o16
  rw [if_pos ((Flash.bit_last _).mpr (flush11 t hfl))]
  idx_vars y
  exact (dk_write (reach_post m c z dy f hz hdy hf t hs) (flush11 t hfl) _ _).trans (G1_at _ _ _ _ x h0 h1).symm
theorem write12 (hfl : ((cf (F := Ideal)).win 12).flush t = true) (Y : Vec Ideal S512x128 .bf16) (y : S512x128.Idx) (x : S8192x1024.Idx)
    (h0 : (x 0).val = (kjOf (rowAt t)).val * 512 + (y 0).val) (h1 : (x 1).val = (headAt t).val * 128 + (y 1).val) :
    Flash.o17 (lit2 (rowAt t)) (stepAt m c t s) Y y = G2 (inputs z dy f) x := by
  unfold Flash.o17
  rw [if_pos ((Flash.bit_last _).mpr (flush12 t hfl))]
  idx_vars y
  exact (dv_write (reach_post m c z dy f hz hdy hf t hs) (flush12 t hfl) _ _).trans (G2_at _ _ _ _ x h0 h1).symm
theorem write13 (hfl : ((cf (F := Ideal)).win 13).flush t = true) (Y : Vec Ideal S1x512x1 .f32) (y : S1x512x1.Idx) (x : S8x8192x1.Idx)
    (h0 : (x 0).val = (headAt t).val) (h1 : (x 1).val = (kjOf (rowAt t)).val * 512 + (y 1).val) :
    Flash.o18 (lit2 (rowAt t)) (stepAt m c t s) Y y = G3 (inputs z dy f) x := by
  unfold Flash.o18
  rw [if_pos ((Flash.bit_last _).mpr (flush13 t hfl))]
  have ey : y = ix3 (0 : Fin 1) (y 1) (0 : Fin 1) := by
    funext a
    match a with
    | ⟨0, _⟩ => exact Subsingleton.elim (α := Fin 1) _ _
    | ⟨1, _⟩ => rfl
    | ⟨2, _⟩ => exact Subsingleton.elim (α := Fin 1) _ _
  rw [ey]
  exact (dfk_write (reach_post m c z dy f hz hdy hf t hs) (flush13 t hfl) _).trans (G3_at _ _ _ x h0 h1).symm
theorem write14 (hfl : ((cf (F := Ideal)).win 14).flush t = true) (Y : Vec Ideal S1x1x8192 .f32) (y : S1x1x8192.Idx) (x : S8x1x8192.Idx)
    (h0 : (x 0).val = (headAt t).val) (h2 : (x 2).val = (y 2).val) :
    Flash.o19 (lit2 (rowAt t)) (stepAt m c t s) Y y = G4 (inputs z dy f) x := by
  have hr := flush14 t hfl
  have hk : kjOf (rowAt t) = 15 := by rw [hr]; exact Flash.kj_last
  have hq : qiOf (rowAt t) = 15 := by rw [hr]; exact Flash.qi_last
  unfold Flash.o19
  rw [if_pos ((Flash.bit_headLast _).mpr hr)]
  have ey : y = ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  rw [ey]
  exact (dfq_write (reach_post m c z dy f hz hdy hf t hs) hk hq _).trans (G4_at _ _ _ x h0 h2).symm

omit hs
variable {r : PUnit × MemSt nD τ sig (Elt Ideal)} (hpost : Pipeline.RDat.FramePost cf (rdat m) (V m) r)
include hpost

/-- The queries' gradient, a head's features in rows, -/
theorem final10 : r.2.mem ((c : Thread nD τ).loc main_v55_0) = G0 (inputs z dy f) := by
  obtain ⟨after, hL, hA⟩ := hpost.exists_exact c
  refine (hA 10).trans (Pipeline.Dat.arrAt_eq_of_covers _ 10 _ covers10 fun t hfl y => ?_)
  obtain ⟨Y, -, s, hs, e⟩ := hL 10 t hfl
  refine (congrFun e _).trans (write10 c hz hdy hf t hs hfl Y y _
    (by
      have e : ((cf (F := Ideal)).win 10).index t (0 : Fin 2) = _ := congrFun (index10 t) (0 : Fin 2)
      have hy := (y (0 : Fin 2)).isLt
      show ((cf (F := Ideal)).win 10).index t (0 : Fin 2) * 128 + 1 * (y (0 : Fin 2)).val = _
      rw [e]
      first | (simp; done) | (simp at hy ⊢; omega))
    (by
      have e : ((cf (F := Ideal)).win 10).index t (1 : Fin 2) = _ := congrFun (index10 t) (1 : Fin 2)
      have hy := (y (1 : Fin 2)).isLt
      show ((cf (F := Ideal)).win 10).index t (1 : Fin 2) * 8192 + 1 * (y (1 : Fin 2)).val = _
      rw [e]
      first | (simp; done) | (simp at hy ⊢; omega)))

/-- the keys', -/
theorem final11 : r.2.mem ((c : Thread nD τ).loc main_v55_1) = G1 (inputs z dy f) := by
  obtain ⟨after, hL, hA⟩ := hpost.exists_exact c
  refine (hA 11).trans (Pipeline.Dat.arrAt_eq_of_covers _ 11 _ covers11 fun t hfl y => ?_)
  obtain ⟨Y, -, s, hs, e⟩ := hL 11 t hfl
  refine (congrFun e _).trans (write11 c hz hdy hf t hs hfl Y y _
    (by
      have e : ((cf (F := Ideal)).win 11).index t (0 : Fin 2) = _ := congrFun (index11 t) (0 : Fin 2)
      have hy := (y (0 : Fin 2)).isLt
      show ((cf (F := Ideal)).win 11).index t (0 : Fin 2) * 512 + 1 * (y (0 : Fin 2)).val = _
      rw [e]
      first | (simp; done) | (simp at hy ⊢; omega))
    (by
      have e : ((cf (F := Ideal)).win 11).index t (1 : Fin 2) = _ := congrFun (index11 t) (1 : Fin 2)
      have hy := (y (1 : Fin 2)).isLt
      show ((cf (F := Ideal)).win 11).index t (1 : Fin 2) * 128 + 1 * (y (1 : Fin 2)).val = _
      rw [e]
      first | (simp; done) | (simp at hy ⊢; omega)))

/-- the values', -/
theorem final12 : r.2.mem ((c : Thread nD τ).loc main_v55_2) = G2 (inputs z dy f) := by
  obtain ⟨after, hL, hA⟩ := hpost.exists_exact c
  refine (hA 12).trans (Pipeline.Dat.arrAt_eq_of_covers _ 12 _ covers12 fun t hfl y => ?_)
  obtain ⟨Y, -, s, hs, e⟩ := hL 12 t hfl
  refine (congrFun e _).trans (write12 c hz hdy hf t hs hfl Y y _
    (by
      have e : ((cf (F := Ideal)).win 12).index t (0 : Fin 2) = _ := congrFun (index12 t) (0 : Fin 2)
      have hy := (y (0 : Fin 2)).isLt
      show ((cf (F := Ideal)).win 12).index t (0 : Fin 2) * 512 + 1 * (y (0 : Fin 2)).val = _
      rw [e]
      first | (simp; done) | (simp at hy ⊢; omega))
    (by
      have e : ((cf (F := Ideal)).win 12).index t (1 : Fin 2) = _ := congrFun (index12 t) (1 : Fin 2)
      have hy := (y (1 : Fin 2)).isLt
      show ((cf (F := Ideal)).win 12).index t (1 : Fin 2) * 128 + 1 * (y (1 : Fin 2)).val = _
      rw [e]
      first | (simp; done) | (simp at hy ⊢; omega)))

/-- that of the keys' forget sums -/
theorem final13 : r.2.mem ((c : Thread nD τ).loc main_v55_3) = G3 (inputs z dy f) := by
  obtain ⟨after, hL, hA⟩ := hpost.exists_exact c
  refine (hA 13).trans (Pipeline.Dat.arrAt_eq_of_covers _ 13 _ covers13 fun t hfl y => ?_)
  obtain ⟨Y, -, s, hs, e⟩ := hL 13 t hfl
  refine (congrFun e _).trans (write13 c hz hdy hf t hs hfl Y y _
    (by
      have e : ((cf (F := Ideal)).win 13).index t (0 : Fin 3) = _ := congrFun (index13 t) (0 : Fin 3)
      have hy := (y (0 : Fin 3)).isLt
      show ((cf (F := Ideal)).win 13).index t (0 : Fin 3) * 1 + 1 * (y (0 : Fin 3)).val = _
      rw [e]
      first | (simp; done) | (simp at hy ⊢; omega))
    (by
      have e : ((cf (F := Ideal)).win 13).index t (1 : Fin 3) = _ := congrFun (index13 t) (1 : Fin 3)
      have hy := (y (1 : Fin 3)).isLt
      show ((cf (F := Ideal)).win 13).index t (1 : Fin 3) * 512 + 1 * (y (1 : Fin 3)).val = _
      rw [e]
      first | (simp; done) | (simp at hy ⊢; omega)))

/-- and that of the queries'. -/
theorem final14 : r.2.mem ((c : Thread nD τ).loc main_v55_4) = G4 (inputs z dy f) := by
  obtain ⟨after, hL, hA⟩ := hpost.exists_exact c
  refine (hA 14).trans (Pipeline.Dat.arrAt_eq_of_covers _ 14 _ covers14 fun t hfl y => ?_)
  obtain ⟨Y, -, s, hs, e⟩ := hL 14 t hfl
  refine (congrFun e _).trans (write14 c hz hdy hf t hs hfl Y y _
    (by
      have e : ((cf (F := Ideal)).win 14).index t (0 : Fin 3) = _ := congrFun (index14 t) (0 : Fin 3)
      have hy := (y (0 : Fin 3)).isLt
      show ((cf (F := Ideal)).win 14).index t (0 : Fin 3) * 1 + 1 * (y (0 : Fin 3)).val = _
      rw [e]
      first | (simp; done) | (simp at hy ⊢; omega))
    (by
      have e : ((cf (F := Ideal)).win 14).index t (2 : Fin 3) = _ := congrFun (index14 t) (2 : Fin 3)
      have hy := (y (2 : Fin 3)).isLt
      show ((cf (F := Ideal)).win 14).index t (2 : Fin 3) * 8192 + 1 * (y (2 : Fin 3)).val = _
      rw [e]
      first | (simp; done) | (simp at hy ⊢; omega)))

end Final

end Attn

end
-- ==== Proof.AttnFinite.lean ====
/-
  What the precondition gives: every input is a real number.
-/
module

public import proofs.«01_k».proof.Pre_finite
public import proofs.«01_k».proof.Proof.AttnRef
public import Idealize.ShloMosaic.Lib.ReduceAll

@[expose] public section

noncomputable section

namespace Attn

open Idealize.ShloMosaic

/-- An extended real whose absolute value is below `⊤` is a real. -/
theorem real_of_olt (a : EReal) (h : Ideal.cmp .olt (max a (-a)) ⊤ = 1#1) : ∃ r : ℝ, a = (r : EReal) := by
  induction a with
  | bot => simp [Ideal.cmp] at h
  | top => simp [Ideal.cmp] at h
  | coe r => exact ⟨r, rfl⟩

/-- An array all of whose elements pass that test is an array of reals. -/
theorem real_of_all {s : Shape} (x b : FVec Ideal s .f32) (hb : ∀ i, b i = (⊤ : EReal)) (h : ∀ i, cmpf .olt (Host.absf x) b i = 1#1) :
    ∃ r : s.Idx → ℝ, x = up r := by
  have e : ∀ i, ∃ r : ℝ, x i = (r : EReal) := fun i => real_of_olt (x i) (by
    have h' : Ideal.cmp .olt (max (x i) (-(x i))) (b i) = 1#1 := h i
    rwa [hb i] at h')
  choose r hr using e
  exact ⟨r, funext hr⟩

instance : Subsingleton Cert.Pre_finite.S_.Idx := ⟨fun _ _ => funext fun a => a.elim0⟩

/-- The precondition, array by array. -/
theorem real_of_finite [Cert.Pre_finite.Facts] (x : FVec Ideal Cert.Pre_finite.S8192x5120 .f32) (y : FVec Ideal Cert.Pre_finite.S8192x2048 .f32)
    (w : FVec Ideal Cert.Pre_finite.S8x8192 .f32) (h : Cert.Pre_finite.fn (F := Ideal) x y w = fun _ => 1#1) :
    (∃ r, x = up r) ∧ (∃ r, y = up r) ∧ ∃ r, w = up r := by
  have h0 := congrFun h ix0
  unfold Cert.Pre_finite.fn at h0
  dsimp only at h0
  obtain ⟨h12, h3⟩ := IntOp.andi_eq_one.1 h0
  obtain ⟨h1, h2⟩ := IntOp.andi_eq_one.1 h12
  exact ⟨real_of_all x _ (fun _ => ofBits_pos_inf) fun i => Host.reduce_andi_all _ _ _ _ _ h1 i,
    real_of_all y _ (fun _ => ofBits_pos_inf) fun i => Host.reduce_andi_all _ _ _ _ _ h2 i,
    real_of_all w _ (fun _ => ofBits_pos_inf) fun i => Host.reduce_andi_all _ _ _ _ _ h3 i⟩

end Attn

end
-- ==== Proof.AttnEq.lean ====
/-
  The attention's gradient: the kernel and the reference leave the same five arrays.
-/
module

public import proofs.«01_k».proof.Defs
public import proofs.«01_k».proof.Proof.AttnArrays
public import proofs.«01_k».proof.Proof.AttnFinite
public import proofs.«01_k».proof.Proof.FlashLaunch

@[expose] public section

set_option maxRecDepth 16384

noncomputable section

namespace Attn

open Idealize.ShloMosaic Idealize.ShloMosaic.TcCoe Idealize.SL.Sem

/-- The mask's word stands for minus infinity. -/
theorem preserves : Cert.preserves_Kernel_KernelIdeal :=
  IdealRules.named_const.statement Cert.KernelIdeal.κ "mask" .f32 0xF149F2CA#32 ⊥ rfl

/-- What the reference leaves, of real inputs. -/
theorem ref_run (m' : (ℓ : Loc Cert.ReferenceIdeal.nD Cert.ReferenceIdeal.τ Cert.ReferenceIdeal.sig) → Buf (Elt Ideal) ℓ)
    (c : Dev Cert.ReferenceIdeal.nD) {z : Cert.ReferenceIdeal.S8192x5120.Idx → ℝ} {dy : Cert.ReferenceIdeal.S8192x2048.Idx → ℝ} {f : Cert.ReferenceIdeal.S8x8192.Idx → ℝ}
    (h0 : m' ((c : Thread Cert.ReferenceIdeal.nD Cert.ReferenceIdeal.τ).loc Cert.ReferenceIdeal.main_arg0) = up z)
    (h1 : m' ((c : Thread Cert.ReferenceIdeal.nD Cert.ReferenceIdeal.τ).loc Cert.ReferenceIdeal.main_arg1) = up dy)
    (h2 : m' ((c : Thread Cert.ReferenceIdeal.nD Cert.ReferenceIdeal.τ).loc Cert.ReferenceIdeal.main_arg2) = up f) :
    Cert.ReferenceIdeal.Value.res_out0 m' c = G0 (inputs z dy f) ∧ Cert.ReferenceIdeal.Value.res_out1 m' c = G1 (inputs z dy f)
      ∧ Cert.ReferenceIdeal.Value.res_out2 m' c = G2 (inputs z dy f) ∧ Cert.ReferenceIdeal.Value.res_out3 m' c = G3 (inputs z dy f)
      ∧ Cert.ReferenceIdeal.Value.res_out4 m' c = G4 (inputs z dy f) := by
  refine ⟨(res0 m' c).trans ?_, (res1 m' c).trans ?_, (res2 m' c).trans ?_, (res3 m' c).trans ?_, (res4 m' c).trans ?_⟩
  · rw [h0, h1, h2]; exact out0_eq z dy f
  · rw [h0, h1, h2]; exact out1_eq z dy f
  · rw [h0, h1, h2]; exact out2_eq z dy f
  · rw [h0, h1, h2]; exact out3_eq z dy f
  · rw [h0, h1, h2]; exact out4_eq z dy f

theorem algebraic [hPre : Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hargs
  have hr := fun c => real_of_finite _ _ _ (hpre c)
  choose z hz using fun c => (hr c).1
  choose dy hdy using fun c => (hr c).2.1
  choose f hf using fun c => (hr c).2.2
  refine ⟨fun c => G0 (inputs (z c) (dy c) (f c)), fun c => G1 (inputs (z c) (dy c) (f c)), fun c => G2 (inputs (z c) (dy c) (f c)),
    fun c => G3 (inputs (z c) (dy c) (f c)), fun c => G4 (inputs (z c) (dy c) (f c)), ?_, ?_⟩
  · exact (θ_run (Cert.KernelIdeal.defs (F := Ideal)) _ _).mono (fun r h c =>
      ⟨final10 c (hz c) (hdy c) (hf c) h.1, final11 c (hz c) (hdy c) (hf c) h.1, final12 c (hz c) (hdy c) (hf c) h.1,
        final13 c (hz c) (hdy c) (hf c) h.1, final14 c (hz c) (hdy c) (hf c) h.1,
        (h.1.arr_in c 0 rfl).trans (Flash.V_arg0 m c),
        (h.1.arr_in c 4 rfl).trans (Flash.V_arg1 m c),
        ((h.1 c).2 Cert.KernelIdeal.main_arg2 Flash.rest2).trans (Flash.V_arg2 m c)⟩) (Flash.run_quiescent m g)
  · refine (θ_run (Cert.ReferenceIdeal.defs (F := Ideal)) _ _).mono (fun r h c => ?_) (Cert.ReferenceIdeal.Value.run (F := Ideal) m' g')
    have e := ref_run m' c ((hargs c).1.trans (hz c)) ((hargs c).2.1.trans (hdy c)) ((hargs c).2.2.trans (hf c))
    have h' := h c
    exact ⟨h'.1.trans e.1, h'.2.1.trans e.2.1, h'.2.2.1.trans e.2.2.1, h'.2.2.2.1.trans e.2.2.2.1, h'.2.2.2.2.1.trans e.2.2.2.2,
      h'.2.2.2.2.2⟩

end Attn

end
-- ==== Proof.Dx.lean ====
/-
  The gradient of the feed-forward layer's input: what the kernel's array holds at each index, as one sum over the
  2048 model channels.  Every grid point (i, j) writes one 512 × 512 tile, the product of 512 rows of the incoming
  gradient with 512 rows of the weight.
-/
module

public import proofs.«01_k».proof.Defs
public import proofs.«01_k».proof.Proof.Gen.DxKernelIdeal.Value
public import proofs.«01_k».proof.Proof.Gen.DxReferenceIdeal.Run
public import Idealize.ShloMosaic.Lib.Pointwise

@[expose] public section

set_option maxRecDepth 16384

noncomputable section

namespace Cert.Proof.Dx

open Idealize.ShloMosaic Idealize.SL.Sem Cert.DxKernelIdeal Cert.DxKernelIdeal.Gen Idealize.ShloMosaic.TcCoe

/-- One tile: the stored block at an index is the sum over the channels of the two loaded blocks' products. -/
theorem tile (x0 : Vec Ideal S512x2048 .bf16) (x1 : Vec Ideal S512x2048 .bf16) (j : S512x512.Idx) :
    out0_2 (F := Ideal) x0 x1 j = ∑ k : Fin 2048, x0 (ix2 (j 0) k) * x1 (ix2 (j 1) k) := by
  have hz2 : (![0, 0] : Fin S512x512.rank → Nat) = fun _ => 0 := funext fun a => by fin_cases a <;> rfl
  have hz0 : (![0, 0] : Fin S512x2048.rank → Nat) = fun _ => 0 := funext fun a => by fin_cases a <;> rfl
  unfold out0_2
  rw [View.canon_unit_zero hz2, View.ld_unit_zero hz0, View.ld_unit_zero hz0]
  idx_vars j
  pointwise [k0_pay1]

variable (m : (ℓ : Loc nD τ sig) → Buf (Elt Ideal) ℓ)

/-- The gradient's entry: row of the incoming gradient against row of the weight. -/
def G (dm : S8192x2048.Idx → EReal) (w : S5632x2048.Idx → EReal) (i : S8192x5632.Idx) : EReal :=
  ∑ k : Fin 2048, dm (ix2 (i 0) k) * w (ix2 (i 1) k)

/-- Which blocks a grid point reads and writes. -/
theorem idx : ∀ t : Fin cfg0.N, win0_0.index t = ![t.val / 11, 0] ∧ win0_1.index t = ![t.val % 11, 0]
    ∧ win0_2.index t = ![t.val / 11, t.val % 11] ∧ (cfg0.win 2).flush t = true :=
  (by decide +kernel : ∀ t : Fin grid0.N, win0_0.index t = ![t.val / 11, 0] ∧ win0_1.index t = ![t.val % 11, 0]
    ∧ win0_2.index t = ![t.val / 11, t.val % 11] ∧ win0_2.flush t = true)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  obtain ⟨h0, h1, h2, -⟩ := idx t
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 512 + 1 * (y 1).val := rfl
  have e : ∀ f, ((cfg0.win 2).blk t).view.read (Elt Ideal) f y = f (((cfg0.win 2).blk t).view.emb y) := fun f => rfl
  refine (tile _ _ ((cfg0.win 2).xinj (grid0.coords t) y)).trans ?_
  rw [e]
  unfold G
  refine Finset.sum_congr rfl fun k _ => ?_
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (y 0).val = (((cfg0.win 2).blk t).view.emb y 0).val; rw [hb0, h0, h2]; rfl
    | ⟨1, _⟩ => show win0_0.index t (1 : Fin 2) * 2048 + 1 * k.val = k.val; rw [h0]; simp
  · show m ((c : Thread nD τ).loc main_arg1) (((cfg0.win 1).blk t).view.emb _) = _
    congr 1
    funext a; apply Fin.ext
    match a with
    | ⟨0, _⟩ => show win0_1.index t (0 : Fin 2) * 512 + 1 * (y 1).val = (((cfg0.win 2).blk t).view.emb y 1).val; rw [hb1, h1, h2]; rfl
    | ⟨1, _⟩ => show win0_1.index t (1 : Fin 2) * 2048 + 1 * k.val = k.val; rw [h1]; simp

/-- Every entry of the array lies in the tile of some grid point. -/
theorem cover (i : S8192x5632.Idx) : ∃ t : Fin cfg0.N, (cfg0.win 2).flush t = true ∧ i ∈ ((cfg0.win 2).blk t).view.set := by
  have hi0 : (i 0).val < 8192 := (i 0).isLt
  have hi1 : (i 1).val < 5632 := (i 1).isLt
  have hN : cfg0.N = 176 := N_0
  let t : Fin cfg0.N := ⟨11 * ((i 0).val / 512) + (i 1).val / 512, by omega⟩
  have ht : t.val = 11 * ((i 0).val / 512) + (i 1).val / 512 := rfl
  obtain ⟨-, -, h2, hf⟩ := idx t
  refine ⟨t, hf, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512
              rw [h2]; show t.val / 11 * 512 ≤ _ ∧ _ < t.val / 11 * 512 + 512; omega
  | ⟨1, _⟩ => show win0_2.index t (1 : Fin 2) * 512 ≤ (i 1).val ∧ (i 1).val < win0_2.index t (1 : Fin 2) * 512 + 512
              rw [h2]; show t.val % 11 * 512 ≤ _ ∧ _ < t.val % 11 * 512 + 512; omega

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The reference's product is the same sum. -/
theorem ref_eq (dm : FVec Ideal S8192x2048 .bf16) (w : FVec Ideal S5632x2048 .bf16) (h) :
    Host.dotGeneral (F := Ideal) (φ₁ := .f32) (φ₂ := .f32) Cert.DxReferenceIdeal.dot_S8192x2048_S5632x2048_S8192x5632_1_1_0_0_n_n none (extf .f32 dm h) (extf .f32 w h) = G dm w := by
  funext j
  unfold G
  idx_vars j
  pointwise

/-- The reference runs, keeps its arguments, and declares no semaphore. -/
theorem frame_ref : Cert.quiescent_DxReferenceIdeal (hDxReferenceIdeal := Cert.DxReferenceIdeal.Gen.facts) := fun m g _ =>
  (θ_run Cert.DxReferenceIdeal.defs _ _).mono (fun r h => ⟨fun c => (h c).2, sem_eq_zero_of_no_sems (by decide) r.2⟩)
    (Cert.DxReferenceIdeal.Value.run (F := Ideal) m g)

/-- From equal arguments the two programs end with equal arrays. -/
theorem algebraic : Cert.algebraic_DxKernelIdeal_DxReferenceIdeal (hDxKernelIdeal := Cert.DxKernelIdeal.Gen.facts)
    (hDxReferenceIdeal := Cert.DxReferenceIdeal.Gen.facts) := by
  intro m g m' g' _ hargs
  refine ⟨fun c => G (m ((c : Thread nD τ).loc main_arg0)) (m ((c : Thread nD τ).loc main_arg1)), ?_, ?_⟩
  · exact (θ_run (Cert.DxKernelIdeal.defs (F := Ideal)) _ _).mono (fun r h c => ⟨(h c).1.trans (final m c), (h c).2⟩) (Value.run_blocks (F := Ideal) m g)
  · refine (θ_run (Cert.DxReferenceIdeal.defs (F := Ideal)) _ _).mono (fun r h c => ⟨(h c).1.trans ?_, (h c).2⟩) (Cert.DxReferenceIdeal.Value.run (F := Ideal) m' g')
    rw [(hargs c).1, (hargs c).2]
    exact ref_eq _ _ _

end Cert.Proof.Dx

end
-- ==== Proof.Dw.lean ====
/-
  The gradient of the feed-forward layer's second weight: what the kernel's array holds at each index, as one sum over
  the 8192 tokens.  The grid's last axis walks four runs of 2048 tokens; the partial products of a tile are added up in
  a buffer that is carried from one point to the next and written out at the fourth.
-/
module

public import proofs.«01_k».proof.Defs
public import proofs.«01_k».proof.Proof.Gen.DwKernelIdeal.Value
public import proofs.«01_k».proof.Proof.Gen.DwReferenceIdeal.Run
public import Idealize.ShloMosaic.Lib.Pointwise

@[expose] public section

set_option maxRecDepth 16384

noncomputable section

namespace Cert.Proof.Dw

open Idealize.ShloMosaic Idealize.SL.Sem Cert.DwKernelIdeal Cert.DwKernelIdeal.Gen Idealize.ShloMosaic.TcCoe

theorem hzo : (![0, 0] : Fin S512x1024.rank → Nat) = fun _ => 0 := funext fun a => by fin_cases a <;> rfl
theorem hz0 : (![0, 0] : Fin S2048x512.rank → Nat) = fun _ => 0 := funext fun a => by fin_cases a <;> rfl
theorem hz1 : (![0, 0] : Fin S2048x1024.rank → Nat) = fun _ => 0 := funext fun a => by fin_cases a <;> rfl

/-- The partial product of one run of tokens. -/
def part (x0 : Vec Ideal S2048x512 .bf16) (x1 : Vec Ideal S2048x1024 .bf16) (j : S512x1024.Idx) : EReal :=
  ∑ k : Fin 2048, x0 (ix2 k (j 0)) * x1 (ix2 k (j 1))

section
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec Ideal S2048x512 .bf16) (x1 : Vec Ideal S2048x1024 .bf16) (xs : Vec Ideal S512x1024 .f32)

/-- The first run of tokens starts the sum. -/
theorem first (hc0 : cond0_0 i) (hc1 : ¬cond0_1 i) (hc2 : ¬cond0_2 i) (j : S512x1024.Idx) :
    sout0_A_0 c i a3 h3 a4 h4 a5 h5 a6 h6 hc0 hc1 hc2 x0 x1 j = part x0 x1 j := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hzo]
  simp only [View.readAt_eq_ld, h3.read_unread, h4.read_unread, View.ld_unit_zero (S := S2048x512) hz0, View.ld_unit_zero (S := S2048x1024) hz1]
  idx_vars j
  pointwise [k0_pay2, k0_pay1, part]

/-- A middle run adds its part. -/
theorem middle (hc0 : ¬cond0_0 i) (hc1 : cond0_1 i) (hc2 : ¬cond0_2 i) (j : S512x1024.Idx) :
    sout0_B_0 c i a3 h3 a4 h4 a5 h5 a6 h6 hc0 hc1 hc2 x0 x1 xs j = xs j + part x0 x1 j := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- So does the last. -/
theorem last (hc0 : ¬cond0_0 i) (hc1 : cond0_1 i) (hc2 : cond0_2 i) (j : S512x1024.Idx) :
    sout0_C_0 c i a3 h3 a4 h4 a5 h5 a6 h6 hc0 hc1 hc2 x0 x1 xs j = xs j + part x0 x1 j := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- The tile written out is what the carried buffer holds after the last run. -/
theorem out (hc0 : ¬cond0_0 i) (hc1 : cond0_1 i) (hc2 : cond0_2 i) (j : S512x1024.Idx) :
    out0_C_2 c i a3 h3 a4 h4 a5 h5 a6 h6 hc0 hc1 hc2 x0 x1 xs j = xs j + part x0 x1 j := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hzo, View.readCov_unit_zero (S := S512x1024) _ hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]
end

variable (m : (ℓ : Loc nD τ sig) → Buf (Elt Ideal) ℓ)

/-- The activation, as launched. -/
abbrev P (c : Dev nD) : S8192x5632.Idx → EReal := m ((c : Thread nD τ).loc main_arg0)
/-- The incoming gradient, as launched. -/
abbrev D (c : Dev nD) : S8192x2048.Idx → EReal := m ((c : Thread nD τ).loc main_arg1)

/-- The part that grid point `n` adds. -/
def M (c : Dev nD) (n : ℕ) (j : S512x1024.Idx) : EReal :=
  if h : n < cfg0.N then part (iblk m c 0 ⟨n, h⟩) (iblk m c 1 ⟨n, h⟩) j else 0

theorem M_eq (c : Dev nD) (t : Fin cfg0.N) (j : S512x1024.Idx) : M m c t.val j = part (iblk m c 0 t) (iblk m c 1 t) j :=
  dif_pos t.isLt

/-- What the carried buffer holds at a point that is not the first of its tile's four: the parts so far. -/
theorem carried (c : Dev nD) (t : Fin cfg0.N) (j : S512x1024.Idx) :
    (outsAt0 m c t.val t.isLt).2 j = ∑ s ∈ Finset.range (t.val % 4 + 1), M m c (4 * (t.val / 4) + s) j := by
  have hN : cfg0.N = 88 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (4 * (t.val / 4)) 3 ?_ ?_ (t.val % 4) (by omega)
    (by have h1 := t.isLt; have h2 := Nat.div_add_mod t.val 4; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    split
    · rw [last, ← M_eq]
    · rw [middle, ← M_eq]

/-- The gradient's entry: over all tokens, the activation times the incoming gradient. -/
def G (p : S8192x5632.Idx → EReal) (dm : S8192x2048.Idx → EReal) (i : S5632x2048.Idx) : EReal :=
  ∑ k : Fin 8192, p (ix2 k (i 0)) * dm (ix2 k (i 1))

/-- A sum over all tokens is the sum over four runs of 2048. -/
theorem sum_runs (f : Fin 8192 → EReal) :
    ∑ k, f k = ∑ s ∈ Finset.range 4, ∑ k : Fin 2048, f ⟨(2048 * s + k.val) % 8192, Nat.mod_lt _ (by decide)⟩ := by
  rw [← Equiv.sum_comp (finProdFinEquiv (m := 4) (n := 2048)) f, Fintype.sum_prod_type, Finset.sum_range]
  refine Finset.sum_congr rfl fun s _ => Finset.sum_congr rfl fun k _ => congrArg f (Fin.ext ?_)
  show k.val + 2048 * s.val = (2048 * s.val + k.val) % 8192
  have := k.isLt; have := s.isLt; omega

/-- Which blocks a grid point reads and writes. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2])

/-- The part of point `t` in terms of the two whole arrays. -/
theorem part_eq (c : Dev nD) (t : Fin cfg0.N) (j : S512x1024.Idx) (i : S5632x2048.Idx)
    (e0 : (i 0).val = t.val / 8 * 512 + (j 0).val) (e1 : (i 1).val = t.val / 4 % 2 * 1024 + (j 1).val) :
    part (iblk m c 0 t) (iblk m c 1 t) j
      = ∑ k : Fin 2048, P m c (ix2 ⟨(2048 * (t.val % 4) + k.val) % 8192, Nat.mod_lt _ (by decide)⟩ (i 0))
          * D m c (ix2 ⟨(2048 * (t.val % 4) + k.val) % 8192, Nat.mod_lt _ (by decide)⟩ (i 1)) := by
  obtain ⟨h0, h1, -⟩ := idx t
  unfold part
  refine Finset.sum_congr rfl fun k _ => ?_
  have hk := k.isLt
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 2048 + 1 * k.val = (2048 * (t.val % 4) + k.val) % 8192
                rw [h0]; show t.val % 4 * 2048 + 1 * k.val = _; omega
    | ⟨1, _⟩ => show win0_0.index t (1 : Fin 2) * 512 + 1 * (j 0).val = (i 0).val
                rw [h0, e0]; show t.val / 8 * 512 + 1 * (j 0).val = _; omega
  · show m ((c : Thread nD τ).loc main_arg1) (((cfg0.win 1).blk t).view.emb _) = _
    congr 1
    funext a; apply Fin.ext
    match a with
    | ⟨0, _⟩ => show win0_1.index t (0 : Fin 2) * 2048 + 1 * k.val = (2048 * (t.val % 4) + k.val) % 8192
                rw [h1]; show t.val % 4 * 2048 + 1 * k.val = _; omega
    | ⟨1, _⟩ => show win0_1.index t (1 : Fin 2) * 1024 + 1 * (j 1).val = (i 1).val
                rw [h1, e1]; show t.val / 4 % 2 * 1024 + 1 * (j 1).val = _; omega

theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have hN : cfg0.N = 88 := N_0
  have hm : t.val % 4 = 3 := (flush0_2 t).mp hf
  have htlt := t.isLt
  obtain ⟨-, -, h2⟩ := idx t
  have hout : (outsAt0 m c t.val t.isLt).1 = (outsAt0 m c t.val t.isLt).2 := by
    rw [outsAt0_C m c t (by omega) (by omega) hm]
    funext j
    dsimp only
    rw [out, last]
  rw [Value.flushed2, hout]
  funext y
  refine (carried m c t ((cfg0.win 2).xinj (grid0.coords t) y)).trans ?_
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  rw [e, hm]
  unfold G
  rw [sum_runs]
  refine Finset.sum_congr rfl fun s hs => ?_
  have hs' : s < 4 := Finset.mem_range.mp hs
  have hlt : 4 * (t.val / 4) + s < cfg0.N := by omega
  have hmod : (4 * (t.val / 4) + s) % 4 = s := by omega
  refine (M_eq m c ⟨4 * (t.val / 4) + s, hlt⟩ _).trans ?_
  refine (part_eq m c ⟨4 * (t.val / 4) + s, hlt⟩ _ (((cfg0.win 2).blk t).view.emb y) ?_ ?_).trans ?_
  · rw [hb0, h2]; show t.val / 8 * 512 + 1 * (y 0).val = (4 * (t.val / 4) + s) / 8 * 512 + (y 0).val; omega
  · rw [hb1, h2]; show t.val / 4 % 2 * 1024 + 1 * (y 1).val = (4 * (t.val / 4) + s) / 4 % 2 * 1024 + (y 1).val; omega
  · dsimp only; rw [hmod]

/-- Every entry of the array lies in the tile of some point that writes out. -/
theorem cover (i : S5632x2048.Idx) : ∃ t : Fin cfg0.N, (cfg0.win 2).flush t = true ∧ i ∈ ((cfg0.win 2).blk t).view.set :=
  (Value.covered_iff2 i).2 (by have h0 : (i 0).val < 5632 := (i 0).isLt; have h1 : (i 1).val < 2048 := (i 1).isLt; omega)

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t hf => flushed_eq m c t hf) cover

/-- The reference's product is the same sum. -/
theorem ref_eq (p : FVec Ideal S8192x5632 .bf16) (dm : FVec Ideal S8192x2048 .bf16) (h) (ht) :
    transpose S5632x2048 [1, 0] (Host.dotGeneral (F := Ideal) (φ₁ := .f32) (φ₂ := .f32) Cert.DwReferenceIdeal.dot_S8192x2048_S8192x5632_S2048x5632_0_0_1_1_n_n none (extf .f32 dm h) (extf .f32 p h)) ht = G p dm := by
  funext j
  unfold G
  idx_vars j
  pointwise
  exact Finset.sum_congr rfl fun k _ => mul_comm _ _

/-- The reference runs, keeps its arguments, and declares no semaphore. -/
theorem frame_ref : Cert.quiescent_DwReferenceIdeal (hDwReferenceIdeal := Cert.DwReferenceIdeal.Gen.facts) := fun m g _ =>
  (θ_run Cert.DwReferenceIdeal.defs _ _).mono (fun r h => ⟨fun c => (h c).2, sem_eq_zero_of_no_sems (by decide) r.2⟩)
    (Cert.DwReferenceIdeal.Value.run (F := Ideal) m g)

/-- From equal arguments the two programs end with equal arrays. -/
theorem algebraic : Cert.algebraic_DwKernelIdeal_DwReferenceIdeal (hDwKernelIdeal := Cert.DwKernelIdeal.Gen.facts)
    (hDwReferenceIdeal := Cert.DwReferenceIdeal.Gen.facts) := by
  intro m g m' g' _ hargs
  refine ⟨fun c => G (m ((c : Thread nD τ).loc main_arg0)) (m ((c : Thread nD τ).loc main_arg1)), ?_, ?_⟩
  · exact (θ_run (Cert.DwKernelIdeal.defs (F := Ideal)) _ _).mono (fun r h c => ⟨(h c).1.trans (final m c), (h c).2⟩) (Value.run_blocks (F := Ideal) m g)
  · refine (θ_run (Cert.DwReferenceIdeal.defs (F := Ideal)) _ _).mono (fun r h c => ⟨(h c).1.trans ?_, (h c).2⟩) (Cert.DwReferenceIdeal.Value.run (F := Ideal) m' g')
    rw [(hargs c).1, (hargs c).2]
    exact ref_eq _ _ _ _

end Cert.Proof.Dw

end
-- ==== Proof.Gux.lean ====
/-
  The gradient of the feed-forward layer's input through the gate's and the up projection's two products.  The incoming
  gradient holds the two projections' gradients side by side in chunks of 512 channels; the kernel adds, for each tile
  of 1024 × 1024, eleven pairs of products, one pair for each pair of chunks, in a carried buffer.
-/
module

public import proofs.«01_k».proof.Defs
public import proofs.«01_k».proof.Proof.Gen.GuxKernelIdeal.Value
public import proofs.«01_k».proof.Proof.Gen.GuxReferenceIdeal.Run
public import Idealize.ShloMosaic.Lib.Pointwise
public import Idealize.ShloMosaic.Lib.IdealHost

@[expose] public section

set_option maxRecDepth 16384

noncomputable section

namespace Cert.Proof.Gux

open Idealize.ShloMosaic Idealize.SL.Sem Cert.GuxKernelIdeal Cert.GuxKernelIdeal.Gen Idealize.ShloMosaic.TcCoe

theorem hz0 : (![0, 0, 0] : Fin S1x1024x512.rank → Nat) = fun _ => 0 := funext fun a => by fin_cases a <;> rfl
theorem hzo : (![0, 0] : Fin S1024x1024.rank → Nat) = fun _ => 0 := funext fun a => by fin_cases a <;> rfl

/-- What one pair of chunks adds to a tile. -/
def part (x0 : Vec Ideal S1024x1024 .bf16) (x1 x2 : Vec Ideal S1x1024x512 .bf16) (j : S1024x1024.Idx) : EReal :=
  ∑ k : Fin 512, x0 (ix2 (j 0) ⟨k.val, by omega⟩) * x1 (ix3 0 (j 1) k) + ∑ k : Fin 512, x0 (ix2 (j 0) ⟨512 + k.val, by omega⟩) * x2 (ix3 0 (j 1) k)

section
variable (c : Dev nD) (i : grid0.Coords) (a3 : Memref sig .tc .vmem S1024x1024 .bf16) (h3 : a3.IsWhole)
  (a4 : Memref sig .tc .vmem S1x1024x512 .bf16) (h4 : a4.IsWhole) (a5 : Memref sig .tc .vmem S1x1024x512 .bf16) (h5 : a5.IsWhole)
  (a6 : Memref sig .tc .vmem S1024x1024 .f32) (h6 : a6.IsWhole) (a7 : Memref sig .tc .vmem S1024x1024 .f32) (h7 : a7.IsWhole)
  (x0 : Vec Ideal S1024x1024 .bf16) (x1 x2 : Vec Ideal S1x1024x512 .bf16) (xs : Vec Ideal S1024x1024 .f32)

/-- The first pair starts the tile. -/
theorem first (hc0 : cond0_0 i) (hc1 : ¬cond0_1 i) (hc2 : ¬cond0_2 i) (j : S1024x1024.Idx) :
    sout0_A_0 c i a3 h3 a4 h4 a5 h5 a6 h6 a7 h7 hc0 hc1 hc2 x0 x1 x2 j = part x0 x1 x2 j := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hzo]
  simp only [View.readAt_eq_ld, h3.read_unread, h4.read_unread, h5.read_unread, View.ld_unit_zero (S := S1x1024x512) hz0]
  idx_vars j
  pointwise [k0_pay2, k0_pay1, part]

/-- A pair in the middle adds its part. -/
theorem middle (hc0 : ¬cond0_0 i) (hc1 : cond0_1 i) (hc2 : ¬cond0_2 i) (j : S1024x1024.Idx) :
    sout0_B_0 c i a3 h3 a4 h4 a5 h5 a6 h6 a7 h7 hc0 hc1 hc2 x0 x1 x2 xs j = xs j + part x0 x1 x2 j := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  sl_unfold_words
  rw [View.canon_unit_zero hzo]
  simp only [View.readAt_eq_ld, h3.read_unread, h4.read_unread, h5.read_unread, h7.read_unread, View.ld_unit_zero (S := S1x1024x512) hz0, View.ld_unit_zero (S := S1024x1024) hzo]
  idx_vars j
  pointwise [k0_pay3, k0_pay1, part]

/-- So does the last. -/
theorem last (hc0 : ¬cond0_0 i) (hc1 : cond0_1 i) (hc2 : cond0_2 i) (j : S1024x1024.Idx) :
    sout0_C_0 c i a3 h3 a4 h4 a5 h5 a6 h6 a7 h7 hc0 hc1 hc2 x0 x1 x2 xs j = xs j + part x0 x1 x2 j := by
  unfold sout0_C_0
  rw [View.read_writes_eq_canon _ _ _ (scover0_C_0 c i a3 h3 a4 h4 a5 h5 a6 h6 a7 h7 hc0 hc1 hc2 x0 x1 x2 xs)]
  unfold kernelRun0_C
  dsimp only
  sl_unfold_words
  rw [View.canon_unit_zero hzo]
  simp only [View.readAt_eq_ld, h3.read_unread, h4.read_unread, h5.read_unread, h7.read_unread, View.ld_unit_zero (S := S1x1024x512) hz0, View.ld_unit_zero (S := S1024x1024) hzo]
  idx_vars j
  pointwise [k0_pay3, k0_pay1, part]

/-- The tile written out is what the carried buffer holds after the last pair. -/
theorem out (hc0 : ¬cond0_0 i) (hc1 : cond0_1 i) (hc2 : cond0_2 i) (j : S1024x1024.Idx) :
    out0_C_3 c i a3 h3 a4 h4 a5 h5 a6 h6 a7 h7 hc0 hc1 hc2 x0 x1 x2 xs j = xs j + part x0 x1 x2 j := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  rw [View.canon_unit_zero hzo, View.readCov_unit_zero (S := S1024x1024) _ hzo]
  simp only [View.readAt_eq_ld, h3.read_unread, h4.read_unread, h5.read_unread, h7.read_unread, View.ld_unit_zero (S := S1x1024x512) hz0, View.ld_unit_zero (S := S1024x1024) hzo]
  idx_vars j
  pointwise [k0_pay3, k0_pay1, part]
end

variable (m : (ℓ : Loc nD τ sig) → Buf (Elt Ideal) ℓ)

/-- The incoming gradient and the two weights, as launched. -/
abbrev D (c : Dev nD) : S8192x11264.Idx → EReal := m ((c : Thread nD τ).loc main_arg0)
abbrev W (c : Dev nD) : S2x2048x5632.Idx → EReal := m ((c : Thread nD τ).loc main_arg1)

/-- The part that grid point `n` adds. -/
def M (c : Dev nD) (n : ℕ) (j : S1024x1024.Idx) : EReal :=
  if h : n < cfg0.N then part (iblk m c 0 ⟨n, h⟩) (iblk m c 1 ⟨n, h⟩) (iblk m c 2 ⟨n, h⟩) j else 0

theorem M_eq (c : Dev nD) (t : Fin cfg0.N) (j : S1024x1024.Idx) : M m c t.val j = part (iblk m c 0 t) (iblk m c 1 t) (iblk m c 2 t) j :=
  dif_pos t.isLt

/-- What the carried buffer holds at a point: the parts of its tile so far. -/
theorem carried (c : Dev nD) (t : Fin cfg0.N) (j : S1024x1024.Idx) :
    (outsAt0 m c t.val t.isLt).2 j = ∑ s ∈ Finset.range (t.val % 11 + 1), M m c (11 * (t.val / 11) + s) j := by
  have hN : cfg0.N = 176 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (11 * (t.val / 11)) 10 ?_ ?_ (t.val % 11) (by omega)
    (by have h1 := t.isLt; have h2 := Nat.div_add_mod t.val 11; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    split
    · rw [last, ← M_eq]
    · rw [middle, ← M_eq]

/-- Where the gate's and the up projection's channel `f` lies among the 11264. -/
def gateCol (f : Fin 5632) : Fin 11264 := ⟨f.val / 512 * 1024 + f.val % 512, by omega⟩
def upCol (f : Fin 5632) : Fin 11264 := ⟨f.val / 512 * 1024 + 512 + f.val % 512, by omega⟩

/-- The gradient's entry: over all hidden channels, both projections' gradients times their weights. -/
def G (d : S8192x11264.Idx → EReal) (w : S2x2048x5632.Idx → EReal) (i : S8192x2048.Idx) : EReal :=
  ∑ f, d (ix2 (i 0) (gateCol f)) * w (ix3 0 (i 1) f) + ∑ f, d (ix2 (i 0) (upCol f)) * w (ix3 1 (i 1) f)

/-- A sum over all hidden channels is the sum over eleven runs of 512. -/
theorem sum_runs (f : Fin 5632 → EReal) :
    ∑ k, f k = ∑ s ∈ Finset.range 11, ∑ k : Fin 512, f ⟨(512 * s + k.val) % 5632, Nat.mod_lt _ (by decide)⟩ := by
  rw [← Equiv.sum_comp (finProdFinEquiv (m := 11) (n := 512)) f, Fintype.sum_prod_type, Finset.sum_range]
  refine Finset.sum_congr rfl fun s _ => Finset.sum_congr rfl fun k _ => congrArg f (Fin.ext ?_)
  show k.val + 512 * s.val = (512 * s.val + k.val) % 5632
  have := k.isLt; have := s.isLt; omega

/-- Which blocks a grid point reads and writes. -/
theorem idx : ∀ t : Fin cfg0.N, win0_0.index t = ![t.val / 22, t.val % 11] ∧ win0_1.index t = ![0, t.val / 11 % 2, t.val % 11]
    ∧ win0_2.index t = ![1, t.val / 11 % 2, t.val % 11] ∧ win0_3.index t = ![t.val / 22, t.val / 11 % 2] :=
  (by decide +kernel : ∀ t : Fin grid0.N, win0_0.index t = ![t.val / 22, t.val % 11] ∧ win0_1.index t = ![0, t.val / 11 % 2, t.val % 11]
    ∧ win0_2.index t = ![1, t.val / 11 % 2, t.val % 11] ∧ win0_3.index t = ![t.val / 22, t.val / 11 % 2])

/-- A block of the incoming gradient: 1024 tokens and one pair of chunks, -/
theorem blk0 (c : Dev nD) (t : Fin cfg0.N) (a b : Fin 1024) (a' : Fin 8192) (b' : Fin 11264)
    (ea : a'.val = t.val / 22 * 1024 + a.val) (eb : b'.val = t.val % 11 * 1024 + b.val) :
    iblk m c 0 t (ix2 a b) = D m c (ix2 a' b') := by
  obtain ⟨h, -⟩ := idx t
  show m ((c : Thread nD τ).loc main_arg0) (((cfg0.win 0).blk t).view.emb _) = _
  congr 1
  funext x; apply Fin.ext
  match x with
  | ⟨0, _⟩ => show win0_0.index t (0 : Fin 2) * 1024 + 1 * a.val = a'.val
              rw [h, ea]; show t.val / 22 * 1024 + 1 * a.val = _; omega
  | ⟨1, _⟩ => show win0_0.index t (1 : Fin 2) * 1024 + 1 * b.val = b'.val
              rw [h, eb]; show t.val % 11 * 1024 + 1 * b.val = _; omega

/-- of the gate's weight, -/
theorem blk1 (c : Dev nD) (t : Fin cfg0.N) (a : Fin 1024) (b : Fin 512) (a' : Fin 2048) (b' : Fin 5632)
    (ea : a'.val = t.val / 11 % 2 * 1024 + a.val) (eb : b'.val = t.val % 11 * 512 + b.val) :
    iblk m c 1 t (ix3 0 a b) = W m c (ix3 0 a' b') := by
  obtain ⟨-, h, -⟩ := idx t
  show m ((c : Thread nD τ).loc main_arg1) (((cfg0.win 1).blk t).view.emb _) = _
  congr 1
  funext x; apply Fin.ext
  match x with
  | ⟨0, _⟩ => show win0_1.index t (0 : Fin 3) * 1 + 1 * 0 = 0
              rw [h]; rfl
  | ⟨1, _⟩ => show win0_1.index t (1 : Fin 3) * 1024 + 1 * a.val = a'.val
              rw [h, ea]; show t.val / 11 % 2 * 1024 + 1 * a.val = _; omega
  | ⟨2, _⟩ => show win0_1.index t (2 : Fin 3) * 512 + 1 * b.val = b'.val
              rw [h, eb]; show t.val % 11 * 512 + 1 * b.val = _; omega

/-- and of the up projection's. -/
theorem blk2 (c : Dev nD) (t : Fin cfg0.N) (a : Fin 1024) (b : Fin 512) (a' : Fin 2048) (b' : Fin 5632)
    (ea : a'.val = t.val / 11 % 2 * 1024 + a.val) (eb : b'.val = t.val % 11 * 512 + b.val) :
    iblk m c 2 t (ix3 0 a b) = W m c (ix3 1 a' b') := by
  obtain ⟨-, -, h, -⟩ := idx t
  show m ((c : Thread nD τ).loc main_arg1) (((cfg0.win 2).blk t).view.emb _) = _
  congr 1
  funext x; apply Fin.ext
  match x with
  | ⟨0, _⟩ => show win0_2.index t (0 : Fin 3) * 1 + 1 * 0 = 1
              rw [h]; rfl
  | ⟨1, _⟩ => show win0_2.index t (1 : Fin 3) * 1024 + 1 * a.val = a'.val
              rw [h, ea]; show t.val / 11 % 2 * 1024 + 1 * a.val = _; omega
  | ⟨2, _⟩ => show win0_2.index t (2 : Fin 3) * 512 + 1 * b.val = b'.val
              rw [h, eb]; show t.val % 11 * 512 + 1 * b.val = _; omega

/-- Hidden channel `k` of run `s`. -/
def ch (s : ℕ) (k : Fin 512) : Fin 5632 := ⟨(512 * s + k.val) % 5632, Nat.mod_lt _ (by decide)⟩

/-- The part of point `t` in terms of the two whole arrays. -/
theorem part_eq (c : Dev nD) (t : Fin cfg0.N) (j : S1024x1024.Idx) (i : S8192x2048.Idx)
    (e0 : (i 0).val = t.val / 22 * 1024 + (j 0).val) (e1 : (i 1).val = t.val / 11 % 2 * 1024 + (j 1).val) :
    part (iblk m c 0 t) (iblk m c 1 t) (iblk m c 2 t) j
      = ∑ k : Fin 512, D m c (ix2 (i 0) (gateCol (ch (t.val % 11) k))) * W m c (ix3 0 (i 1) (ch (t.val % 11) k))
        + ∑ k : Fin 512, D m c (ix2 (i 0) (upCol (ch (t.val % 11) k))) * W m c (ix3 1 (i 1) (ch (t.val % 11) k)) := by
  unfold part
  refine congrArg₂ (· + ·) (Finset.sum_congr rfl fun k _ => ?_) (Finset.sum_congr rfl fun k _ => ?_)
  · have hk := k.isLt
    refine congrArg₂ (· * ·) (blk0 m c t _ _ _ _ e0 ?_) (blk1 m c t _ _ _ _ e1 ?_)
    · show (512 * (t.val % 11) + k.val) % 5632 / 512 * 1024 + (512 * (t.val % 11) + k.val) % 5632 % 512 = _; dsimp only; omega
    · show (512 * (t.val % 11) + k.val) % 5632 = _; omega
  · have hk := k.isLt
    refine congrArg₂ (· * ·) (blk0 m c t _ _ _ _ e0 ?_) (blk2 m c t _ _ _ _ e1 ?_)
    · show (512 * (t.val % 11) + k.val) % 5632 / 512 * 1024 + 512 + (512 * (t.val % 11) + k.val) % 5632 % 512 = _; dsimp only; omega
    · show (512 * (t.val % 11) + k.val) % 5632 = _; omega

theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1))) := by
  have hN : cfg0.N = 176 := N_0
  have hm : t.val % 11 = 10 := (flush0_3 t).mp hf
  have htlt := t.isLt
  obtain ⟨-, -, -, h2⟩ := idx t
  have hout : (outsAt0 m c t.val t.isLt).1 = (outsAt0 m c t.val t.isLt).2 := by
    rw [outsAt0_C m c t (by omega) (by omega) hm]
    funext j
    dsimp only
    rw [out, last]
  rw [Value.flushed3, hout]
  funext y
  refine (carried m c t ((cfg0.win 3).xinj (grid0.coords t) y)).trans ?_
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have e : ∀ f, ((cfg0.win 3).blk t).view.read (Elt Ideal) f y = f (((cfg0.win 3).blk t).view.emb y) := fun f => rfl
  rw [e, hm]
  unfold G
  rw [sum_runs, sum_runs, ← Finset.sum_add_distrib]
  refine Finset.sum_congr rfl fun s hs => ?_
  have hs' : s < 11 := Finset.mem_range.mp hs
  have hlt : 11 * (t.val / 11) + s < cfg0.N := by omega
  have hmod : (11 * (t.val / 11) + s) % 11 = s := by omega
  refine (M_eq m c ⟨11 * (t.val / 11) + s, hlt⟩ _).trans ?_
  refine (part_eq m c ⟨11 * (t.val / 11) + s, hlt⟩ _ (((cfg0.win 3).blk t).view.emb y) ?_ ?_).trans ?_
  · rw [hb0, h2]; show t.val / 22 * 1024 + 1 * (y 0).val = (11 * (t.val / 11) + s) / 22 * 1024 + (y 0).val; omega
  · rw [hb1, h2]; show t.val / 11 % 2 * 1024 + 1 * (y 1).val = (11 * (t.val / 11) + s) / 11 % 2 * 1024 + (y 1).val; omega
  · dsimp only; rw [hmod]; rfl

/-- Every entry of the array lies in the tile of some point that writes out. -/
theorem cover (i : S8192x2048.Idx) : ∃ t : Fin cfg0.N, (cfg0.win 3).flush t = true ∧ i ∈ ((cfg0.win 3).blk t).view.set :=
  (Value.covered_iff3 i).2 (by have h0 : (i 0).val < 8192 := (i 0).isLt; have h1 : (i 1).val < 2048 := (i 1).isLt; omega)

/-- The array the kernel leaves. -/
theorem final (c : Dev nD) : (dats m 0 c).arrAt 3 cfg0.N
    = G (m ((c : Thread nD τ).loc main_arg0)) (m ((c : Thread nD τ).loc main_arg1)) :=
  (dats m 0 c).arrAt_eq_of_cover 3 _ (fun t hf => flushed_eq m c t hf) cover

open Cert.GuxReferenceIdeal.Gen in
/-- The reference's two products add up to the same. -/
theorem ref_eq (d : FVec Ideal S8192x11264 .bf16) (w : FVec Ideal S2x2048x5632 .bf16) :
    addf
      (Host.dotGeneral (F := Ideal) (φ₁ := .f32) (φ₂ := .f32) Cert.GuxReferenceIdeal.dot_S8192x5632_S2048x5632_S8192x2048_1_1_0_0_n_n none (shapeCast _
      (shapeCast _ (extractStridedSlice Cert.GuxReferenceIdeal.S8192x11x1x512 ![0, 0, 1, 0] (shapeCast _ (extf .f32 d bitsLt_bf16_f32) shapeCasts_S8192x11264_S8192x11x2x512) slices_S8192x11x2x512_S8192x11x1x512_0_0_1_0) shapeCasts_S8192x11x1x512_S8192x11x512) shapeCasts_S8192x11x512_S8192x5632)
      (shapeCast _ (extractStridedSlice Cert.GuxReferenceIdeal.S1x2048x5632 ![1, 0, 0] (extf .f32 w bitsLt_bf16_f32) slices_S2x2048x5632_S1x2048x5632_1_0_0) shapeCasts_S1x2048x5632_S2048x5632))
      (Host.dotGeneral (F := Ideal) (φ₁ := .f32) (φ₂ := .f32) Cert.GuxReferenceIdeal.dot_S8192x5632_S2048x5632_S8192x2048_1_1_0_0_n_n none (shapeCast _
      (shapeCast _ (extractStridedSlice Cert.GuxReferenceIdeal.S8192x11x1x512 ![0, 0, 0, 0] (shapeCast _ (extf .f32 d bitsLt_bf16_f32) shapeCasts_S8192x11264_S8192x11x2x512) slices_S8192x11x2x512_S8192x11x1x512_0_0_0_0) shapeCasts_S8192x11x1x512_S8192x11x512) shapeCasts_S8192x11x512_S8192x5632)
      (shapeCast _ (extractStridedSlice Cert.GuxReferenceIdeal.S1x2048x5632 ![0, 0, 0] (extf .f32 w bitsLt_bf16_f32) slices_S2x2048x5632_S1x2048x5632_0_0_0) shapeCasts_S1x2048x5632_S2048x5632))
      = G d w := by
  funext j
  unfold G
  idx_vars j
  pointwise
  exact add_comm _ _

/-- The reference runs, keeps its arguments, and declares no semaphore. -/
theorem frame_ref : Cert.quiescent_GuxReferenceIdeal (hGuxReferenceIdeal := Cert.GuxReferenceIdeal.Gen.facts) := fun m g _ =>
  (θ_run Cert.GuxReferenceIdeal.defs _ _).mono (fun r h => ⟨fun c => (h c).2, sem_eq_zero_of_no_sems (by decide) r.2⟩)
    (Cert.GuxReferenceIdeal.Value.run (F := Ideal) m g)

/-- From equal arguments the two programs end with equal arrays. -/
theorem algebraic : Cert.algebraic_GuxKernelIdeal_GuxReferenceIdeal (hGuxKernelIdeal := Cert.GuxKernelIdeal.Gen.facts)
    (hGuxReferenceIdeal := Cert.GuxReferenceIdeal.Gen.facts) := by
  intro m g m' g' _ hargs
  refine ⟨fun c => G (m ((c : Thread nD τ).loc main_arg0)) (m ((c : Thread nD τ).loc main_arg1)), ?_, ?_⟩
  · exact (θ_run (Cert.GuxKernelIdeal.defs (F := Ideal)) _ _).mono (fun r h c => ⟨(h c).1.trans (final m c), (h c).2⟩) (Value.run_blocks (F := Ideal) m g)
  · refine (θ_run (Cert.GuxReferenceIdeal.defs (F := Ideal)) _ _).mono (fun r h c => ⟨(h c).1.trans ?_, (h c).2⟩) (Cert.GuxReferenceIdeal.Value.run (F := Ideal) m' g')
    rw [(hargs c).1, (hargs c).2]
    exact ref_eq _ _

end Cert.Proof.Gux

end
-- ==== Proof.Guw.lean ====
/-
  The gradients of the gate's and the up projection's weights, as one array of two: over all 8192 tokens, the layer's
  input times the incoming gradient, which holds the two projections' gradients side by side in chunks of 512 channels.
  The kernel adds four runs of 2048 tokens for each tile in a carried buffer and writes a tile to the array its chunk
  belongs to.
-/
module

public import proofs.«01_k».proof.Defs
public import proofs.«01_k».proof.Proof.Gen.GuwKernelIdeal.Value
public import proofs.«01_k».proof.Proof.Gen.GuwReferenceIdeal.Run
public import Idealize.ShloMosaic.Lib.Pointwise
public import Idealize.ShloMosaic.Lib.IdealHost
public import Idealize.ShloMosaic.Lib.Pipeline.Covers

@[expose] public section

set_option maxRecDepth 16384

noncomputable section

namespace Cert.Proof.Guw

open Idealize.ShloMosaic Idealize.SL.Sem Cert.GuwKernelIdeal Cert.GuwKernelIdeal.Gen Idealize.ShloMosaic.TcCoe

theorem hz0 : (![0, 0] : Fin S2048x1024.rank → Nat) = fun _ => 0 := funext fun a => by fin_cases a <;> rfl
theorem hz1 : (![0, 0] : Fin S2048x512.rank → Nat) = fun _ => 0 := funext fun a => by fin_cases a <;> rfl
theorem hzs : (![0, 0] : Fin S1024x512.rank → Nat) = fun _ => 0 := funext fun a => by fin_cases a <;> rfl
theorem hzo : (![0, 0, 0] : Fin S1x1024x512.rank → Nat) = fun _ => 0 := funext fun a => by fin_cases a <;> rfl

/-- What one run of tokens adds to a tile. -/
def part (x0 : Vec Ideal S2048x1024 .bf16) (x1 : Vec Ideal S2048x512 .bf16) (j : S1024x512.Idx) : EReal :=
  ∑ k : Fin 2048, x0 (ix2 k (j 0)) * x1 (ix2 k (j 1))

section
variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1x1024x512 .f32) (h5 : a5.IsWhole)
  (a6 : Memref sig .tc .vmem S1024x512 .f32) (h6 : a6.IsWhole)
  (x0 : Vec Ideal S2048x1024 .bf16) (x1 : Vec Ideal S2048x512 .bf16) (xs : Vec Ideal S1024x512 .f32)

/-- The first run starts the tile. -/
theorem first (hc0 : cond0_0 i) (hc1 : ¬cond0_1 i) (hc2 : ¬cond0_2 i) (j : S1024x512.Idx) :
    sout0_A_0 c i a3 h3 a4 h4 a5 h5 a6 h6 hc0 hc1 hc2 x0 x1 j = part x0 x1 j := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hzs]
  simp only [View.readAt_eq_ld, h3.read_unread, h4.read_unread, View.ld_unit_zero (S := S2048x1024) hz0, View.ld_unit_zero (S := S2048x512) hz1]
  idx_vars j
  pointwise [k0_pay2, k0_pay1, part]

/-- A run in the middle adds its part. -/
theorem middle (hc0 : ¬cond0_0 i) (hc1 : cond0_1 i) (hc2 : ¬cond0_2 i) (j : S1024x512.Idx) :
    sout0_B_0 c i a3 h3 a4 h4 a5 h5 a6 h6 hc0 hc1 hc2 x0 x1 xs j = xs j + part x0 x1 j := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hzs]
  simp only [View.readAt_eq_ld, h3.read_unread, h4.read_unread, h6.read_unread, View.ld_unit_zero (S := S2048x1024) hz0, View.ld_unit_zero (S := S2048x512) hz1, View.ld_unit_zero (S := S1024x512) hzs]
  idx_vars j
  pointwise [k0_pay3, k0_pay1, part]

/-- So does the last. -/
theorem last (hc0 : ¬cond0_0 i) (hc1 : cond0_1 i) (hc2 : cond0_2 i) (j : S1024x512.Idx) :
    sout0_C_0 c i a3 h3 a4 h4 a5 h5 a6 h6 hc0 hc1 hc2 x0 x1 xs j = xs j + part x0 x1 j := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hzs]
  simp only [View.readAt_eq_ld, h3.read_unread, h4.read_unread, h6.read_unread, View.ld_unit_zero (S := S2048x1024) hz0, View.ld_unit_zero (S := S2048x512) hz1, View.ld_unit_zero (S := S1024x512) hzs]
  idx_vars j
  pointwise [k0_pay3, k0_pay1, part]

/-- The tile written out is what the carried buffer holds after the last run. -/
theorem out (hc0 : ¬cond0_0 i) (hc1 : cond0_1 i) (hc2 : cond0_2 i) (z : Fin 1) (a : Fin 1024) (b : Fin 512) :
    out0_C_2 c i a3 h3 a4 h4 a5 h5 a6 h6 hc0 hc1 hc2 x0 x1 xs (ix3 z a b) = xs (ix2 a b) + part x0 x1 (ix2 a b) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hzo, View.readCov_unit_zero (S := S1024x512) _ hzs]
  simp only [View.readAt_eq_ld, h3.read_unread, h4.read_unread, h6.read_unread, View.ld_unit_zero (S := S2048x1024) hz0, View.ld_unit_zero (S := S2048x512) hz1, View.ld_unit_zero (S := S1024x512) hzs]
  pointwise [k0_pay4, k0_pay3, k0_pay1, part]
end

variable (m : (ℓ : Loc nD τ sig) → Buf (Elt Ideal) ℓ)

/-- The layer's input and the incoming gradient, as launched. -/
abbrev H (c : Dev nD) : S8192x2048.Idx → EReal := m ((c : Thread nD τ).loc main_arg0)
abbrev D (c : Dev nD) : S8192x11264.Idx → EReal := m ((c : Thread nD τ).loc main_arg1)

/-- The part that grid point `n` adds. -/
def M (c : Dev nD) (n : ℕ) (j : S1024x512.Idx) : EReal :=
  if h : n < cfg0.N then part (iblk m c 0 ⟨n, h⟩) (iblk m c 1 ⟨n, h⟩) j else 0

theorem M_eq (c : Dev nD) (t : Fin cfg0.N) (j : S1024x512.Idx) : M m c t.val j = part (iblk m c 0 t) (iblk m c 1 t) j :=
  dif_pos t.isLt

/-- What the carried buffer holds at a point: the parts of its tile so far. -/
theorem carried (c : Dev nD) (t : Fin cfg0.N) (j : S1024x512.Idx) :
    (outsAt0 m c t.val t.isLt).2 j = ∑ s ∈ Finset.range (t.val % 4 + 1), M m c (4 * (t.val / 4) + s) j := by
  have hN : cfg0.N = 176 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (4 * (t.val / 4)) 3 ?_ ?_ (t.val % 4) (by omega)
    (by have h1 := t.isLt; have h2 := Nat.div_add_mod t.val 4; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    split
    · rw [last, ← M_eq]
    · rw [middle, ← M_eq]

/-- Where channel `f` of the gate (`p = 0`) or of the up projection (`p = 1`) lies among the 11264. -/
def col (p : Fin 2) (f : Fin 5632) : Fin 11264 := ⟨f.val / 512 * 1024 + 512 * p.val + f.val % 512, by omega⟩

/-- The gradients' entry: over all tokens, the layer's input times the incoming gradient. -/
def G (h : S8192x2048.Idx → EReal) (d : S8192x11264.Idx → EReal) (i : S2x2048x5632.Idx) : EReal :=
  ∑ k : Fin 8192, h (ix2 k (i 1)) * d (ix2 k (col (i 0) (i 2)))

/-- A sum over all tokens is the sum over four runs of 2048. -/
theorem sum_runs (f : Fin 8192 → EReal) :
    ∑ k, f k = ∑ s ∈ Finset.range 4, ∑ k : Fin 2048, f ⟨(2048 * s + k.val) % 8192, Nat.mod_lt _ (by decide)⟩ := by
  rw [← Equiv.sum_comp (finProdFinEquiv (m := 4) (n := 2048)) f, Fintype.sum_prod_type, Finset.sum_range]
  refine Finset.sum_congr rfl fun s _ => Finset.sum_congr rfl fun k _ => congrArg f (Fin.ext ?_)
  show k.val + 2048 * s.val = (2048 * s.val + k.val) % 8192
  have := k.isLt; have := s.isLt; omega

/-- Which blocks a grid point reads and writes. -/
theorem idx : ∀ t : Fin cfg0.N, win0_0.index t = ![t.val % 4, t.val / 88] ∧ win0_1.index t = ![t.val % 4, t.val / 4 % 22]
    ∧ win0_2.index t = ![t.val / 4 % 2, t.val / 88, t.val / 8 % 11] :=
  (by decide +kernel : ∀ t : Fin grid0.N, win0_0.index t = ![t.val % 4, t.val / 88] ∧ win0_1.index t = ![t.val % 4, t.val / 4 % 22]
    ∧ win0_2.index t = ![t.val / 4 % 2, t.val / 88, t.val / 8 % 11])

/-- A block of the layer's input: 2048 tokens, -/
theorem blk0 (c : Dev nD) (t : Fin cfg0.N) (a : Fin 2048) (b : Fin 1024) (a' : Fin 8192) (b' : Fin 2048)
    (ea : a'.val = t.val % 4 * 2048 + a.val) (eb : b'.val = t.val / 88 * 1024 + b.val) :
    iblk m c 0 t (ix2 a b) = H m c (ix2 a' b') := by
  obtain ⟨h, -⟩ := idx t
  show m ((c : Thread nD τ).loc main_arg0) (((cfg0.win 0).blk t).view.emb _) = _
  congr 1
  funext x; apply Fin.ext
  match x with
  | ⟨0, _⟩ => show win0_0.index t (0 : Fin 2) * 2048 + 1 * a.val = a'.val
              rw [h, ea]; show t.val % 4 * 2048 + 1 * a.val = _; omega
  | ⟨1, _⟩ => show win0_0.index t (1 : Fin 2) * 1024 + 1 * b.val = b'.val
              rw [h, eb]; show t.val / 88 * 1024 + 1 * b.val = _; omega

/-- and of the incoming gradient. -/
theorem blk1 (c : Dev nD) (t : Fin cfg0.N) (a : Fin 2048) (b : Fin 512) (a' : Fin 8192) (b' : Fin 11264)
    (ea : a'.val = t.val % 4 * 2048 + a.val) (eb : b'.val = t.val / 4 % 22 * 512 + b.val) :
    iblk m c 1 t (ix2 a b) = D m c (ix2 a' b') := by
  obtain ⟨-, h, -⟩ := idx t
  show m ((c : Thread nD τ).loc main_arg1) (((cfg0.win 1).blk t).view.emb _) = _
  congr 1
  funext x; apply Fin.ext
  match x with
  | ⟨0, _⟩ => show win0_1.index t (0 : Fin 2) * 2048 + 1 * a.val = a'.val
              rw [h, ea]; show t.val % 4 * 2048 + 1 * a.val = _; omega
  | ⟨1, _⟩ => show win0_1.index t (1 : Fin 2) * 512 + 1 * b.val = b'.val
              rw [h, eb]; show t.val / 4 % 22 * 512 + 1 * b.val = _; omega

/-- The part of point `t` in terms of the two whole arrays. -/
theorem part_eq (c : Dev nD) (t : Fin cfg0.N) (a : Fin 1024) (b : Fin 512) (i : S2x2048x5632.Idx)
    (e0 : (i 0).val = t.val / 4 % 2) (e1 : (i 1).val = t.val / 88 * 1024 + a.val) (e2 : (i 2).val = t.val / 8 % 11 * 512 + b.val) :
    part (iblk m c 0 t) (iblk m c 1 t) (ix2 a b)
      = ∑ k : Fin 2048, H m c (ix2 ⟨(2048 * (t.val % 4) + k.val) % 8192, Nat.mod_lt _ (by decide)⟩ (i 1))
          * D m c (ix2 ⟨(2048 * (t.val % 4) + k.val) % 8192, Nat.mod_lt _ (by decide)⟩ (col (i 0) (i 2))) := by
  unfold part
  refine Finset.sum_congr rfl fun k _ => ?_
  have hk := k.isLt
  have hb := b.isLt
  refine congrArg₂ (· * ·) (blk0 m c t _ _ _ _ ?_ e1) (blk1 m c t _ _ _ _ ?_ ?_)
  · dsimp only; omega
  · dsimp only; omega
  · show (i 2).val / 512 * 1024 + 512 * (i 0).val + (i 2).val % 512 = t.val / 4 % 22 * 512 + b.val
    rw [e0, e2]; omega

/-- The blocks written back fill the array. -/
theorem covers : (cfg0.win 2).Covers :=
  (cfg0.win 2).covers_of_indexMap_surj rfl (by decide) fun β => by
    have hN : cfg0.N = 176 := N_0
    have h0 : (β (0 : Fin 3)).val < 2 := (β (0 : Fin 3)).isLt
    have h1 : (β (1 : Fin 3)).val < 2 := (β (1 : Fin 3)).isLt
    have h2 : (β (2 : Fin 3)).val < 11 := (β (2 : Fin 3)).isLt
    have hlt : 88 * (β (1 : Fin 3)).val + 8 * (β (2 : Fin 3)).val + 4 * (β (0 : Fin 3)).val < 176 := by omega
    refine ⟨grid0.coords ⟨_, lt_of_lt_of_eq hlt hN.symm⟩, fun a => (congrFun (idx ⟨_, lt_of_lt_of_eq hlt hN.symm⟩).2.2 a).trans ?_⟩
    dsimp only
    match a with
    | ⟨0, _⟩ => show (88 * (β (1 : Fin 3)).val + 8 * (β (2 : Fin 3)).val + 4 * (β (0 : Fin 3)).val) / 4 % 2 = (β (0 : Fin 3)).val; omega
    | ⟨1, _⟩ => show (88 * (β (1 : Fin 3)).val + 8 * (β (2 : Fin 3)).val + 4 * (β (0 : Fin 3)).val) / 88 = (β (1 : Fin 3)).val; omega
    | ⟨2, _⟩ => show (88 * (β (1 : Fin 3)).val + 8 * (β (2 : Fin 3)).val + 4 * (β (0 : Fin 3)).val) / 8 % 11 = (β (2 : Fin 3)).val; omega

/-- What a point writes back, entry by entry. -/
theorem tile_at (c : Dev nD) (t : Fin cfg0.N) (hm : t.val % 4 = 3) (z : Fin 1) (a : Fin 1024) (b : Fin 512) (i : S2x2048x5632.Idx)
    (e0 : (i 0).val = win0_2.index t (0 : Fin 3) * 1 + 1 * z.val) (e1 : (i 1).val = win0_2.index t (1 : Fin 3) * 1024 + 1 * a.val)
    (e2 : (i 2).val = win0_2.index t (2 : Fin 3) * 512 + 1 * b.val) :
    (outsAt0 m c t.val t.isLt).1 (ix3 z a b) = G (H m c) (D m c) i := by
  have hN : cfg0.N = 176 := N_0
  have htlt := t.isLt
  obtain ⟨-, -, h⟩ := idx t
  rw [h] at e0 e1 e2
  replace e0 : (i 0).val = t.val / 4 % 2 := by refine e0.trans ?_; show t.val / 4 % 2 * 1 + 1 * z.val = _; omega
  replace e1 : (i 1).val = t.val / 88 * 1024 + a.val := by refine e1.trans ?_; show t.val / 88 * 1024 + 1 * a.val = _; omega
  replace e2 : (i 2).val = t.val / 8 % 11 * 512 + b.val := by refine e2.trans ?_; show t.val / 8 % 11 * 512 + 1 * b.val = _; omega
  have hout : (outsAt0 m c t.val t.isLt).1 (ix3 z a b) = (outsAt0 m c t.val t.isLt).2 (ix2 a b) := by
    rw [outsAt0_C m c t (by omega) (by omega) hm]
    dsimp only
    rw [out, last]
  rw [hout, carried, hm]
  unfold G
  rw [sum_runs]
  refine Finset.sum_congr rfl fun s hs => ?_
  have hs' : s < 4 := Finset.mem_range.mp hs
  have hlt : 4 * (t.val / 4) + s < cfg0.N := by omega
  have hmod : (4 * (t.val / 4) + s) % 4 = s := by omega
  refine (M_eq m c ⟨4 * (t.val / 4) + s, hlt⟩ _).trans ?_
  refine (part_eq m c ⟨4 * (t.val / 4) + s, hlt⟩ a b i ?_ ?_ ?_).trans ?_
  · dsimp only; omega
  · dsimp only; omega
  · dsimp only; omega
  · dsimp only; rw [hmod]

/-- The array the kernel leaves. -/
theorem final (c : Dev nD) : (dats m 0 c).arrAt 2 cfg0.N = G (H m c) (D m c) := by
  refine Pipeline.Dat.arrAt_eq_of_covers _ 2 _ covers fun t hfl y => ?_
  refine (congrFun (Value.flushed2 m c t) y).trans ?_
  exact (congrArg _ (eq_ix3 _)).trans (tile_at m c t ((flush0_2 t).mp hfl) (y (0 : Fin 3)) (y (1 : Fin 3)) (y (2 : Fin 3)) _ rfl rfl rfl)

open Cert.GuwReferenceIdeal.Gen in
/-- The reference's two products, each in its half of the array, are the same. -/
theorem ref_eq (h : FVec Ideal S8192x2048 .bf16) (d : FVec Ideal S8192x11264 .bf16) :
    addf
      (pad S2x2048x5632 ![1, 0, 0] ![0, 0, 0] ![0, 0, 0] (broadcastInDim Cert.GuwReferenceIdeal.S1x2048x5632 ![1, 2] bcast_S2048x5632_S1x2048x5632_1_2 (transpose Cert.GuwReferenceIdeal.S2048x5632 [1, 0] (Host.dotGeneral (F := Ideal) (φ₁ := .f32) (φ₂ := .f32) Cert.GuwReferenceIdeal.dot_S8192x5632_S8192x2048_S5632x2048_0_0_1_1_n_n none
      (shapeCast _ (shapeCast _ (extractStridedSlice Cert.GuwReferenceIdeal.S8192x11x1x512 ![0, 0, 1, 0] (shapeCast _ (extf .f32 d bitsLt_bf16_f32) shapeCasts_S8192x11264_S8192x11x2x512) slices_S8192x11x2x512_S8192x11x1x512_0_0_1_0) shapeCasts_S8192x11x1x512_S8192x11x512) shapeCasts_S8192x11x512_S8192x5632) (extf .f32 h bitsLt_bf16_f32)) transposes_S5632x2048_S2048x5632_1_0)) (constant Cert.GuwReferenceIdeal.S_ .f32 0x00000000#32) pads_S1x2048x5632_S2x2048x5632_100_000_000 h_S_)
      (pad S2x2048x5632 ![0, 0, 0] ![1, 0, 0] ![0, 0, 0] (broadcastInDim Cert.GuwReferenceIdeal.S1x2048x5632 ![1, 2] bcast_S2048x5632_S1x2048x5632_1_2 (transpose Cert.GuwReferenceIdeal.S2048x5632 [1, 0] (Host.dotGeneral (F := Ideal) (φ₁ := .f32) (φ₂ := .f32) Cert.GuwReferenceIdeal.dot_S8192x5632_S8192x2048_S5632x2048_0_0_1_1_n_n none
      (shapeCast _ (shapeCast _ (extractStridedSlice Cert.GuwReferenceIdeal.S8192x11x1x512 ![0, 0, 0, 0] (shapeCast _ (extf .f32 d bitsLt_bf16_f32) shapeCasts_S8192x11264_S8192x11x2x512) slices_S8192x11x2x512_S8192x11x1x512_0_0_0_0) shapeCasts_S8192x11x1x512_S8192x11x512) shapeCasts_S8192x11x512_S8192x5632) (extf .f32 h bitsLt_bf16_f32)) transposes_S5632x2048_S2048x5632_1_0)) (constant Cert.GuwReferenceIdeal.S_ .f32 0x00000000#32) pads_S1x2048x5632_S2x2048x5632_010_000_000 h_S_)
      = G h d := by
  funext j
  unfold G
  idx_vars j
  pointwise
  match j0 with
  | ⟨0, _⟩ =>
    rw [dif_neg (by simp), dif_pos (by simp), zero_add]
    exact Finset.sum_congr rfl fun k _ => mul_comm _ _
  | ⟨1, _⟩ =>
    rw [dif_pos (by simp), dif_neg (by simp), add_zero]
    exact Finset.sum_congr rfl fun k _ => mul_comm _ _

/-- The reference runs, keeps its arguments, and declares no semaphore. -/
theorem frame_ref : Cert.quiescent_GuwReferenceIdeal (hGuwReferenceIdeal := Cert.GuwReferenceIdeal.Gen.facts) := fun m g _ =>
  (θ_run Cert.GuwReferenceIdeal.defs _ _).mono (fun r h => ⟨fun c => (h c).2, sem_eq_zero_of_no_sems (by decide) r.2⟩)
    (Cert.GuwReferenceIdeal.Value.run (F := Ideal) m g)

/-- From equal arguments the two programs end with equal arrays. -/
theorem algebraic : Cert.algebraic_GuwKernelIdeal_GuwReferenceIdeal (hGuwKernelIdeal := Cert.GuwKernelIdeal.Gen.facts)
    (hGuwReferenceIdeal := Cert.GuwReferenceIdeal.Gen.facts) := by
  intro m g m' g' _ hargs
  refine ⟨fun c => G (H m c) (D m c), ?_, ?_⟩
  · exact (θ_run (Cert.GuwKernelIdeal.defs (F := Ideal)) _ _).mono (fun r h c => ⟨(h c).1.trans (final m c), (h c).2⟩) (Value.run_blocks (F := Ideal) m g)
  · refine (θ_run (Cert.GuwReferenceIdeal.defs (F := Ideal)) _ _).mono (fun r h c => ⟨(h c).1.trans ?_, (h c).2⟩) (Cert.GuwReferenceIdeal.Value.run (F := Ideal) m' g')
    rw [(hargs c).1, (hargs c).2]
    exact ref_eq _ _

end Cert.Proof.Guw

end
-- ==== Proof.Gate.lean ====
/-
  The gradient of a gated residual: the rows of the incoming gradient times the gate, and the gate's own gradient, the
  sum over all 8192 tokens of the incoming gradient times what the gate scaled.  The second array is one block that
  sixteen runs of 512 tokens add to.
-/
module

public import proofs.«01_k».proof.Defs
public import proofs.«01_k».proof.Proof.Gen.GateKernelIdeal.Value
public import proofs.«01_k».proof.Proof.Gen.GateReferenceIdeal.Run
public import Idealize.ShloMosaic.Lib.Pointwise
public import Idealize.ShloMosaic.Lib.Pipeline.Covers
public import Idealize.ShloMosaic.Lib.IdealHost

@[expose] public section

set_option maxRecDepth 16384

noncomputable section

namespace Cert.Proof.Gate

open Idealize.ShloMosaic Idealize.SL.Sem Cert.GateKernelIdeal Cert.GateKernelIdeal.Gen Idealize.ShloMosaic.TcCoe

theorem hz0 : (![0, 0] : Fin S512x2048.rank → Nat) = fun _ => 0 := funext fun a => by fin_cases a <;> rfl
theorem hz1 : (![0, 0] : Fin S1x2048.rank → Nat) = fun _ => 0 := funext fun a => by fin_cases a <;> rfl

theorem pay1_at (x0 : Vec Ideal S512x2048 .f32) (x2 : Vec Ideal S1x2048 .f32) (a : Fin 512) (b : Fin 2048) :
    k0_pay1 x0 x2 (ix2 a b) = x0 (ix2 a b) * x2 (ix2 0 b) := by
  pointwise [k0_pay1]
theorem pay2_at (b : Fin 2048) : k0_pay2 (F := Ideal) (ix2 0 b) = 0 := by
  pointwise [k0_pay2]
theorem pay3_at (x0 x1 : Vec Ideal S512x2048 .f32) (xs : Vec Ideal S1x2048 .f32) (b : Fin 2048) :
    k0_pay3 x0 xs x1 (ix2 0 b) = xs (ix2 0 b) + ∑ k : Fin 512, x0 (ix2 k b) * x1 (ix2 k b) := by
  pointwise [k0_pay3]

section
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x2048 .bf16) (h4 : a4.IsWhole) (a5 : Memref sig .tc .vmem S1x2048 .f32) (h5 : a5.IsWhole)
  (x0 x1 : Vec Ideal S512x2048 .f32) (x2 xs : Vec Ideal S1x2048 .f32)

/-- The block of rows, at the first point -/
theorem rows_first (hc : cond0_0 i) : out0_A_3 c i a1 h1 a2 h2 a3 h3 a4 h4 a5 h5 hc x0 x1 x2 = k0_pay1 x0 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz0]
  simp only [View.readAt_eq_ld, h1.read_unread, h2.read_unread, h3.read_unread, View.ld_unit_zero (S := S512x2048) hz0, View.ld_unit_zero (S := S1x2048) hz1]

/-- and at the others. -/
theorem rows_next (hc : ¬cond0_0 i) : out0_B_3 c i a1 h1 a2 h2 a3 h3 a4 h4 a5 h5 hc x0 x1 x2 xs = k0_pay1 x0 x2 := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz0]
  simp only [View.readAt_eq_ld, h1.read_unread, h2.read_unread, h3.read_unread, View.ld_unit_zero (S := S512x2048) hz0, View.ld_unit_zero (S := S1x2048) hz1]

/-- The first point starts the gate's sum from zero, -/
theorem sum_first (hc : cond0_0 i) : out0_A_4 c i a1 h1 a2 h2 a3 h3 a4 h4 a5 h5 hc x0 x1 x2 = k0_pay3 x0 (k0_pay2 (F := Ideal)) x1 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x2048) hz1, View.readCov_unit_zero (S := S1x2048) _ hz1]
  simp only [View.readAt_eq_ld, h1.read_unread, h2.read_unread, h3.read_unread, View.ld_unit_zero (S := S512x2048) hz0, View.ld_unit_zero (S := S1x2048) hz1]

/-- the others add to what they find. -/
theorem sum_next (hc : ¬cond0_0 i) : out0_B_4 c i a1 h1 a2 h2 a3 h3 a4 h4 a5 h5 hc x0 x1 x2 xs = k0_pay3 x0 xs x1 := by
  unfold out0_B_4
  rw [View.read_writes_eq_canon _ _ _ (cover0_B_4 c i a1 h1 a2 h2 a3 h3 a4 h4 a5 h5 hc x0 x1 x2 xs)]
  unfold kernelRun0_B
  dsimp only
  sl_unfold_words
  rw [View.canon_unit_zero hz1]
  simp only [View.readAt_eq_ld, h1.read_unread, h2.read_unread, h3.read_unread, h5.read_unread, View.ld_unit_zero (S := S512x2048) hz0, View.ld_unit_zero (S := S1x2048) hz1]
end

variable (m : (ℓ : Loc nD τ sig) → Buf (Elt Ideal) ℓ)

/-- The incoming gradient, what the gate scaled, and the gate, as launched. -/
abbrev Y (c : Dev nD) : S8192x2048.Idx → EReal := m ((c : Thread nD τ).loc main_arg0)
abbrev U (c : Dev nD) : S8192x2048.Idx → EReal := m ((c : Thread nD τ).loc main_arg1)
abbrev W (c : Dev nD) : S1x2048.Idx → EReal := m ((c : Thread nD τ).loc main_arg2)

/-- The gradient of what the gate scaled, -/
def GR (y : S8192x2048.Idx → EReal) (w : S1x2048.Idx → EReal) (i : S8192x2048.Idx) : EReal := y i * w (ix2 0 (i 1))
/-- and of the gate: over all tokens, the incoming gradient times what the gate scaled. -/
def GS (y u : S8192x2048.Idx → EReal) (i : S1x2048.Idx) : EReal := ∑ k : Fin 8192, y (ix2 k (i 1)) * u (ix2 k (i 1))

/-- Which blocks a grid point reads and writes. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0])

/-- A block of rows of the incoming gradient: 512 tokens of it, -/
theorem blk0 (c : Dev nD) (t : Fin cfg0.N) (a : Fin 512) (b : Fin 2048) :
    iblk m c 0 t (ix2 a b) = Y m c (ix2 ⟨(512 * t.val + a.val) % 8192, Nat.mod_lt _ (by decide)⟩ b) := by
  have hN : cfg0.N = 16 := N_0
  have ht := t.isLt
  obtain ⟨h, -⟩ := idx t
  show m ((c : Thread nD τ).loc main_arg0) (((cfg0.win 0).blk t).view.emb _) = _
  congr 1
  funext x; apply Fin.ext
  match x with
  | ⟨0, _⟩ => show win0_0.index t (0 : Fin 2) * 512 + 1 * a.val = (512 * t.val + a.val) % 8192
              rw [h]; show t.val * 512 + 1 * a.val = _; omega
  | ⟨1, _⟩ => show win0_0.index t (1 : Fin 2) * 2048 + 1 * b.val = b.val
              rw [h]; show 0 * 2048 + 1 * b.val = _; omega

/-- of what the gate scaled, -/
theorem blk1 (c : Dev nD) (t : Fin cfg0.N) (a : Fin 512) (b : Fin 2048) :
    iblk m c 1 t (ix2 a b) = U m c (ix2 ⟨(512 * t.val + a.val) % 8192, Nat.mod_lt _ (by decide)⟩ b) := by
  have hN : cfg0.N = 16 := N_0
  have ht := t.isLt
  obtain ⟨-, h, -⟩ := idx t
  show m ((c : Thread nD τ).loc main_arg1) (((cfg0.win 1).blk t).view.emb _) = _
  congr 1
  funext x; apply Fin.ext
  match x with
  | ⟨0, _⟩ => show win0_1.index t (0 : Fin 2) * 512 + 1 * a.val = (512 * t.val + a.val) % 8192
              rw [h]; show t.val * 512 + 1 * a.val = _; omega
  | ⟨1, _⟩ => show win0_1.index t (1 : Fin 2) * 2048 + 1 * b.val = b.val
              rw [h]; show 0 * 2048 + 1 * b.val = _; omega

/-- and the whole gate. -/
theorem blk2 (c : Dev nD) (t : Fin cfg0.N) (b : Fin 2048) : iblk m c 2 t (ix2 0 b) = W m c (ix2 0 b) := by
  obtain ⟨-, -, h, -⟩ := idx t
  show m ((c : Thread nD τ).loc main_arg2) (((cfg0.win 2).blk t).view.emb _) = _
  congr 1
  funext x; apply Fin.ext
  match x with
  | ⟨0, _⟩ => show win0_2.index t (0 : Fin 2) * 1 + 1 * 0 = 0
              rw [h]; rfl
  | ⟨1, _⟩ => show win0_2.index t (1 : Fin 2) * 2048 + 1 * b.val = b.val
              rw [h]; show 0 * 2048 + 1 * b.val = _; omega

/-- The rows a point writes. -/
theorem rows (c : Dev nD) (t : Fin cfg0.N) : (outsAt0 m c t.val t.isLt).1 = k0_pay1 (iblk m c 0 t) (iblk m c 2 t) := by
  by_cases h : t.val % 16 = 0
  · have e := congrArg Prod.fst (outsAt0_A m c t h)
    dsimp only at e
    rw [e, rows_first]
  · have e := congrArg Prod.fst (outsAt0_B m c t h)
    dsimp only at e
    rw [e, rows_next]

/-- The part that grid point `n` adds to the gate's gradient. -/
def M (c : Dev nD) (n : ℕ) (b : Fin 2048) : EReal :=
  ∑ k : Fin 512, Y m c (ix2 ⟨(512 * n + k.val) % 8192, Nat.mod_lt _ (by decide)⟩ b) * U m c (ix2 ⟨(512 * n + k.val) % 8192, Nat.mod_lt _ (by decide)⟩ b)

/-- What the gate's block holds after point `n`: the parts so far. -/
theorem carried (c : Dev nD) (b : Fin 2048) : ∀ (n : ℕ) (hn : n < cfg0.N),
    (outsAt0 m c n hn).2 (ix2 0 b) = ∑ s ∈ Finset.range (n + 1), M m c s b
  | 0, hn => by
    have e := congrArg Prod.snd (outsAt0_A m c ⟨0, hn⟩ (Nat.zero_mod 16))
    dsimp only at e
    rw [e, sum_first, pay3_at, pay2_at, zero_add, Finset.sum_range_one]
    exact Finset.sum_congr rfl fun k _ => congrArg₂ (· * ·) (blk0 ..) (blk1 ..)
  | n + 1, hn => by
    have hN : cfg0.N = 16 := N_0
    have e := congrArg Prod.snd (outsAt0_B m c ⟨n + 1, hn⟩ (by dsimp only; omega))
    simp only [Nat.add_sub_cancel] at e
    rw [e, sum_next, pay3_at, Finset.sum_range_succ]
    refine congrArg₂ (· + ·) (carried c b n _) ?_
    exact Finset.sum_congr rfl fun k _ => congrArg₂ (· * ·) (blk0 ..) (blk1 ..)

/-- A sum over all tokens is the sum over sixteen runs of 512. -/
theorem sum_runs (f : Fin 8192 → EReal) :
    ∑ k, f k = ∑ s ∈ Finset.range 16, ∑ k : Fin 512, f ⟨(512 * s + k.val) % 8192, Nat.mod_lt _ (by decide)⟩ := by
  rw [← Equiv.sum_comp (finProdFinEquiv (m := 16) (n := 512)) f, Fintype.sum_prod_type, Finset.sum_range]
  refine Finset.sum_congr rfl fun s _ => Finset.sum_congr rfl fun k _ => congrArg f (Fin.ext ?_)
  show k.val + 512 * s.val = (512 * s.val + k.val) % 8192
  have := k.isLt; have := s.isLt; omega

/-- The blocks written back fill both arrays. -/
theorem covers3 : (cfg0.win 3).Covers :=
  (cfg0.win 3).covers_of_indexMap_surj rfl (by decide) fun β => by
    have hN : cfg0.N = 16 := N_0
    have hβ : (β (0 : Fin 2)).val < 16 := (β (0 : Fin 2)).isLt
    refine ⟨grid0.coords ⟨(β (0 : Fin 2)).val, lt_of_lt_of_eq hβ hN.symm⟩, fun a => (congrFun (idx ⟨(β (0 : Fin 2)).val, lt_of_lt_of_eq hβ hN.symm⟩).2.2.2.1 a).trans ?_⟩
    match a with
    | ⟨0, _⟩ => rfl
    | ⟨1, _⟩ => exact (Nat.lt_one_iff.mp (β (1 : Fin 2)).isLt).symm
theorem covers4 : (cfg0.win 4).Covers :=
  (cfg0.win 4).covers_of_indexMap_surj rfl (by decide) fun β => by
    have hN : cfg0.N = 16 := N_0
    refine ⟨grid0.coords ⟨0, lt_of_lt_of_eq (by decide : 0 < 16) hN.symm⟩, fun a => (congrFun (idx ⟨0, lt_of_lt_of_eq (by decide : 0 < 16) hN.symm⟩).2.2.2.2 a).trans ?_⟩
    match a with
    | ⟨0, _⟩ => exact (Nat.lt_one_iff.mp (β (0 : Fin 2)).isLt).symm
    | ⟨1, _⟩ => exact (Nat.lt_one_iff.mp (β (1 : Fin 2)).isLt).symm

/-- What a point writes back, entry by entry. -/
theorem rows_at (c : Dev nD) (t : Fin cfg0.N) (a : Fin 512) (b : Fin 2048) (i : S8192x2048.Idx)
    (e0 : (i 0).val = win0_3.index t (0 : Fin 2) * 512 + 1 * a.val) (e1 : (i 1).val = win0_3.index t (1 : Fin 2) * 2048 + 1 * b.val) :
    (outsAt0 m c t.val t.isLt).1 (ix2 a b) = GR (Y m c) (W m c) i := by
  have hN : cfg0.N = 16 := N_0
  have ht := t.isLt
  obtain ⟨-, -, -, h, -⟩ := idx t
  have e : i = ix2 ⟨(512 * t.val + a.val) % 8192, Nat.mod_lt _ (by decide)⟩ b := by
    funext x; apply Fin.ext
    match x with
    | ⟨0, _⟩ => rw [h] at e0; refine e0.trans ?_; show t.val * 512 + 1 * a.val = (512 * t.val + a.val) % 8192; omega
    | ⟨1, _⟩ => rw [h] at e1; refine e1.trans ?_; show 0 * 2048 + 1 * b.val = b.val; omega
  rw [rows, pay1_at, blk0, blk2, e]
  rfl
theorem sum_at (c : Dev nD) (t : Fin cfg0.N) (h15 : t.val % 16 = 15) (a : Fin 1) (b : Fin 2048) (i : S1x2048.Idx)
    (e1 : (i 1).val = win0_4.index t (1 : Fin 2) * 2048 + 1 * b.val) :
    (outsAt0 m c t.val t.isLt).2 (ix2 a b) = GS (Y m c) (U m c) i := by
  have hN : cfg0.N = 16 := N_0
  have ht := t.isLt
  obtain ⟨-, -, -, -, h⟩ := idx t
  have e : i 1 = b := by
    apply Fin.ext; rw [h] at e1; refine e1.trans ?_; show 0 * 2048 + 1 * b.val = b.val; omega
  rw [Subsingleton.elim a 0, carried, show t.val + 1 = 16 by omega]
  unfold GS
  rw [sum_runs, e]
  rfl

/-- The gradient of what the gate scaled, as the kernel leaves it. -/
theorem final3 (c : Dev nD) : (dats m 0 c).arrAt 3 cfg0.N = GR (Y m c) (W m c) := by
  refine Pipeline.Dat.arrAt_eq_of_covers _ 3 _ covers3 fun t _ y => ?_
  refine (congrFun (Value.flushed3 m c t) y).trans ?_
  exact (congrArg _ (eq_ix2 _)).trans (rows_at m c t (y (0 : Fin 2)) (y (1 : Fin 2)) _ rfl rfl)

/-- The gate's gradient, as the kernel leaves it. -/
theorem final4 (c : Dev nD) : (dats m 0 c).arrAt 4 cfg0.N = GS (Y m c) (U m c) := by
  refine Pipeline.Dat.arrAt_eq_of_covers _ 4 _ covers4 fun t hfl y => ?_
  refine (congrFun (Value.flushed4 m c t) y).trans ?_
  exact (congrArg _ (eq_ix2 _)).trans (sum_at m c t ((flush0_4 t).mp hfl) (y (0 : Fin 2)) (y (1 : Fin 2)) _ rfl)

/-- The reference's two arrays are the same. -/
theorem ref_rows (y : FVec Ideal S8192x2048 .f32) (w : FVec Ideal S1x2048 .f32) (h) :
    truncf .bf16 (mulf (broadcastInDim S8192x2048 ![0, 1] Cert.GateReferenceIdeal.Gen.bcast_S1x2048_S8192x2048_0_1 w) y) h = GR y w := by
  funext j
  unfold GR
  idx_vars j
  pointwise
  exact mul_comm _ _
theorem ref_sum (y u : FVec Ideal S8192x2048 .f32) :
    shapeCast _ (Host.reduceAdd (φ := .f32) (mulf y u) (constant Cert.GateReferenceIdeal.S_ .f32 0x00000000#32) Cert.GateReferenceIdeal.Gen.reducesTo_S8192x2048_S2048_d0 Cert.GateReferenceIdeal.Gen.h_S_)
      Cert.GateReferenceIdeal.Gen.shapeCasts_S2048_S1x2048 = GS y u := by
  funext j
  unfold GS
  idx_vars j
  pointwise

/-- The reference runs, keeps its arguments, and declares no semaphore. -/
theorem frame_ref : Cert.quiescent_GateReferenceIdeal (hGateReferenceIdeal := Cert.GateReferenceIdeal.Gen.facts) := fun m g _ =>
  (θ_run Cert.GateReferenceIdeal.defs _ _).mono (fun r h => ⟨fun c => (h c).2.2, sem_eq_zero_of_no_sems (by decide) r.2⟩)
    (Cert.GateReferenceIdeal.Value.run (F := Ideal) m g)

/-- From equal arguments the two programs end with equal arrays. -/
theorem algebraic : Cert.algebraic_GateKernelIdeal_GateReferenceIdeal (hGateKernelIdeal := Cert.GateKernelIdeal.Gen.facts)
    (hGateReferenceIdeal := Cert.GateReferenceIdeal.Gen.facts) := by
  intro m g m' g' _ hargs
  refine ⟨fun c => GR (Y m c) (W m c), fun c => GS (Y m c) (U m c), ?_, ?_⟩
  · exact (θ_run (Cert.GateKernelIdeal.defs (F := Ideal)) _ _).mono
      (fun r h c => ⟨(h c).1.trans (final3 m c), (h c).2.1.trans (final4 m c), (h c).2.2⟩) (Value.run_blocks (F := Ideal) m g)
  · refine (θ_run (Cert.GateReferenceIdeal.defs (F := Ideal)) _ _).mono
      (fun r h c => ⟨(h c).1.trans ?_, (h c).2.1.trans ?_, (h c).2.2⟩) (Cert.GateReferenceIdeal.Value.run (F := Ideal) m' g')
    · rw [(hargs c).1, (hargs c).2.2]
      exact ref_rows _ _ _
    · rw [(hargs c).1, (hargs c).2.1]
      exact ref_sum _ _

end Cert.Proof.Gate

end
-- ==== Proof.NormReal.lean ====
/-
  The gradient of a normalised row, over real numbers: the kernel's formula, with the row's mean of the gradient times
  the normalised row, and the chain rule's, with the derivative of the inverse square root, are one number.
-/
module

public import proofs.«01_k».proof.Pre_finite7
public import proofs.«01_k».proof.Proof.AttnFinite
public import Idealize.ShloMosaic.Lib.Pointwise

@[expose] public section

noncomputable section

namespace Cert.Proof.Norm

open Idealize.ShloMosaic

/-- The length of a row, the number added below the root, and the derivative's half, as the programs' literals. -/
abbrev cN : EReal := Ideal.ofBits .f32 1157627904#32
abbrev cE : EReal := Ideal.ofBits .f32 897988541#32
abbrev cH : EReal := Ideal.ofBits .f32 3204448256#32

/-- The number added below the root. -/
def eps : ℝ := 8796093 / 8796093022208

theorem cN_eq : cN = ((2048 : ℝ) : EReal) := by simp [Ideal.ofBits, Ideal.ieee, -EReal.coe_mul]; norm_num
theorem cE_eq : cE = ((eps : ℝ) : EReal) := by unfold eps; simp [Ideal.ofBits, Ideal.ieee, -EReal.coe_mul]; norm_num
theorem cH_eq : cH = ((-(1 / 2) : ℝ) : EReal) := by simp [Ideal.ofBits, Ideal.ieee, -EReal.coe_mul]; norm_num

/-- The inverse root of a row's mean square, -/
def RS (x : Fin 2048 → EReal) : EReal := Ideal.rsqrt (Ideal.div (∑ l, x l * x l) cN + cE)
/-- the kernel's gradient of a row, -/
def KX (x d y g s : Fin 2048 → EReal) (b : Fin 2048) : EReal :=
  y b + RS x * (d b * (g b * (1 + s b)) - x b * RS x * Ideal.div (∑ l, d l * (g l * (1 + s l)) * (x l * RS x)) cN)
/-- the chain rule's derivative of the mean square, -/
def RQ (x d g s : Fin 2048 → EReal) : EReal :=
  Ideal.div ((∑ l, x l * (d l * (1 + s l) * g l)) * (cH * Ideal.div (RS x) (Ideal.div (∑ l, x l * x l) cN + cE))) cN
/-- and its gradient of a row. -/
def RX (x d y g s : Fin 2048 → EReal) (b : Fin 2048) : EReal :=
  y b + (d b * (1 + s b) * g b * RS x + x b * RQ x d g s + RQ x d g s * x b)

/-- A row of real numbers. -/
abbrev re (x : Fin 2048 → ℝ) : Fin 2048 → EReal := fun l => ((x l : ℝ) : EReal)

variable (x d y g s : Fin 2048 → ℝ)

/-- The row's mean square and the number added: it is positive. -/
def var : ℝ := (∑ l, x l * x l) * (1 / 2048) + eps
theorem var_pos : 0 < var x := by
  have h : 0 ≤ ∑ l, x l * x l := Finset.sum_nonneg fun l _ => mul_self_nonneg (x l)
  unfold var eps
  positivity
/-- Its inverse root. -/
def rs : ℝ := (Real.sqrt (var x))⁻¹
theorem rs_quot : rs x * (1 / var x) = rs x ^ 3 := by
  have h := Real.sq_sqrt (var_pos x).le
  have h0 : Real.sqrt (var x) ≠ 0 := (Real.sqrt_pos.mpr (var_pos x)).ne'
  unfold rs
  nth_rewrite 2 [← h]
  field_simp

theorem div_N (a : ℝ) : Ideal.div ((a : ℝ) : EReal) cN = ((a * (1 / 2048) : ℝ) : EReal) := by
  rw [cN_eq, Ideal.div_coe (by norm_num : (2048 : ℝ) ≠ 0), ← EReal.coe_mul]
theorem V_re : Ideal.div (∑ l, re x l * re x l) cN + cE = ((var x : ℝ) : EReal) := by
  simp only [re, ← EReal.coe_mul, ← Attn.coe_sum, div_N, cE_eq, ← EReal.coe_add]
  rfl
theorem RS_re : RS (re x) = ((rs x : ℝ) : EReal) := by
  unfold RS
  rw [V_re, Ideal.rsqrt_coe, if_neg (var_pos x).not_gt, if_neg (var_pos x).ne']
  rfl

/-- The two formulas of a row's gradient are equal over the reals. -/
theorem KX_eq_RX (b : Fin 2048) : KX (re x) (re d) (re y) (re g) (re s) b = RX (re x) (re d) (re y) (re g) (re s) b := by
  unfold KX RX RQ
  rw [V_re, RS_re, Ideal.div_coe (var_pos x).ne' ((rs x : ℝ) : EReal), cH_eq]
  simp only [re, ← EReal.coe_one, ← EReal.coe_mul, ← EReal.coe_add, ← EReal.coe_sub, ← Attn.coe_sum, div_N]
  refine congrArg _ ?_
  have e : ∑ l, d l * (g l * (1 + s l)) * (x l * rs x) = rs x * ∑ l, x l * (d l * (1 + s l) * g l) := by
    rw [Finset.mul_sum]; exact Finset.sum_congr rfl fun l _ => by ring
  rw [e, rs_quot]
  ring

instance : Subsingleton Cert.Pre_finite7.S_.Idx := ⟨fun _ _ => funext fun a => a.elim0⟩

open Attn in
/-- The precondition, array by array. -/
theorem real_of_finite7 [Cert.Pre_finite7.Facts] (x d y : FVec Ideal Cert.Pre_finite7.S8192x2048 .f32) (g s : FVec Ideal Cert.Pre_finite7.S1x2048 .f32)
    (h : Cert.Pre_finite7.fn (F := Ideal) x d y g s = fun _ => 1#1) :
    (∃ r, x = up r) ∧ (∃ r, d = up r) ∧ (∃ r, y = up r) ∧ (∃ r, g = up r) ∧ ∃ r, s = up r := by
  have h0 := congrFun h ix0
  unfold Cert.Pre_finite7.fn Cert.Pre_finite7.fn_part1 at h0
  dsimp only at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all x _ (fun _ => ofBits_pos_inf) fun i => Host.reduce_andi_all _ _ _ _ _ h1 i,
    real_of_all d _ (fun _ => ofBits_pos_inf) fun i => Host.reduce_andi_all _ _ _ _ _ h2 i,
    real_of_all y _ (fun _ => ofBits_pos_inf) fun i => Host.reduce_andi_all _ _ _ _ _ h3 i,
    real_of_all g _ (fun _ => ofBits_pos_inf) fun i => Host.reduce_andi_all _ _ _ _ _ h4 i,
    real_of_all s _ (fun _ => ofBits_pos_inf) fun i => Host.reduce_andi_all _ _ _ _ _ h5 i⟩

end Cert.Proof.Norm

end
-- ==== Proof.Norm.lean ====
/-
  The gradient of the modulated norm: the rows of the input's gradient, and the gradients of the norm's scale, of the
  modulation's scale and of its shift, each a sum over all 8192 tokens that thirty-two runs of 256 tokens add to.
-/
module

public import proofs.«01_k».proof.Defs
public import proofs.«01_k».proof.Proof.Gen.NormKernelIdeal.Value
public import proofs.«01_k».proof.Proof.Gen.NormReferenceIdeal.Run
public import proofs.«01_k».proof.Proof.NormReal
public import Idealize.ShloMosaic.Lib.Pointwise
public import Idealize.ShloMosaic.Lib.Pipeline.Covers
public import Idealize.ShloMosaic.Lib.IdealHost

@[expose] public section

set_option maxRecDepth 16384

noncomputable section

namespace Cert.Proof.Norm

open Idealize.ShloMosaic Idealize.SL.Sem Cert.NormKernelIdeal Cert.NormKernelIdeal.Gen Idealize.ShloMosaic.TcCoe

theorem hz0 : (![0, 0] : Fin S256x2048.rank → Nat) = fun _ => 0 := funext fun a => by fin_cases a <;> rfl
theorem hz1 : (![0, 0] : Fin S1x2048.rank → Nat) = fun _ => 0 := funext fun a => by fin_cases a <;> rfl

/-- A row of an array. -/
abbrev row {n : ℕ} (x : Shape.Idx ⟨2, ![n, 2048]⟩ → EReal) (a : Fin n) : Fin 2048 → EReal := fun l => x (ix2 a l)

theorem pay9_at (x0 x1 x2 : Vec Ideal S256x2048 .f32) (x3 x4 : Vec Ideal S1x2048 .f32) (a : Fin 256) (b : Fin 2048) :
    k0_pay9 x0 x1 x3 x4 x2 (ix2 a b) = KX (row x0 a) (row x1 a) (row x2 a) (row x3 0) (row x4 0) b := by
  unfold KX RS
  pointwise [k0_pay9, k0_pay8, k0_pay7]
theorem pay10_at (x0 x1 : Vec Ideal S256x2048 .f32) (b : Fin 2048) :
    k0_pay10 x0 x1 (ix2 0 b) = ∑ k : Fin 256, x1 (ix2 k b) * (x0 (ix2 k b) * RS (row x0 k)) := by
  unfold RS
  pointwise [k0_pay10, k0_pay8, k0_pay7]
theorem pay1_at (b : Fin 2048) : k0_pay1 (F := Ideal) (ix2 0 b) = 0 := by
  pointwise [k0_pay1]
theorem pay2_at (b : Fin 2048) : k0_pay2 (F := Ideal) (ix2 0 b) = 0 := by
  pointwise [k0_pay2]
theorem pay3_at (b : Fin 2048) : k0_pay3 (F := Ideal) (ix2 0 b) = 0 := by
  pointwise [k0_pay3]
theorem pay4_at (t o s : Vec Ideal S1x2048 .f32) (b : Fin 2048) : k0_pay4 t o s (ix2 0 b) = o (ix2 0 b) + t (ix2 0 b) * (1 + s (ix2 0 b)) := by
  pointwise [k0_pay4]
theorem pay5_at (t o g : Vec Ideal S1x2048 .f32) (b : Fin 2048) : k0_pay5 t o g (ix2 0 b) = o (ix2 0 b) + t (ix2 0 b) * g (ix2 0 b) := by
  pointwise [k0_pay5]
theorem pay6_at (d : Vec Ideal S256x2048 .f32) (o : Vec Ideal S1x2048 .f32) (b : Fin 2048) : k0_pay6 d o (ix2 0 b) = o (ix2 0 b) + ∑ k : Fin 256, d (ix2 k b) := by
  pointwise [k0_pay6]

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S1x2048 .f32) (h5 : a5.IsWhole)
  (a6 : Memref sig .tc .vmem S256x2048 .f32) (h6 : a6.IsWhole) (a7 : Memref sig .tc .vmem S1x2048 .f32) (h7 : a7.IsWhole)
  (a8 : Memref sig .tc .vmem S1x2048 .f32) (h8 : a8.IsWhole) (a9 : Memref sig .tc .vmem S1x2048 .f32) (h9 : a9.IsWhole)
  (x0 x1 x2 : Vec Ideal S256x2048 .f32) (x3 x4 p q r : Vec Ideal S1x2048 .f32)

/-- The block of rows, at the first point -/
theorem rows_first (hc : cond0_0 i) : out0_A_5 c i a1 h1 a2 h2 a3 h3 a4 h4 a5 h5 a6 h6 a7 h7 a8 h8 a9 h9 hc x0 x1 x2 x3 x4 = k0_pay9 x0 x1 x3 x4 x2 := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_unit_zero hz0]
  simp only [View.readAt_eq_ld, h1.read_unread, h2.read_unread, h3.read_unread, h4.read_unread, h5.read_unread, View.ld_unit_zero (S := S256x2048) hz0, View.ld_unit_zero (S := S1x2048) hz1]

/-- and at the others. -/
theorem rows_next (hc : ¬cond0_0 i) : out0_B_5 c i a1 h1 a2 h2 a3 h3 a4 h4 a5 h5 a6 h6 a7 h7 a8 h8 a9 h9 hc x0 x1 x2 x3 x4 p q r = k0_pay9 x0 x1 x3 x4 x2 := by
  unfold out0_B_5
  rw [View.read_writes_eq_canon _ _ _ (cover0_B_5 c i a1 h1 a2 h2 a3 h3 a4 h4 a5 h5 a6 h6 a7 h7 a8 h8 a9 h9 hc x0 x1 x2 x3 x4 p q r)]
  unfold kernelRun0_B
  dsimp only
  sl_unfold_words
  rw [View.canon_unit_zero hz0]
  simp only [View.readAt_eq_ld, h1.read_unread, h2.read_unread, h3.read_unread, h4.read_unread, h5.read_unread, View.ld_unit_zero (S := S256x2048) hz0, View.ld_unit_zero (S := S1x2048) hz1]

/-- The three sums start from zero at the first point: the norm's scale, -/
theorem g_first (hc : cond0_0 i) : out0_A_6 c i a1 h1 a2 h2 a3 h3 a4 h4 a5 h5 a6 h6 a7 h7 a8 h8 a9 h9 hc x0 x1 x2 x3 x4 = k0_pay4 (k0_pay10 x0 x1) (k0_pay1 (F := Ideal)) x4 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz1, View.readCov_unit_zero (S := S1x2048) _ hz1]
  simp only [View.readAt_eq_ld, h1.read_unread, h2.read_unread, h3.read_unread, h4.read_unread, h5.read_unread, View.ld_unit_zero (S := S256x2048) hz0, View.ld_unit_zero (S := S1x2048) hz1]

/-- the modulation's scale, -/
theorem s_first (hc : cond0_0 i) : out0_A_7 c i a1 h1 a2 h2 a3 h3 a4 h4 a5 h5 a6 h6 a7 h7 a8 h8 a9 h9 hc x0 x1 x2 x3 x4 = k0_pay5 (k0_pay10 x0 x1) (k0_pay2 (F := Ideal)) x3 := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz1, View.readCov_unit_zero (S := S1x2048) _ hz1]
  simp only [View.readAt_eq_ld, h1.read_unread, h2.read_unread, h3.read_unread, h4.read_unread, h5.read_unread, View.ld_unit_zero (S := S256x2048) hz0, View.ld_unit_zero (S := S1x2048) hz1]

/-- its shift; -/
theorem h_first (hc : cond0_0 i) : out0_A_8 c i a1 h1 a2 h2 a3 h3 a4 h4 a5 h5 a6 h6 a7 h7 a8 h8 a9 h9 hc x0 x1 x2 x3 x4 = k0_pay6 x1 (k0_pay3 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz1, View.readCov_unit_zero (S := S1x2048) _ hz1]
  simp only [View.readAt_eq_ld, h1.read_unread, h2.read_unread, h3.read_unread, h4.read_unread, h5.read_unread, View.ld_unit_zero (S := S256x2048) hz0, View.ld_unit_zero (S := S1x2048) hz1]

/-- the other points add to what they find. -/
theorem g_next (hc : ¬cond0_0 i) : out0_B_6 c i a1 h1 a2 h2 a3 h3 a4 h4 a5 h5 a6 h6 a7 h7 a8 h8 a9 h9 hc x0 x1 x2 x3 x4 p q r = k0_pay4 (k0_pay10 x0 x1) p x4 := by
  unfold out0_B_6
  rw [View.read_writes_eq_canon _ _ _ (cover0_B_6 c i a1 h1 a2 h2 a3 h3 a4 h4 a5 h5 a6 h6 a7 h7 a8 h8 a9 h9 hc x0 x1 x2 x3 x4 p q r)]
  unfold kernelRun0_B
  dsimp only
  sl_unfold_words
  rw [View.canon_unit_zero hz1]
  simp only [View.readAt_eq_ld, h7.read_unread, h1.read_unread, h2.read_unread, h3.read_unread, h4.read_unread, h5.read_unread, View.ld_unit_zero (S := S256x2048) hz0, View.ld_unit_zero (S := S1x2048) hz1]

theorem s_next (hc : ¬cond0_0 i) : out0_B_7 c i a1 h1 a2 h2 a3 h3 a4 h4 a5 h5 a6 h6 a7 h7 a8 h8 a9 h9 hc x0 x1 x2 x3 x4 p q r = k0_pay5 (k0_pay10 x0 x1) q x3 := by
  unfold out0_B_7
  rw [View.read_writes_eq_canon _ _ _ (cover0_B_7 c i a1 h1 a2 h2 a3 h3 a4 h4 a5 h5 a6 h6 a7 h7 a8 h8 a9 h9 hc x0 x1 x2 x3 x4 p q r)]
  unfold kernelRun0_B
  dsimp only
  sl_unfold_words
  rw [View.canon_unit_zero hz1]
  simp only [View.readAt_eq_ld, h8.read_unread, h1.read_unread, h2.read_unread, h3.read_unread, h4.read_unread, h5.read_unread, View.ld_unit_zero (S := S256x2048) hz0, View.ld_unit_zero (S := S1x2048) hz1]

theorem h_next (hc : ¬cond0_0 i) : out0_B_8 c i a1 h1 a2 h2 a3 h3 a4 h4 a5 h5 a6 h6 a7 h7 a8 h8 a9 h9 hc x0 x1 x2 x3 x4 p q r = k0_pay6 x1 r := by
  unfold out0_B_8
  rw [View.read_writes_eq_canon _ _ _ (cover0_B_8 c i a1 h1 a2 h2 a3 h3 a4 h4 a5 h5 a6 h6 a7 h7 a8 h8 a9 h9 hc x0 x1 x2 x3 x4 p q r)]
  unfold kernelRun0_B
  dsimp only
  sl_unfold_words
  rw [View.canon_unit_zero hz1]
  simp only [View.readAt_eq_ld, h9.read_unread, h1.read_unread, h2.read_unread, h3.read_unread, h4.read_unread, h5.read_unread, View.ld_unit_zero (S := S256x2048) hz0, View.ld_unit_zero (S := S1x2048) hz1]

end

variable (m : (ℓ : Loc nD τ sig) → Buf (Elt Ideal) ℓ)

/-- The rows, the incoming gradient of the normed rows, the gradient that passed the norm by, and the two scales. -/
abbrev X (c : Dev nD) : S8192x2048.Idx → EReal := m ((c : Thread nD τ).loc main_arg0)
abbrev D (c : Dev nD) : S8192x2048.Idx → EReal := m ((c : Thread nD τ).loc main_arg1)
abbrev Y (c : Dev nD) : S8192x2048.Idx → EReal := m ((c : Thread nD τ).loc main_arg2)
abbrev W (c : Dev nD) : S1x2048.Idx → EReal := m ((c : Thread nD τ).loc main_arg3)
abbrev Z (c : Dev nD) : S1x2048.Idx → EReal := m ((c : Thread nD τ).loc main_arg4)

/-- Token `k` of the run of 256 that grid point `n` reads. -/
def tok (n : ℕ) (k : Fin 256) : Fin 8192 := ⟨(256 * n + k.val) % 8192, Nat.mod_lt _ (by decide)⟩

/-- A token's incoming gradient times its normalised entry. -/
def P (x d : S8192x2048.Idx → EReal) (b : Fin 2048) (k : Fin 8192) : EReal := d (ix2 k b) * (x (ix2 k b) * RS (row x k))

/-- The four results: the rows, -/
def GX (x d y : S8192x2048.Idx → EReal) (w z : S1x2048.Idx → EReal) (i : S8192x2048.Idx) : EReal :=
  KX (row x (i 0)) (row d (i 0)) (row y (i 0)) (row w 0) (row z 0) (i 1)
/-- the sum that one scale's gradient is, times what multiplies it (a run at a time), -/
def GW (x d : S8192x2048.Idx → EReal) (u : Fin 2048 → EReal) (i : S1x2048.Idx) : EReal :=
  ∑ s ∈ Finset.range 32, (∑ k : Fin 256, P x d (i 1) (tok s k)) * u (i 1)
/-- and the shift's. -/
def GH (d : S8192x2048.Idx → EReal) (i : S1x2048.Idx) : EReal := ∑ k : Fin 8192, d (ix2 k (i 1))

/-- Which blocks a grid point reads and writes. -/
theorem idx : ∀ t : Fin cfg0.N, (win0_0.index t = ![t.val, 0] ∧ win0_1.index t = ![t.val, 0] ∧ win0_2.index t = ![t.val, 0] ∧ win0_5.index t = ![t.val, 0])
    ∧ win0_3.index t = ![0, 0] ∧ win0_4.index t = ![0, 0] ∧ win0_6.index t = ![0, 0] ∧ win0_7.index t = ![0, 0] ∧ win0_8.index t = ![0, 0] :=
  (by decide +kernel : ∀ t : Fin grid0.N, (win0_0.index t = ![t.val, 0] ∧ win0_1.index t = ![t.val, 0] ∧ win0_2.index t = ![t.val, 0] ∧ win0_5.index t = ![t.val, 0])
    ∧ win0_3.index t = ![0, 0] ∧ win0_4.index t = ![0, 0] ∧ win0_6.index t = ![0, 0] ∧ win0_7.index t = ![0, 0] ∧ win0_8.index t = ![0, 0])

/-- Where an entry of a point's block of rows lies in the array, -/
theorem at_rows (t : Fin cfg0.N) (a : Fin 256) (b : Fin 2048) (v : Fin 2 → ℕ) (hv : v = ![t.val, 0]) (i : S8192x2048.Idx)
    (e0 : (i 0).val = v 0 * 256 + 1 * a.val) (e1 : (i 1).val = v 1 * 2048 + 1 * b.val) : i = ix2 (tok t.val a) b := by
  have hN : cfg0.N = 32 := N_0
  have ht := t.isLt
  subst hv
  funext x; apply Fin.ext
  match x with
  | ⟨0, _⟩ => refine e0.trans ?_; show t.val * 256 + 1 * a.val = (256 * t.val + a.val) % 8192; omega
  | ⟨1, _⟩ => refine e1.trans ?_; show 0 * 2048 + 1 * b.val = b.val; omega
/-- and of a block that is the whole array. -/
theorem at_one (b : Fin 2048) (v : Fin 2 → ℕ) (hv : v = ![0, 0]) (i : S1x2048.Idx)
    (e1 : (i 1).val = v 1 * 2048 + 1 * b.val) : i = ix2 0 b := by
  subst hv
  funext x
  match x with
  | ⟨0, _⟩ => exact Subsingleton.elim (α := Fin 1) _ _
  | ⟨1, _⟩ => apply Fin.ext; refine e1.trans ?_; show 0 * 2048 + 1 * b.val = b.val; omega

/-- The blocks a point reads. -/
theorem blk0 (c : Dev nD) (t : Fin cfg0.N) (a : Fin 256) (b : Fin 2048) : iblk m c 0 t (ix2 a b) = X m c (ix2 (tok t.val a) b) :=
  congrArg (X m c) (at_rows t a b (win0_0.index t) (idx t).1.1 _ rfl rfl)
theorem blk1 (c : Dev nD) (t : Fin cfg0.N) (a : Fin 256) (b : Fin 2048) : iblk m c 1 t (ix2 a b) = D m c (ix2 (tok t.val a) b) :=
  congrArg (D m c) (at_rows t a b (win0_1.index t) (idx t).1.2.1 _ rfl rfl)
theorem blk2 (c : Dev nD) (t : Fin cfg0.N) (a : Fin 256) (b : Fin 2048) : iblk m c 2 t (ix2 a b) = Y m c (ix2 (tok t.val a) b) :=
  congrArg (Y m c) (at_rows t a b (win0_2.index t) (idx t).1.2.2.1 _ rfl rfl)
theorem blk3 (c : Dev nD) (t : Fin cfg0.N) (b : Fin 2048) : iblk m c 3 t (ix2 0 b) = W m c (ix2 0 b) :=
  congrArg (W m c) (at_one b (win0_3.index t) (idx t).2.1 _ rfl)
theorem blk4 (c : Dev nD) (t : Fin cfg0.N) (b : Fin 2048) : iblk m c 4 t (ix2 0 b) = Z m c (ix2 0 b) :=
  congrArg (Z m c) (at_one b (win0_4.index t) (idx t).2.2.1 _ rfl)

/-- The rows a point writes. -/
theorem rows (c : Dev nD) (t : Fin cfg0.N) :
    (outsAt0 m c t.val t.isLt).1 = k0_pay9 (iblk m c 0 t) (iblk m c 1 t) (iblk m c 3 t) (iblk m c 4 t) (iblk m c 2 t) := by
  by_cases h : t.val % 32 = 0
  · have e := congrArg Prod.fst (outsAt0_A m c t h)
    dsimp only at e
    rw [e, rows_first]
  · have e := congrArg Prod.fst (outsAt0_B m c t h)
    dsimp only at e
    rw [e, rows_next]

/-- A point's part of the sum over the tokens. -/
theorem part (c : Dev nD) (t : Fin cfg0.N) (b : Fin 2048) :
    k0_pay10 (iblk m c 0 t) (iblk m c 1 t) (ix2 0 b) = ∑ k : Fin 256, P (X m c) (D m c) b (tok t.val k) := by
  rw [pay10_at]
  refine Finset.sum_congr rfl fun k _ => ?_
  have e : row (iblk m c 0 t) k = row (X m c) (tok t.val k) := funext fun l => blk0 m c t k l
  rw [e, blk0, blk1]
  rfl

/-- What the three summed blocks hold after point `n`: the parts so far. -/
theorem carried (c : Dev nD) (b : Fin 2048) : ∀ (n : ℕ) (hn : n < cfg0.N),
    (outsAt0 m c n hn).2.1 (ix2 0 b) = ∑ s ∈ Finset.range (n + 1), (∑ k : Fin 256, P (X m c) (D m c) b (tok s k)) * (1 + Z m c (ix2 0 b))
    ∧ (outsAt0 m c n hn).2.2.1 (ix2 0 b) = ∑ s ∈ Finset.range (n + 1), (∑ k : Fin 256, P (X m c) (D m c) b (tok s k)) * W m c (ix2 0 b)
    ∧ (outsAt0 m c n hn).2.2.2 (ix2 0 b) = ∑ s ∈ Finset.range (n + 1), ∑ k : Fin 256, D m c (ix2 (tok s k) b)
  | 0, hn => by
    have e := congrArg Prod.snd (outsAt0_A m c ⟨0, hn⟩ (Nat.zero_mod 32))
    dsimp only at e
    rw [e]
    dsimp only
    rw [g_first, s_first, h_first, pay4_at, pay5_at, pay6_at, pay1_at, pay2_at, pay3_at, part, blk3, blk4]
    simp only [zero_add, Finset.sum_range_one]
    exact ⟨trivial, trivial, Finset.sum_congr rfl fun k _ => blk1 ..⟩
  | n + 1, hn => by
    have hN : cfg0.N = 32 := N_0
    have e := congrArg Prod.snd (outsAt0_B m c ⟨n + 1, hn⟩ (by dsimp only; omega))
    simp only [Nat.add_sub_cancel] at e
    obtain ⟨i1, i2, i3⟩ := carried c b n (Nat.lt_of_succ_lt hn)
    rw [e]
    dsimp only
    rw [g_next, s_next, h_next, pay4_at, pay5_at, pay6_at, part, blk3, blk4, i1, i2, i3]
    simp only [Finset.sum_range_succ _ (n + 1)]
    exact ⟨trivial, trivial, congrArg _ (Finset.sum_congr rfl fun k _ => blk1 ..)⟩

/-- A sum over all tokens is the sum over thirty-two runs of 256. -/
theorem sum_runs {A : Type} [AddCommMonoid A] (f : Fin 8192 → A) : ∑ k, f k = ∑ s ∈ Finset.range 32, ∑ k : Fin 256, f (tok s k) := by
  rw [← Equiv.sum_comp (finProdFinEquiv (m := 32) (n := 256)) f, Fintype.sum_prod_type, Finset.sum_range]
  refine Finset.sum_congr rfl fun s _ => Finset.sum_congr rfl fun k _ => congrArg f (Fin.ext ?_)
  show k.val + 256 * s.val = (256 * s.val + k.val) % 8192
  have := k.isLt; have := s.isLt; omega

/-- The blocks written back fill the arrays. -/
theorem covers5 : (cfg0.win 5).Covers :=
  (cfg0.win 5).covers_of_indexMap_surj rfl (by decide) fun β => by
    have hN : cfg0.N = 32 := N_0
    have hβ : (β (0 : Fin 2)).val < 32 := (β (0 : Fin 2)).isLt
    refine ⟨grid0.coords ⟨(β (0 : Fin 2)).val, lt_of_lt_of_eq hβ hN.symm⟩, fun a => (congrFun (idx ⟨(β (0 : Fin 2)).val, lt_of_lt_of_eq hβ hN.symm⟩).1.2.2.2 a).trans ?_⟩
    match a with
    | ⟨0, _⟩ => rfl
    | ⟨1, _⟩ => exact (Nat.lt_one_iff.mp (β (1 : Fin 2)).isLt).symm
theorem covers6 : (cfg0.win 6).Covers :=
  (cfg0.win 6).covers_of_indexMap_surj rfl (by decide) fun β => by
    have h0 : 0 < cfg0.N := lt_of_lt_of_eq (by decide : 0 < 32) (N_0 : cfg0.N = 32).symm
    refine ⟨grid0.coords ⟨0, h0⟩, fun a => (congrFun (idx ⟨0, h0⟩).2.2.2.1 a).trans ?_⟩
    match a with
    | ⟨0, _⟩ => exact (Nat.lt_one_iff.mp (β (0 : Fin 2)).isLt).symm
    | ⟨1, _⟩ => exact (Nat.lt_one_iff.mp (β (1 : Fin 2)).isLt).symm
theorem covers7 : (cfg0.win 7).Covers :=
  (cfg0.win 7).covers_of_indexMap_surj rfl (by decide) fun β => by
    have h0 : 0 < cfg0.N := lt_of_lt_of_eq (by decide : 0 < 32) (N_0 : cfg0.N = 32).symm
    refine ⟨grid0.coords ⟨0, h0⟩, fun a => (congrFun (idx ⟨0, h0⟩).2.2.2.2.1 a).trans ?_⟩
    match a with
    | ⟨0, _⟩ => exact (Nat.lt_one_iff.mp (β (0 : Fin 2)).isLt).symm
    | ⟨1, _⟩ => exact (Nat.lt_one_iff.mp (β (1 : Fin 2)).isLt).symm
theorem covers8 : (cfg0.win 8).Covers :=
  (cfg0.win 8).covers_of_indexMap_surj rfl (by decide) fun β => by
    have h0 : 0 < cfg0.N := lt_of_lt_of_eq (by decide : 0 < 32) (N_0 : cfg0.N = 32).symm
    refine ⟨grid0.coords ⟨0, h0⟩, fun a => (congrFun (idx ⟨0, h0⟩).2.2.2.2.2 a).trans ?_⟩
    match a with
    | ⟨0, _⟩ => exact (Nat.lt_one_iff.mp (β (0 : Fin 2)).isLt).symm
    | ⟨1, _⟩ => exact (Nat.lt_one_iff.mp (β (1 : Fin 2)).isLt).symm

/-- What a point writes back, entry by entry. -/
theorem rows_at (c : Dev nD) (t : Fin cfg0.N) (a : Fin 256) (b : Fin 2048) (i : S8192x2048.Idx)
    (e0 : (i 0).val = win0_5.index t (0 : Fin 2) * 256 + 1 * a.val) (e1 : (i 1).val = win0_5.index t (1 : Fin 2) * 2048 + 1 * b.val) :
    (outsAt0 m c t.val t.isLt).1 (ix2 a b) = GX (X m c) (D m c) (Y m c) (W m c) (Z m c) i := by
  have r0 : row (iblk m c 0 t) a = row (X m c) (tok t.val a) := funext fun l => blk0 m c t a l
  have r1 : row (iblk m c 1 t) a = row (D m c) (tok t.val a) := funext fun l => blk1 m c t a l
  have r2 : row (iblk m c 2 t) a = row (Y m c) (tok t.val a) := funext fun l => blk2 m c t a l
  have r3 : row (iblk m c 3 t) 0 = row (W m c) 0 := funext fun l => blk3 m c t l
  have r4 : row (iblk m c 4 t) 0 = row (Z m c) 0 := funext fun l => blk4 m c t l
  rw [rows, pay9_at, r0, r1, r2, r3, r4, at_rows t a b _ (idx t).1.2.2.2 i e0 e1]
  rfl
theorem sums_at (c : Dev nD) (t : Fin cfg0.N) (h31 : t.val % 32 = 31) (a : Fin 1) (b : Fin 2048) (i : S1x2048.Idx) (v : Fin 2 → ℕ) (hv : v = ![0, 0])
    (e1 : (i 1).val = v 1 * 2048 + 1 * b.val) :
    (outsAt0 m c t.val t.isLt).2.1 (ix2 a b) = GW (X m c) (D m c) (fun l => 1 + Z m c (ix2 0 l)) i
    ∧ (outsAt0 m c t.val t.isLt).2.2.1 (ix2 a b) = GW (X m c) (D m c) (row (W m c) 0) i
    ∧ (outsAt0 m c t.val t.isLt).2.2.2 (ix2 a b) = GH (D m c) i := by
  have hN : cfg0.N = 32 := N_0
  have ht := t.isLt
  have h := carried m c b t.val t.isLt
  rw [show t.val + 1 = 32 by omega] at h
  rw [Subsingleton.elim a 0, at_one b v hv i e1]
  refine ⟨h.1, h.2.1, h.2.2.trans ?_⟩
  exact (sum_runs fun k => D m c (ix2 k b)).symm

/-- The four arrays, as the kernel leaves them. -/
theorem final5 (c : Dev nD) : (dats m 0 c).arrAt 5 cfg0.N = GX (X m c) (D m c) (Y m c) (W m c) (Z m c) := by
  refine Pipeline.Dat.arrAt_eq_of_covers _ 5 _ covers5 fun t _ y => ?_
  refine (congrFun (Value.flushed5 m c t) y).trans ?_
  exact (congrArg _ (eq_ix2 _)).trans (rows_at m c t (y (0 : Fin 2)) (y (1 : Fin 2)) _ rfl rfl)
theorem final6 (c : Dev nD) : (dats m 0 c).arrAt 6 cfg0.N = GW (X m c) (D m c) (fun l => 1 + Z m c (ix2 0 l)) := by
  refine Pipeline.Dat.arrAt_eq_of_covers _ 6 _ covers6 fun t hfl y => ?_
  refine (congrFun (Value.flushed6 m c t) y).trans ?_
  exact (congrArg _ (eq_ix2 _)).trans (sums_at m c t ((flush0_6 t).mp hfl) (y (0 : Fin 2)) (y (1 : Fin 2)) _ (win0_6.index t) (idx t).2.2.2.1 rfl).1
theorem final7 (c : Dev nD) : (dats m 0 c).arrAt 7 cfg0.N = GW (X m c) (D m c) (row (W m c) 0) := by
  refine Pipeline.Dat.arrAt_eq_of_covers _ 7 _ covers7 fun t hfl y => ?_
  refine (congrFun (Value.flushed7 m c t) y).trans ?_
  exact (congrArg _ (eq_ix2 _)).trans (sums_at m c t ((flush0_7 t).mp hfl) (y (0 : Fin 2)) (y (1 : Fin 2)) _ (win0_7.index t) (idx t).2.2.2.2.1 rfl).2.1
theorem final8 (c : Dev nD) : (dats m 0 c).arrAt 8 cfg0.N = GH (D m c) := by
  refine Pipeline.Dat.arrAt_eq_of_covers _ 8 _ covers8 fun t hfl y => ?_
  refine (congrFun (Value.flushed8 m c t) y).trans ?_
  exact (congrArg _ (eq_ix2 _)).trans (sums_at m c t ((flush0_8 t).mp hfl) (y (0 : Fin 2)) (y (1 : Fin 2)) _ (win0_8.index t) (idx t).2.2.2.2.2 rfl).2.2

/-- Over the reals what multiplies a scale's sum may go into each of its terms. -/
theorem pull (x d : S8192x2048.Idx → ℝ) (u : ℝ) (b : Fin 2048) :
    ∑ s ∈ Finset.range 32, (∑ k : Fin 256, P (Attn.up x) (Attn.up d) b (tok s k)) * (u : EReal) = ∑ k : Fin 8192, P (Attn.up x) (Attn.up d) b k * (u : EReal) := by
  have e : ∀ k, P (Attn.up x) (Attn.up d) b k = ((d (ix2 k b) * (x (ix2 k b) * rs fun l => x (ix2 k l)) : ℝ) : EReal) := fun k => by
    unfold P
    rw [show RS (row (Attn.up x) k) = _ from RS_re fun l => x (ix2 k l)]
    simp only [Attn.up, ← EReal.coe_mul]
  simp only [e, ← EReal.coe_mul, ← Attn.coe_sum]
  rw [← Finset.sum_mul, ← Finset.sum_mul, ← sum_runs fun k => d (ix2 k b) * (x (ix2 k b) * rs fun l => x (ix2 k l))]
theorem GW_eq (x d : S8192x2048.Idx → ℝ) (u : Fin 2048 → ℝ) (i : S1x2048.Idx) :
    GW (Attn.up x) (Attn.up d) (fun l => ((u l : ℝ) : EReal)) i = ∑ k : Fin 8192, P (Attn.up x) (Attn.up d) (i 1) k * ((u (i 1) : ℝ) : EReal) :=
  pull x d (u (i 1)) (i 1)

/-- The reference's rows are the chain rule's. -/
theorem ref_rows (m' : (ℓ : Loc Cert.NormReferenceIdeal.nD Cert.NormReferenceIdeal.τ Cert.NormReferenceIdeal.sig) → Buf (Elt Ideal) ℓ)
    (c : Dev Cert.NormReferenceIdeal.nD) (x d y : S8192x2048.Idx → EReal) (w z : S1x2048.Idx → EReal)
    (q0 : m' (c.tc.loc Cert.NormReferenceIdeal.main_arg0) = x) (q1 : m' (c.tc.loc Cert.NormReferenceIdeal.main_arg1) = d)
    (q2 : m' (c.tc.loc Cert.NormReferenceIdeal.main_arg2) = y) (q3 : m' (c.tc.loc Cert.NormReferenceIdeal.main_arg3) = w)
    (q4 : m' (c.tc.loc Cert.NormReferenceIdeal.main_arg4) = z) (a : Fin 8192) (b : Fin 2048) :
    Cert.NormReferenceIdeal.Value.res_out0 m' c (ix2 a b) = RX (row x a) (row d a) (row y a) (row w 0) (row z 0) b := by
  unfold RX RQ RS
  unfold Cert.NormReferenceIdeal.Value.res_out0 Cert.NormReferenceIdeal.Value.res_main_v49
  rw [q0, q1, q2, q3, q4]
  pointwise
  simp only [Finset.sum_const, Finset.card_univ, Fintype.card_fin, one_smul]

/-- The reference runs, keeps its arguments, and declares no semaphore. -/
theorem frame_ref : Cert.quiescent_NormReferenceIdeal (hNormReferenceIdeal := Cert.NormReferenceIdeal.Gen.facts) := fun m g _ =>
  (θ_run Cert.NormReferenceIdeal.defs _ _).mono (fun r h => ⟨fun c => (h c).2.2.2.2, sem_eq_zero_of_no_sems (by decide) r.2⟩)
    (Cert.NormReferenceIdeal.Value.run (F := Ideal) m g)

/-- From equal arguments, all of them reals, the two programs end with equal arrays. -/
theorem algebraic [hPre : Cert.Pre_finite7.Facts] : Cert.algebraic_NormKernelIdeal_NormReferenceIdeal_pre_finite7 (hNormKernelIdeal := Cert.NormKernelIdeal.Gen.facts)
    (hNormReferenceIdeal := Cert.NormReferenceIdeal.Gen.facts) (hPre_finite7 := hPre) := by
  intro m g m' g' hp hargs
  refine ⟨fun c => GX (X m c) (D m c) (Y m c) (W m c) (Z m c), fun c => GW (X m c) (D m c) (fun l => 1 + Z m c (ix2 0 l)),
    fun c => GW (X m c) (D m c) (row (W m c) 0), fun c => GH (D m c), ?_, ?_⟩
  · exact (θ_run (Cert.NormKernelIdeal.defs (F := Ideal)) _ _).mono
      (fun r h c => ⟨(h c).1.trans (final5 m c), (h c).2.1.trans (final6 m c), (h c).2.2.1.trans (final7 m c), (h c).2.2.2.1.trans (final8 m c), (h c).2.2.2.2⟩)
      (Value.run_blocks (F := Ideal) m g)
  · refine (θ_run (Cert.NormReferenceIdeal.defs (F := Ideal)) _ _).mono (fun r h c => ?_) (Cert.NormReferenceIdeal.Value.run (F := Ideal) m' g')
    obtain ⟨q0, q1, q2, q3, q4⟩ := hargs c
    obtain ⟨⟨x, hx⟩, ⟨d, hd⟩, ⟨y, hy⟩, ⟨w, hw⟩, ⟨z, hz⟩⟩ := real_of_finite7 _ _ _ _ _ (hp c)
    refine ⟨(h c).1.trans ?_, (h c).2.1.trans ?_, (h c).2.2.1.trans ?_, (h c).2.2.2.1.trans ?_, (h c).2.2.2.2⟩
    · funext j
      show _ = GX (m (c.tc.loc main_arg0)) (m (c.tc.loc main_arg1)) (m (c.tc.loc main_arg2)) (m (c.tc.loc main_arg3)) (m (c.tc.loc main_arg4)) j
      rw [hx, hd, hy, hw, hz]
      idx_vars j
      refine (ref_rows m' c _ _ _ _ _ (q0.trans hx) (q1.trans hd) (q2.trans hy) (q3.trans hw) (q4.trans hz) _ _).trans ?_
      exact (KX_eq_RX (fun l => x (ix2 _ l)) (fun l => d (ix2 _ l)) (fun l => y (ix2 _ l)) (fun l => w (ix2 0 l)) (fun l => z (ix2 0 l)) _).symm
    · show _ = GW (m (c.tc.loc main_arg0)) (m (c.tc.loc main_arg1)) (fun l => 1 + m (c.tc.loc main_arg4) (ix2 0 l))
      rw [q0, q1, q4, hx, hd, hz]
      have e : (fun l : Fin 2048 => 1 + Attn.up z (ix2 0 l)) = fun l => ((1 + z (ix2 0 l) : ℝ) : EReal) := funext fun l => by
        rw [EReal.coe_add, EReal.coe_one]
      rw [e]
      funext j
      refine Eq.trans ?_ (GW_eq x d (fun l => 1 + z (ix2 0 l)) j).symm
      unfold P RS
      idx_vars j
      pointwise
      rw [EReal.coe_add, EReal.coe_one]
      exact Finset.sum_congr rfl fun k _ => (mul_left_comm _ _ _).trans (mul_assoc _ _ _).symm
    · show _ = GW (m (c.tc.loc main_arg0)) (m (c.tc.loc main_arg1)) (row (m (c.tc.loc main_arg3)) 0)
      rw [q0, q1, q3, hx, hd, hw]
      funext j
      refine Eq.trans ?_ (GW_eq x d (fun l => w (ix2 0 l)) j).symm
      unfold P RS
      idx_vars j
      pointwise
      exact Finset.sum_congr rfl fun k _ => (mul_comm _ _).trans (mul_assoc _ _ _).symm
    · rw [q1]
      funext j
      unfold GH
      idx_vars j
      pointwise

end Cert.Proof.Norm

end
-- ==== Proof.Outx.lean ====
/-
  The gradient of the mixer's output product with respect to its rows, one tile at a grid point.
-/
module

public import proofs.«01_k».proof.Defs
public import proofs.«01_k».proof.Proof.Gen.OutxKernelIdeal.Value
public import proofs.«01_k».proof.Proof.Gen.OutxReferenceIdeal.Run
public import Idealize.ShloMosaic.Lib.Pointwise

@[expose] public section

set_option maxRecDepth 16384

noncomputable section

namespace Cert.Proof.Outx

open Idealize.ShloMosaic Idealize.SL.Sem Cert.OutxKernelIdeal Cert.OutxKernelIdeal.Gen Idealize.ShloMosaic.TcCoe

/-- One tile: the stored block at an index is the sum over the channels of the two loaded blocks' products. -/
theorem tile (x0 : Vec Ideal S512x2048 .bf16) (x1 : Vec Ideal S1024x2048 .bf16) (j : S512x1024.Idx) :
    out0_2 (F := Ideal) x0 x1 j = ∑ k : Fin 2048, x0 (ix2 (j 0) k) * x1 (ix2 (j 1) k) := by
  have hz2 : (![0, 0] : Fin S512x1024.rank → Nat) = fun _ => 0 := funext fun a => by fin_cases a <;> rfl
  have hz1 : (![0, 0] : Fin S1024x2048.rank → Nat) = fun _ => 0 := funext fun a => by fin_cases a <;> rfl
  have hz0 : (![0, 0] : Fin S512x2048.rank → Nat) = fun _ => 0 := funext fun a => by fin_cases a <;> rfl
  unfold out0_2
  rw [View.canon_unit_zero hz2, View.ld_unit_zero hz0, View.ld_unit_zero hz1]
  idx_vars j
  pointwise [k0_pay1]

variable (m : (ℓ : Loc nD τ sig) → Buf (Elt Ideal) ℓ)

/-- The gradient's entry: row of the incoming gradient against row of the weight. -/
def G (dm : S8192x2048.Idx → EReal) (w : S2048x2048.Idx → EReal) (i : S8192x2048.Idx) : EReal :=
  ∑ k : Fin 2048, dm (ix2 (i 0) k) * w (ix2 (i 1) k)

/-- Which blocks a grid point reads and writes. -/
theorem idx : ∀ t : Fin cfg0.N, win0_0.index t = ![t.val / 2, 0] ∧ win0_1.index t = ![t.val % 2, 0]
    ∧ win0_2.index t = ![t.val / 2, t.val % 2] ∧ (cfg0.win 2).flush t = true :=
  (by decide +kernel : ∀ t : Fin grid0.N, win0_0.index t = ![t.val / 2, 0] ∧ win0_1.index t = ![t.val % 2, 0]
    ∧ win0_2.index t = ![t.val / 2, t.val % 2] ∧ win0_2.flush t = true)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  obtain ⟨h0, h1, h2, -⟩ := idx t
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  refine (tile _ _ ((cfg0.win 2).xinj (grid0.coords t) y)).trans ?_
  rw [e]
  unfold G
  refine Finset.sum_congr rfl fun k _ => ?_
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (y 0).val = (((cfg0.win 2).blk t).view.emb y 0).val; rw [hb0, h0, h2]; rfl
    | ⟨1, _⟩ => show win0_0.index t (1 : Fin 2) * 2048 + 1 * k.val = k.val; rw [h0]; simp
  · show m ((c : Thread nD τ).loc main_arg1) (((cfg0.win 1).blk t).view.emb _) = _
    congr 1
    funext a; apply Fin.ext
    match a with
    | ⟨0, _⟩ => show win0_1.index t (0 : Fin 2) * 1024 + 1 * (y 1).val = (((cfg0.win 2).blk t).view.emb y 1).val; rw [hb1, h1, h2]; rfl
    | ⟨1, _⟩ => show win0_1.index t (1 : Fin 2) * 2048 + 1 * k.val = k.val; rw [h1]; simp

/-- Every entry of the array lies in the tile of some grid point. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 32 := N_0
  let t : Fin cfg0.N := ⟨2 * ((i 0).val / 512) + (i 1).val / 1024, by omega⟩
  have ht : t.val = 2 * ((i 0).val / 512) + (i 1).val / 1024 := rfl
  obtain ⟨-, -, h2, hf⟩ := idx t
  refine ⟨t, hf, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512
              rw [h2]; show t.val / 2 * 512 ≤ _ ∧ _ < t.val / 2 * 512 + 512; omega
  | ⟨1, _⟩ => show win0_2.index t (1 : Fin 2) * 1024 ≤ (i 1).val ∧ (i 1).val < win0_2.index t (1 : Fin 2) * 1024 + 1024
              rw [h2]; show t.val % 2 * 1024 ≤ _ ∧ _ < t.val % 2 * 1024 + 1024; omega

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The reference's product is the same sum. -/
theorem ref_eq (dm : FVec Ideal S8192x2048 .bf16) (w : FVec Ideal S2048x2048 .bf16) (h) :
    Host.dotGeneral (F := Ideal) (φ₁ := .f32) (φ₂ := .f32) Cert.OutxReferenceIdeal.dot_S8192x2048_S2048x2048_S8192x2048_1_1_0_0_n_n none (extf .f32 dm h) (extf .f32 w h) = G dm w := by
  funext j
  unfold G
  idx_vars j
  pointwise

/-- The reference runs, keeps its arguments, and declares no semaphore. -/
theorem frame_ref : Cert.quiescent_OutxReferenceIdeal (hOutxReferenceIdeal := Cert.OutxReferenceIdeal.Gen.facts) := fun m g _ =>
  (θ_run Cert.OutxReferenceIdeal.defs _ _).mono (fun r h => ⟨fun c => (h c).2, sem_eq_zero_of_no_sems (by decide) r.2⟩)
    (Cert.OutxReferenceIdeal.Value.run (F := Ideal) m g)

/-- From equal arguments the two programs end with equal arrays. -/
theorem algebraic : Cert.algebraic_OutxKernelIdeal_OutxReferenceIdeal (hOutxKernelIdeal := Cert.OutxKernelIdeal.Gen.facts)
    (hOutxReferenceIdeal := Cert.OutxReferenceIdeal.Gen.facts) := by
  intro m g m' g' _ hargs
  refine ⟨fun c => G (m ((c : Thread nD τ).loc main_arg0)) (m ((c : Thread nD τ).loc main_arg1)), ?_, ?_⟩
  · exact (θ_run (Cert.OutxKernelIdeal.defs (F := Ideal)) _ _).mono (fun r h c => ⟨(h c).1.trans (final m c), (h c).2⟩) (Value.run_blocks (F := Ideal) m g)
  · refine (θ_run (Cert.OutxReferenceIdeal.defs (F := Ideal)) _ _).mono (fun r h c => ⟨(h c).1.trans ?_, (h c).2⟩) (Cert.OutxReferenceIdeal.Value.run (F := Ideal) m' g')
    rw [(hargs c).1, (hargs c).2]
    exact ref_eq _ _ _

end Cert.Proof.Outx

end
-- ==== Proof.Outw.lean ====
/-
  The gradient of the mixer's output weight, over the 8192 tokens.  The grid's last axis walks four runs of 2048 tokens;
  the partial products of a tile are carried from one point to the next and written out at the fourth.
-/
module

public import proofs.«01_k».proof.Defs
public import proofs.«01_k».proof.Proof.Gen.OutwKernelIdeal.Value
public import proofs.«01_k».proof.Proof.Gen.OutwReferenceIdeal.Run
public import Idealize.ShloMosaic.Lib.Pointwise

@[expose] public section

set_option maxRecDepth 16384

noncomputable section

namespace Cert.Proof.Outw

open Idealize.ShloMosaic Idealize.SL.Sem Cert.OutwKernelIdeal Cert.OutwKernelIdeal.Gen Idealize.ShloMosaic.TcCoe

theorem hzo : (![0, 0] : Fin S512x1024.rank → Nat) = fun _ => 0 := funext fun a => by fin_cases a <;> rfl
theorem hz0 : (![0, 0] : Fin S2048x512.rank → Nat) = fun _ => 0 := funext fun a => by fin_cases a <;> rfl
theorem hz1 : (![0, 0] : Fin S2048x1024.rank → Nat) = fun _ => 0 := funext fun a => by fin_cases a <;> rfl

/-- The partial product of one run of tokens. -/
def part (x0 : Vec Ideal S2048x512 .bf16) (x1 : Vec Ideal S2048x1024 .bf16) (j : S512x1024.Idx) : EReal :=
  ∑ k : Fin 2048, x0 (ix2 k (j 0)) * x1 (ix2 k (j 1))

section
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec Ideal S2048x512 .bf16) (x1 : Vec Ideal S2048x1024 .bf16) (xs : Vec Ideal S512x1024 .f32)

/-- The first run of tokens starts the sum. -/
theorem first (hc0 : cond0_0 i) (hc1 : ¬cond0_1 i) (hc2 : ¬cond0_2 i) (j : S512x1024.Idx) :
    sout0_A_0 c i a3 h3 a4 h4 a5 h5 a6 h6 hc0 hc1 hc2 x0 x1 j = part x0 x1 j := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hzo]
  simp only [View.readAt_eq_ld, h3.read_unread, h4.read_unread, View.ld_unit_zero (S := S2048x512) hz0, View.ld_unit_zero (S := S2048x1024) hz1]
  idx_vars j
  pointwise [k0_pay2, k0_pay1, part]

/-- A middle run adds its part. -/
theorem middle (hc0 : ¬cond0_0 i) (hc1 : cond0_1 i) (hc2 : ¬cond0_2 i) (j : S512x1024.Idx) :
    sout0_B_0 c i a3 h3 a4 h4 a5 h5 a6 h6 hc0 hc1 hc2 x0 x1 xs j = xs j + part x0 x1 j := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- So does the last. -/
theorem last (hc0 : ¬cond0_0 i) (hc1 : cond0_1 i) (hc2 : cond0_2 i) (j : S512x1024.Idx) :
    sout0_C_0 c i a3 h3 a4 h4 a5 h5 a6 h6 hc0 hc1 hc2 x0 x1 xs j = xs j + part x0 x1 j := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- The tile written out is what the carried buffer holds after the last run. -/
theorem out (hc0 : ¬cond0_0 i) (hc1 : cond0_1 i) (hc2 : cond0_2 i) (j : S512x1024.Idx) :
    out0_C_2 c i a3 h3 a4 h4 a5 h5 a6 h6 hc0 hc1 hc2 x0 x1 xs j = xs j + part x0 x1 j := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hzo, View.readCov_unit_zero (S := S512x1024) _ hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]
end

variable (m : (ℓ : Loc nD τ sig) → Buf (Elt Ideal) ℓ)

/-- The mixed rows, as launched. -/
abbrev P (c : Dev nD) : S8192x2048.Idx → EReal := m ((c : Thread nD τ).loc main_arg0)
/-- The incoming gradient, as launched. -/
abbrev D (c : Dev nD) : S8192x2048.Idx → EReal := m ((c : Thread nD τ).loc main_arg1)

/-- The part that grid point `n` adds. -/
def M (c : Dev nD) (n : ℕ) (j : S512x1024.Idx) : EReal :=
  if h : n < cfg0.N then part (iblk m c 0 ⟨n, h⟩) (iblk m c 1 ⟨n, h⟩) j else 0

theorem M_eq (c : Dev nD) (t : Fin cfg0.N) (j : S512x1024.Idx) : M m c t.val j = part (iblk m c 0 t) (iblk m c 1 t) j :=
  dif_pos t.isLt

/-- What the carried buffer holds at a point that is not the first of its tile's four: the parts so far. -/
theorem carried (c : Dev nD) (t : Fin cfg0.N) (j : S512x1024.Idx) :
    (outsAt0 m c t.val t.isLt).2 j = ∑ s ∈ Finset.range (t.val % 4 + 1), M m c (4 * (t.val / 4) + s) j := by
  have hN : cfg0.N = 32 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (4 * (t.val / 4)) 3 ?_ ?_ (t.val % 4) (by omega)
    (by have h1 := t.isLt; have h2 := Nat.div_add_mod t.val 4; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    split
    · rw [last, ← M_eq]
    · rw [middle, ← M_eq]

/-- The gradient's entry: over all tokens, the mixed row times the incoming gradient. -/
def G (p : S8192x2048.Idx → EReal) (dm : S8192x2048.Idx → EReal) (i : S2048x2048.Idx) : EReal :=
  ∑ k : Fin 8192, p (ix2 k (i 0)) * dm (ix2 k (i 1))

/-- A sum over all tokens is the sum over four runs of 2048. -/
theorem sum_runs (f : Fin 8192 → EReal) :
    ∑ k, f k = ∑ s ∈ Finset.range 4, ∑ k : Fin 2048, f ⟨(2048 * s + k.val) % 8192, Nat.mod_lt _ (by decide)⟩ := by
  rw [← Equiv.sum_comp (finProdFinEquiv (m := 4) (n := 2048)) f, Fintype.sum_prod_type, Finset.sum_range]
  refine Finset.sum_congr rfl fun s _ => Finset.sum_congr rfl fun k _ => congrArg f (Fin.ext ?_)
  show k.val + 2048 * s.val = (2048 * s.val + k.val) % 8192
  have := k.isLt; have := s.isLt; omega

/-- Which blocks a grid point reads and writes. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2])

/-- The part of point `t` in terms of the two whole arrays. -/
theorem part_eq (c : Dev nD) (t : Fin cfg0.N) (j : S512x1024.Idx) (i : S2048x2048.Idx)
    (e0 : (i 0).val = t.val / 8 * 512 + (j 0).val) (e1 : (i 1).val = t.val / 4 % 2 * 1024 + (j 1).val) :
    part (iblk m c 0 t) (iblk m c 1 t) j
      = ∑ k : Fin 2048, P m c (ix2 ⟨(2048 * (t.val % 4) + k.val) % 8192, Nat.mod_lt _ (by decide)⟩ (i 0))
          * D m c (ix2 ⟨(2048 * (t.val % 4) + k.val) % 8192, Nat.mod_lt _ (by decide)⟩ (i 1)) := by
  obtain ⟨h0, h1, -⟩ := idx t
  unfold part
  refine Finset.sum_congr rfl fun k _ => ?_
  have hk := k.isLt
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 2048 + 1 * k.val = (2048 * (t.val % 4) + k.val) % 8192
                rw [h0]; show t.val % 4 * 2048 + 1 * k.val = _; omega
    | ⟨1, _⟩ => show win0_0.index t (1 : Fin 2) * 512 + 1 * (j 0).val = (i 0).val
                rw [h0, e0]; show t.val / 8 * 512 + 1 * (j 0).val = _; omega
  · show m ((c : Thread nD τ).loc main_arg1) (((cfg0.win 1).blk t).view.emb _) = _
    congr 1
    funext a; apply Fin.ext
    match a with
    | ⟨0, _⟩ => show win0_1.index t (0 : Fin 2) * 2048 + 1 * k.val = (2048 * (t.val % 4) + k.val) % 8192
                rw [h1]; show t.val % 4 * 2048 + 1 * k.val = _; omega
    | ⟨1, _⟩ => show win0_1.index t (1 : Fin 2) * 1024 + 1 * (j 1).val = (i 1).val
                rw [h1, e1]; show t.val / 4 % 2 * 1024 + 1 * (j 1).val = _; omega

theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have hN : cfg0.N = 32 := N_0
  have hm : t.val % 4 = 3 := (flush0_2 t).mp hf
  have htlt := t.isLt
  obtain ⟨-, -, h2⟩ := idx t
  have hout : (outsAt0 m c t.val t.isLt).1 = (outsAt0 m c t.val t.isLt).2 := by
    rw [outsAt0_C m c t (by omega) (by omega) hm]
    funext j
    dsimp only
    rw [out, last]
  rw [Value.flushed2, hout]
  funext y
  refine (carried m c t ((cfg0.win 2).xinj (grid0.coords t) y)).trans ?_
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  rw [e, hm]
  unfold G
  rw [sum_runs]
  refine Finset.sum_congr rfl fun s hs => ?_
  have hs' : s < 4 := Finset.mem_range.mp hs
  have hlt : 4 * (t.val / 4) + s < cfg0.N := by omega
  have hmod : (4 * (t.val / 4) + s) % 4 = s := by omega
  refine (M_eq m c ⟨4 * (t.val / 4) + s, hlt⟩ _).trans ?_
  refine (part_eq m c ⟨4 * (t.val / 4) + s, hlt⟩ _ (((cfg0.win 2).blk t).view.emb y) ?_ ?_).trans ?_
  · rw [hb0, h2]; show t.val / 8 * 512 + 1 * (y 0).val = (4 * (t.val / 4) + s) / 8 * 512 + (y 0).val; omega
  · rw [hb1, h2]; show t.val / 4 % 2 * 1024 + 1 * (y 1).val = (4 * (t.val / 4) + s) / 4 % 2 * 1024 + (y 1).val; omega
  · dsimp only; rw [hmod]

/-- Every entry of the array lies in the tile of some point that writes out. -/
theorem cover (i : S2048x2048.Idx) : ∃ t : Fin cfg0.N, (cfg0.win 2).flush t = true ∧ i ∈ ((cfg0.win 2).blk t).view.set :=
  (Value.covered_iff2 i).2 (by have h0 : (i 0).val < 2048 := (i 0).isLt; have h1 : (i 1).val < 2048 := (i 1).isLt; omega)

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t hf => flushed_eq m c t hf) cover

/-- The reference's product is the same sum. -/
theorem ref_eq (p : FVec Ideal S8192x2048 .bf16) (dm : FVec Ideal S8192x2048 .bf16) (h) (ht) :
    transpose S2048x2048 [1, 0] (Host.dotGeneral (F := Ideal) (φ₁ := .f32) (φ₂ := .f32) Cert.OutwReferenceIdeal.dot_S8192x2048_S8192x2048_S2048x2048_0_0_1_1_n_n none (extf .f32 dm h) (extf .f32 p h)) ht = G p dm := by
  funext j
  unfold G
  idx_vars j
  pointwise
  exact Finset.sum_congr rfl fun k _ => mul_comm _ _

/-- The reference runs, keeps its arguments, and declares no semaphore. -/
theorem frame_ref : Cert.quiescent_OutwReferenceIdeal (hOutwReferenceIdeal := Cert.OutwReferenceIdeal.Gen.facts) := fun m g _ =>
  (θ_run Cert.OutwReferenceIdeal.defs _ _).mono (fun r h => ⟨fun c => (h c).2, sem_eq_zero_of_no_sems (by decide) r.2⟩)
    (Cert.OutwReferenceIdeal.Value.run (F := Ideal) m g)

/-- From equal arguments the two programs end with equal arrays. -/
theorem algebraic : Cert.algebraic_OutwKernelIdeal_OutwReferenceIdeal (hOutwKernelIdeal := Cert.OutwKernelIdeal.Gen.facts)
    (hOutwReferenceIdeal := Cert.OutwReferenceIdeal.Gen.facts) := by
  intro m g m' g' _ hargs
  refine ⟨fun c => G (m ((c : Thread nD τ).loc main_arg0)) (m ((c : Thread nD τ).loc main_arg1)), ?_, ?_⟩
  · exact (θ_run (Cert.OutwKernelIdeal.defs (F := Ideal)) _ _).mono (fun r h c => ⟨(h c).1.trans (final m c), (h c).2⟩) (Value.run_blocks (F := Ideal) m g)
  · refine (θ_run (Cert.OutwReferenceIdeal.defs (F := Ideal)) _ _).mono (fun r h c => ⟨(h c).1.trans ?_, (h c).2⟩) (Cert.OutwReferenceIdeal.Value.run (F := Ideal) m' g')
    rw [(hargs c).1, (hargs c).2]
    exact ref_eq _ _ _ _

end Cert.Proof.Outw

end
-- ==== Proof.Inx.lean ====
/-
  The gradient of the mixer's input product with respect to its rows, over the 5120 channels.  The grid's last axis walks
  two runs of 2560 channels; a tile's first partial product is carried to the second point, which writes the sum.
-/
module

public import proofs.«01_k».proof.Defs
public import proofs.«01_k».proof.Proof.Gen.InxKernelIdeal.Value
public import proofs.«01_k».proof.Proof.Gen.InxReferenceIdeal.Run
public import Idealize.ShloMosaic.Lib.Pointwise

@[expose] public section

set_option maxRecDepth 16384

noncomputable section

namespace Cert.Proof.Inx

open Idealize.ShloMosaic Idealize.SL.Sem Cert.InxKernelIdeal Cert.InxKernelIdeal.Gen Idealize.ShloMosaic.TcCoe

theorem hzo : (![0, 0] : Fin S512x1024.rank → Nat) = fun _ => 0 := funext fun a => by fin_cases a <;> rfl
theorem hz0 : (![0, 0] : Fin S512x2560.rank → Nat) = fun _ => 0 := funext fun a => by fin_cases a <;> rfl
theorem hz1 : (![0, 0] : Fin S1024x2560.rank → Nat) = fun _ => 0 := funext fun a => by fin_cases a <;> rfl

/-- The partial product of one run of channels. -/
def part (x0 : Vec Ideal S512x2560 .bf16) (x1 : Vec Ideal S1024x2560 .bf16) (j : S512x1024.Idx) : EReal :=
  ∑ k : Fin 2560, x0 (ix2 (j 0) k) * x1 (ix2 (j 1) k)

section
variable (c : Dev nD) (i : grid0.Coords) (a3 : Memref sig .tc .vmem S512x2560 .bf16) (h3 : a3.IsWhole)
  (a4 : Memref sig .tc .vmem S1024x2560 .bf16) (h4 : a4.IsWhole) (a5 : Memref sig .tc .vmem S512x1024 .f32) (h5 : a5.IsWhole)
  (a6 : Memref sig .tc .vmem S512x1024 .f32) (h6 : a6.IsWhole)
  (x0 : Vec Ideal S512x2560 .bf16) (x1 : Vec Ideal S1024x2560 .bf16) (xs : Vec Ideal S512x1024 .f32)

/-- The first run of channels starts the sum. -/
theorem first (hc0 : cond0_0 i) (hc1 : ¬cond0_1 i) (hc2 : ¬cond0_2 i) (j : S512x1024.Idx) :
    sout0_A_0 c i a3 h3 a4 h4 a5 h5 a6 h6 hc0 hc1 hc2 x0 x1 j = part x0 x1 j := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hzo]
  simp only [View.readAt_eq_ld, h3.read_unread, h4.read_unread, View.ld_unit_zero (S := S512x2560) hz0, View.ld_unit_zero (S := S1024x2560) hz1]
  idx_vars j
  pointwise [k0_pay2, k0_pay1, part]

/-- The second run adds its part. -/
theorem last (hc0 : ¬cond0_0 i) (hc1 : cond0_1 i) (hc2 : cond0_2 i) (j : S512x1024.Idx) :
    sout0_B_0 c i a3 h3 a4 h4 a5 h5 a6 h6 hc0 hc1 hc2 x0 x1 xs j = xs j + part x0 x1 j := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hzo]
  simp only [View.readAt_eq_ld, h3.read_unread, h4.read_unread, h6.read_unread, View.ld_unit_zero (S := S512x2560) hz0, View.ld_unit_zero (S := S1024x2560) hz1, View.ld_unit_zero (S := S512x1024) hzo]
  idx_vars j
  pointwise [k0_pay3, k0_pay1, part]

/-- The tile written out is what the carried buffer holds after the last run. -/
theorem out (hc0 : ¬cond0_0 i) (hc1 : cond0_1 i) (hc2 : cond0_2 i) (j : S512x1024.Idx) :
    out0_B_2 c i a3 h3 a4 h4 a5 h5 a6 h6 hc0 hc1 hc2 x0 x1 xs j = xs j + part x0 x1 j := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hzo, View.readCov_unit_zero (S := S512x1024) _ hzo]
  simp only [View.readAt_eq_ld, h3.read_unread, h4.read_unread, h6.read_unread, View.ld_unit_zero (S := S512x2560) hz0, View.ld_unit_zero (S := S1024x2560) hz1, View.ld_unit_zero (S := S512x1024) hzo]
  idx_vars j
  pointwise [k0_pay3, k0_pay1, part]
end

variable (m : (ℓ : Loc nD τ sig) → Buf (Elt Ideal) ℓ)

/-- The incoming gradient, as launched. -/
abbrev P (c : Dev nD) : S8192x5120.Idx → EReal := m ((c : Thread nD τ).loc main_arg0)
/-- The weight, as launched. -/
abbrev D (c : Dev nD) : S2048x5120.Idx → EReal := m ((c : Thread nD τ).loc main_arg1)

/-- The part that grid point `n` adds. -/
def M (c : Dev nD) (n : ℕ) (j : S512x1024.Idx) : EReal :=
  if h : n < cfg0.N then part (iblk m c 0 ⟨n, h⟩) (iblk m c 1 ⟨n, h⟩) j else 0

theorem M_eq (c : Dev nD) (t : Fin cfg0.N) (j : S512x1024.Idx) : M m c t.val j = part (iblk m c 0 t) (iblk m c 1 t) j :=
  dif_pos t.isLt

/-- What the carried buffer holds at a point that is not the first of its tile's two: the parts so far. -/
theorem carried (c : Dev nD) (t : Fin cfg0.N) (j : S512x1024.Idx) :
    (outsAt0 m c t.val t.isLt).2 j = ∑ s ∈ Finset.range (t.val % 2 + 1), M m c (2 * (t.val / 2) + s) j := by
  have hN : cfg0.N = 64 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (2 * (t.val / 2)) 1 ?_ ?_ (t.val % 2) (by omega)
    (by have h1 := t.isLt; have h2 := Nat.div_add_mod t.val 2; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    rw [dif_pos (by omega), last, ← M_eq]

/-- The gradient's entry: row of the incoming gradient against row of the weight. -/
def G (p : S8192x5120.Idx → EReal) (dm : S2048x5120.Idx → EReal) (i : S8192x2048.Idx) : EReal :=
  ∑ k : Fin 5120, p (ix2 (i 0) k) * dm (ix2 (i 1) k)

/-- A sum over all channels is the sum over two runs of 2560. -/
theorem sum_runs (f : Fin 5120 → EReal) :
    ∑ k, f k = ∑ s ∈ Finset.range 2, ∑ k : Fin 2560, f ⟨(2560 * s + k.val) % 5120, Nat.mod_lt _ (by decide)⟩ := by
  rw [← Equiv.sum_comp (finProdFinEquiv (m := 2) (n := 2560)) f, Fintype.sum_prod_type, Finset.sum_range]
  refine Finset.sum_congr rfl fun s _ => Finset.sum_congr rfl fun k _ => congrArg f (Fin.ext ?_)
  show k.val + 2560 * s.val = (2560 * s.val + k.val) % 5120
  have := k.isLt; have := s.isLt; omega

/-- Which blocks a grid point reads and writes. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, win0_0.index t = ![t.val / 4, t.val % 2] ∧ win0_1.index t = ![t.val / 2 % 2, t.val % 2]
    ∧ win0_2.index t = ![t.val / 4, t.val / 2 % 2])

/-- The part of point `t` in terms of the two whole arrays. -/
theorem part_eq (c : Dev nD) (t : Fin cfg0.N) (j : S512x1024.Idx) (i : S8192x2048.Idx)
    (e0 : (i 0).val = t.val / 4 * 512 + (j 0).val) (e1 : (i 1).val = t.val / 2 % 2 * 1024 + (j 1).val) :
    part (iblk m c 0 t) (iblk m c 1 t) j
      = ∑ k : Fin 2560, P m c (ix2 (i 0) ⟨(2560 * (t.val % 2) + k.val) % 5120, Nat.mod_lt _ (by decide)⟩)
          * D m c (ix2 (i 1) ⟨(2560 * (t.val % 2) + k.val) % 5120, Nat.mod_lt _ (by decide)⟩) := by
  obtain ⟨h0, h1, -⟩ := idx t
  unfold part
  refine Finset.sum_congr rfl fun k _ => ?_
  have hk := k.isLt
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (j 0).val = (i 0).val
                rw [h0, e0]; show t.val / 4 * 512 + 1 * (j 0).val = _; omega
    | ⟨1, _⟩ => show win0_0.index t (1 : Fin 2) * 2560 + 1 * k.val = (2560 * (t.val % 2) + k.val) % 5120
                rw [h0]; show t.val % 2 * 2560 + 1 * k.val = _; omega
  · show m ((c : Thread nD τ).loc main_arg1) (((cfg0.win 1).blk t).view.emb _) = _
    congr 1
    funext a; apply Fin.ext
    match a with
    | ⟨0, _⟩ => show win0_1.index t (0 : Fin 2) * 1024 + 1 * (j 1).val = (i 1).val
                rw [h1, e1]; show t.val / 2 % 2 * 1024 + 1 * (j 1).val = _; omega
    | ⟨1, _⟩ => show win0_1.index t (1 : Fin 2) * 2560 + 1 * k.val = (2560 * (t.val % 2) + k.val) % 5120
                rw [h1]; show t.val % 2 * 2560 + 1 * k.val = _; omega

theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have hN : cfg0.N = 64 := N_0
  have hm : t.val % 2 = 1 := (flush0_2 t).mp hf
  have htlt := t.isLt
  obtain ⟨-, -, h2⟩ := idx t
  have hout : (outsAt0 m c t.val t.isLt).1 = (outsAt0 m c t.val t.isLt).2 := by
    rw [outsAt0_B m c t (by omega) (by omega) hm]
    funext j
    dsimp only
    rw [out, last]
  rw [Value.flushed2, hout]
  funext y
  refine (carried m c t ((cfg0.win 2).xinj (grid0.coords t) y)).trans ?_
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  rw [e, hm]
  unfold G
  rw [sum_runs]
  refine Finset.sum_congr rfl fun s hs => ?_
  have hs' : s < 2 := Finset.mem_range.mp hs
  have hlt : 2 * (t.val / 2) + s < cfg0.N := by omega
  have hmod : (2 * (t.val / 2) + s) % 2 = s := by omega
  refine (M_eq m c ⟨2 * (t.val / 2) + s, hlt⟩ _).trans ?_
  refine (part_eq m c ⟨2 * (t.val / 2) + s, hlt⟩ _ (((cfg0.win 2).blk t).view.emb y) ?_ ?_).trans ?_
  · rw [hb0, h2]; show t.val / 4 * 512 + 1 * (y 0).val = (2 * (t.val / 2) + s) / 4 * 512 + (y 0).val; omega
  · rw [hb1, h2]; show t.val / 2 % 2 * 1024 + 1 * (y 1).val = (2 * (t.val / 2) + s) / 2 % 2 * 1024 + (y 1).val; omega
  · dsimp only; rw [hmod]

/-- Every entry of the array lies in the tile of some point that writes out. -/
theorem cover (i : S8192x2048.Idx) : ∃ t : Fin cfg0.N, (cfg0.win 2).flush t = true ∧ i ∈ ((cfg0.win 2).blk t).view.set :=
  (Value.covered_iff2 i).2 (by have h0 : (i 0).val < 8192 := (i 0).isLt; have h1 : (i 1).val < 2048 := (i 1).isLt; omega)

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t hf => flushed_eq m c t hf) cover

/-- The reference's product is the same sum. -/
theorem ref_eq (p : FVec Ideal S8192x5120 .bf16) (dm : FVec Ideal S2048x5120 .bf16) (h) :
    Host.dotGeneral (F := Ideal) (φ₁ := .f32) (φ₂ := .f32) Cert.InxReferenceIdeal.dot_S8192x5120_S2048x5120_S8192x2048_1_1_0_0_n_n none (extf .f32 p h) (extf .f32 dm h) = G p dm := by
  funext j
  unfold G
  idx_vars j
  pointwise

/-- The reference runs, keeps its arguments, and declares no semaphore. -/
theorem frame_ref : Cert.quiescent_InxReferenceIdeal (hInxReferenceIdeal := Cert.InxReferenceIdeal.Gen.facts) := fun m g _ =>
  (θ_run Cert.InxReferenceIdeal.defs _ _).mono (fun r h => ⟨fun c => (h c).2, sem_eq_zero_of_no_sems (by decide) r.2⟩)
    (Cert.InxReferenceIdeal.Value.run (F := Ideal) m g)

/-- From equal arguments the two programs end with equal arrays. -/
theorem algebraic : Cert.algebraic_InxKernelIdeal_InxReferenceIdeal (hInxKernelIdeal := Cert.InxKernelIdeal.Gen.facts)
    (hInxReferenceIdeal := Cert.InxReferenceIdeal.Gen.facts) := by
  intro m g m' g' _ hargs
  refine ⟨fun c => G (m ((c : Thread nD τ).loc main_arg0)) (m ((c : Thread nD τ).loc main_arg1)), ?_, ?_⟩
  · exact (θ_run (Cert.InxKernelIdeal.defs (F := Ideal)) _ _).mono (fun r h c => ⟨(h c).1.trans (final m c), (h c).2⟩) (Value.run_blocks (F := Ideal) m g)
  · refine (θ_run (Cert.InxReferenceIdeal.defs (F := Ideal)) _ _).mono (fun r h c => ⟨(h c).1.trans ?_, (h c).2⟩) (Cert.InxReferenceIdeal.Value.run (F := Ideal) m' g')
    rw [(hargs c).1, (hargs c).2]
    exact ref_eq _ _ _

end Cert.Proof.Inx

end
-- ==== Proof.Inw.lean ====
/-
  The gradient of the mixer's input weight, over the 8192 tokens.  The grid's last axis walks four runs of 2048 tokens;
  the partial products of a tile are carried from one point to the next and written out at the fourth.
-/
module

public import proofs.«01_k».proof.Defs
public import proofs.«01_k».proof.Proof.Gen.InwKernelIdeal.Value
public import proofs.«01_k».proof.Proof.Gen.InwReferenceIdeal.Run
public import Idealize.ShloMosaic.Lib.Pointwise

@[expose] public section

set_option maxRecDepth 16384

noncomputable section

namespace Cert.Proof.Inw

open Idealize.ShloMosaic Idealize.SL.Sem Cert.InwKernelIdeal Cert.InwKernelIdeal.Gen Idealize.ShloMosaic.TcCoe

theorem hzo : (![0, 0] : Fin S512x1024.rank → Nat) = fun _ => 0 := funext fun a => by fin_cases a <;> rfl
theorem hz0 : (![0, 0] : Fin S2048x512.rank → Nat) = fun _ => 0 := funext fun a => by fin_cases a <;> rfl
theorem hz1 : (![0, 0] : Fin S2048x1024.rank → Nat) = fun _ => 0 := funext fun a => by fin_cases a <;> rfl

/-- The partial product of one run of tokens. -/
def part (x0 : Vec Ideal S2048x512 .bf16) (x1 : Vec Ideal S2048x1024 .bf16) (j : S512x1024.Idx) : EReal :=
  ∑ k : Fin 2048, x0 (ix2 k (j 0)) * x1 (ix2 k (j 1))

section
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec Ideal S2048x512 .bf16) (x1 : Vec Ideal S2048x1024 .bf16) (xs : Vec Ideal S512x1024 .f32)

/-- The first run of tokens starts the sum. -/
theorem first (hc0 : cond0_0 i) (hc1 : ¬cond0_1 i) (hc2 : ¬cond0_2 i) (j : S512x1024.Idx) :
    sout0_A_0 c i a3 h3 a4 h4 a5 h5 a6 h6 hc0 hc1 hc2 x0 x1 j = part x0 x1 j := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hzo]
  simp only [View.readAt_eq_ld, h3.read_unread, h4.read_unread, View.ld_unit_zero (S := S2048x512) hz0, View.ld_unit_zero (S := S2048x1024) hz1]
  idx_vars j
  pointwise [k0_pay2, k0_pay1, part]

/-- A middle run adds its part. -/
theorem middle (hc0 : ¬cond0_0 i) (hc1 : cond0_1 i) (hc2 : ¬cond0_2 i) (j : S512x1024.Idx) :
    sout0_B_0 c i a3 h3 a4 h4 a5 h5 a6 h6 hc0 hc1 hc2 x0 x1 xs j = xs j + part x0 x1 j := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- So does the last. -/
theorem last (hc0 : ¬cond0_0 i) (hc1 : cond0_1 i) (hc2 : cond0_2 i) (j : S512x1024.Idx) :
    sout0_C_0 c i a3 h3 a4 h4 a5 h5 a6 h6 hc0 hc1 hc2 x0 x1 xs j = xs j + part x0 x1 j := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]

/-- The tile written out is what the carried buffer holds after the last run. -/
theorem out (hc0 : ¬cond0_0 i) (hc1 : cond0_1 i) (hc2 : cond0_2 i) (j : S512x1024.Idx) :
    out0_C_2 c i a3 h3 a4 h4 a5 h5 a6 h6 hc0 hc1 hc2 x0 x1 xs j = xs j + part x0 x1 j := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hzo, View.readCov_unit_zero (S := S512x1024) _ hzo]
  simp only [View.readAt_eq_ld, h3.read_unread, h4.read_unread, h6.read_unread, View.ld_unit_zero (S := S2048x512) hz0, View.ld_unit_zero (S := S2048x1024) hz1, View.ld_unit_zero (S := S512x1024) hzo]
  idx_vars j
  pointwise [k0_pay3, k0_pay1, part]
end

variable (m : (ℓ : Loc nD τ sig) → Buf (Elt Ideal) ℓ)

/-- The normed rows, as launched. -/
abbrev P (c : Dev nD) : S8192x2048.Idx → EReal := m ((c : Thread nD τ).loc main_arg0)
/-- The incoming gradient, as launched. -/
abbrev D (c : Dev nD) : S8192x5120.Idx → EReal := m ((c : Thread nD τ).loc main_arg1)

/-- The part that grid point `n` adds. -/
def M (c : Dev nD) (n : ℕ) (j : S512x1024.Idx) : EReal :=
  if h : n < cfg0.N then part (iblk m c 0 ⟨n, h⟩) (iblk m c 1 ⟨n, h⟩) j else 0

theorem M_eq (c : Dev nD) (t : Fin cfg0.N) (j : S512x1024.Idx) : M m c t.val j = part (iblk m c 0 t) (iblk m c 1 t) j :=
  dif_pos t.isLt

/-- What the carried buffer holds at a point that is not the first of its tile's four: the parts so far. -/
theorem carried (c : Dev nD) (t : Fin cfg0.N) (j : S512x1024.Idx) :
    (outsAt0 m c t.val t.isLt).2 j = ∑ s ∈ Finset.range (t.val % 4 + 1), M m c (4 * (t.val / 4) + s) j := by
  have hN : cfg0.N = 80 := N_0
  rw [Value.soutsAt0_0_eq]
  have := Pipeline.accAt_add_apply (fun n h => Value.scAt0_0 m c n h (VS0_0.read (Elt Ideal) VS0_0.junk)) (Value.scAt0_0 m c)
    (fun _ => (0 : EReal)) (M m c) (4 * (t.val / 4)) 3 ?_ ?_ (t.val % 4) (by omega)
    (by have h1 := t.isLt; have h2 := Nat.div_add_mod t.val 4; omega) j
  · exact this.trans (zero_add _)
  · intro h i
    rw [zero_add]
    unfold Value.scAt0_0
    rw [dif_pos (by omega), dif_neg (by omega), dif_neg (by omega), first, ← M_eq]
  · intro n h acc i h0 h1
    unfold Value.scAt0_0
    rw [dif_neg (by omega), dif_pos (by omega)]
    split
    · rw [last, ← M_eq]
    · rw [middle, ← M_eq]

/-- The gradient's entry: over all tokens, the normed row times the incoming gradient. -/
def G (p : S8192x2048.Idx → EReal) (dm : S8192x5120.Idx → EReal) (i : S2048x5120.Idx) : EReal :=
  ∑ k : Fin 8192, p (ix2 k (i 0)) * dm (ix2 k (i 1))

/-- A sum over all tokens is the sum over four runs of 2048. -/
theorem sum_runs (f : Fin 8192 → EReal) :
    ∑ k, f k = ∑ s ∈ Finset.range 4, ∑ k : Fin 2048, f ⟨(2048 * s + k.val) % 8192, Nat.mod_lt _ (by decide)⟩ := by
  rw [← Equiv.sum_comp (finProdFinEquiv (m := 4) (n := 2048)) f, Fintype.sum_prod_type, Finset.sum_range]
  refine Finset.sum_congr rfl fun s _ => Finset.sum_congr rfl fun k _ => congrArg f (Fin.ext ?_)
  show k.val + 2048 * s.val = (2048 * s.val + k.val) % 8192
  have := k.isLt; have := s.isLt; omega

/-- Which blocks a grid point reads and writes. -/
theorem idx : ∀ t : Fin cfg0.N, win0_0.index t = ![t.val % 4, t.val / 20] ∧ win0_1.index t = ![t.val % 4, t.val / 4 % 5]
    ∧ win0_2.index t = ![t.val / 20, t.val / 4 % 5] :=
  (by decide +kernel : ∀ t : Fin grid0.N, win0_0.index t = ![t.val % 4, t.val / 20] ∧ win0_1.index t = ![t.val % 4, t.val / 4 % 5]
    ∧ win0_2.index t = ![t.val / 20, t.val / 4 % 5])

/-- The part of point `t` in terms of the two whole arrays. -/
theorem part_eq (c : Dev nD) (t : Fin cfg0.N) (j : S512x1024.Idx) (i : S2048x5120.Idx)
    (e0 : (i 0).val = t.val / 20 * 512 + (j 0).val) (e1 : (i 1).val = t.val / 4 % 5 * 1024 + (j 1).val) :
    part (iblk m c 0 t) (iblk m c 1 t) j
      = ∑ k : Fin 2048, P m c (ix2 ⟨(2048 * (t.val % 4) + k.val) % 8192, Nat.mod_lt _ (by decide)⟩ (i 0))
          * D m c (ix2 ⟨(2048 * (t.val % 4) + k.val) % 8192, Nat.mod_lt _ (by decide)⟩ (i 1)) := by
  obtain ⟨h0, h1, -⟩ := idx t
  unfold part
  refine Finset.sum_congr rfl fun k _ => ?_
  have hk := k.isLt
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 2048 + 1 * k.val = (2048 * (t.val % 4) + k.val) % 8192
                rw [h0]; show t.val % 4 * 2048 + 1 * k.val = _; omega
    | ⟨1, _⟩ => show win0_0.index t (1 : Fin 2) * 512 + 1 * (j 0).val = (i 0).val
                rw [h0, e0]; show t.val / 20 * 512 + 1 * (j 0).val = _; omega
  · show m ((c : Thread nD τ).loc main_arg1) (((cfg0.win 1).blk t).view.emb _) = _
    congr 1
    funext a; apply Fin.ext
    match a with
    | ⟨0, _⟩ => show win0_1.index t (0 : Fin 2) * 2048 + 1 * k.val = (2048 * (t.val % 4) + k.val) % 8192
                rw [h1]; show t.val % 4 * 2048 + 1 * k.val = _; omega
    | ⟨1, _⟩ => show win0_1.index t (1 : Fin 2) * 1024 + 1 * (j 1).val = (i 1).val
                rw [h1, e1]; show t.val / 4 % 5 * 1024 + 1 * (j 1).val = _; omega

theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have hN : cfg0.N = 80 := N_0
  have hm : t.val % 4 = 3 := (flush0_2 t).mp hf
  have htlt := t.isLt
  obtain ⟨-, -, h2⟩ := idx t
  have hout : (outsAt0 m c t.val t.isLt).1 = (outsAt0 m c t.val t.isLt).2 := by
    rw [outsAt0_C m c t (by omega) (by omega) hm]
    funext j
    dsimp only
    rw [out, last]
  rw [Value.flushed2, hout]
  funext y
  refine (carried m c t ((cfg0.win 2).xinj (grid0.coords t) y)).trans ?_
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  rw [e, hm]
  unfold G
  rw [sum_runs]
  refine Finset.sum_congr rfl fun s hs => ?_
  have hs' : s < 4 := Finset.mem_range.mp hs
  have hlt : 4 * (t.val / 4) + s < cfg0.N := by omega
  have hmod : (4 * (t.val / 4) + s) % 4 = s := by omega
  refine (M_eq m c ⟨4 * (t.val / 4) + s, hlt⟩ _).trans ?_
  refine (part_eq m c ⟨4 * (t.val / 4) + s, hlt⟩ _ (((cfg0.win 2).blk t).view.emb y) ?_ ?_).trans ?_
  · rw [hb0, h2]; show t.val / 20 * 512 + 1 * (y 0).val = (4 * (t.val / 4) + s) / 20 * 512 + (y 0).val; omega
  · rw [hb1, h2]; show t.val / 4 % 5 * 1024 + 1 * (y 1).val = (4 * (t.val / 4) + s) / 4 % 5 * 1024 + (y 1).val; omega
  · dsimp only; rw [hmod]

/-- Every entry of the array lies in the tile of some point that writes out. -/
theorem cover (i : S2048x5120.Idx) : ∃ t : Fin cfg0.N, (cfg0.win 2).flush t = true ∧ i ∈ ((cfg0.win 2).blk t).view.set :=
  (Value.covered_iff2 i).2 (by have h0 : (i 0).val < 2048 := (i 0).isLt; have h1 : (i 1).val < 5120 := (i 1).isLt; omega)

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t hf => flushed_eq m c t hf) cover

/-- The reference's product is the same sum. -/
theorem ref_eq (p : FVec Ideal S8192x2048 .bf16) (dm : FVec Ideal S8192x5120 .bf16) (h) (ht) :
    transpose S2048x5120 [1, 0] (Host.dotGeneral (F := Ideal) (φ₁ := .f32) (φ₂ := .f32) Cert.InwReferenceIdeal.dot_S8192x5120_S8192x2048_S5120x2048_0_0_1_1_n_n none (extf .f32 dm h) (extf .f32 p h)) ht = G p dm := by
  funext j
  unfold G
  idx_vars j
  pointwise
  exact Finset.sum_congr rfl fun k _ => mul_comm _ _

/-- The reference runs, keeps its arguments, and declares no semaphore. -/
theorem frame_ref : Cert.quiescent_InwReferenceIdeal (hInwReferenceIdeal := Cert.InwReferenceIdeal.Gen.facts) := fun m g _ =>
  (θ_run Cert.InwReferenceIdeal.defs _ _).mono (fun r h => ⟨fun c => (h c).2, sem_eq_zero_of_no_sems (by decide) r.2⟩)
    (Cert.InwReferenceIdeal.Value.run (F := Ideal) m g)

/-- From equal arguments the two programs end with equal arrays. -/
theorem algebraic : Cert.algebraic_InwKernelIdeal_InwReferenceIdeal (hInwKernelIdeal := Cert.InwKernelIdeal.Gen.facts)
    (hInwReferenceIdeal := Cert.InwReferenceIdeal.Gen.facts) := by
  intro m g m' g' _ hargs
  refine ⟨fun c => G (m ((c : Thread nD τ).loc main_arg0)) (m ((c : Thread nD τ).loc main_arg1)), ?_, ?_⟩
  · exact (θ_run (Cert.InwKernelIdeal.defs (F := Ideal)) _ _).mono (fun r h c => ⟨(h c).1.trans (final m c), (h c).2⟩) (Value.run_blocks (F := Ideal) m g)
  · refine (θ_run (Cert.InwReferenceIdeal.defs (F := Ideal)) _ _).mono (fun r h c => ⟨(h c).1.trans ?_, (h c).2⟩) (Cert.InwReferenceIdeal.Value.run (F := Ideal) m' g')
    rw [(hargs c).1, (hargs c).2]
    exact ref_eq _ _ _ _

end Cert.Proof.Inw

end
-- ==== Proof.Fin.lean ====
/-
  The mixer's input product, one tile at a grid point.
-/
module

public import proofs.«01_k».proof.Defs
public import proofs.«01_k».proof.Proof.Gen.FinKernelIdeal.Value
public import proofs.«01_k».proof.Proof.Gen.FinReferenceIdeal.Run
public import Idealize.ShloMosaic.Lib.Pointwise

@[expose] public section

set_option maxRecDepth 16384

noncomputable section

namespace Cert.Proof.Fin

open Idealize.ShloMosaic Idealize.SL.Sem Cert.FinKernelIdeal Cert.FinKernelIdeal.Gen Idealize.ShloMosaic.TcCoe

/-- One tile: the stored block at an index is the sum over the channels of the two loaded blocks' products. -/
theorem tile (x0 : Vec Ideal S512x2048 .bf16) (x1 : Vec Ideal S2048x1024 .bf16) (j : S512x1024.Idx) :
    out0_2 (F := Ideal) x0 x1 j = ∑ k : Fin 2048, x0 (ix2 (j 0) k) * x1 (ix2 k (j 1)) := by
  have hz2 : (![0, 0] : Fin S512x1024.rank → Nat) = fun _ => 0 := funext fun a => by fin_cases a <;> rfl
  have hz1 : (![0, 0] : Fin S2048x1024.rank → Nat) = fun _ => 0 := funext fun a => by fin_cases a <;> rfl
  have hz0 : (![0, 0] : Fin S512x2048.rank → Nat) = fun _ => 0 := funext fun a => by fin_cases a <;> rfl
  unfold out0_2
  rw [View.canon_unit_zero hz2, View.ld_unit_zero hz0, View.ld_unit_zero hz1]
  idx_vars j
  pointwise [k0_pay1]

variable (m : (ℓ : Loc nD τ sig) → Buf (Elt Ideal) ℓ)

/-- The product's entry: row of the input against column of the weight. -/
def G (h : S8192x2048.Idx → EReal) (w : S2048x5120.Idx → EReal) (i : S8192x5120.Idx) : EReal :=
  ∑ k : Fin 2048, h (ix2 (i 0) k) * w (ix2 k (i 1))

/-- Which blocks a grid point reads and writes. -/
theorem idx : ∀ t : Fin cfg0.N, win0_0.index t = ![t.val / 5, 0] ∧ win0_1.index t = ![0, t.val % 5]
    ∧ win0_2.index t = ![t.val / 5, t.val % 5] ∧ (cfg0.win 2).flush t = true :=
  (by decide +kernel : ∀ t : Fin grid0.N, win0_0.index t = ![t.val / 5, 0] ∧ win0_1.index t = ![0, t.val % 5]
    ∧ win0_2.index t = ![t.val / 5, t.val % 5] ∧ win0_2.flush t = true)

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  obtain ⟨h0, h1, h2, -⟩ := idx t
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have e : ∀ f, ((cfg0.win 2).blk t).view.read (Elt Ideal) f y = f (((cfg0.win 2).blk t).view.emb y) := fun f => rfl
  refine (tile _ _ ((cfg0.win 2).xinj (grid0.coords t) y)).trans ?_
  rw [e]
  unfold G
  refine Finset.sum_congr rfl fun k _ => ?_
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (y 0).val = (((cfg0.win 2).blk t).view.emb y 0).val; rw [hb0, h0, h2]; rfl
    | ⟨1, _⟩ => show win0_0.index t (1 : Fin 2) * 2048 + 1 * k.val = k.val; rw [h0]; simp
  · show m ((c : Thread nD τ).loc main_arg1) (((cfg0.win 1).blk t).view.emb _) = _
    congr 1
    funext a; apply Fin.ext
    match a with
    | ⟨0, _⟩ => show win0_1.index t (0 : Fin 2) * 2048 + 1 * k.val = k.val; rw [h1]; simp
    | ⟨1, _⟩ => show win0_1.index t (1 : Fin 2) * 1024 + 1 * (y 1).val = (((cfg0.win 2).blk t).view.emb y 1).val; rw [hb1, h1, h2]; rfl

/-- Every entry of the array lies in the tile of some grid point. -/
theorem cover (i : S8192x5120.Idx) : ∃ t : Fin cfg0.N, (cfg0.win 2).flush t = true ∧ i ∈ ((cfg0.win 2).blk t).view.set := by
  have hi0 : (i 0).val < 8192 := (i 0).isLt
  have hi1 : (i 1).val < 5120 := (i 1).isLt
  have hN : cfg0.N = 80 := N_0
  let t : Fin cfg0.N := ⟨5 * ((i 0).val / 512) + (i 1).val / 1024, by omega⟩
  have ht : t.val = 5 * ((i 0).val / 512) + (i 1).val / 1024 := rfl
  obtain ⟨-, -, h2, hf⟩ := idx t
  refine ⟨t, hf, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512
              rw [h2]; show t.val / 5 * 512 ≤ _ ∧ _ < t.val / 5 * 512 + 512; omega
  | ⟨1, _⟩ => show win0_2.index t (1 : Fin 2) * 1024 ≤ (i 1).val ∧ (i 1).val < win0_2.index t (1 : Fin 2) * 1024 + 1024
              rw [h2]; show t.val % 5 * 1024 ≤ _ ∧ _ < t.val % 5 * 1024 + 1024; omega

/-- The array the kernel leaves. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The reference's product is the same sum. -/
theorem ref_eq (h : FVec Ideal S8192x2048 .bf16) (w : FVec Ideal S2048x5120 .bf16) (hb) :
    Host.dotGeneral (F := Ideal) (φ₁ := .f32) (φ₂ := .f32) Cert.FinReferenceIdeal.dot_S8192x2048_S2048x5120_S8192x5120_1_0_0_1_n_n none (extf .f32 h hb) (extf .f32 w hb) = G h w := by
  funext j
  unfold G
  idx_vars j
  pointwise

/-- The reference runs, keeps its arguments, and declares no semaphore. -/
theorem frame_ref : Cert.quiescent_FinReferenceIdeal (hFinReferenceIdeal := Cert.FinReferenceIdeal.Gen.facts) := fun m g _ =>
  (θ_run Cert.FinReferenceIdeal.defs _ _).mono (fun r h => ⟨fun c => (h c).2, sem_eq_zero_of_no_sems (by decide) r.2⟩)
    (Cert.FinReferenceIdeal.Value.run (F := Ideal) m g)

/-- From equal arguments the two programs end with equal arrays. -/
theorem algebraic : Cert.algebraic_FinKernelIdeal_FinReferenceIdeal (hFinKernelIdeal := Cert.FinKernelIdeal.Gen.facts)
    (hFinReferenceIdeal := Cert.FinReferenceIdeal.Gen.facts) := by
  intro m g m' g' _ hargs
  refine ⟨fun c => G (m ((c : Thread nD τ).loc main_arg0)) (m ((c : Thread nD τ).loc main_arg1)), ?_, ?_⟩
  · exact (θ_run (Cert.FinKernelIdeal.defs (F := Ideal)) _ _).mono (fun r h c => ⟨(h c).1.trans (final m c), (h c).2⟩) (Value.run_blocks (F := Ideal) m g)
  · refine (θ_run (Cert.FinReferenceIdeal.defs (F := Ideal)) _ _).mono (fun r h c => ⟨(h c).1.trans ?_, (h c).2⟩) (Cert.FinReferenceIdeal.Value.run (F := Ideal) m' g')
    rw [(hargs c).1, (hargs c).2]
    exact ref_eq _ _ _

end Cert.Proof.Fin

end
-- ==== Proof.Fout.lean ====
/-
  The mixer's output product and the gated residual it is added to, one tile of both at a grid point.
-/
module

public import proofs.«01_k».proof.Defs
public import proofs.«01_k».proof.Proof.Gen.FoutKernelIdeal.Value
public import proofs.«01_k».proof.Proof.Gen.FoutReferenceIdeal.Run
public import Idealize.ShloMosaic.Lib.Pointwise

@[expose] public section

set_option maxRecDepth 16384

noncomputable section

namespace Cert.Proof.Fout

open Idealize.ShloMosaic Idealize.SL.Sem Cert.FoutKernelIdeal Cert.FoutKernelIdeal.Gen Idealize.ShloMosaic.TcCoe

theorem hzo : (![0, 0] : Fin S512x1024.rank → Nat) = fun _ => 0 := funext fun a => by fin_cases a <;> rfl
theorem hz0 : (![0, 0] : Fin S512x2048.rank → Nat) = fun _ => 0 := funext fun a => by fin_cases a <;> rfl
theorem hz1 : (![0, 0] : Fin S2048x1024.rank → Nat) = fun _ => 0 := funext fun a => by fin_cases a <;> rfl
theorem hz3 : (![0, 0] : Fin S1x1024.rank → Nat) = fun _ => 0 := funext fun a => by fin_cases a <;> rfl

/-- A tile's sum over the channels of the two loaded blocks' products. -/
def part (x0 : Vec Ideal S512x2048 .bf16) (x1 : Vec Ideal S2048x1024 .bf16) (j : S512x1024.Idx) : EReal :=
  ∑ k : Fin 2048, x0 (ix2 (j 0) k) * x1 (ix2 k (j 1))

section
variable (x0 : Vec Ideal S512x2048 .bf16) (x1 : Vec Ideal S2048x1024 .bf16) (x2 : Vec Ideal S512x1024 .f32) (x3 : Vec Ideal S1x1024 .f32)
  (j : S512x1024.Idx)

/-- One tile of the product. -/
theorem tile : out0_4 (F := Ideal) x0 x1 x2 x3 j = part x0 x1 j := by
  unfold out0_4
  rw [View.canon_unit_zero hzo, View.ld_unit_zero hz0, View.ld_unit_zero hz1]
  idx_vars j
  pointwise [k0_pay1, part]

/-- One tile of the residual's new value: the old one plus the gate times the product. -/
theorem tile_res : out0_5 (F := Ideal) x0 x1 x2 x3 j
    = x2 j + x3 (ix2 0 (j 1)) * part x0 x1 j := by
  unfold out0_5
  rw [View.canon_unit_zero hzo, View.ld_unit_zero hz0, View.ld_unit_zero hz1, View.ld_unit_zero hzo, View.ld_unit_zero hz3]
  idx_vars j
  pointwise [k0_pay2, k0_pay1, part]
end

variable (m : (ℓ : Loc nD τ sig) → Buf (Elt Ideal) ℓ)

/-- The product's entry: row of the input against column of the weight. -/
def G (y : S8192x2048.Idx → EReal) (w : S2048x2048.Idx → EReal) (i : S8192x2048.Idx) : EReal :=
  ∑ k : Fin 2048, y (ix2 (i 0) k) * w (ix2 k (i 1))

/-- Which blocks a grid point reads and writes. -/
theorem idx : ∀ t : Fin cfg0.N, win0_0.index t = ![t.val / 2, 0] ∧ win0_1.index t = ![0, t.val % 2]
    ∧ win0_2.index t = ![t.val / 2, t.val % 2]
    ∧ win0_3.index t = ![0, t.val % 2] ∧ win0_4.index t = ![t.val / 2, t.val % 2] ∧ (cfg0.win 4).flush t = true
    ∧ win0_5.index t = ![t.val / 2, t.val % 2] ∧ (cfg0.win 5).flush t = true :=
  (by decide +kernel : ∀ t : Fin grid0.N, win0_0.index t = ![t.val / 2, 0] ∧ win0_1.index t = ![0, t.val % 2]
    ∧ win0_2.index t = ![t.val / 2, t.val % 2]
    ∧ win0_3.index t = ![0, t.val % 2] ∧ win0_4.index t = ![t.val / 2, t.val % 2] ∧ win0_4.flush t = true
    ∧ win0_5.index t = ![t.val / 2, t.val % 2] ∧ win0_5.flush t = true)

/-- A tile's sum in terms of the two whole arrays. -/
theorem prod_eq (c : Dev nD) (t : Fin cfg0.N) (j : S512x1024.Idx) (i : S8192x2048.Idx)
    (e0 : (i 0).val = t.val / 2 * 512 + (j 0).val) (e1 : (i 1).val = t.val % 2 * 1024 + (j 1).val) :
    part (iblk m c 0 t) (iblk m c 1 t) j
      = G (m ((c : Thread nD τ).loc main_arg0)) (m ((c : Thread nD τ).loc main_arg1)) i := by
  obtain ⟨h0, h1, -⟩ := idx t
  unfold part G
  refine Finset.sum_congr rfl fun k _ => ?_
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (j 0).val = (i 0).val
                rw [h0, e0]; show t.val / 2 * 512 + 1 * (j 0).val = _; omega
    | ⟨1, _⟩ => show win0_0.index t (1 : Fin 2) * 2048 + 1 * k.val = k.val; rw [h0]; simp
  · show m ((c : Thread nD τ).loc main_arg1) (((cfg0.win 1).blk t).view.emb _) = _
    congr 1
    funext a; apply Fin.ext
    match a with
    | ⟨0, _⟩ => show win0_1.index t (0 : Fin 2) * 2048 + 1 * k.val = k.val; rw [h1]; simp
    | ⟨1, _⟩ => show win0_1.index t (1 : Fin 2) * 1024 + 1 * (j 1).val = (i 1).val
                rw [h1, e1]; show t.val % 2 * 1024 + 1 * (j 1).val = _; omega

/-- The residual's new value: the old one plus the gate times the product. -/
def H (y : S8192x2048.Idx → EReal) (w : S2048x2048.Idx → EReal) (x : S8192x2048.Idx → EReal) (gt : S1x2048.Idx → EReal) (i : S8192x2048.Idx) : EReal :=
  x i + gt (ix2 0 (i 1)) * G y w i

/-- The residual's block and the gate's, as the whole arrays hold them. -/
theorem res_eq (c : Dev nD) (t : Fin cfg0.N) (j : S512x1024.Idx) (i : S8192x2048.Idx)
    (e0 : (i 0).val = t.val / 2 * 512 + (j 0).val) (e1 : (i 1).val = t.val % 2 * 1024 + (j 1).val) :
    iblk m c 2 t j = m ((c : Thread nD τ).loc main_arg2) i := by
  obtain ⟨-, -, h2, -⟩ := idx t
  show m ((c : Thread nD τ).loc main_arg2) (((cfg0.win 2).blk t).view.emb _) = _
  congr 1
  funext a; apply Fin.ext
  match a with
  | ⟨0, _⟩ => show win0_2.index t (0 : Fin 2) * 512 + 1 * (j 0).val = (i 0).val
              rw [h2, e0]; show t.val / 2 * 512 + 1 * (j 0).val = _; omega
  | ⟨1, _⟩ => show win0_2.index t (1 : Fin 2) * 1024 + 1 * (j 1).val = (i 1).val
              rw [h2, e1]; show t.val % 2 * 1024 + 1 * (j 1).val = _; omega
theorem gate_eq (c : Dev nD) (t : Fin cfg0.N) (j : S512x1024.Idx) (i : S8192x2048.Idx)
    (e1 : (i 1).val = t.val % 2 * 1024 + (j 1).val) :
    iblk m c 3 t (ix2 0 (j 1)) = m ((c : Thread nD τ).loc main_arg3) (ix2 0 (i 1)) := by
  obtain ⟨-, -, -, h3, -⟩ := idx t
  show m ((c : Thread nD τ).loc main_arg3) (((cfg0.win 3).blk t).view.emb _) = _
  congr 1
  funext a; apply Fin.ext
  match a with
  | ⟨0, _⟩ => show win0_3.index t (0 : Fin 2) * 1 + 1 * 0 = 0
              rw [h3]; rfl
  | ⟨1, _⟩ => show win0_3.index t (1 : Fin 2) * 1024 + 1 * (j 1).val = (i 1).val
              rw [h3, e1]; show t.val % 2 * 1024 + 1 * (j 1).val = _; omega

theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1))) := by
  rw [Value.flushed4]
  obtain ⟨-, -, -, -, h4, -⟩ := idx t
  funext y
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  have e : ∀ f, ((cfg0.win 4).blk t).view.read (Elt Ideal) f y = f (((cfg0.win 4).blk t).view.emb y) := fun f => rfl
  refine (tile _ _ _ _ ((cfg0.win 4).xinj (grid0.coords t) y)).trans ?_
  rw [e]
  refine prod_eq m c t ((cfg0.win 4).xinj (grid0.coords t) y) (((cfg0.win 4).blk t).view.emb y) ?_ ?_
  · rw [hb0, h4]; show t.val / 2 * 512 + 1 * (y 0).val = t.val / 2 * 512 + (y 0).val; omega
  · rw [hb1, h4]; show t.val % 2 * 1024 + 1 * (y 1).val = t.val % 2 * 1024 + (y 1).val; omega

theorem flushed_res (c : Dev nD) (t : Fin cfg0.N) :
    (dats m 0 c).flushed 5 t = ((cfg0.win 5).blk t).view.read (Elt Ideal)
      (H (m ((c : Thread nD τ).loc main_arg0)) (m ((c : Thread nD τ).loc main_arg1)) (m ((c : Thread nD τ).loc main_arg2)) (m ((c : Thread nD τ).loc main_arg3))) := by
  rw [Value.flushed5]
  obtain ⟨-, -, -, -, -, -, h5, -⟩ := idx t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have e : ∀ f, ((cfg0.win 5).blk t).view.read (Elt Ideal) f y = f (((cfg0.win 5).blk t).view.emb y) := fun f => rfl
  refine (tile_res _ _ _ _ ((cfg0.win 5).xinj (grid0.coords t) y)).trans ?_
  rw [e]
  have e0 : (((cfg0.win 5).blk t).view.emb y 0).val = t.val / 2 * 512 + ((cfg0.win 5).xinj (grid0.coords t) y 0).val := by
    rw [hb0, h5]; show t.val / 2 * 512 + 1 * (y 0).val = t.val / 2 * 512 + (y 0).val; omega
  have e1 : (((cfg0.win 5).blk t).view.emb y 1).val = t.val % 2 * 1024 + ((cfg0.win 5).xinj (grid0.coords t) y 1).val := by
    rw [hb1, h5]; show t.val % 2 * 1024 + 1 * (y 1).val = t.val % 2 * 1024 + (y 1).val; omega
  exact congrArg₂ (· + ·) (res_eq m c t _ _ e0 e1) (congrArg₂ (· * ·) (gate_eq m c t _ _ e1) (prod_eq m c t _ _ e0 e1))

/-- Every entry of the product lies in the tile of some grid point. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 32 := N_0
  let t : Fin cfg0.N := ⟨2 * ((i 0).val / 512) + (i 1).val / 1024, by omega⟩
  have ht : t.val = 2 * ((i 0).val / 512) + (i 1).val / 1024 := rfl
  obtain ⟨-, -, -, -, h2, hf, -⟩ := idx t
  refine ⟨t, hf, ?_⟩
  show i ∈ ((View.whole main_v0_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512
              rw [h2]; show t.val / 2 * 512 ≤ _ ∧ _ < t.val / 2 * 512 + 512; omega
  | ⟨1, _⟩ => show win0_4.index t (1 : Fin 2) * 1024 ≤ (i 1).val ∧ (i 1).val < win0_4.index t (1 : Fin 2) * 1024 + 1024
              rw [h2]; show t.val % 2 * 1024 ≤ _ ∧ _ < t.val % 2 * 1024 + 1024; omega

/-- Every entry of the residual's new value lies in the tile of some grid point. -/
theorem cover_res (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 32 := N_0
  let t : Fin cfg0.N := ⟨2 * ((i 0).val / 512) + (i 1).val / 1024, by omega⟩
  have ht : t.val = 2 * ((i 0).val / 512) + (i 1).val / 1024 := rfl
  obtain ⟨-, -, -, -, -, -, h2, hf⟩ := idx t
  refine ⟨t, hf, ?_⟩
  show i ∈ ((View.whole main_v0_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512
              rw [h2]; show t.val / 2 * 512 ≤ _ ∧ _ < t.val / 2 * 512 + 512; omega
  | ⟨1, _⟩ => show win0_5.index t (1 : Fin 2) * 1024 ≤ (i 1).val ∧ (i 1).val < win0_5.index t (1 : Fin 2) * 1024 + 1024
              rw [h2]; show t.val % 2 * 1024 ≤ _ ∧ _ < t.val % 2 * 1024 + 1024; omega

/-- The two arrays the kernel leaves. -/
theorem final (c : Dev nD) : (dats m 0 c).arrAt 4 cfg0.N = G (m ((c : Thread nD τ).loc main_arg0)) (m ((c : Thread nD τ).loc main_arg1)) :=
  (dats m 0 c).arrAt_eq_of_cover 4 _ (fun t _ => flushed_eq m c t) cover
theorem final_res (c : Dev nD) : (dats m 0 c).arrAt 5 cfg0.N
    = H (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_res m c t) cover_res

/-- The reference's product is the same sum. -/
theorem ref_eq (y : FVec Ideal S8192x2048 .bf16) (w : FVec Ideal S2048x2048 .bf16) (h) :
    Host.dotGeneral (F := Ideal) (φ₁ := .f32) (φ₂ := .f32) Cert.FoutReferenceIdeal.dot_S8192x2048_S2048x2048_S8192x2048_1_0_0_1_n_n none (extf .f32 y h) (extf .f32 w h) = G y w := by
  funext j
  unfold G
  idx_vars j
  pointwise

/-- So is the residual's new value. -/
theorem ref_res (y : FVec Ideal S8192x2048 .bf16) (w : FVec Ideal S2048x2048 .bf16) (x : FVec Ideal S8192x2048 .f32) (gt : FVec Ideal S1x2048 .f32) (h) :
    addf x (mulf (broadcastInDim S8192x2048 ![0, 1] Cert.FoutReferenceIdeal.Gen.bcast_S1x2048_S8192x2048_0_1 gt)
      (Host.dotGeneral (F := Ideal) (φ₁ := .f32) (φ₂ := .f32) Cert.FoutReferenceIdeal.dot_S8192x2048_S2048x2048_S8192x2048_1_0_0_1_n_n none (extf .f32 y h) (extf .f32 w h)))
      = H y w x gt := by
  rw [ref_eq]
  funext j
  unfold H
  idx_vars j
  pointwise

/-- The reference runs, keeps its arguments, and declares no semaphore. -/
theorem frame_ref : Cert.quiescent_FoutReferenceIdeal (hFoutReferenceIdeal := Cert.FoutReferenceIdeal.Gen.facts) := fun m g _ =>
  (θ_run Cert.FoutReferenceIdeal.defs _ _).mono (fun r h => ⟨fun c => (h c).2.2, sem_eq_zero_of_no_sems (by decide) r.2⟩)
    (Cert.FoutReferenceIdeal.Value.run (F := Ideal) m g)

/-- From equal arguments the two programs end with equal arrays. -/
theorem algebraic : Cert.algebraic_FoutKernelIdeal_FoutReferenceIdeal (hFoutKernelIdeal := Cert.FoutKernelIdeal.Gen.facts)
    (hFoutReferenceIdeal := Cert.FoutReferenceIdeal.Gen.facts) := by
  intro m g m' g' _ hargs
  refine ⟨fun c => G (m ((c : Thread nD τ).loc main_arg0)) (m ((c : Thread nD τ).loc main_arg1)),
    fun c => H (m ((c : Thread nD τ).loc main_arg0)) (m ((c : Thread nD τ).loc main_arg1)) (m ((c : Thread nD τ).loc main_arg2)) (m ((c : Thread nD τ).loc main_arg3)), ?_, ?_⟩
  · exact (θ_run (Cert.FoutKernelIdeal.defs (F := Ideal)) _ _).mono (fun r h c => ⟨(h c).1.trans (final m c), (h c).2.1.trans (final_res m c), (h c).2.2⟩) (Value.run_blocks (F := Ideal) m g)
  · refine (θ_run (Cert.FoutReferenceIdeal.defs (F := Ideal)) _ _).mono (fun r h c => ⟨(h c).1.trans ?_, (h c).2.1.trans ?_, (h c).2.2⟩) (Cert.FoutReferenceIdeal.Value.run (F := Ideal) m' g')
    · rw [(hargs c).1, (hargs c).2.1]
      exact ref_eq _ _ _
    · rw [(hargs c).1, (hargs c).2.1, (hargs c).2.2.1, (hargs c).2.2.2]
      exact ref_res _ _ _ _ _

end Cert.Proof.Fout

end
-- ==== Proof.Fgu.lean ====
/-
  The feed-forward layer's gate and up products, side by side: a tile of 1024 columns is a chunk of 512 of the first and
  the same chunk of the second.
-/
module

public import proofs.«01_k».proof.Defs
public import proofs.«01_k».proof.Proof.Gen.FguKernelIdeal.Value
public import proofs.«01_k».proof.Proof.Gen.FguReferenceIdeal.Run
public import Idealize.ShloMosaic.Lib.Pointwise

@[expose] public section

set_option maxRecDepth 16384

noncomputable section

namespace Cert.Proof.Fgu

open Idealize.ShloMosaic Idealize.SL.Sem Cert.FguKernelIdeal Cert.FguKernelIdeal.Gen Idealize.ShloMosaic.TcCoe

theorem hzo : (![0, 0] : Fin S1024x1024.rank → Nat) = fun _ => 0 := funext fun a => by fin_cases a <;> rfl
theorem hz0 : (![0, 0] : Fin S1024x2048.rank → Nat) = fun _ => 0 := funext fun a => by fin_cases a <;> rfl
theorem hz1 : (![0, 0, 0] : Fin S1x2048x512.rank → Nat) = fun _ => 0 := funext fun a => by fin_cases a <;> rfl

section
variable (x0 : Vec Ideal S1024x2048 .bf16) (x1 x2 : Vec Ideal S1x2048x512 .bf16) (a : Fin 1024)

/-- The first half of a tile is the gate's chunk, -/
theorem tile_gate (b : Fin 1024) (b' : Fin 512) (e : b.val = b'.val) :
    out0_3 (F := Ideal) x0 x1 x2 (ix2 a b) = ∑ k : Fin 2048, x0 (ix2 a k) * x1 (ix3 0 k b') := by
  unfold out0_3
  rw [View.canon_unit_zero hzo, View.ld_unit_zero hz0, View.ld_unit_zero hz1, View.ld_unit_zero hz1]
  obtain ⟨b, hb⟩ := b
  obtain rfl : b = b'.val := e
  pointwise [k0_pay1]

/-- and the second the up projection's. -/
theorem tile_up (b : Fin 1024) (b' : Fin 512) (e : b.val = 512 + b'.val) :
    out0_3 (F := Ideal) x0 x1 x2 (ix2 a b) = ∑ k : Fin 2048, x0 (ix2 a k) * x2 (ix3 0 k b') := by
  unfold out0_3
  rw [View.canon_unit_zero hzo, View.ld_unit_zero hz0, View.ld_unit_zero hz1, View.ld_unit_zero hz1]
  obtain ⟨b, hb⟩ := b
  obtain rfl : b = 512 + b'.val := e
  pointwise [k0_pay1]
end

variable (m : (ℓ : Loc nD τ sig) → Buf (Elt Ideal) ℓ)

/-- Which of the two weights column `n` of the 11264 belongs to, and which of its 5632 channels it is. -/
def side (n : Fin 11264) : Fin 2 := ⟨n.val / 512 % 2, Nat.mod_lt _ (by decide)⟩
def chan (n : Fin 11264) : Fin 5632 := ⟨n.val / 1024 * 512 + n.val % 512, by omega⟩

/-- The entry: row of the input against that channel's weights. -/
def G (h : S8192x2048.Idx → EReal) (w : S2x2048x5632.Idx → EReal) (i : S8192x11264.Idx) : EReal :=
  ∑ k : Fin 2048, h (ix2 (i 0) k) * w (ix3 (side (i 1)) k (chan (i 1)))

/-- Which blocks a grid point reads and writes. -/
theorem idx : ∀ t : Fin cfg0.N, win0_0.index t = ![t.val / 11, 0] ∧ win0_1.index t = ![0, 0, t.val % 11]
    ∧ win0_2.index t = ![1, 0, t.val % 11] ∧ win0_3.index t = ![t.val / 11, t.val % 11] ∧ (cfg0.win 3).flush t = true :=
  (by decide +kernel : ∀ t : Fin grid0.N, win0_0.index t = ![t.val / 11, 0] ∧ win0_1.index t = ![0, 0, t.val % 11]
    ∧ win0_2.index t = ![1, 0, t.val % 11] ∧ win0_3.index t = ![t.val / 11, t.val % 11] ∧ win0_3.flush t = true)

/-- A block of the input, -/
theorem blk0 (c : Dev nD) (t : Fin cfg0.N) (a : Fin 1024) (k : Fin 2048) (a' : Fin 8192) (ea : a'.val = t.val / 11 * 1024 + a.val) :
    iblk m c 0 t (ix2 a k) = m ((c : Thread nD τ).loc main_arg0) (ix2 a' k) := by
  obtain ⟨h, -⟩ := idx t
  show m ((c : Thread nD τ).loc main_arg0) (((cfg0.win 0).blk t).view.emb _) = _
  congr 1
  funext x; apply Fin.ext
  match x with
  | ⟨0, _⟩ => show win0_0.index t (0 : Fin 2) * 1024 + 1 * a.val = a'.val
              rw [h, ea]; show t.val / 11 * 1024 + 1 * a.val = _; omega
  | ⟨1, _⟩ => show win0_0.index t (1 : Fin 2) * 2048 + 1 * k.val = k.val
              rw [h]; show 0 * 2048 + 1 * k.val = _; omega

/-- of the gate's weight, -/
theorem blk1 (c : Dev nD) (t : Fin cfg0.N) (k : Fin 2048) (b : Fin 512) (s : Fin 2) (b' : Fin 5632) (es : s.val = 0)
    (eb : b'.val = t.val % 11 * 512 + b.val) :
    iblk m c 1 t (ix3 0 k b) = m ((c : Thread nD τ).loc main_arg1) (ix3 s k b') := by
  obtain ⟨-, h, -⟩ := idx t
  show m ((c : Thread nD τ).loc main_arg1) (((cfg0.win 1).blk t).view.emb _) = _
  congr 1
  funext x; apply Fin.ext
  match x with
  | ⟨0, _⟩ => show win0_1.index t (0 : Fin 3) * 1 + 1 * 0 = s.val
              rw [h, es]; rfl
  | ⟨1, _⟩ => show win0_1.index t (1 : Fin 3) * 2048 + 1 * k.val = k.val
              rw [h]; show 0 * 2048 + 1 * k.val = _; omega
  | ⟨2, _⟩ => show win0_1.index t (2 : Fin 3) * 512 + 1 * b.val = b'.val
              rw [h, eb]; show t.val % 11 * 512 + 1 * b.val = _; omega

/-- and of the up projection's. -/
theorem blk2 (c : Dev nD) (t : Fin cfg0.N) (k : Fin 2048) (b : Fin 512) (s : Fin 2) (b' : Fin 5632) (es : s.val = 1)
    (eb : b'.val = t.val % 11 * 512 + b.val) :
    iblk m c 2 t (ix3 0 k b) = m ((c : Thread nD τ).loc main_arg1) (ix3 s k b') := by
  obtain ⟨-, -, h, -⟩ := idx t
  show m ((c : Thread nD τ).loc main_arg1) (((cfg0.win 2).blk t).view.emb _) = _
  congr 1
  funext x; apply Fin.ext
  match x with
  | ⟨0, _⟩ => show win0_2.index t (0 : Fin 3) * 1 + 1 * 0 = s.val
              rw [h, es]; rfl
  | ⟨1, _⟩ => show win0_2.index t (1 : Fin 3) * 2048 + 1 * k.val = k.val
              rw [h]; show 0 * 2048 + 1 * k.val = _; omega
  | ⟨2, _⟩ => show win0_2.index t (2 : Fin 3) * 512 + 1 * b.val = b'.val
              rw [h, eb]; show t.val % 11 * 512 + 1 * b.val = _; omega

/-- A tile in terms of the two whole arrays. -/
theorem tile_eq (c : Dev nD) (t : Fin cfg0.N) (j : S1024x1024.Idx) (i : S8192x11264.Idx)
    (e0 : (i 0).val = t.val / 11 * 1024 + (j 0).val) (e1 : (i 1).val = t.val % 11 * 1024 + (j 1).val) :
    out0_3 (F := Ideal) (iblk m c 0 t) (iblk m c 1 t) (iblk m c 2 t) j
      = G (m ((c : Thread nD τ).loc main_arg0)) (m ((c : Thread nD τ).loc main_arg1)) i := by
  have hj : (j 1).val < 1024 := (j 1).isLt
  rw [eq_ix2 j]
  unfold G
  by_cases h : (j 1).val < 512
  · refine (tile_gate _ _ _ (j 0) (j 1) ⟨(j 1).val, h⟩ rfl).trans (Finset.sum_congr rfl fun k _ => ?_)
    exact congrArg₂ (· * ·) (blk0 m c t (j 0) k (i 0) e0)
      (blk1 m c t k _ (side (i 1)) (chan (i 1)) (by show (i 1).val / 512 % 2 = 0; omega)
        (by show (i 1).val / 1024 * 512 + (i 1).val % 512 = t.val % 11 * 512 + (j 1).val; omega))
  · refine (tile_up _ _ _ (j 0) (j 1) ⟨(j 1).val - 512, by omega⟩ (by show (j 1).val = 512 + ((j 1).val - 512); omega)).trans
      (Finset.sum_congr rfl fun k _ => ?_)
    exact congrArg₂ (· * ·) (blk0 m c t (j 0) k (i 0) e0)
      (blk2 m c t k _ (side (i 1)) (chan (i 1)) (by show (i 1).val / 512 % 2 = 1; omega)
        (by show (i 1).val / 1024 * 512 + (i 1).val % 512 = t.val % 11 * 512 + ((j 1).val - 512); omega))

theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1))) := by
  rw [Value.flushed3]
  obtain ⟨-, -, -, h3, -⟩ := idx t
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have e : ∀ f, ((cfg0.win 3).blk t).view.read (Elt Ideal) f y = f (((cfg0.win 3).blk t).view.emb y) := fun f => rfl
  rw [e]
  refine tile_eq m c t ((cfg0.win 3).xinj (grid0.coords t) y) (((cfg0.win 3).blk t).view.emb y) ?_ ?_
  · rw [hb0, h3]; show t.val / 11 * 1024 + 1 * (y 0).val = t.val / 11 * 1024 + (y 0).val; omega
  · rw [hb1, h3]; show t.val % 11 * 1024 + 1 * (y 1).val = t.val % 11 * 1024 + (y 1).val; omega

/-- Every entry of the array lies in the tile of some grid point. -/
theorem cover (i : S8192x11264.Idx) : ∃ t : Fin cfg0.N, (cfg0.win 3).flush t = true ∧ i ∈ ((cfg0.win 3).blk t).view.set := by
  have hi0 : (i 0).val < 8192 := (i 0).isLt
  have hi1 : (i 1).val < 11264 := (i 1).isLt
  have hN : cfg0.N = 88 := N_0
  let t : Fin cfg0.N := ⟨11 * ((i 0).val / 1024) + (i 1).val / 1024, by omega⟩
  have ht : t.val = 11 * ((i 0).val / 1024) + (i 1).val / 1024 := rfl
  obtain ⟨-, -, -, h3, hf⟩ := idx t
  refine ⟨t, hf, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024
              rw [h3]; show t.val / 11 * 1024 ≤ _ ∧ _ < t.val / 11 * 1024 + 1024; omega
  | ⟨1, _⟩ => show win0_3.index t (1 : Fin 2) * 1024 ≤ (i 1).val ∧ (i 1).val < win0_3.index t (1 : Fin 2) * 1024 + 1024
              rw [h3]; show t.val % 11 * 1024 ≤ _ ∧ _ < t.val % 11 * 1024 + 1024; omega

/-- The array the kernel leaves. -/
theorem final (c : Dev nD) : (dats m 0 c).arrAt 3 cfg0.N
    = G (m ((c : Thread nD τ).loc main_arg0)) (m ((c : Thread nD τ).loc main_arg1)) :=
  (dats m 0 c).arrAt_eq_of_cover 3 _ (fun t _ => flushed_eq m c t) cover

/-- The reference lays its two products out the same way. -/
theorem ref_eq (h : FVec Ideal S8192x2048 .bf16) (w : FVec Ideal S2x2048x5632 .bf16) (hb) :
    (shapeCast Cert.FguReferenceIdeal.S8192x11264 (concatenate Cert.FguReferenceIdeal.S8192x11x2x512 2 [⟨Cert.FguReferenceIdeal.S8192x11x1x512, broadcastInDim Cert.FguReferenceIdeal.S8192x11x1x512 ![0, 1, 3] Cert.FguReferenceIdeal.Gen.bcast_S8192x11x512_S8192x11x1x512_0_1_3
        (shapeCast Cert.FguReferenceIdeal.S8192x11x512 (Host.dotGeneral (F := Ideal) (φ₁ := .f32) (φ₂ := .f32) Cert.FguReferenceIdeal.dot_S8192x2048_S2048x5632_S8192x5632_1_0_0_1_n_n none (extf .f32 h hb)
          (shapeCast Cert.FguReferenceIdeal.S2048x5632 (extractStridedSlice Cert.FguReferenceIdeal.S1x2048x5632 ![0, 0, 0] (extf .f32 w hb) Cert.FguReferenceIdeal.Gen.slices_S2x2048x5632_S1x2048x5632_0_0_0) Cert.FguReferenceIdeal.Gen.shapeCasts_S1x2048x5632_S2048x5632)) Cert.FguReferenceIdeal.Gen.shapeCasts_S8192x5632_S8192x11x512)⟩,
      ⟨Cert.FguReferenceIdeal.S8192x11x1x512, broadcastInDim Cert.FguReferenceIdeal.S8192x11x1x512 ![0, 1, 3] Cert.FguReferenceIdeal.Gen.bcast_S8192x11x512_S8192x11x1x512_0_1_3
        (shapeCast Cert.FguReferenceIdeal.S8192x11x512 (Host.dotGeneral (F := Ideal) (φ₁ := .f32) (φ₂ := .f32) Cert.FguReferenceIdeal.dot_S8192x2048_S2048x5632_S8192x5632_1_0_0_1_n_n none (extf .f32 h hb)
          (shapeCast Cert.FguReferenceIdeal.S2048x5632 (extractStridedSlice Cert.FguReferenceIdeal.S1x2048x5632 ![1, 0, 0] (extf .f32 w hb) Cert.FguReferenceIdeal.Gen.slices_S2x2048x5632_S1x2048x5632_1_0_0) Cert.FguReferenceIdeal.Gen.shapeCasts_S1x2048x5632_S2048x5632)) Cert.FguReferenceIdeal.Gen.shapeCasts_S8192x5632_S8192x11x512)⟩] Cert.FguReferenceIdeal.Gen.concatenates_S8192x11x1x512_S8192x11x1x512_S8192x11x2x512_d2) Cert.FguReferenceIdeal.Gen.shapeCasts_S8192x11x2x512_S8192x11264 : FVec Ideal S8192x11264 .f32) = G h w := by
  funext j
  unfold G
  idx_vars j
  pointwise
  split
  · rename_i hs
    have : side j1 = 0 := Fin.ext (by show j1.val / 512 % 2 = 0; omega)
    rw [this]; rfl
  · rename_i hs
    have : side j1 = 1 := Fin.ext (by show j1.val / 512 % 2 = 1; omega)
    rw [this]; rfl

/-- The reference runs, keeps its arguments, and declares no semaphore. -/
theorem frame_ref : Cert.quiescent_FguReferenceIdeal (hFguReferenceIdeal := Cert.FguReferenceIdeal.Gen.facts) := fun m g _ =>
  (θ_run Cert.FguReferenceIdeal.defs _ _).mono (fun r h => ⟨fun c => (h c).2, sem_eq_zero_of_no_sems (by decide) r.2⟩)
    (Cert.FguReferenceIdeal.Value.run (F := Ideal) m g)

/-- From equal arguments the two programs end with equal arrays. -/
theorem algebraic : Cert.algebraic_FguKernelIdeal_FguReferenceIdeal (hFguKernelIdeal := Cert.FguKernelIdeal.Gen.facts)
    (hFguReferenceIdeal := Cert.FguReferenceIdeal.Gen.facts) := by
  intro m g m' g' _ hargs
  refine ⟨fun c => G (m ((c : Thread nD τ).loc main_arg0)) (m ((c : Thread nD τ).loc main_arg1)), ?_, ?_⟩
  · exact (θ_run (Cert.FguKernelIdeal.defs (F := Ideal)) _ _).mono (fun r h c => ⟨(h c).1.trans (final m c), (h c).2⟩) (Value.run_blocks (F := Ideal) m g)
  · refine (θ_run (Cert.FguReferenceIdeal.defs (F := Ideal)) _ _).mono (fun r h c => ⟨(h c).1.trans ?_, (h c).2⟩) (Cert.FguReferenceIdeal.Value.run (F := Ideal) m' g')
    rw [(hargs c).1, (hargs c).2]
    exact ref_eq _ _ _

end Cert.Proof.Fgu

end
-- ==== Proof.Fdown.lean ====
/-
  The feed-forward layer's output product and the gated residual it is added to.  A tile's 5632 channels are taken in two
  runs of 2816: the first point leaves its partial product in a carried buffer, the second adds its own and writes the
  product and the residual's new value.
-/
module

public import proofs.«01_k».proof.Defs
public import proofs.«01_k».proof.Proof.Gen.FdownKernelIdeal.Value
public import proofs.«01_k».proof.Proof.Gen.FdownReferenceIdeal.Run
public import Idealize.ShloMosaic.Lib.Pointwise

@[expose] public section

set_option maxRecDepth 16384

noncomputable section

namespace Cert.Proof.Fdown

open Idealize.ShloMosaic Idealize.SL.Sem Cert.FdownKernelIdeal Cert.FdownKernelIdeal.Gen Idealize.ShloMosaic.TcCoe

theorem hzo : (![0, 0] : Fin S512x1024.rank → Nat) = fun _ => 0 := funext fun a => by fin_cases a <;> rfl
theorem hz0 : (![0, 0] : Fin S512x2816.rank → Nat) = fun _ => 0 := funext fun a => by fin_cases a <;> rfl
theorem hz1 : (![0, 0] : Fin S2816x1024.rank → Nat) = fun _ => 0 := funext fun a => by fin_cases a <;> rfl
theorem hz3 : (![0, 0] : Fin S1x1024.rank → Nat) = fun _ => 0 := funext fun a => by fin_cases a <;> rfl

/-- The partial product of one run of channels. -/
def part (x0 : Vec Ideal S512x2816 .bf16) (x1 : Vec Ideal S2816x1024 .bf16) (j : S512x1024.Idx) : EReal :=
  ∑ k : Fin 2816, x0 (ix2 (j 0) k) * x1 (ix2 k (j 1))

section
variable (c : Dev nD) (i : grid0.Coords) (a3 : Memref sig .tc .vmem S512x2816 .bf16) (h3 : a3.IsWhole)
  (a4 : Memref sig .tc .vmem S2816x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .f32) (h9 : a9.IsWhole)
  (x0 : Vec Ideal S512x2816 .bf16) (x1 : Vec Ideal S2816x1024 .bf16) (x2 : Vec Ideal S512x1024 .f32) (x3 : Vec Ideal S1x1024 .f32)
  (xs : Vec Ideal S512x1024 .f32)

/-- The first run of channels starts the sum. -/
theorem first (hc0 : cond0_0 i) (hc1 : ¬cond0_1 i) (hc2 : ¬cond0_2 i) (j : S512x1024.Idx) :
    sout0_A_0 c i a3 h3 a4 h4 a5 h5 a6 h6 a7 h7 a8 h8 a9 h9 hc0 hc1 hc2 x0 x1 x2 x3 j = part x0 x1 j := by
  unfold sout0_A_0
  rw [View.read_writes_eq_canon _ _ _ (scover0_A_0 c i a3 h3 a4 h4 a5 h5 a6 h6 a7 h7 a8 h8 a9 h9 hc0 hc1 hc2 x0 x1 x2 x3)]
  unfold kernelRun0_A
  dsimp only
  sl_unfold_words
  rw [View.canon_unit_zero hzo]
  simp only [View.readAt_eq_ld, h3.read_unread, h4.read_unread, View.ld_unit_zero (S := S512x2816) hz0, View.ld_unit_zero (S := S2816x1024) hz1]
  idx_vars j
  pointwise [k0_pay2, k0_pay1, part]

/-- The second adds its part: that is the product's tile, -/
theorem out (hc0 : ¬cond0_0 i) (hc1 : cond0_1 i) (hc2 : cond0_2 i) (j : S512x1024.Idx) :
    out0_B_4 c i a3 h3 a4 h4 a5 h5 a6 h6 a7 h7 a8 h8 a9 h9 hc0 hc1 hc2 x0 x1 x2 x3 xs j = xs j + part x0 x1 j := by
  unfold out0_B_4
  rw [View.read_writes_eq_canon _ _ _ (cover0_B_4 c i a3 h3 a4 h4 a5 h5 a6 h6 a7 h7 a8 h8 a9 h9 hc0 hc1 hc2 x0 x1 x2 x3 xs)]
  unfold kernelRun0_B
  dsimp only
  sl_unfold_words
  rw [View.canon_unit_zero hzo, View.readCov_unit_zero (S := S512x1024) _ hzo]
  simp only [View.readAt_eq_ld, h3.read_unread, h4.read_unread, h9.read_unread, View.ld_unit_zero (S := S512x2816) hz0, View.ld_unit_zero (S := S2816x1024) hz1, View.ld_unit_zero (S := S512x1024) hzo]
  idx_vars j
  pointwise [k0_pay3, k0_pay1, part]

/-- and the residual's takes it times the gate. -/
theorem out_res (hc0 : ¬cond0_0 i) (hc1 : cond0_1 i) (hc2 : cond0_2 i) (j : S512x1024.Idx) :
    out0_B_5 c i a3 h3 a4 h4 a5 h5 a6 h6 a7 h7 a8 h8 a9 h9 hc0 hc1 hc2 x0 x1 x2 x3 xs j
      = x2 j + x3 (ix2 0 (j 1)) * (xs j + part x0 x1 j) := by
  unfold out0_B_5
  rw [View.read_writes_eq_canon _ _ _ (cover0_B_5 c i a3 h3 a4 h4 a5 h5 a6 h6 a7 h7 a8 h8 a9 h9 hc0 hc1 hc2 x0 x1 x2 x3 xs)]
  unfold kernelRun0_B
  dsimp only
  sl_unfold_words
  rw [View.canon_unit_zero hzo, View.readCov_unit_zero (S := S512x1024) _ hzo]
  simp only [View.readAt_eq_ld, h3.read_unread, h4.read_unread, h5.read_unread, h6.read_unread, h9.read_unread, View.ld_unit_zero (S := S512x2816) hz0, View.ld_unit_zero (S := S2816x1024) hz1, View.ld_unit_zero (S := S512x1024) hzo, View.ld_unit_zero (S := S1x1024) hz3]
  idx_vars j
  pointwise [k0_pay4, k0_pay3, k0_pay1, part]
end

variable (m : (ℓ : Loc nD τ sig) → Buf (Elt Ideal) ℓ)

/-- The input and the weight, as launched. -/
abbrev P (c : Dev nD) : S8192x5632.Idx → EReal := m ((c : Thread nD τ).loc main_arg0)
abbrev W (c : Dev nD) : S5632x2048.Idx → EReal := m ((c : Thread nD τ).loc main_arg1)

/-- The two parts of a tile, at its second point. -/
def both (c : Dev nD) (t : Fin cfg0.N) (j : S512x1024.Idx) : EReal :=
  part (iblk m c 0 ⟨t.val - 1, Nat.lt_of_le_of_lt (Nat.sub_le _ _) t.isLt⟩) (iblk m c 1 ⟨t.val - 1, Nat.lt_of_le_of_lt (Nat.sub_le _ _) t.isLt⟩) j
    + part (iblk m c 0 t) (iblk m c 1 t) j

/-- What the first point leaves in the carried buffer, -/
theorem carried (c : Dev nD) (t : Fin cfg0.N) (ht : t.val % 2 = 0) (j : S512x1024.Idx) :
    (outsAt0 m c t.val t.isLt).2.2 j = part (iblk m c 0 t) (iblk m c 1 t) j := by
  rw [outsAt0_A m c t ht (by omega) (by omega)]
  dsimp only
  rw [first]

/-- and the tile of the product that the second point writes. -/
theorem written (c : Dev nD) (t : Fin cfg0.N) (ht : t.val % 2 = 1) (j : S512x1024.Idx) :
    (outsAt0 m c t.val t.isLt).1 j = both m c t j := by
  rw [outsAt0_B m c t (by omega) ht ht]
  dsimp only
  rw [out, carried m c ⟨t.val - 1, Nat.lt_of_le_of_lt (Nat.sub_le _ _) t.isLt⟩ (by dsimp only; omega) j]
  rfl

/-- The product's entry: row of the input against column of the weight. -/
def G (p : S8192x5632.Idx → EReal) (w : S5632x2048.Idx → EReal) (i : S8192x2048.Idx) : EReal :=
  ∑ k : Fin 5632, p (ix2 (i 0) k) * w (ix2 k (i 1))

/-- The residual's new value: the old one plus the gate times the product. -/
def H (p : S8192x5632.Idx → EReal) (w : S5632x2048.Idx → EReal) (x : S8192x2048.Idx → EReal) (gt : S1x2048.Idx → EReal) (i : S8192x2048.Idx) : EReal :=
  x i + gt (ix2 0 (i 1)) * G p w i

/-- A sum over all channels is the sum over two runs of 2816. -/
theorem sum_runs (f : Fin 5632 → EReal) :
    ∑ k, f k = ∑ k : Fin 2816, f ⟨k.val, by omega⟩ + ∑ k : Fin 2816, f ⟨2816 + k.val, by omega⟩ :=
  Fin.sum_univ_add (a := 2816) (b := 2816) f

/-- Which blocks a grid point reads and writes. -/
theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![0, t.val / 2 % 2]
    ∧ win0_4.index t = ![t.val / 4, t.val / 2 % 2] ∧ win0_5.index t = ![t.val / 4, t.val / 2 % 2] :=
  (by decide +kernel : ∀ t : Fin grid0.N, win0_0.index t = ![t.val / 4, t.val % 2] ∧ win0_1.index t = ![t.val % 2, t.val / 2 % 2]
    ∧ win0_2.index t = ![t.val / 4, t.val / 2 % 2] ∧ win0_3.index t = ![0, t.val / 2 % 2]
    ∧ win0_4.index t = ![t.val / 4, t.val / 2 % 2] ∧ win0_5.index t = ![t.val / 4, t.val / 2 % 2])

/-- The part of a point in terms of the two whole arrays: `q k` is the place among all channels of channel `k` of its run. -/
theorem part_eq (c : Dev nD) (t : Fin cfg0.N) (j : S512x1024.Idx) (i : S8192x2048.Idx) (q : Fin 2816 → Fin 5632)
    (e0 : (i 0).val = t.val / 4 * 512 + (j 0).val) (e1 : (i 1).val = t.val / 2 % 2 * 1024 + (j 1).val)
    (eq : ∀ k, (q k).val = t.val % 2 * 2816 + k.val) :
    part (iblk m c 0 t) (iblk m c 1 t) j
      = ∑ k, P m c (ix2 (i 0) (q k)) * W m c (ix2 (q k) (i 1)) := by
  obtain ⟨h0, h1, -⟩ := idx t
  unfold part
  refine Finset.sum_congr rfl fun k _ => ?_
  refine congrArg₂ (· * ·) ?_ ?_
  · show m ((c : Thread nD τ).loc main_arg0) (((cfg0.win 0).blk t).view.emb _) = _
    congr 1
    funext a; apply Fin.ext
    match a with
    | ⟨0, _⟩ => show win0_0.index t (0 : Fin 2) * 512 + 1 * (j 0).val = (i 0).val
                rw [h0, e0]; show t.val / 4 * 512 + 1 * (j 0).val = _; omega
    | ⟨1, _⟩ => show win0_0.index t (1 : Fin 2) * 2816 + 1 * k.val = (q k).val
                rw [h0, eq]; show t.val % 2 * 2816 + 1 * k.val = _; omega
  · show m ((c : Thread nD τ).loc main_arg1) (((cfg0.win 1).blk t).view.emb _) = _
    congr 1
    funext a; apply Fin.ext
    match a with
    | ⟨0, _⟩ => show win0_1.index t (0 : Fin 2) * 2816 + 1 * k.val = (q k).val
                rw [h1, eq]; show t.val % 2 * 2816 + 1 * k.val = _; omega
    | ⟨1, _⟩ => show win0_1.index t (1 : Fin 2) * 1024 + 1 * (j 1).val = (i 1).val
                rw [h1, e1]; show t.val / 2 % 2 * 1024 + 1 * (j 1).val = _; omega

/-- The two parts are the whole product. -/
theorem both_eq (c : Dev nD) (t : Fin cfg0.N) (ht : t.val % 2 = 1) (j : S512x1024.Idx) (i : S8192x2048.Idx)
    (e0 : (i 0).val = t.val / 4 * 512 + (j 0).val) (e1 : (i 1).val = t.val / 2 % 2 * 1024 + (j 1).val) :
    both m c t j = G (m ((c : Thread nD τ).loc main_arg0)) (m ((c : Thread nD τ).loc main_arg1)) i := by
  unfold both G
  rw [sum_runs]
  refine congrArg₂ (· + ·)
    (part_eq m c ⟨t.val - 1, Nat.lt_of_le_of_lt (Nat.sub_le _ _) t.isLt⟩ j i (fun k => ⟨k.val, by omega⟩) ?_ ?_ fun k => ?_)
    (part_eq m c t j i (fun k => ⟨2816 + k.val, by omega⟩) e0 e1 fun k => ?_)
  · rw [e0]; show _ = (t.val - 1) / 4 * 512 + _; omega
  · rw [e1]; show _ = (t.val - 1) / 2 % 2 * 1024 + _; omega
  · show k.val = (t.val - 1) % 2 * 2816 + k.val; omega
  · show 2816 + k.val = t.val % 2 * 2816 + k.val; omega

/-- The residual's block and the gate's, as the whole arrays hold them. -/
theorem res_eq (c : Dev nD) (t : Fin cfg0.N) (j : S512x1024.Idx) (i : S8192x2048.Idx)
    (e0 : (i 0).val = t.val / 4 * 512 + (j 0).val) (e1 : (i 1).val = t.val / 2 % 2 * 1024 + (j 1).val) :
    iblk m c 2 t j = m ((c : Thread nD τ).loc main_arg2) i := by
  obtain ⟨-, -, h2, -⟩ := idx t
  show m ((c : Thread nD τ).loc main_arg2) (((cfg0.win 2).blk t).view.emb _) = _
  congr 1
  funext a; apply Fin.ext
  match a with
  | ⟨0, _⟩ => show win0_2.index t (0 : Fin 2) * 512 + 1 * (j 0).val = (i 0).val
              rw [h2, e0]; show t.val / 4 * 512 + 1 * (j 0).val = _; omega
  | ⟨1, _⟩ => show win0_2.index t (1 : Fin 2) * 1024 + 1 * (j 1).val = (i 1).val
              rw [h2, e1]; show t.val / 2 % 2 * 1024 + 1 * (j 1).val = _; omega
theorem gate_eq (c : Dev nD) (t : Fin cfg0.N) (j : S512x1024.Idx) (i : S8192x2048.Idx)
    (e1 : (i 1).val = t.val / 2 % 2 * 1024 + (j 1).val) :
    iblk m c 3 t (ix2 0 (j 1)) = m ((c : Thread nD τ).loc main_arg3) (ix2 0 (i 1)) := by
  obtain ⟨-, -, -, h3, -⟩ := idx t
  show m ((c : Thread nD τ).loc main_arg3) (((cfg0.win 3).blk t).view.emb _) = _
  congr 1
  funext a; apply Fin.ext
  match a with
  | ⟨0, _⟩ => show win0_3.index t (0 : Fin 2) * 1 + 1 * 0 = 0
              rw [h3]; rfl
  | ⟨1, _⟩ => show win0_3.index t (1 : Fin 2) * 1024 + 1 * (j 1).val = (i 1).val
              rw [h3, e1]; show t.val / 2 % 2 * 1024 + 1 * (j 1).val = _; omega

/-- The residual's tile that the second point writes. -/
theorem written_res (c : Dev nD) (t : Fin cfg0.N) (ht : t.val % 2 = 1) (j : S512x1024.Idx) (i : S8192x2048.Idx)
    (e0 : (i 0).val = t.val / 4 * 512 + (j 0).val) (e1 : (i 1).val = t.val / 2 % 2 * 1024 + (j 1).val) :
    (outsAt0 m c t.val t.isLt).2.1 j
      = H (m ((c : Thread nD τ).loc main_arg0)) (m ((c : Thread nD τ).loc main_arg1)) (m ((c : Thread nD τ).loc main_arg2)) (m ((c : Thread nD τ).loc main_arg3)) i := by
  rw [outsAt0_B m c t (by omega) ht ht]
  dsimp only
  rw [out_res, carried m c ⟨t.val - 1, Nat.lt_of_le_of_lt (Nat.sub_le _ _) t.isLt⟩ (by dsimp only; omega) j]
  exact congrArg₂ (· + ·) (res_eq m c t _ _ e0 e1) (congrArg₂ (· * ·) (gate_eq m c t _ _ e1) (both_eq m c t ht _ _ e0 e1))

theorem flushed_eq (c : Dev nD) (t : Fin cfg0.N) (hf : (cfg0.win 4).flush t = true) :
    (dats m 0 c).flushed 4 t = ((cfg0.win 4).blk t).view.read (Elt Ideal)
      (G (m ((c : Thread nD τ).loc main_arg0)) (m ((c : Thread nD τ).loc main_arg1))) := by
  have hm : t.val % 2 = 1 := (flush0_4 t).mp hf
  rw [Value.flushed4]
  obtain ⟨-, -, -, -, h, -⟩ := idx t
  funext y
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  have e : ∀ f, ((cfg0.win 4).blk t).view.read (Elt Ideal) f y = f (((cfg0.win 4).blk t).view.emb y) := fun f => rfl
  have e0 : (((cfg0.win 4).blk t).view.emb y 0).val = t.val / 4 * 512 + ((cfg0.win 4).xinj (grid0.coords t) y 0).val := by
    rw [hb0, h]; show t.val / 4 * 512 + 1 * (y 0).val = t.val / 4 * 512 + (y 0).val; omega
  have e1 : (((cfg0.win 4).blk t).view.emb y 1).val = t.val / 2 % 2 * 1024 + ((cfg0.win 4).xinj (grid0.coords t) y 1).val := by
    rw [hb1, h]; show t.val / 2 % 2 * 1024 + 1 * (y 1).val = t.val / 2 % 2 * 1024 + (y 1).val; omega
  refine (written m c t hm ((cfg0.win 4).xinj (grid0.coords t) y)).trans ?_
  rw [e]
  exact both_eq m c t hm _ _ e0 e1

theorem flushed_res (c : Dev nD) (t : Fin cfg0.N) (hf : (cfg0.win 5).flush t = true) :
    (dats m 0 c).flushed 5 t = ((cfg0.win 5).blk t).view.read (Elt Ideal)
      (H (m ((c : Thread nD τ).loc main_arg0)) (m ((c : Thread nD τ).loc main_arg1)) (m ((c : Thread nD τ).loc main_arg2)) (m ((c : Thread nD τ).loc main_arg3))) := by
  have hm : t.val % 2 = 1 := (flush0_5 t).mp hf
  rw [Value.flushed5]
  obtain ⟨-, -, -, -, -, h⟩ := idx t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have e : ∀ f, ((cfg0.win 5).blk t).view.read (Elt Ideal) f y = f (((cfg0.win 5).blk t).view.emb y) := fun f => rfl
  have e0 : (((cfg0.win 5).blk t).view.emb y 0).val = t.val / 4 * 512 + ((cfg0.win 5).xinj (grid0.coords t) y 0).val := by
    rw [hb0, h]; show t.val / 4 * 512 + 1 * (y 0).val = t.val / 4 * 512 + (y 0).val; omega
  have e1 : (((cfg0.win 5).blk t).view.emb y 1).val = t.val / 2 % 2 * 1024 + ((cfg0.win 5).xinj (grid0.coords t) y 1).val := by
    rw [hb1, h]; show t.val / 2 % 2 * 1024 + 1 * (y 1).val = t.val / 2 % 2 * 1024 + (y 1).val; omega
  exact (written_res m c t hm ((cfg0.win 5).xinj (grid0.coords t) y) _ e0 e1).trans (e _).symm

/-- The two arrays the kernel leaves. -/
theorem final (c : Dev nD) : (dats m 0 c).arrAt 4 cfg0.N = G (m ((c : Thread nD τ).loc main_arg0)) (m ((c : Thread nD τ).loc main_arg1)) :=
  (dats m 0 c).arrAt_eq_of_cover 4 _ (fun t hf => flushed_eq m c t hf) fun i =>
    (Value.covered_iff4 i).2 (by have h0 : (i 0).val < 8192 := (i 0).isLt; have h1 : (i 1).val < 2048 := (i 1).isLt; omega)
theorem final_res (c : Dev nD) : (dats m 0 c).arrAt 5 cfg0.N
    = H (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t hf => flushed_res m c t hf) fun i =>
    (Value.covered_iff5 i).2 (by have h0 : (i 0).val < 8192 := (i 0).isLt; have h1 : (i 1).val < 2048 := (i 1).isLt; omega)

/-- The reference's product is the same sum. -/
theorem ref_eq (p : FVec Ideal S8192x5632 .bf16) (w : FVec Ideal S5632x2048 .bf16) (h) :
    Host.dotGeneral (F := Ideal) (φ₁ := .f32) (φ₂ := .f32) Cert.FdownReferenceIdeal.dot_S8192x5632_S5632x2048_S8192x2048_1_0_0_1_n_n none (extf .f32 p h) (extf .f32 w h) = G p w := by
  funext j
  unfold G
  idx_vars j
  pointwise

/-- So is the residual's new value. -/
theorem ref_res (p : FVec Ideal S8192x5632 .bf16) (w : FVec Ideal S5632x2048 .bf16) (x : FVec Ideal S8192x2048 .f32) (gt : FVec Ideal S1x2048 .f32) (h) :
    addf x (mulf (broadcastInDim S8192x2048 ![0, 1] Cert.FdownReferenceIdeal.Gen.bcast_S1x2048_S8192x2048_0_1 gt)
      (Host.dotGeneral (F := Ideal) (φ₁ := .f32) (φ₂ := .f32) Cert.FdownReferenceIdeal.dot_S8192x5632_S5632x2048_S8192x2048_1_0_0_1_n_n none (extf .f32 p h) (extf .f32 w h)))
      = H p w x gt := by
  rw [ref_eq]
  funext j
  unfold H
  idx_vars j
  pointwise

/-- The reference runs, keeps its arguments, and declares no semaphore. -/
theorem frame_ref : Cert.quiescent_FdownReferenceIdeal (hFdownReferenceIdeal := Cert.FdownReferenceIdeal.Gen.facts) := fun m g _ =>
  (θ_run Cert.FdownReferenceIdeal.defs _ _).mono (fun r h => ⟨fun c => (h c).2.2, sem_eq_zero_of_no_sems (by decide) r.2⟩)
    (Cert.FdownReferenceIdeal.Value.run (F := Ideal) m g)

/-- From equal arguments the two programs end with equal arrays. -/
theorem algebraic : Cert.algebraic_FdownKernelIdeal_FdownReferenceIdeal (hFdownKernelIdeal := Cert.FdownKernelIdeal.Gen.facts)
    (hFdownReferenceIdeal := Cert.FdownReferenceIdeal.Gen.facts) := by
  intro m g m' g' _ hargs
  refine ⟨fun c => G (m ((c : Thread nD τ).loc main_arg0)) (m ((c : Thread nD τ).loc main_arg1)),
    fun c => H (m ((c : Thread nD τ).loc main_arg0)) (m ((c : Thread nD τ).loc main_arg1)) (m ((c : Thread nD τ).loc main_arg2)) (m ((c : Thread nD τ).loc main_arg3)), ?_, ?_⟩
  · exact (θ_run (Cert.FdownKernelIdeal.defs (F := Ideal)) _ _).mono (fun r h c => ⟨(h c).1.trans (final m c), (h c).2.1.trans (final_res m c), (h c).2.2⟩) (Value.run_blocks (F := Ideal) m g)
  · refine (θ_run (Cert.FdownReferenceIdeal.defs (F := Ideal)) _ _).mono (fun r h c => ⟨(h c).1.trans ?_, (h c).2.1.trans ?_, (h c).2.2⟩) (Cert.FdownReferenceIdeal.Value.run (F := Ideal) m' g')
    · rw [(hargs c).1, (hargs c).2.1]
      exact ref_eq _ _ _
    · rw [(hargs c).1, (hargs c).2.1, (hargs c).2.2.1, (hargs c).2.2.2]
      exact ref_res _ _ _ _ _

end Cert.Proof.Fdown

end
-- ==== Proof.lean ====
/- The claims, assembled.  The attention's frames are Proof/FlashFrames.lean and its value claim Proof/AttnEq.lean; the other
   programs' kernel frames are the generated ones, their idealizations rewrite nothing, and their value claims are the
   modules named after them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite7
public import proofs.«01_k».proof.Proof.Gen.DxKernel
public import proofs.«01_k».proof.Proof.Gen.DxKernel.Frame
public import proofs.«01_k».proof.Proof.Gen.DxKernelIdeal
public import proofs.«01_k».proof.Proof.Gen.DxKernelIdeal.Value
public import proofs.«01_k».proof.Proof.Gen.DxReferenceIdeal
public import proofs.«01_k».proof.Proof.Gen.DxReferenceIdeal.Run
public import proofs.«01_k».proof.Proof.Gen.DwKernel
public import proofs.«01_k».proof.Proof.Gen.DwKernel.Frame
public import proofs.«01_k».proof.Proof.Gen.DwKernelIdeal
public import proofs.«01_k».proof.Proof.Gen.DwKernelIdeal.Value
public import proofs.«01_k».proof.Proof.Gen.DwReferenceIdeal
public import proofs.«01_k».proof.Proof.Gen.DwReferenceIdeal.Run
public import proofs.«01_k».proof.Proof.Gen.GuxKernel
public import proofs.«01_k».proof.Proof.Gen.GuxKernel.Frame
public import proofs.«01_k».proof.Proof.Gen.GuxKernelIdeal
public import proofs.«01_k».proof.Proof.Gen.GuxKernelIdeal.Value
public import proofs.«01_k».proof.Proof.Gen.GuxReferenceIdeal
public import proofs.«01_k».proof.Proof.Gen.GuxReferenceIdeal.Run
public import proofs.«01_k».proof.Proof.Gen.GuwKernel
public import proofs.«01_k».proof.Proof.Gen.GuwKernel.Frame
public import proofs.«01_k».proof.Proof.Gen.GuwKernelIdeal
public import proofs.«01_k».proof.Proof.Gen.GuwKernelIdeal.Value
public import proofs.«01_k».proof.Proof.Gen.GuwReferenceIdeal
public import proofs.«01_k».proof.Proof.Gen.GuwReferenceIdeal.Run
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.NormKernel
public import proofs.«01_k».proof.Proof.Gen.NormKernel.Frame
public import proofs.«01_k».proof.Proof.Gen.NormKernelIdeal
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.OutxKernel
public import proofs.«01_k».proof.Proof.Gen.OutxKernel.Frame
public import proofs.«01_k».proof.Proof.Gen.OutxKernelIdeal
public import proofs.«01_k».proof.Proof.Gen.OutxKernelIdeal.Value
public import proofs.«01_k».proof.Proof.Gen.OutxReferenceIdeal
public import proofs.«01_k».proof.Proof.Gen.OutxReferenceIdeal.Run
public import proofs.«01_k».proof.Proof.Gen.OutwKernel
public import proofs.«01_k».proof.Proof.Gen.OutwKernel.Frame
public import proofs.«01_k».proof.Proof.Gen.OutwKernelIdeal
public import proofs.«01_k».proof.Proof.Gen.OutwKernelIdeal.Value
public import proofs.«01_k».proof.Proof.Gen.OutwReferenceIdeal
public import proofs.«01_k».proof.Proof.Gen.OutwReferenceIdeal.Run
public import proofs.«01_k».proof.Proof.Gen.InxKernel
public import proofs.«01_k».proof.Proof.Gen.InxKernel.Frame
public import proofs.«01_k».proof.Proof.Gen.InxKernelIdeal
public import proofs.«01_k».proof.Proof.Gen.InxKernelIdeal.Value
public import proofs.«01_k».proof.Proof.Gen.InxReferenceIdeal
public import proofs.«01_k».proof.Proof.Gen.InxReferenceIdeal.Run
public import proofs.«01_k».proof.Proof.Gen.InwKernel
public import proofs.«01_k».proof.Proof.Gen.InwKernel.Frame
public import proofs.«01_k».proof.Proof.Gen.InwKernelIdeal
public import proofs.«01_k».proof.Proof.Gen.InwKernelIdeal.Value
public import proofs.«01_k».proof.Proof.Gen.InwReferenceIdeal
public import proofs.«01_k».proof.Proof.Gen.InwReferenceIdeal.Run
public import proofs.«01_k».proof.Proof.Gen.FinKernel
public import proofs.«01_k».proof.Proof.Gen.FinKernel.Frame
public import proofs.«01_k».proof.Proof.Gen.FinKernelIdeal
public import proofs.«01_k».proof.Proof.Gen.FinKernelIdeal.Value
public import proofs.«01_k».proof.Proof.Gen.FinReferenceIdeal
public import proofs.«01_k».proof.Proof.Gen.FinReferenceIdeal.Run
public import proofs.«01_k».proof.Proof.Gen.FoutKernel
public import proofs.«01_k».proof.Proof.Gen.FoutKernel.Frame
public import proofs.«01_k».proof.Proof.Gen.FoutKernelIdeal
public import proofs.«01_k».proof.Proof.Gen.FoutKernelIdeal.Value
public import proofs.«01_k».proof.Proof.Gen.FoutReferenceIdeal
public import proofs.«01_k».proof.Proof.Gen.FoutReferenceIdeal.Run
public import proofs.«01_k».proof.Proof.Gen.FguKernel
public import proofs.«01_k».proof.Proof.Gen.FguKernel.Frame
public import proofs.«01_k».proof.Proof.Gen.FguKernelIdeal
public import proofs.«01_k».proof.Proof.Gen.FguKernelIdeal.Value
public import proofs.«01_k».proof.Proof.Gen.FguReferenceIdeal
public import proofs.«01_k».proof.Proof.Gen.FguReferenceIdeal.Run
public import proofs.«01_k».proof.Proof.Gen.FdownKernel
public import proofs.«01_k».proof.Proof.Gen.FdownKernel.Frame
public import proofs.«01_k».proof.Proof.Gen.FdownKernelIdeal
public import proofs.«01_k».proof.Proof.Gen.FdownKernelIdeal.Value
public import proofs.«01_k».proof.Proof.Gen.FdownReferenceIdeal
public import proofs.«01_k».proof.Proof.Gen.FdownReferenceIdeal.Run
public import proofs.«01_k».proof.Proof.FlashFrames
public import proofs.«01_k».proof.Proof.AttnEq
public import proofs.«01_k».proof.Proof.Dx
public import proofs.«01_k».proof.Proof.Dw
public import proofs.«01_k».proof.Proof.Gux
public import proofs.«01_k».proof.Proof.Guw
public import proofs.«01_k».proof.Proof.Gate
public import proofs.«01_k».proof.Proof.Norm
public import proofs.«01_k».proof.Proof.Outx
public import proofs.«01_k».proof.Proof.Outw
public import proofs.«01_k».proof.Proof.Inx
public import proofs.«01_k».proof.Proof.Inw
public import proofs.«01_k».proof.Proof.Fin
public import proofs.«01_k».proof.Proof.Fout
public import proofs.«01_k».proof.Proof.Fgu
public import proofs.«01_k».proof.Proof.Fdown
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.DxKernel.Gen.facts, Cert.DxKernelIdeal.Gen.facts, Cert.DxReferenceIdeal.Gen.facts,
    Cert.DwKernel.Gen.facts, Cert.DwKernelIdeal.Gen.facts, Cert.DwReferenceIdeal.Gen.facts,
    Cert.GuxKernel.Gen.facts, Cert.GuxKernelIdeal.Gen.facts, Cert.GuxReferenceIdeal.Gen.facts,
    Cert.GuwKernel.Gen.facts, Cert.GuwKernelIdeal.Gen.facts, Cert.GuwReferenceIdeal.Gen.facts,
    Cert.GateKernel.Gen.facts, Cert.GateKernelIdeal.Gen.facts, Cert.GateReferenceIdeal.Gen.facts,
    Cert.NormKernel.Gen.facts, Cert.NormKernelIdeal.Gen.facts, Cert.NormReferenceIdeal.Gen.facts,
    Cert.OutxKernel.Gen.facts, Cert.OutxKernelIdeal.Gen.facts, Cert.OutxReferenceIdeal.Gen.facts,
    Cert.OutwKernel.Gen.facts, Cert.OutwKernelIdeal.Gen.facts, Cert.OutwReferenceIdeal.Gen.facts,
    Cert.InxKernel.Gen.facts, Cert.InxKernelIdeal.Gen.facts, Cert.InxReferenceIdeal.Gen.facts,
    Cert.InwKernel.Gen.facts, Cert.InwKernelIdeal.Gen.facts, Cert.InwReferenceIdeal.Gen.facts,
    Cert.FinKernel.Gen.facts, Cert.FinKernelIdeal.Gen.facts, Cert.FinReferenceIdeal.Gen.facts,
    Cert.FoutKernel.Gen.facts, Cert.FoutKernelIdeal.Gen.facts, Cert.FoutReferenceIdeal.Gen.facts,
    Cert.FguKernel.Gen.facts, Cert.FguKernelIdeal.Gen.facts, Cert.FguReferenceIdeal.Gen.facts,
    Cert.FdownKernel.Gen.facts, Cert.FdownKernelIdeal.Gen.facts, Cert.FdownReferenceIdeal.Gen.facts,
    Cert.Pre_finite.Gen.facts, Cert.Pre_finite7.Gen.facts,
    Flash.frame_kernel, Flash.frame_ideal, Flash.frame_ideal_finite (hPre := Cert.Pre_finite.Gen.facts),
    Attn.frame_ref, Attn.frame_ref_finite (hPre := Cert.Pre_finite.Gen.facts),
    fun m g _ => Cert.DxKernel.Gen.frame m g, fun m g _ => Cert.DxKernelIdeal.Gen.frame m g, Dx.frame_ref,
    fun m g _ => Cert.DwKernel.Gen.frame m g, fun m g _ => Cert.DwKernelIdeal.Gen.frame m g, Dw.frame_ref,
    fun m g _ => Cert.GuxKernel.Gen.frame m g, fun m g _ => Cert.GuxKernelIdeal.Gen.frame m g, Gux.frame_ref,
    fun m g _ => Cert.GuwKernel.Gen.frame m g, fun m g _ => Cert.GuwKernelIdeal.Gen.frame m g, Guw.frame_ref,
    fun m g _ => Cert.GateKernel.Gen.frame m g, fun m g _ => Cert.GateKernelIdeal.Gen.frame m g, Gate.frame_ref,
    fun m g _ => Cert.NormKernel.Gen.frame m g, fun m g _ => Cert.NormKernelIdeal.Gen.frame m g,
    fun m g _ => Cert.NormKernelIdeal.Gen.frame m g, Norm.frame_ref, fun m g _ => Norm.frame_ref m g trivial,
    fun m g _ => Cert.OutxKernel.Gen.frame m g, fun m g _ => Cert.OutxKernelIdeal.Gen.frame m g, Outx.frame_ref,
    fun m g _ => Cert.OutwKernel.Gen.frame m g, fun m g _ => Cert.OutwKernelIdeal.Gen.frame m g, Outw.frame_ref,
    fun m g _ => Cert.InxKernel.Gen.frame m g, fun m g _ => Cert.InxKernelIdeal.Gen.frame m g, Inx.frame_ref,
    fun m g _ => Cert.InwKernel.Gen.frame m g, fun m g _ => Cert.InwKernelIdeal.Gen.frame m g, Inw.frame_ref,
    fun m g _ => Cert.FinKernel.Gen.frame m g, fun m g _ => Cert.FinKernelIdeal.Gen.frame m g, Fin.frame_ref,
    fun m g _ => Cert.FoutKernel.Gen.frame m g, fun m g _ => Cert.FoutKernelIdeal.Gen.frame m g, Fout.frame_ref,
    fun m g _ => Cert.FguKernel.Gen.frame m g, fun m g _ => Cert.FguKernelIdeal.Gen.frame m g, Fgu.frame_ref,
    fun m g _ => Cert.FdownKernel.Gen.frame m g, fun m g _ => Cert.FdownKernelIdeal.Gen.frame m g, Fdown.frame_ref,
    Attn.preserves, Attn.algebraic (hPre := Cert.Pre_finite.Gen.facts),
    trivial, Dx.algebraic,
    trivial, Dw.algebraic,
    trivial, Gux.algebraic,
    trivial, Guw.algebraic,
    trivial, Gate.algebraic,
    trivial, Norm.algebraic (hPre := Cert.Pre_finite7.Gen.facts),
    trivial, Outx.algebraic,
    trivial, Outw.algebraic,
    trivial, Inx.algebraic,
    trivial, Inw.algebraic,
    trivial, Fin.algebraic,
    trivial, Fout.algebraic,
    trivial, Fgu.algebraic,
    trivial, Fdown.algebraic⟩

end Cert.Proof

end
